-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_scores [hPre_finite_scores : Cert.Pre_finite_scores.Facts] (m : (ℓ : Loc Cert.MixIdeal.nD Cert.MixIdeal.τ Cert.MixIdeal.sig) → Buf (Elt Ideal) ℓ) : Prop :=
  ∀ c : Dev Cert.MixIdeal.nD,
    (Cert.Pre_finite_scores.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_scores [hPre_finite_scores : Cert.Pre_finite_scores.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_scores.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11)) (m ((c.tc : Thread Cert.MixRefIdeal.nD Cert.MixRefIdeal.τ).loc Cert.MixRefIdeal.main_arg12)) (m ((c.tc : Thread Cert.MixRefIdeal.nD Cert.MixRefIdeal.τ).loc Cert.MixRefIdeal.main_arg13))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_MlpCast (m : (ℓ : Loc Cert.MlpCast.nD Cert.MlpCast.τ Cert.MlpCast.sig) → Buf (Elt Bits) ℓ) : Prop :=
  True

def Pre_MlpCastIdeal (m : (ℓ : Loc Cert.MlpCastIdeal.nD Cert.MlpCastIdeal.τ Cert.MlpCastIdeal.sig) → Buf (Elt Ideal) ℓ) : Prop :=
  True

def Pre_MlpCastRefIdeal (m : (ℓ : Loc Cert.MlpCastRefIdeal.nD Cert.MlpCastRefIdeal.τ Cert.MlpCastRefIdeal.sig) → Buf (Elt Ideal) ℓ) : Prop :=
  True

def Pre_MixSample (m : (ℓ : Loc Cert.MixSample.nD Cert.MixSample.τ Cert.MixSample.sig) → Buf (Elt Bits) ℓ) : Prop :=
  True

def Pre_MixSampleIdeal (m : (ℓ : Loc Cert.MixSampleIdeal.nD Cert.MixSampleIdeal.τ Cert.MixSampleIdeal.sig) → Buf (Elt Ideal) ℓ) : Prop :=
  True

def Pre_MixSampleRefIdeal (m : (ℓ : Loc Cert.MixSampleRefIdeal.nD Cert.MixSampleRefIdeal.τ Cert.MixSampleRefIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasRefIdeal (m : (ℓ : Loc Cert.BiasRefIdeal.nD Cert.BiasRefIdeal.τ Cert.BiasRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixIdeal_pre_finite_scores [hMixIdeal : Cert.MixIdeal.Facts] [hPre_finite_scores : Cert.Pre_finite_scores.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_scores m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def quiescent_MixRefIdeal_pre_finite_scores [hMixRefIdeal : Cert.MixRefIdeal.Facts] [hPre_finite_scores : Cert.Pre_finite_scores.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_scores m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12)
      ∧ r.2.mem ((c.tc : Thread Cert.MixRefIdeal.nD Cert.MixRefIdeal.τ).loc Cert.MixRefIdeal.main_arg13) = m ((c.tc : Thread Cert.MixRefIdeal.nD Cert.MixRefIdeal.τ).loc Cert.MixRefIdeal.main_arg13))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4)
      ∧ r.2.mem ((c.tc : Thread Cert.Kv.nD Cert.Kv.τ).loc Cert.Kv.main_arg5) = m ((c.tc : Thread Cert.Kv.nD Cert.Kv.τ).loc Cert.Kv.main_arg5))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
      ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5))
      ∧ r.2.sem = fun _ => 0)

def quiescent_MlpCast [hMlpCast : Cert.MlpCast.Facts] : Prop :=
  ∀ (m : (ℓ : Loc Cert.MlpCast.nD Cert.MlpCast.τ Cert.MlpCast.sig) → Buf (Elt Bits) ℓ) (g : Dev Cert.MlpCast.nD → PrngReg), Pre_MlpCast m →
    θ_run (Cert.MlpCast.defs (F := Bits)) (onTc (τ := Cert.MlpCast.τ) (Cert.MlpCast.main (F := Bits))) ⟨m, fun _ => 0, g⟩ (fun r => (∀ c : Dev Cert.MlpCast.nD,
      r.2.mem ((c.tc : Thread Cert.MlpCast.nD Cert.MlpCast.τ).loc Cert.MlpCast.main_arg0) = m ((c.tc : Thread Cert.MlpCast.nD Cert.MlpCast.τ).loc Cert.MlpCast.main_arg0)
      ∧ r.2.mem ((c.tc : Thread Cert.MlpCast.nD Cert.MlpCast.τ).loc Cert.MlpCast.main_arg1) = m ((c.tc : Thread Cert.MlpCast.nD Cert.MlpCast.τ).loc Cert.MlpCast.main_arg1)
      ∧ r.2.mem ((c.tc : Thread Cert.MlpCast.nD Cert.MlpCast.τ).loc Cert.MlpCast.main_arg2) = m ((c.tc : Thread Cert.MlpCast.nD Cert.MlpCast.τ).loc Cert.MlpCast.main_arg2)
      ∧ r.2.mem ((c.tc : Thread Cert.MlpCast.nD Cert.MlpCast.τ).loc Cert.MlpCast.main_arg3) = m ((c.tc : Thread Cert.MlpCast.nD Cert.MlpCast.τ).loc Cert.MlpCast.main_arg3))
      ∧ r.2.sem = fun _ => 0)

def quiescent_MlpCastIdeal [hMlpCastIdeal : Cert.MlpCastIdeal.Facts] : Prop :=
  ∀ (m : (ℓ : Loc Cert.MlpCastIdeal.nD Cert.MlpCastIdeal.τ Cert.MlpCastIdeal.sig) → Buf (Elt Ideal) ℓ) (g : Dev Cert.MlpCastIdeal.nD → PrngReg), Pre_MlpCastIdeal m →
    θ_run (Cert.MlpCastIdeal.defs (F := Ideal)) (onTc (τ := Cert.MlpCastIdeal.τ) (Cert.MlpCastIdeal.main (F := Ideal))) ⟨m, fun _ => 0, g⟩ (fun r => (∀ c : Dev Cert.MlpCastIdeal.nD,
      r.2.mem ((c.tc : Thread Cert.MlpCastIdeal.nD Cert.MlpCastIdeal.τ).loc Cert.MlpCastIdeal.main_arg0) = m ((c.tc : Thread Cert.MlpCastIdeal.nD Cert.MlpCastIdeal.τ).loc Cert.MlpCastIdeal.main_arg0)
      ∧ r.2.mem ((c.tc : Thread Cert.MlpCastIdeal.nD Cert.MlpCastIdeal.τ).loc Cert.MlpCastIdeal.main_arg1) = m ((c.tc : Thread Cert.MlpCastIdeal.nD Cert.MlpCastIdeal.τ).loc Cert.MlpCastIdeal.main_arg1)
      ∧ r.2.mem ((c.tc : Thread Cert.MlpCastIdeal.nD Cert.MlpCastIdeal.τ).loc Cert.MlpCastIdeal.main_arg2) = m ((c.tc : Thread Cert.MlpCastIdeal.nD Cert.MlpCastIdeal.τ).loc Cert.MlpCastIdeal.main_arg2)
      ∧ r.2.mem ((c.tc : Thread Cert.MlpCastIdeal.nD Cert.MlpCastIdeal.τ).loc Cert.MlpCastIdeal.main_arg3) = m ((c.tc : Thread Cert.MlpCastIdeal.nD Cert.MlpCastIdeal.τ).loc Cert.MlpCastIdeal.main_arg3))
      ∧ r.2.sem = fun _ => 0)

def quiescent_MlpCastRefIdeal [hMlpCastRefIdeal : Cert.MlpCastRefIdeal.Facts] : Prop :=
  ∀ (m : (ℓ : Loc Cert.MlpCastRefIdeal.nD Cert.MlpCastRefIdeal.τ Cert.MlpCastRefIdeal.sig) → Buf (Elt Ideal) ℓ) (g : Dev Cert.MlpCastRefIdeal.nD → PrngReg), Pre_MlpCastRefIdeal m →
    θ_run (Cert.MlpCastRefIdeal.defs (F := Ideal)) (onTc (τ := Cert.MlpCastRefIdeal.τ) (Cert.MlpCastRefIdeal.main (F := Ideal))) ⟨m, fun _ => 0, g⟩ (fun r => (∀ c : Dev Cert.MlpCastRefIdeal.nD,
      r.2.mem ((c.tc : Thread Cert.MlpCastRefIdeal.nD Cert.MlpCastRefIdeal.τ).loc Cert.MlpCastRefIdeal.main_arg0) = m ((c.tc : Thread Cert.MlpCastRefIdeal.nD Cert.MlpCastRefIdeal.τ).loc Cert.MlpCastRefIdeal.main_arg0)
      ∧ r.2.mem ((c.tc : Thread Cert.MlpCastRefIdeal.nD Cert.MlpCastRefIdeal.τ).loc Cert.MlpCastRefIdeal.main_arg1) = m ((c.tc : Thread Cert.MlpCastRefIdeal.nD Cert.MlpCastRefIdeal.τ).loc Cert.MlpCastRefIdeal.main_arg1)
      ∧ r.2.mem ((c.tc : Thread Cert.MlpCastRefIdeal.nD Cert.MlpCastRefIdeal.τ).loc Cert.MlpCastRefIdeal.main_arg2) = m ((c.tc : Thread Cert.MlpCastRefIdeal.nD Cert.MlpCastRefIdeal.τ).loc Cert.MlpCastRefIdeal.main_arg2)
      ∧ r.2.mem ((c.tc : Thread Cert.MlpCastRefIdeal.nD Cert.MlpCastRefIdeal.τ).loc Cert.MlpCastRefIdeal.main_arg3) = m ((c.tc : Thread Cert.MlpCastRefIdeal.nD Cert.MlpCastRefIdeal.τ).loc Cert.MlpCastRefIdeal.main_arg3))
      ∧ r.2.sem = fun _ => 0)

def quiescent_MixSample [hMixSample : Cert.MixSample.Facts] : Prop :=
  ∀ (m : (ℓ : Loc Cert.MixSample.nD Cert.MixSample.τ Cert.MixSample.sig) → Buf (Elt Bits) ℓ) (g : Dev Cert.MixSample.nD → PrngReg), Pre_MixSample m →
    θ_run (Cert.MixSample.defs (F := Bits)) (onTc (τ := Cert.MixSample.τ) (Cert.MixSample.main (F := Bits))) ⟨m, fun _ => 0, g⟩ (fun r => (∀ c : Dev Cert.MixSample.nD,
      r.2.mem ((c.tc : Thread Cert.MixSample.nD Cert.MixSample.τ).loc Cert.MixSample.main_arg0) = m ((c.tc : Thread Cert.MixSample.nD Cert.MixSample.τ).loc Cert.MixSample.main_arg0)
      ∧ r.2.mem ((c.tc : Thread Cert.MixSample.nD Cert.MixSample.τ).loc Cert.MixSample.main_arg1) = m ((c.tc : Thread Cert.MixSample.nD Cert.MixSample.τ).loc Cert.MixSample.main_arg1)
      ∧ r.2.mem ((c.tc : Thread Cert.MixSample.nD Cert.MixSample.τ).loc Cert.MixSample.main_arg2) = m ((c.tc : Thread Cert.MixSample.nD Cert.MixSample.τ).loc Cert.MixSample.main_arg2)
      ∧ r.2.mem ((c.tc : Thread Cert.MixSample.nD Cert.MixSample.τ).loc Cert.MixSample.main_arg3) = m ((c.tc : Thread Cert.MixSample.nD Cert.MixSample.τ).loc Cert.MixSample.main_arg3)
      ∧ r.2.mem ((c.tc : Thread Cert.MixSample.nD Cert.MixSample.τ).loc Cert.MixSample.main_arg4) = m ((c.tc : Thread Cert.MixSample.nD Cert.MixSample.τ).loc Cert.MixSample.main_arg4)
      ∧ r.2.mem ((c.tc : Thread Cert.MixSample.nD Cert.MixSample.τ).loc Cert.MixSample.main_arg5) = m ((c.tc : Thread Cert.MixSample.nD Cert.MixSample.τ).loc Cert.MixSample.main_arg5)
      ∧ r.2.mem ((c.tc : Thread Cert.MixSample.nD Cert.MixSample.τ).loc Cert.MixSample.main_arg6) = m ((c.tc : Thread Cert.MixSample.nD Cert.MixSample.τ).loc Cert.MixSample.main_arg6)
      ∧ r.2.mem ((c.tc : Thread Cert.MixSample.nD Cert.MixSample.τ).loc Cert.MixSample.main_arg7) = m ((c.tc : Thread Cert.MixSample.nD Cert.MixSample.τ).loc Cert.MixSample.main_arg7)
      ∧ r.2.mem ((c.tc : Thread Cert.MixSample.nD Cert.MixSample.τ).loc Cert.MixSample.main_arg8) = m ((c.tc : Thread Cert.MixSample.nD Cert.MixSample.τ).loc Cert.MixSample.main_arg8)
      ∧ r.2.mem ((c.tc : Thread Cert.MixSample.nD Cert.MixSample.τ).loc Cert.MixSample.main_arg9) = m ((c.tc : Thread Cert.MixSample.nD Cert.MixSample.τ).loc Cert.MixSample.main_arg9)
      ∧ r.2.mem ((c.tc : Thread Cert.MixSample.nD Cert.MixSample.τ).loc Cert.MixSample.main_arg10) = m ((c.tc : Thread Cert.MixSample.nD Cert.MixSample.τ).loc Cert.MixSample.main_arg10)
      ∧ r.2.mem ((c.tc : Thread Cert.MixSample.nD Cert.MixSample.τ).loc Cert.MixSample.main_arg11) = m ((c.tc : Thread Cert.MixSample.nD Cert.MixSample.τ).loc Cert.MixSample.main_arg11)
      ∧ r.2.mem ((c.tc : Thread Cert.MixSample.nD Cert.MixSample.τ).loc Cert.MixSample.main_arg12) = m ((c.tc : Thread Cert.MixSample.nD Cert.MixSample.τ).loc Cert.MixSample.main_arg12)
      ∧ r.2.mem ((c.tc : Thread Cert.MixSample.nD Cert.MixSample.τ).loc Cert.MixSample.main_arg13) = m ((c.tc : Thread Cert.MixSample.nD Cert.MixSample.τ).loc Cert.MixSample.main_arg13)
      ∧ r.2.mem ((c.tc : Thread Cert.MixSample.nD Cert.MixSample.τ).loc Cert.MixSample.main_arg14) = m ((c.tc : Thread Cert.MixSample.nD Cert.MixSample.τ).loc Cert.MixSample.main_arg14)
      ∧ r.2.mem ((c.tc : Thread Cert.MixSample.nD Cert.MixSample.τ).loc Cert.MixSample.main_arg15) = m ((c.tc : Thread Cert.MixSample.nD Cert.MixSample.τ).loc Cert.MixSample.main_arg15)
      ∧ r.2.mem ((c.tc : Thread Cert.MixSample.nD Cert.MixSample.τ).loc Cert.MixSample.main_arg16) = m ((c.tc : Thread Cert.MixSample.nD Cert.MixSample.τ).loc Cert.MixSample.main_arg16))
      ∧ r.2.sem = fun _ => 0)

def quiescent_MixSampleIdeal [hMixSampleIdeal : Cert.MixSampleIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg), Pre_MixSampleIdeal m →
    θ_run (Cert.MixSampleIdeal.defs (F := Ideal)) (onTc (τ := Cert.MixSampleIdeal.τ) (Cert.MixSampleIdeal.main (F := Ideal))) ⟨m, fun _ => 0, g⟩ (fun r => (∀ c : Dev Cert.MixSampleIdeal.nD,
      r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
      ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
      ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
      ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
      ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
      ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
      ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
      ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
      ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8)
      ∧ r.2.mem ((c.tc : Thread Cert.MixSampleIdeal.nD Cert.MixSampleIdeal.τ).loc Cert.MixSampleIdeal.main_arg9) = m ((c.tc : Thread Cert.MixSampleIdeal.nD Cert.MixSampleIdeal.τ).loc Cert.MixSampleIdeal.main_arg9)
      ∧ r.2.mem ((c.tc : Thread Cert.MixSampleIdeal.nD Cert.MixSampleIdeal.τ).loc Cert.MixSampleIdeal.main_arg10) = m ((c.tc : Thread Cert.MixSampleIdeal.nD Cert.MixSampleIdeal.τ).loc Cert.MixSampleIdeal.main_arg10)
      ∧ r.2.mem ((c.tc : Thread Cert.MixSampleIdeal.nD Cert.MixSampleIdeal.τ).loc Cert.MixSampleIdeal.main_arg11) = m ((c.tc : Thread Cert.MixSampleIdeal.nD Cert.MixSampleIdeal.τ).loc Cert.MixSampleIdeal.main_arg11)
      ∧ r.2.mem ((c.tc : Thread Cert.MixSampleIdeal.nD Cert.MixSampleIdeal.τ).loc Cert.MixSampleIdeal.main_arg12) = m ((c.tc : Thread Cert.MixSampleIdeal.nD Cert.MixSampleIdeal.τ).loc Cert.MixSampleIdeal.main_arg12)
      ∧ r.2.mem ((c.tc : Thread Cert.MixSampleIdeal.nD Cert.MixSampleIdeal.τ).loc Cert.MixSampleIdeal.main_arg13) = m ((c.tc : Thread Cert.MixSampleIdeal.nD Cert.MixSampleIdeal.τ).loc Cert.MixSampleIdeal.main_arg13)
      ∧ r.2.mem ((c.tc : Thread Cert.MixSampleIdeal.nD Cert.MixSampleIdeal.τ).loc Cert.MixSampleIdeal.main_arg14) = m ((c.tc : Thread Cert.MixSampleIdeal.nD Cert.MixSampleIdeal.τ).loc Cert.MixSampleIdeal.main_arg14)
      ∧ r.2.mem ((c.tc : Thread Cert.MixSampleIdeal.nD Cert.MixSampleIdeal.τ).loc Cert.MixSampleIdeal.main_arg15) = m ((c.tc : Thread Cert.MixSampleIdeal.nD Cert.MixSampleIdeal.τ).loc Cert.MixSampleIdeal.main_arg15)
      ∧ r.2.mem ((c.tc : Thread Cert.MixSampleIdeal.nD Cert.MixSampleIdeal.τ).loc Cert.MixSampleIdeal.main_arg16) = m ((c.tc : Thread Cert.MixSampleIdeal.nD Cert.MixSampleIdeal.τ).loc Cert.MixSampleIdeal.main_arg16))
      ∧ r.2.sem = fun _ => 0)

def quiescent_MixSampleRefIdeal [hMixSampleRefIdeal : Cert.MixSampleRefIdeal.Facts] : Prop :=
  ∀ (m : (ℓ : Loc Cert.MixSampleRefIdeal.nD Cert.MixSampleRefIdeal.τ Cert.MixSampleRefIdeal.sig) → Buf (Elt Ideal) ℓ) (g : Dev Cert.MixSampleRefIdeal.nD → PrngReg), Pre_MixSampleRefIdeal m →
    θ_run (Cert.MixSampleRefIdeal.defs (F := Ideal)) (onTc (τ := Cert.MixSampleRefIdeal.τ) (Cert.MixSampleRefIdeal.main (F := Ideal))) ⟨m, fun _ => 0, g⟩ (fun r => (∀ c : Dev Cert.MixSampleRefIdeal.nD,
      r.2.mem ((c.tc : Thread Cert.MixSampleRefIdeal.nD Cert.MixSampleRefIdeal.τ).loc Cert.MixSampleRefIdeal.main_arg0) = m ((c.tc : Thread Cert.MixSampleRefIdeal.nD Cert.MixSampleRefIdeal.τ).loc Cert.MixSampleRefIdeal.main_arg0)
      ∧ r.2.mem ((c.tc : Thread Cert.MixSampleRefIdeal.nD Cert.MixSampleRefIdeal.τ).loc Cert.MixSampleRefIdeal.main_arg1) = m ((c.tc : Thread Cert.MixSampleRefIdeal.nD Cert.MixSampleRefIdeal.τ).loc Cert.MixSampleRefIdeal.main_arg1)
      ∧ r.2.mem ((c.tc : Thread Cert.MixSampleRefIdeal.nD Cert.MixSampleRefIdeal.τ).loc Cert.MixSampleRefIdeal.main_arg2) = m ((c.tc : Thread Cert.MixSampleRefIdeal.nD Cert.MixSampleRefIdeal.τ).loc Cert.MixSampleRefIdeal.main_arg2)
      ∧ r.2.mem ((c.tc : Thread Cert.MixSampleRefIdeal.nD Cert.MixSampleRefIdeal.τ).loc Cert.MixSampleRefIdeal.main_arg3) = m ((c.tc : Thread Cert.MixSampleRefIdeal.nD Cert.MixSampleRefIdeal.τ).loc Cert.MixSampleRefIdeal.main_arg3)
      ∧ r.2.mem ((c.tc : Thread Cert.MixSampleRefIdeal.nD Cert.MixSampleRefIdeal.τ).loc Cert.MixSampleRefIdeal.main_arg4) = m ((c.tc : Thread Cert.MixSampleRefIdeal.nD Cert.MixSampleRefIdeal.τ).loc Cert.MixSampleRefIdeal.main_arg4)
      ∧ r.2.mem ((c.tc : Thread Cert.MixSampleRefIdeal.nD Cert.MixSampleRefIdeal.τ).loc Cert.MixSampleRefIdeal.main_arg5) = m ((c.tc : Thread Cert.MixSampleRefIdeal.nD Cert.MixSampleRefIdeal.τ).loc Cert.MixSampleRefIdeal.main_arg5)
      ∧ r.2.mem ((c.tc : Thread Cert.MixSampleRefIdeal.nD Cert.MixSampleRefIdeal.τ).loc Cert.MixSampleRefIdeal.main_arg6) = m ((c.tc : Thread Cert.MixSampleRefIdeal.nD Cert.MixSampleRefIdeal.τ).loc Cert.MixSampleRefIdeal.main_arg6)
      ∧ r.2.mem ((c.tc : Thread Cert.MixSampleRefIdeal.nD Cert.MixSampleRefIdeal.τ).loc Cert.MixSampleRefIdeal.main_arg7) = m ((c.tc : Thread Cert.MixSampleRefIdeal.nD Cert.MixSampleRefIdeal.τ).loc Cert.MixSampleRefIdeal.main_arg7)
      ∧ r.2.mem ((c.tc : Thread Cert.MixSampleRefIdeal.nD Cert.MixSampleRefIdeal.τ).loc Cert.MixSampleRefIdeal.main_arg8) = m ((c.tc : Thread Cert.MixSampleRefIdeal.nD Cert.MixSampleRefIdeal.τ).loc Cert.MixSampleRefIdeal.main_arg8)
      ∧ r.2.mem ((c.tc : Thread Cert.MixSampleRefIdeal.nD Cert.MixSampleRefIdeal.τ).loc Cert.MixSampleRefIdeal.main_arg9) = m ((c.tc : Thread Cert.MixSampleRefIdeal.nD Cert.MixSampleRefIdeal.τ).loc Cert.MixSampleRefIdeal.main_arg9)
      ∧ r.2.mem ((c.tc : Thread Cert.MixSampleRefIdeal.nD Cert.MixSampleRefIdeal.τ).loc Cert.MixSampleRefIdeal.main_arg10) = m ((c.tc : Thread Cert.MixSampleRefIdeal.nD Cert.MixSampleRefIdeal.τ).loc Cert.MixSampleRefIdeal.main_arg10)
      ∧ r.2.mem ((c.tc : Thread Cert.MixSampleRefIdeal.nD Cert.MixSampleRefIdeal.τ).loc Cert.MixSampleRefIdeal.main_arg11) = m ((c.tc : Thread Cert.MixSampleRefIdeal.nD Cert.MixSampleRefIdeal.τ).loc Cert.MixSampleRefIdeal.main_arg11)
      ∧ r.2.mem ((c.tc : Thread Cert.MixSampleRefIdeal.nD Cert.MixSampleRefIdeal.τ).loc Cert.MixSampleRefIdeal.main_arg12) = m ((c.tc : Thread Cert.MixSampleRefIdeal.nD Cert.MixSampleRefIdeal.τ).loc Cert.MixSampleRefIdeal.main_arg12)
      ∧ r.2.mem ((c.tc : Thread Cert.MixSampleRefIdeal.nD Cert.MixSampleRefIdeal.τ).loc Cert.MixSampleRefIdeal.main_arg13) = m ((c.tc : Thread Cert.MixSampleRefIdeal.nD Cert.MixSampleRefIdeal.τ).loc Cert.MixSampleRefIdeal.main_arg13)
      ∧ r.2.mem ((c.tc : Thread Cert.MixSampleRefIdeal.nD Cert.MixSampleRefIdeal.τ).loc Cert.MixSampleRefIdeal.main_arg14) = m ((c.tc : Thread Cert.MixSampleRefIdeal.nD Cert.MixSampleRefIdeal.τ).loc Cert.MixSampleRefIdeal.main_arg14)
      ∧ r.2.mem ((c.tc : Thread Cert.MixSampleRefIdeal.nD Cert.MixSampleRefIdeal.τ).loc Cert.MixSampleRefIdeal.main_arg15) = m ((c.tc : Thread Cert.MixSampleRefIdeal.nD Cert.MixSampleRefIdeal.τ).loc Cert.MixSampleRefIdeal.main_arg15)
      ∧ r.2.mem ((c.tc : Thread Cert.MixSampleRefIdeal.nD Cert.MixSampleRefIdeal.τ).loc Cert.MixSampleRefIdeal.main_arg16) = m ((c.tc : Thread Cert.MixSampleRefIdeal.nD Cert.MixSampleRefIdeal.τ).loc Cert.MixSampleRefIdeal.main_arg16))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ r.2.sem = fun _ => 0)

def quiescent_BiasRefIdeal [hBiasRefIdeal : Cert.BiasRefIdeal.Facts] : Prop :=
  ∀ (m : (ℓ : Loc Cert.BiasRefIdeal.nD Cert.BiasRefIdeal.τ Cert.BiasRefIdeal.sig) → Buf (Elt Ideal) ℓ) (g : Dev Cert.BiasRefIdeal.nD → PrngReg), Pre_BiasRefIdeal m →
    θ_run (Cert.BiasRefIdeal.defs (F := Ideal)) (onTc (τ := Cert.BiasRefIdeal.τ) (Cert.BiasRefIdeal.main (F := Ideal))) ⟨m, fun _ => 0, g⟩ (fun r => (∀ c : Dev Cert.BiasRefIdeal.nD,
      r.2.mem ((c.tc : Thread Cert.BiasRefIdeal.nD Cert.BiasRefIdeal.τ).loc Cert.BiasRefIdeal.main_arg0) = m ((c.tc : Thread Cert.BiasRefIdeal.nD Cert.BiasRefIdeal.τ).loc Cert.BiasRefIdeal.main_arg0))
      ∧ r.2.sem = fun _ => 0)

def preserves_Mix_MixIdeal : Prop :=
  IdealRules.named_const.Statement Cert.MixIdeal.κ "scale_log2e" .f32 0x3E0293EE#32 (((Real.sqrt 128)⁻¹ * (Real.log 2)⁻¹ : ℝ) : EReal)
  ∧ IdealRules.named_const.Statement Cert.MixIdeal.κ "mask" .f32 0xF149F2CA#32 ⊥
  ∧ IdealRules.named_const.Statement Cert.MixIdeal.κ "log2e" .f32 0x3FB8AA3B#32 (((Real.log 2)⁻¹ : ℝ) : EReal)

def algebraic_MixIdeal_MixRefIdeal_pre_finite_scores [hMixIdeal : Cert.MixIdeal.Facts] [hMixRefIdeal : Cert.MixRefIdeal.Facts] [hPre_finite_scores : Cert.Pre_finite_scores.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_scores m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)
      ∧ m' ((c.tc : Thread Cert.MixRefIdeal.nD Cert.MixRefIdeal.τ).loc Cert.MixRefIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v0_0)) (v1 : (c : Dev Cert.MixIdeal.nD) → Buf (Elt Ideal) ((c.tc : Thread Cert.MixIdeal.nD Cert.MixIdeal.τ).loc Cert.MixIdeal.main_v0_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0_0) = v0 c
          ∧ r.2.mem ((c.tc : Thread Cert.MixIdeal.nD Cert.MixIdeal.τ).loc Cert.MixIdeal.main_v0_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v144) = v0 c
          ∧ r.2.mem ((c.tc : Thread Cert.MixRefIdeal.nD Cert.MixRefIdeal.τ).loc Cert.MixRefIdeal.main_v146) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12)
          ∧ r.2.mem ((c.tc : Thread Cert.MixRefIdeal.nD Cert.MixRefIdeal.τ).loc Cert.MixRefIdeal.main_arg13) = m' ((c.tc : Thread Cert.MixRefIdeal.nD Cert.MixRefIdeal.τ).loc Cert.MixRefIdeal.main_arg13))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v7) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)) (v2 : (c : Dev Cert.ProjIdeal.nD) → Buf (Elt Ideal) ((c.tc : Thread Cert.ProjIdeal.nD Cert.ProjIdeal.τ).loc Cert.ProjIdeal.main_v0_2)) (v3 : (c : Dev Cert.ProjIdeal.nD) → Buf (Elt Ideal) ((c.tc : Thread Cert.ProjIdeal.nD Cert.ProjIdeal.τ).loc Cert.ProjIdeal.main_v0_3)) (v4 : (c : Dev Cert.ProjIdeal.nD) → Buf (Elt Ideal) ((c.tc : Thread Cert.ProjIdeal.nD Cert.ProjIdeal.τ).loc Cert.ProjIdeal.main_v0_4)) (v5 : (c : Dev Cert.ProjIdeal.nD) → Buf (Elt Ideal) ((c.tc : Thread Cert.ProjIdeal.nD Cert.ProjIdeal.τ).loc Cert.ProjIdeal.main_v0_5)) (v6 : (c : Dev Cert.ProjIdeal.nD) → Buf (Elt Ideal) ((c.tc : Thread Cert.ProjIdeal.nD Cert.ProjIdeal.τ).loc Cert.ProjIdeal.main_v0_6)) (v7 : (c : Dev Cert.ProjIdeal.nD) → Buf (Elt Ideal) ((c.tc : Thread Cert.ProjIdeal.nD Cert.ProjIdeal.τ).loc Cert.ProjIdeal.main_v0_7)) (v8 : (c : Dev Cert.ProjIdeal.nD) → Buf (Elt Ideal) ((c.tc : Thread Cert.ProjIdeal.nD Cert.ProjIdeal.τ).loc Cert.ProjIdeal.main_v0_8)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_v0_2) = v2 c
          ∧ r.2.mem ((c.tc : Thread Cert.ProjIdeal.nD Cert.ProjIdeal.τ).loc Cert.ProjIdeal.main_v0_3) = v3 c
          ∧ r.2.mem ((c.tc : Thread Cert.ProjIdeal.nD Cert.ProjIdeal.τ).loc Cert.ProjIdeal.main_v0_4) = v4 c
          ∧ r.2.mem ((c.tc : Thread Cert.ProjIdeal.nD Cert.ProjIdeal.τ).loc Cert.ProjIdeal.main_v0_5) = v5 c
          ∧ r.2.mem ((c.tc : Thread Cert.ProjIdeal.nD Cert.ProjIdeal.τ).loc Cert.ProjIdeal.main_v0_6) = v6 c
          ∧ r.2.mem ((c.tc : Thread Cert.ProjIdeal.nD Cert.ProjIdeal.τ).loc Cert.ProjIdeal.main_v0_7) = v7 c
          ∧ r.2.mem ((c.tc : Thread Cert.ProjIdeal.nD Cert.ProjIdeal.τ).loc Cert.ProjIdeal.main_v0_8) = v8 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v67) = v1 c
          ∧ r.2.mem ((c.tc : Thread Cert.ProjRefIdeal.nD Cert.ProjRefIdeal.τ).loc Cert.ProjRefIdeal.main_v69) = v2 c
          ∧ r.2.mem ((c.tc : Thread Cert.ProjRefIdeal.nD Cert.ProjRefIdeal.τ).loc Cert.ProjRefIdeal.main_v70) = v3 c
          ∧ r.2.mem ((c.tc : Thread Cert.ProjRefIdeal.nD Cert.ProjRefIdeal.τ).loc Cert.ProjRefIdeal.main_v71) = v4 c
          ∧ r.2.mem ((c.tc : Thread Cert.ProjRefIdeal.nD Cert.ProjRefIdeal.τ).loc Cert.ProjRefIdeal.main_v73) = v5 c
          ∧ r.2.mem ((c.tc : Thread Cert.ProjRefIdeal.nD Cert.ProjRefIdeal.τ).loc Cert.ProjRefIdeal.main_v75) = v6 c
          ∧ r.2.mem ((c.tc : Thread Cert.ProjRefIdeal.nD Cert.ProjRefIdeal.τ).loc Cert.ProjRefIdeal.main_v77) = v7 c
          ∧ r.2.mem ((c.tc : Thread Cert.ProjRefIdeal.nD Cert.ProjRefIdeal.τ).loc Cert.ProjRefIdeal.main_v78) = v8 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)
      ∧ m' ((c.tc : Thread Cert.KvRefIdeal.nD Cert.KvRefIdeal.τ).loc Cert.KvRefIdeal.main_arg3) = m ((c.tc : Thread Cert.KvIdeal.nD Cert.KvIdeal.τ).loc Cert.KvIdeal.main_arg3)
      ∧ m' ((c.tc : Thread Cert.KvRefIdeal.nD Cert.KvRefIdeal.τ).loc Cert.KvRefIdeal.main_arg4) = m ((c.tc : Thread Cert.KvIdeal.nD Cert.KvIdeal.τ).loc Cert.KvIdeal.main_arg4)
      ∧ m' ((c.tc : Thread Cert.KvRefIdeal.nD Cert.KvRefIdeal.τ).loc Cert.KvRefIdeal.main_arg5) = m ((c.tc : Thread Cert.KvIdeal.nD Cert.KvIdeal.τ).loc Cert.KvIdeal.main_arg5)) →
    ∃ (v0 : (c : Dev Cert.KvIdeal.nD) → Buf (Elt Ideal) ((c.tc : Thread Cert.KvIdeal.nD Cert.KvIdeal.τ).loc Cert.KvIdeal.main_v0_0)) (v1 : (c : Dev Cert.KvIdeal.nD) → Buf (Elt Ideal) ((c.tc : Thread Cert.KvIdeal.nD Cert.KvIdeal.τ).loc Cert.KvIdeal.main_v0_1)) (v2 : (c : Dev Cert.KvIdeal.nD) → Buf (Elt Ideal) ((c.tc : Thread Cert.KvIdeal.nD Cert.KvIdeal.τ).loc Cert.KvIdeal.main_v0_2)) (v3 : (c : Dev Cert.KvIdeal.nD) → Buf (Elt Ideal) ((c.tc : Thread Cert.KvIdeal.nD Cert.KvIdeal.τ).loc Cert.KvIdeal.main_v0_3)) (v4 : (c : Dev Cert.KvIdeal.nD) → Buf (Elt Ideal) ((c.tc : Thread Cert.KvIdeal.nD Cert.KvIdeal.τ).loc Cert.KvIdeal.main_v0_4)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0_0) = v0 c
          ∧ r.2.mem ((c.tc : Thread Cert.KvIdeal.nD Cert.KvIdeal.τ).loc Cert.KvIdeal.main_v0_1) = v1 c
          ∧ r.2.mem ((c.tc : Thread Cert.KvIdeal.nD Cert.KvIdeal.τ).loc Cert.KvIdeal.main_v0_2) = v2 c
          ∧ r.2.mem ((c.tc : Thread Cert.KvIdeal.nD Cert.KvIdeal.τ).loc Cert.KvIdeal.main_v0_3) = v3 c
          ∧ r.2.mem ((c.tc : Thread Cert.KvIdeal.nD Cert.KvIdeal.τ).loc Cert.KvIdeal.main_v0_4) = v4 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4)
          ∧ r.2.mem ((c.tc : Thread Cert.KvIdeal.nD Cert.KvIdeal.τ).loc Cert.KvIdeal.main_arg5) = m ((c.tc : Thread Cert.KvIdeal.nD Cert.KvIdeal.τ).loc Cert.KvIdeal.main_arg5))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v30) = v0 c
          ∧ r.2.mem ((c.tc : Thread Cert.KvRefIdeal.nD Cert.KvRefIdeal.τ).loc Cert.KvRefIdeal.main_v31) = v1 c
          ∧ r.2.mem ((c.tc : Thread Cert.KvRefIdeal.nD Cert.KvRefIdeal.τ).loc Cert.KvRefIdeal.main_v33) = v2 c
          ∧ r.2.mem ((c.tc : Thread Cert.KvRefIdeal.nD Cert.KvRefIdeal.τ).loc Cert.KvRefIdeal.main_v35) = v3 c
          ∧ r.2.mem ((c.tc : Thread Cert.KvRefIdeal.nD Cert.KvRefIdeal.τ).loc Cert.KvRefIdeal.main_v36) = v4 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4)
          ∧ r.2.mem ((c.tc : Thread Cert.KvRefIdeal.nD Cert.KvRefIdeal.τ).loc Cert.KvRefIdeal.main_arg5) = m' ((c.tc : Thread Cert.KvRefIdeal.nD Cert.KvRefIdeal.τ).loc Cert.KvRefIdeal.main_arg5))

def preserves_MlpCast_MlpCastIdeal : Prop :=
  True

def algebraic_MlpCastIdeal_MlpCastRefIdeal [hMlpCastIdeal : Cert.MlpCastIdeal.Facts] [hMlpCastRefIdeal : Cert.MlpCastRefIdeal.Facts] : Prop :=
  ∀ (m : (ℓ : Loc Cert.MlpCastIdeal.nD Cert.MlpCastIdeal.τ Cert.MlpCastIdeal.sig) → Buf (Elt Ideal) ℓ) (g : Dev Cert.MlpCastIdeal.nD → PrngReg)
    (m' : (ℓ : Loc Cert.MlpCastRefIdeal.nD Cert.MlpCastRefIdeal.τ Cert.MlpCastRefIdeal.sig) → Buf (Elt Ideal) ℓ) (g' : Dev Cert.MlpCastRefIdeal.nD → PrngReg), Pre_MlpCastIdeal m →
    (∀ c : Dev Cert.MlpCastIdeal.nD,
      m' ((c.tc : Thread Cert.MlpCastRefIdeal.nD Cert.MlpCastRefIdeal.τ).loc Cert.MlpCastRefIdeal.main_arg0) = m ((c.tc : Thread Cert.MlpCastIdeal.nD Cert.MlpCastIdeal.τ).loc Cert.MlpCastIdeal.main_arg0)
      ∧ m' ((c.tc : Thread Cert.MlpCastRefIdeal.nD Cert.MlpCastRefIdeal.τ).loc Cert.MlpCastRefIdeal.main_arg1) = m ((c.tc : Thread Cert.MlpCastIdeal.nD Cert.MlpCastIdeal.τ).loc Cert.MlpCastIdeal.main_arg1)
      ∧ m' ((c.tc : Thread Cert.MlpCastRefIdeal.nD Cert.MlpCastRefIdeal.τ).loc Cert.MlpCastRefIdeal.main_arg2) = m ((c.tc : Thread Cert.MlpCastIdeal.nD Cert.MlpCastIdeal.τ).loc Cert.MlpCastIdeal.main_arg2)
      ∧ m' ((c.tc : Thread Cert.MlpCastRefIdeal.nD Cert.MlpCastRefIdeal.τ).loc Cert.MlpCastRefIdeal.main_arg3) = m ((c.tc : Thread Cert.MlpCastIdeal.nD Cert.MlpCastIdeal.τ).loc Cert.MlpCastIdeal.main_arg3)) →
    ∃ (v0 : (c : Dev Cert.MlpCastIdeal.nD) → Buf (Elt Ideal) ((c.tc : Thread Cert.MlpCastIdeal.nD Cert.MlpCastIdeal.τ).loc Cert.MlpCastIdeal.main_v0_0)) (v1 : (c : Dev Cert.MlpCastIdeal.nD) → Buf (Elt Ideal) ((c.tc : Thread Cert.MlpCastIdeal.nD Cert.MlpCastIdeal.τ).loc Cert.MlpCastIdeal.main_v0_1)) (v2 : (c : Dev Cert.MlpCastIdeal.nD) → Buf (Elt Ideal) ((c.tc : Thread Cert.MlpCastIdeal.nD Cert.MlpCastIdeal.τ).loc Cert.MlpCastIdeal.main_v0_2)),
      θ_run (Cert.MlpCastIdeal.defs (F := Ideal)) (onTc (τ := Cert.MlpCastIdeal.τ) (Cert.MlpCastIdeal.main (F := Ideal))) ⟨m, fun _ => 0, g⟩ (fun r => ∀ c : Dev Cert.MlpCastIdeal.nD,
          r.2.mem ((c.tc : Thread Cert.MlpCastIdeal.nD Cert.MlpCastIdeal.τ).loc Cert.MlpCastIdeal.main_v0_0) = v0 c
          ∧ r.2.mem ((c.tc : Thread Cert.MlpCastIdeal.nD Cert.MlpCastIdeal.τ).loc Cert.MlpCastIdeal.main_v0_1) = v1 c
          ∧ r.2.mem ((c.tc : Thread Cert.MlpCastIdeal.nD Cert.MlpCastIdeal.τ).loc Cert.MlpCastIdeal.main_v0_2) = v2 c
          ∧ r.2.mem ((c.tc : Thread Cert.MlpCastIdeal.nD Cert.MlpCastIdeal.τ).loc Cert.MlpCastIdeal.main_arg0) = m ((c.tc : Thread Cert.MlpCastIdeal.nD Cert.MlpCastIdeal.τ).loc Cert.MlpCastIdeal.main_arg0)
          ∧ r.2.mem ((c.tc : Thread Cert.MlpCastIdeal.nD Cert.MlpCastIdeal.τ).loc Cert.MlpCastIdeal.main_arg1) = m ((c.tc : Thread Cert.MlpCastIdeal.nD Cert.MlpCastIdeal.τ).loc Cert.MlpCastIdeal.main_arg1)
          ∧ r.2.mem ((c.tc : Thread Cert.MlpCastIdeal.nD Cert.MlpCastIdeal.τ).loc Cert.MlpCastIdeal.main_arg2) = m ((c.tc : Thread Cert.MlpCastIdeal.nD Cert.MlpCastIdeal.τ).loc Cert.MlpCastIdeal.main_arg2)
          ∧ r.2.mem ((c.tc : Thread Cert.MlpCastIdeal.nD Cert.MlpCastIdeal.τ).loc Cert.MlpCastIdeal.main_arg3) = m ((c.tc : Thread Cert.MlpCastIdeal.nD Cert.MlpCastIdeal.τ).loc Cert.MlpCastIdeal.main_arg3))
      ∧ θ_run (Cert.MlpCastRefIdeal.defs (F := Ideal)) (onTc (τ := Cert.MlpCastRefIdeal.τ) (Cert.MlpCastRefIdeal.main (F := Ideal))) ⟨m', fun _ => 0, g'⟩ (fun r => ∀ c : Dev Cert.MlpCastRefIdeal.nD,
          r.2.mem ((c.tc : Thread Cert.MlpCastRefIdeal.nD Cert.MlpCastRefIdeal.τ).loc Cert.MlpCastRefIdeal.main_v5) = v0 c
          ∧ r.2.mem ((c.tc : Thread Cert.MlpCastRefIdeal.nD Cert.MlpCastRefIdeal.τ).loc Cert.MlpCastRefIdeal.main_v6) = v1 c
          ∧ r.2.mem ((c.tc : Thread Cert.MlpCastRefIdeal.nD Cert.MlpCastRefIdeal.τ).loc Cert.MlpCastRefIdeal.main_v7) = v2 c
          ∧ r.2.mem ((c.tc : Thread Cert.MlpCastRefIdeal.nD Cert.MlpCastRefIdeal.τ).loc Cert.MlpCastRefIdeal.main_arg0) = m' ((c.tc : Thread Cert.MlpCastRefIdeal.nD Cert.MlpCastRefIdeal.τ).loc Cert.MlpCastRefIdeal.main_arg0)
          ∧ r.2.mem ((c.tc : Thread Cert.MlpCastRefIdeal.nD Cert.MlpCastRefIdeal.τ).loc Cert.MlpCastRefIdeal.main_arg1) = m' ((c.tc : Thread Cert.MlpCastRefIdeal.nD Cert.MlpCastRefIdeal.τ).loc Cert.MlpCastRefIdeal.main_arg1)
          ∧ r.2.mem ((c.tc : Thread Cert.MlpCastRefIdeal.nD Cert.MlpCastRefIdeal.τ).loc Cert.MlpCastRefIdeal.main_arg2) = m' ((c.tc : Thread Cert.MlpCastRefIdeal.nD Cert.MlpCastRefIdeal.τ).loc Cert.MlpCastRefIdeal.main_arg2)
          ∧ r.2.mem ((c.tc : Thread Cert.MlpCastRefIdeal.nD Cert.MlpCastRefIdeal.τ).loc Cert.MlpCastRefIdeal.main_arg3) = m' ((c.tc : Thread Cert.MlpCastRefIdeal.nD Cert.MlpCastRefIdeal.τ).loc Cert.MlpCastRefIdeal.main_arg3))

def preserves_MixSample_MixSampleIdeal : Prop :=
  True

def algebraic_MixSampleIdeal_MixSampleRefIdeal [hMixSampleIdeal : Cert.MixSampleIdeal.Facts] [hMixSampleRefIdeal : Cert.MixSampleRefIdeal.Facts] : Prop :=
  ∀ (m : (ℓ : Loc Cert.MixSampleIdeal.nD Cert.MixSampleIdeal.τ Cert.MixSampleIdeal.sig) → Buf (Elt Ideal) ℓ) (g : Dev Cert.MixSampleIdeal.nD → PrngReg)
    (m' : (ℓ : Loc Cert.MixSampleRefIdeal.nD Cert.MixSampleRefIdeal.τ Cert.MixSampleRefIdeal.sig) → Buf (Elt Ideal) ℓ) (g' : Dev Cert.MixSampleRefIdeal.nD → PrngReg), Pre_MixSampleIdeal m →
    (∀ c : Dev Cert.MixSampleIdeal.nD,
      m' ((c.tc : Thread Cert.MixSampleRefIdeal.nD Cert.MixSampleRefIdeal.τ).loc Cert.MixSampleRefIdeal.main_arg0) = m ((c.tc : Thread Cert.MixSampleIdeal.nD Cert.MixSampleIdeal.τ).loc Cert.MixSampleIdeal.main_arg0)
      ∧ m' ((c.tc : Thread Cert.MixSampleRefIdeal.nD Cert.MixSampleRefIdeal.τ).loc Cert.MixSampleRefIdeal.main_arg1) = m ((c.tc : Thread Cert.MixSampleIdeal.nD Cert.MixSampleIdeal.τ).loc Cert.MixSampleIdeal.main_arg1)
      ∧ m' ((c.tc : Thread Cert.MixSampleRefIdeal.nD Cert.MixSampleRefIdeal.τ).loc Cert.MixSampleRefIdeal.main_arg2) = m ((c.tc : Thread Cert.MixSampleIdeal.nD Cert.MixSampleIdeal.τ).loc Cert.MixSampleIdeal.main_arg2)
      ∧ m' ((c.tc : Thread Cert.MixSampleRefIdeal.nD Cert.MixSampleRefIdeal.τ).loc Cert.MixSampleRefIdeal.main_arg3) = m ((c.tc : Thread Cert.MixSampleIdeal.nD Cert.MixSampleIdeal.τ).loc Cert.MixSampleIdeal.main_arg3)
      ∧ m' ((c.tc : Thread Cert.MixSampleRefIdeal.nD Cert.MixSampleRefIdeal.τ).loc Cert.MixSampleRefIdeal.main_arg4) = m ((c.tc : Thread Cert.MixSampleIdeal.nD Cert.MixSampleIdeal.τ).loc Cert.MixSampleIdeal.main_arg4)
      ∧ m' ((c.tc : Thread Cert.MixSampleRefIdeal.nD Cert.MixSampleRefIdeal.τ).loc Cert.MixSampleRefIdeal.main_arg5) = m ((c.tc : Thread Cert.MixSampleIdeal.nD Cert.MixSampleIdeal.τ).loc Cert.MixSampleIdeal.main_arg5)
      ∧ m' ((c.tc : Thread Cert.MixSampleRefIdeal.nD Cert.MixSampleRefIdeal.τ).loc Cert.MixSampleRefIdeal.main_arg6) = m ((c.tc : Thread Cert.MixSampleIdeal.nD Cert.MixSampleIdeal.τ).loc Cert.MixSampleIdeal.main_arg6)
      ∧ m' ((c.tc : Thread Cert.MixSampleRefIdeal.nD Cert.MixSampleRefIdeal.τ).loc Cert.MixSampleRefIdeal.main_arg7) = m ((c.tc : Thread Cert.MixSampleIdeal.nD Cert.MixSampleIdeal.τ).loc Cert.MixSampleIdeal.main_arg7)
      ∧ m' ((c.tc : Thread Cert.MixSampleRefIdeal.nD Cert.MixSampleRefIdeal.τ).loc Cert.MixSampleRefIdeal.main_arg8) = m ((c.tc : Thread Cert.MixSampleIdeal.nD Cert.MixSampleIdeal.τ).loc Cert.MixSampleIdeal.main_arg8)
      ∧ m' ((c.tc : Thread Cert.MixSampleRefIdeal.nD Cert.MixSampleRefIdeal.τ).loc Cert.MixSampleRefIdeal.main_arg9) = m ((c.tc : Thread Cert.MixSampleIdeal.nD Cert.MixSampleIdeal.τ).loc Cert.MixSampleIdeal.main_arg9)
      ∧ m' ((c.tc : Thread Cert.MixSampleRefIdeal.nD Cert.MixSampleRefIdeal.τ).loc Cert.MixSampleRefIdeal.main_arg10) = m ((c.tc : Thread Cert.MixSampleIdeal.nD Cert.MixSampleIdeal.τ).loc Cert.MixSampleIdeal.main_arg10)
      ∧ m' ((c.tc : Thread Cert.MixSampleRefIdeal.nD Cert.MixSampleRefIdeal.τ).loc Cert.MixSampleRefIdeal.main_arg11) = m ((c.tc : Thread Cert.MixSampleIdeal.nD Cert.MixSampleIdeal.τ).loc Cert.MixSampleIdeal.main_arg11)
      ∧ m' ((c.tc : Thread Cert.MixSampleRefIdeal.nD Cert.MixSampleRefIdeal.τ).loc Cert.MixSampleRefIdeal.main_arg12) = m ((c.tc : Thread Cert.MixSampleIdeal.nD Cert.MixSampleIdeal.τ).loc Cert.MixSampleIdeal.main_arg12)
      ∧ m' ((c.tc : Thread Cert.MixSampleRefIdeal.nD Cert.MixSampleRefIdeal.τ).loc Cert.MixSampleRefIdeal.main_arg13) = m ((c.tc : Thread Cert.MixSampleIdeal.nD Cert.MixSampleIdeal.τ).loc Cert.MixSampleIdeal.main_arg13)
      ∧ m' ((c.tc : Thread Cert.MixSampleRefIdeal.nD Cert.MixSampleRefIdeal.τ).loc Cert.MixSampleRefIdeal.main_arg14) = m ((c.tc : Thread Cert.MixSampleIdeal.nD Cert.MixSampleIdeal.τ).loc Cert.MixSampleIdeal.main_arg14)
      ∧ m' ((c.tc : Thread Cert.MixSampleRefIdeal.nD Cert.MixSampleRefIdeal.τ).loc Cert.MixSampleRefIdeal.main_arg15) = m ((c.tc : Thread Cert.MixSampleIdeal.nD Cert.MixSampleIdeal.τ).loc Cert.MixSampleIdeal.main_arg15)
      ∧ m' ((c.tc : Thread Cert.MixSampleRefIdeal.nD Cert.MixSampleRefIdeal.τ).loc Cert.MixSampleRefIdeal.main_arg16) = m ((c.tc : Thread Cert.MixSampleIdeal.nD Cert.MixSampleIdeal.τ).loc Cert.MixSampleIdeal.main_arg16)) →
    ∃ (v0 : (c : Dev Cert.MixSampleIdeal.nD) → Buf (Elt Ideal) ((c.tc : Thread Cert.MixSampleIdeal.nD Cert.MixSampleIdeal.τ).loc Cert.MixSampleIdeal.main_v0_2)) (v1 : (c : Dev Cert.MixSampleIdeal.nD) → Buf (Elt Ideal) ((c.tc : Thread Cert.MixSampleIdeal.nD Cert.MixSampleIdeal.τ).loc Cert.MixSampleIdeal.main_v0_3)),
      θ_run (Cert.MixSampleIdeal.defs (F := Ideal)) (onTc (τ := Cert.MixSampleIdeal.τ) (Cert.MixSampleIdeal.main (F := Ideal))) ⟨m, fun _ => 0, g⟩ (fun r => ∀ c : Dev Cert.MixSampleIdeal.nD,
          r.2.mem ((c.tc : Thread Cert.MixSampleIdeal.nD Cert.MixSampleIdeal.τ).loc Cert.MixSampleIdeal.main_v0_2) = v0 c
          ∧ r.2.mem ((c.tc : Thread Cert.MixSampleIdeal.nD Cert.MixSampleIdeal.τ).loc Cert.MixSampleIdeal.main_v0_3) = v1 c
          ∧ r.2.mem ((c.tc : Thread Cert.MixSampleIdeal.nD Cert.MixSampleIdeal.τ).loc Cert.MixSampleIdeal.main_arg0) = m ((c.tc : Thread Cert.MixSampleIdeal.nD Cert.MixSampleIdeal.τ).loc Cert.MixSampleIdeal.main_arg0)
          ∧ r.2.mem ((c.tc : Thread Cert.MixSampleIdeal.nD Cert.MixSampleIdeal.τ).loc Cert.MixSampleIdeal.main_arg1) = m ((c.tc : Thread Cert.MixSampleIdeal.nD Cert.MixSampleIdeal.τ).loc Cert.MixSampleIdeal.main_arg1)
          ∧ r.2.mem ((c.tc : Thread Cert.MixSampleIdeal.nD Cert.MixSampleIdeal.τ).loc Cert.MixSampleIdeal.main_arg2) = m ((c.tc : Thread Cert.MixSampleIdeal.nD Cert.MixSampleIdeal.τ).loc Cert.MixSampleIdeal.main_arg2)
          ∧ r.2.mem ((c.tc : Thread Cert.MixSampleIdeal.nD Cert.MixSampleIdeal.τ).loc Cert.MixSampleIdeal.main_arg3) = m ((c.tc : Thread Cert.MixSampleIdeal.nD Cert.MixSampleIdeal.τ).loc Cert.MixSampleIdeal.main_arg3)
          ∧ r.2.mem ((c.tc : Thread Cert.MixSampleIdeal.nD Cert.MixSampleIdeal.τ).loc Cert.MixSampleIdeal.main_arg4) = m ((c.tc : Thread Cert.MixSampleIdeal.nD Cert.MixSampleIdeal.τ).loc Cert.MixSampleIdeal.main_arg4)
          ∧ r.2.mem ((c.tc : Thread Cert.MixSampleIdeal.nD Cert.MixSampleIdeal.τ).loc Cert.MixSampleIdeal.main_arg5) = m ((c.tc : Thread Cert.MixSampleIdeal.nD Cert.MixSampleIdeal.τ).loc Cert.MixSampleIdeal.main_arg5)
          ∧ r.2.mem ((c.tc : Thread Cert.MixSampleIdeal.nD Cert.MixSampleIdeal.τ).loc Cert.MixSampleIdeal.main_arg6) = m ((c.tc : Thread Cert.MixSampleIdeal.nD Cert.MixSampleIdeal.τ).loc Cert.MixSampleIdeal.main_arg6)
          ∧ r.2.mem ((c.tc : Thread Cert.MixSampleIdeal.nD Cert.MixSampleIdeal.τ).loc Cert.MixSampleIdeal.main_arg7) = m ((c.tc : Thread Cert.MixSampleIdeal.nD Cert.MixSampleIdeal.τ).loc Cert.MixSampleIdeal.main_arg7)
          ∧ r.2.mem ((c.tc : Thread Cert.MixSampleIdeal.nD Cert.MixSampleIdeal.τ).loc Cert.MixSampleIdeal.main_arg8) = m ((c.tc : Thread Cert.MixSampleIdeal.nD Cert.MixSampleIdeal.τ).loc Cert.MixSampleIdeal.main_arg8)
          ∧ r.2.mem ((c.tc : Thread Cert.MixSampleIdeal.nD Cert.MixSampleIdeal.τ).loc Cert.MixSampleIdeal.main_arg9) = m ((c.tc : Thread Cert.MixSampleIdeal.nD Cert.MixSampleIdeal.τ).loc Cert.MixSampleIdeal.main_arg9)
          ∧ r.2.mem ((c.tc : Thread Cert.MixSampleIdeal.nD Cert.MixSampleIdeal.τ).loc Cert.MixSampleIdeal.main_arg10) = m ((c.tc : Thread Cert.MixSampleIdeal.nD Cert.MixSampleIdeal.τ).loc Cert.MixSampleIdeal.main_arg10)
          ∧ r.2.mem ((c.tc : Thread Cert.MixSampleIdeal.nD Cert.MixSampleIdeal.τ).loc Cert.MixSampleIdeal.main_arg11) = m ((c.tc : Thread Cert.MixSampleIdeal.nD Cert.MixSampleIdeal.τ).loc Cert.MixSampleIdeal.main_arg11)
          ∧ r.2.mem ((c.tc : Thread Cert.MixSampleIdeal.nD Cert.MixSampleIdeal.τ).loc Cert.MixSampleIdeal.main_arg12) = m ((c.tc : Thread Cert.MixSampleIdeal.nD Cert.MixSampleIdeal.τ).loc Cert.MixSampleIdeal.main_arg12)
          ∧ r.2.mem ((c.tc : Thread Cert.MixSampleIdeal.nD Cert.MixSampleIdeal.τ).loc Cert.MixSampleIdeal.main_arg13) = m ((c.tc : Thread Cert.MixSampleIdeal.nD Cert.MixSampleIdeal.τ).loc Cert.MixSampleIdeal.main_arg13)
          ∧ r.2.mem ((c.tc : Thread Cert.MixSampleIdeal.nD Cert.MixSampleIdeal.τ).loc Cert.MixSampleIdeal.main_arg14) = m ((c.tc : Thread Cert.MixSampleIdeal.nD Cert.MixSampleIdeal.τ).loc Cert.MixSampleIdeal.main_arg14)
          ∧ r.2.mem ((c.tc : Thread Cert.MixSampleIdeal.nD Cert.MixSampleIdeal.τ).loc Cert.MixSampleIdeal.main_arg15) = m ((c.tc : Thread Cert.MixSampleIdeal.nD Cert.MixSampleIdeal.τ).loc Cert.MixSampleIdeal.main_arg15)
          ∧ r.2.mem ((c.tc : Thread Cert.MixSampleIdeal.nD Cert.MixSampleIdeal.τ).loc Cert.MixSampleIdeal.main_arg16) = m ((c.tc : Thread Cert.MixSampleIdeal.nD Cert.MixSampleIdeal.τ).loc Cert.MixSampleIdeal.main_arg16))
      ∧ θ_run (Cert.MixSampleRefIdeal.defs (F := Ideal)) (onTc (τ := Cert.MixSampleRefIdeal.τ) (Cert.MixSampleRefIdeal.main (F := Ideal))) ⟨m', fun _ => 0, g'⟩ (fun r => ∀ c : Dev Cert.MixSampleRefIdeal.nD,
          r.2.mem ((c.tc : Thread Cert.MixSampleRefIdeal.nD Cert.MixSampleRefIdeal.τ).loc Cert.MixSampleRefIdeal.main_v4) = v0 c
          ∧ r.2.mem ((c.tc : Thread Cert.MixSampleRefIdeal.nD Cert.MixSampleRefIdeal.τ).loc Cert.MixSampleRefIdeal.main_v9) = v1 c
          ∧ r.2.mem ((c.tc : Thread Cert.MixSampleRefIdeal.nD Cert.MixSampleRefIdeal.τ).loc Cert.MixSampleRefIdeal.main_arg0) = m' ((c.tc : Thread Cert.MixSampleRefIdeal.nD Cert.MixSampleRefIdeal.τ).loc Cert.MixSampleRefIdeal.main_arg0)
          ∧ r.2.mem ((c.tc : Thread Cert.MixSampleRefIdeal.nD Cert.MixSampleRefIdeal.τ).loc Cert.MixSampleRefIdeal.main_arg1) = m' ((c.tc : Thread Cert.MixSampleRefIdeal.nD Cert.MixSampleRefIdeal.τ).loc Cert.MixSampleRefIdeal.main_arg1)
          ∧ r.2.mem ((c.tc : Thread Cert.MixSampleRefIdeal.nD Cert.MixSampleRefIdeal.τ).loc Cert.MixSampleRefIdeal.main_arg2) = m' ((c.tc : Thread Cert.MixSampleRefIdeal.nD Cert.MixSampleRefIdeal.τ).loc Cert.MixSampleRefIdeal.main_arg2)
          ∧ r.2.mem ((c.tc : Thread Cert.MixSampleRefIdeal.nD Cert.MixSampleRefIdeal.τ).loc Cert.MixSampleRefIdeal.main_arg3) = m' ((c.tc : Thread Cert.MixSampleRefIdeal.nD Cert.MixSampleRefIdeal.τ).loc Cert.MixSampleRefIdeal.main_arg3)
          ∧ r.2.mem ((c.tc : Thread Cert.MixSampleRefIdeal.nD Cert.MixSampleRefIdeal.τ).loc Cert.MixSampleRefIdeal.main_arg4) = m' ((c.tc : Thread Cert.MixSampleRefIdeal.nD Cert.MixSampleRefIdeal.τ).loc Cert.MixSampleRefIdeal.main_arg4)
          ∧ r.2.mem ((c.tc : Thread Cert.MixSampleRefIdeal.nD Cert.MixSampleRefIdeal.τ).loc Cert.MixSampleRefIdeal.main_arg5) = m' ((c.tc : Thread Cert.MixSampleRefIdeal.nD Cert.MixSampleRefIdeal.τ).loc Cert.MixSampleRefIdeal.main_arg5)
          ∧ r.2.mem ((c.tc : Thread Cert.MixSampleRefIdeal.nD Cert.MixSampleRefIdeal.τ).loc Cert.MixSampleRefIdeal.main_arg6) = m' ((c.tc : Thread Cert.MixSampleRefIdeal.nD Cert.MixSampleRefIdeal.τ).loc Cert.MixSampleRefIdeal.main_arg6)
          ∧ r.2.mem ((c.tc : Thread Cert.MixSampleRefIdeal.nD Cert.MixSampleRefIdeal.τ).loc Cert.MixSampleRefIdeal.main_arg7) = m' ((c.tc : Thread Cert.MixSampleRefIdeal.nD Cert.MixSampleRefIdeal.τ).loc Cert.MixSampleRefIdeal.main_arg7)
          ∧ r.2.mem ((c.tc : Thread Cert.MixSampleRefIdeal.nD Cert.MixSampleRefIdeal.τ).loc Cert.MixSampleRefIdeal.main_arg8) = m' ((c.tc : Thread Cert.MixSampleRefIdeal.nD Cert.MixSampleRefIdeal.τ).loc Cert.MixSampleRefIdeal.main_arg8)
          ∧ r.2.mem ((c.tc : Thread Cert.MixSampleRefIdeal.nD Cert.MixSampleRefIdeal.τ).loc Cert.MixSampleRefIdeal.main_arg9) = m' ((c.tc : Thread Cert.MixSampleRefIdeal.nD Cert.MixSampleRefIdeal.τ).loc Cert.MixSampleRefIdeal.main_arg9)
          ∧ r.2.mem ((c.tc : Thread Cert.MixSampleRefIdeal.nD Cert.MixSampleRefIdeal.τ).loc Cert.MixSampleRefIdeal.main_arg10) = m' ((c.tc : Thread Cert.MixSampleRefIdeal.nD Cert.MixSampleRefIdeal.τ).loc Cert.MixSampleRefIdeal.main_arg10)
          ∧ r.2.mem ((c.tc : Thread Cert.MixSampleRefIdeal.nD Cert.MixSampleRefIdeal.τ).loc Cert.MixSampleRefIdeal.main_arg11) = m' ((c.tc : Thread Cert.MixSampleRefIdeal.nD Cert.MixSampleRefIdeal.τ).loc Cert.MixSampleRefIdeal.main_arg11)
          ∧ r.2.mem ((c.tc : Thread Cert.MixSampleRefIdeal.nD Cert.MixSampleRefIdeal.τ).loc Cert.MixSampleRefIdeal.main_arg12) = m' ((c.tc : Thread Cert.MixSampleRefIdeal.nD Cert.MixSampleRefIdeal.τ).loc Cert.MixSampleRefIdeal.main_arg12)
          ∧ r.2.mem ((c.tc : Thread Cert.MixSampleRefIdeal.nD Cert.MixSampleRefIdeal.τ).loc Cert.MixSampleRefIdeal.main_arg13) = m' ((c.tc : Thread Cert.MixSampleRefIdeal.nD Cert.MixSampleRefIdeal.τ).loc Cert.MixSampleRefIdeal.main_arg13)
          ∧ r.2.mem ((c.tc : Thread Cert.MixSampleRefIdeal.nD Cert.MixSampleRefIdeal.τ).loc Cert.MixSampleRefIdeal.main_arg14) = m' ((c.tc : Thread Cert.MixSampleRefIdeal.nD Cert.MixSampleRefIdeal.τ).loc Cert.MixSampleRefIdeal.main_arg14)
          ∧ r.2.mem ((c.tc : Thread Cert.MixSampleRefIdeal.nD Cert.MixSampleRefIdeal.τ).loc Cert.MixSampleRefIdeal.main_arg15) = m' ((c.tc : Thread Cert.MixSampleRefIdeal.nD Cert.MixSampleRefIdeal.τ).loc Cert.MixSampleRefIdeal.main_arg15)
          ∧ r.2.mem ((c.tc : Thread Cert.MixSampleRefIdeal.nD Cert.MixSampleRefIdeal.τ).loc Cert.MixSampleRefIdeal.main_arg16) = m' ((c.tc : Thread Cert.MixSampleRefIdeal.nD Cert.MixSampleRefIdeal.τ).loc Cert.MixSampleRefIdeal.main_arg16))

def preserves_Bias_BiasIdeal : Prop :=
  IdealRules.named_const.Statement Cert.BiasIdeal.κ "log2e" .f32 0x3FB8AA3B#32 (((Real.log 2)⁻¹ : ℝ) : EReal)

def algebraic_BiasIdeal_BiasRefIdeal [hBiasIdeal : Cert.BiasIdeal.Facts] [hBiasRefIdeal : Cert.BiasRefIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasRefIdeal.nD Cert.BiasRefIdeal.τ Cert.BiasRefIdeal.sig) → Buf (Elt Ideal) ℓ) (g' : Dev Cert.BiasRefIdeal.nD → PrngReg), Pre_BiasIdeal m →
    (∀ c : Dev Cert.BiasIdeal.nD,
      m' ((c.tc : Thread Cert.BiasRefIdeal.nD Cert.BiasRefIdeal.τ).loc Cert.BiasRefIdeal.main_arg0) = m ((c.tc : Thread Cert.BiasIdeal.nD Cert.BiasIdeal.τ).loc Cert.BiasIdeal.main_arg0)) →
    ∃ (v0 : (c : Dev Cert.BiasIdeal.nD) → Buf (Elt Ideal) ((c.tc : Thread Cert.BiasIdeal.nD Cert.BiasIdeal.τ).loc Cert.BiasIdeal.main_v1_0)) (v1 : (c : Dev Cert.BiasIdeal.nD) → Buf (Elt Ideal) ((c.tc : Thread Cert.BiasIdeal.nD Cert.BiasIdeal.τ).loc Cert.BiasIdeal.main_v1_1)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v1_0) = v0 c
          ∧ r.2.mem ((c.tc : Thread Cert.BiasIdeal.nD Cert.BiasIdeal.τ).loc Cert.BiasIdeal.main_v1_1) = v1 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0))
      ∧ θ_run (Cert.BiasRefIdeal.defs (F := Ideal)) (onTc (τ := Cert.BiasRefIdeal.τ) (Cert.BiasRefIdeal.main (F := Ideal))) ⟨m', fun _ => 0, g'⟩ (fun r => ∀ c : Dev Cert.BiasRefIdeal.nD,
          r.2.mem ((c.tc : Thread Cert.BiasRefIdeal.nD Cert.BiasRefIdeal.τ).loc Cert.BiasRefIdeal.main_v51) = v0 c
          ∧ r.2.mem ((c.tc : Thread Cert.BiasRefIdeal.nD Cert.BiasRefIdeal.τ).loc Cert.BiasRefIdeal.main_v84) = v1 c
          ∧ r.2.mem ((c.tc : Thread Cert.BiasRefIdeal.nD Cert.BiasRefIdeal.τ).loc Cert.BiasRefIdeal.main_arg0) = m' ((c.tc : Thread Cert.BiasRefIdeal.nD Cert.BiasRefIdeal.τ).loc Cert.BiasRefIdeal.main_arg0))

def Claim : Prop :=
  ∃ (hMix : Cert.Mix.Facts) (hMixIdeal : Cert.MixIdeal.Facts) (hMixRefIdeal : Cert.MixRefIdeal.Facts) (hMlp : Cert.Mlp.Facts) (hMlpIdeal : Cert.MlpIdeal.Facts) (hMlpRefIdeal : Cert.MlpRefIdeal.Facts) (hProj : Cert.Proj.Facts) (hProjIdeal : Cert.ProjIdeal.Facts) (hProjRefIdeal : Cert.ProjRefIdeal.Facts) (hKv : Cert.Kv.Facts) (hKvIdeal : Cert.KvIdeal.Facts) (hKvRefIdeal : Cert.KvRefIdeal.Facts) (hMlpCast : Cert.MlpCast.Facts) (hMlpCastIdeal : Cert.MlpCastIdeal.Facts) (hMlpCastRefIdeal : Cert.MlpCastRefIdeal.Facts) (hMixSample : Cert.MixSample.Facts) (hMixSampleIdeal : Cert.MixSampleIdeal.Facts) (hMixSampleRefIdeal : Cert.MixSampleRefIdeal.Facts) (hBias : Cert.Bias.Facts) (hBiasIdeal : Cert.BiasIdeal.Facts) (hBiasRefIdeal : Cert.BiasRefIdeal.Facts) (hPre_finite_scores : Cert.Pre_finite_scores.Facts),
    quiescent_Mix (hMix := hMix)
    ∧ quiescent_MixIdeal (hMixIdeal := hMixIdeal)
    ∧ quiescent_MixIdeal_pre_finite_scores (hMixIdeal := hMixIdeal) (hPre_finite_scores := hPre_finite_scores)
    ∧ quiescent_MixRefIdeal (hMixRefIdeal := hMixRefIdeal)
    ∧ quiescent_MixRefIdeal_pre_finite_scores (hMixRefIdeal := hMixRefIdeal) (hPre_finite_scores := hPre_finite_scores)
    ∧ quiescent_Mlp (hMlp := hMlp)
    ∧ quiescent_MlpIdeal (hMlpIdeal := hMlpIdeal)
    ∧ quiescent_MlpRefIdeal (hMlpRefIdeal := hMlpRefIdeal)
    ∧ quiescent_Proj (hProj := hProj)
    ∧ quiescent_ProjIdeal (hProjIdeal := hProjIdeal)
    ∧ quiescent_ProjRefIdeal (hProjRefIdeal := hProjRefIdeal)
    ∧ quiescent_Kv (hKv := hKv)
    ∧ quiescent_KvIdeal (hKvIdeal := hKvIdeal)
    ∧ quiescent_KvRefIdeal (hKvRefIdeal := hKvRefIdeal)
    ∧ quiescent_MlpCast (hMlpCast := hMlpCast)
    ∧ quiescent_MlpCastIdeal (hMlpCastIdeal := hMlpCastIdeal)
    ∧ quiescent_MlpCastRefIdeal (hMlpCastRefIdeal := hMlpCastRefIdeal)
    ∧ quiescent_MixSample (hMixSample := hMixSample)
    ∧ quiescent_MixSampleIdeal (hMixSampleIdeal := hMixSampleIdeal)
    ∧ quiescent_MixSampleRefIdeal (hMixSampleRefIdeal := hMixSampleRefIdeal)
    ∧ quiescent_Bias (hBias := hBias)
    ∧ quiescent_BiasIdeal (hBiasIdeal := hBiasIdeal)
    ∧ quiescent_BiasRefIdeal (hBiasRefIdeal := hBiasRefIdeal)
    ∧ preserves_Mix_MixIdeal
    ∧ algebraic_MixIdeal_MixRefIdeal_pre_finite_scores (hMixIdeal := hMixIdeal) (hMixRefIdeal := hMixRefIdeal) (hPre_finite_scores := hPre_finite_scores)
    ∧ preserves_Mlp_MlpIdeal
    ∧ algebraic_MlpIdeal_MlpRefIdeal (hMlpIdeal := hMlpIdeal) (hMlpRefIdeal := hMlpRefIdeal)
    ∧ preserves_Proj_ProjIdeal
    ∧ algebraic_ProjIdeal_ProjRefIdeal (hProjIdeal := hProjIdeal) (hProjRefIdeal := hProjRefIdeal)
    ∧ preserves_Kv_KvIdeal
    ∧ algebraic_KvIdeal_KvRefIdeal (hKvIdeal := hKvIdeal) (hKvRefIdeal := hKvRefIdeal)
    ∧ preserves_MlpCast_MlpCastIdeal
    ∧ algebraic_MlpCastIdeal_MlpCastRefIdeal (hMlpCastIdeal := hMlpCastIdeal) (hMlpCastRefIdeal := hMlpCastRefIdeal)
    ∧ preserves_MixSample_MixSampleIdeal
    ∧ algebraic_MixSampleIdeal_MixSampleRefIdeal (hMixSampleIdeal := hMixSampleIdeal) (hMixSampleRefIdeal := hMixSampleRefIdeal)
    ∧ preserves_Bias_BiasIdeal
    ∧ algebraic_BiasIdeal_BiasRefIdeal (hBiasIdeal := hBiasIdeal) (hBiasRefIdeal := hBiasRefIdeal)
-- ==== Pre_finite_scores.lean ====
abbrev S8 : Shape := ⟨1, ![8]⟩
abbrev S8192x1024 : Shape := ⟨2, ![8192, 1024]⟩
abbrev S8192x256 : Shape := ⟨2, ![8192, 256]⟩
abbrev S8192x512 : Shape := ⟨2, ![8192, 512]⟩
abbrev S1024x512 : Shape := ⟨2, ![1024, 512]⟩
abbrev S3x512 : Shape := ⟨2, ![3, 512]⟩
abbrev S2x512x256 : Shape := ⟨3, ![2, 512, 256]⟩
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  bcast_S_S8192x256 : S_.BroadcastsInDim S8192x256 (![] : Fin 0 → Fin S8192x256.rank)
  reducesTo_S8192x256_S_d0_1 : S8192x256.ReducesTo [0, 1] S_
  bcast_S_S8192x512 : S_.BroadcastsInDim S8192x512 (![] : Fin 0 → Fin S8192x512.rank)
  reducesTo_S8192x512_S_d0_1 : S8192x512.ReducesTo [0, 1] S_
  bcast_S_S1024x512 : S_.BroadcastsInDim S1024x512 (![] : Fin 0 → Fin S1024x512.rank)
  reducesTo_S1024x512_S_d0_1 : S1024x512.ReducesTo [0, 1] S_
  bcast_S_S2x512x256 : S_.BroadcastsInDim S2x512x256 (![] : Fin 0 → Fin S2x512x256.rank)
  reducesTo_S2x512x256_S_d0_1_2 : S2x512x256.ReducesTo [0, 1, 2] S_

variable [Facts]

def fn_part1 {F : FTy → Type} [FloatOps F] (main_arg5 : FVec F S1024x512 .bf16) (main_arg10 : FVec F S2x512x256 .f32) (main_v15 : IVec S_ 1) (main_v17 : FVec F S8192x512 .f32) : IVec S_ 1 :=
  let main_cst_4 : FVec F S_ .f32 := constant S_ .f32 0x7F800000#32
  let main_v18 : FVec F S8192x512 .f32 := broadcastInDim S8192x512 ![] bcast_S_S8192x512 main_cst_4
  let main_v19 : IVec S8192x512 1 := cmpf .olt main_v17 main_v18
  let main_c_5 : IVec S_ 1 := constantI S_ 1 1#1
  let main_v20 : IVec S_ 1 := (fun x v => Host.reduce IntOp.andi x v reducesTo_S8192x512_S_d0_1 h_S_) main_v19 main_c_5
  let main_v21 : IVec S_ 1 := andi main_v15 main_v20
  let main_v22 : FVec F S1024x512 .f32 := (extf .f32 · bitsLt_bf16_f32) main_arg5
  let main_v23 : FVec F S1024x512 .f32 := Host.absf main_v22
  let main_cst_6 : FVec F S_ .f32 := constant S_ .f32 0x7F800000#32
  let main_v24 : FVec F S1024x512 .f32 := broadcastInDim S1024x512 ![] bcast_S_S1024x512 main_cst_6
  let main_v25 : IVec S1024x512 1 := cmpf .olt main_v23 main_v24
  let main_c_7 : IVec S_ 1 := constantI S_ 1 1#1
  let main_v26 : IVec S_ 1 := (fun x v => Host.reduce IntOp.andi x v reducesTo_S1024x512_S_d0_1 h_S_) main_v25 main_c_7
  let main_v27 : IVec S_ 1 := andi main_v21 main_v26
  let main_v28 : FVec F S2x512x256 .f32 := Host.absf main_arg10
  let main_cst_8 : FVec F S_ .f32 := constant S_ .f32 0x7F800000#32
  let main_v29 : FVec F S2x512x256 .f32 := broadcastInDim S2x512x256 ![] bcast_S_S2x512x256 main_cst_8
  let main_v30 : IVec S2x512x256 1 := cmpf .olt main_v28 main_v29
  let main_c_9 : IVec S_ 1 := constantI S_ 1 1#1
  let main_v31 : IVec S_ 1 := (fun x v => Host.reduce IntOp.andi x v reducesTo_S2x512x256_S_d0_1_2 h_S_) main_v30 main_c_9
  let main_v32 : IVec S_ 1 := andi main_v27 main_v31
  main_v32

def fn {F : FTy → Type} [FloatOps F] (main_arg0 : FVec F S8 .f32) (main_arg1 : FVec F S8192x1024 .bf16) (main_arg2 : FVec F S8192x256 .bf16) (main_arg3 : FVec F S8192x256 .bf16) (main_arg4 : FVec F S8192x512 .bf16) (main_arg5 : FVec F S1024x512 .bf16) (main_arg6 : FVec F S1024x512 .bf16) (main_arg7 : FVec F S8192x512 .f32) (main_arg8 : FVec F S8192x512 .f32) (main_arg9 : FVec F S3x512 .f32) (main_arg10 : FVec F S2x512x256 .f32) (main_arg11 : FVec F S8192x2048 .f32) (main_arg12 : FVec F S2048x2048 .bf16) (main_arg13 : FVec F S1x2048 .f32) : IVec S_ 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_c : IVec S_ 1 := constantI S_ 1 1#1
  let main_v3 : IVec S_ 1 := (fun x v => Host.reduce IntOp.andi x v reducesTo_S8_S_d0 h_S_) main_v2 main_c
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_c_1 : IVec S_ 1 := constantI S_ 1 1#1
  let main_v8 : IVec S_ 1 := (fun x v => Host.reduce IntOp.andi x v reducesTo_S8192x1024_S_d0_1 h_S_) main_v7 main_c_1
  let main_v9 : IVec S_ 1 := andi main_v3 main_v8
  let main_v10 : FVec F S8192x256 .f32 := (extf .f32 · bitsLt_bf16_f32) main_arg2
  let main_v11 : FVec F S8192x256 .f32 := Host.absf main_v10
  let main_cst_2 : FVec F S_ .f32 := constant S_ .f32 0x7F800000#32
  let main_v12 : FVec F S8192x256 .f32 := broadcastInDim S8192x256 ![] bcast_S_S8192x256 main_cst_2
  let main_v13 : IVec S8192x256 1 := cmpf .olt main_v11 main_v12
  let main_c_3 : IVec S_ 1 := constantI S_ 1 1#1
  let main_v14 : IVec S_ 1 := (fun x v => Host.reduce IntOp.andi x v reducesTo_S8192x256_S_d0_1 h_S_) main_v13 main_c_3
  let main_v15 : IVec S_ 1 := andi main_v9 main_v14
  let main_v16 : FVec F S8192x512 .f32 := (extf .f32 · bitsLt_bf16_f32) main_arg4
  let main_v17 : FVec F S8192x512 .f32 := Host.absf main_v16
  fn_part1 (F := F) main_arg5 main_arg10 main_v15 main_v17
-- ==== Mix.lean ====
abbrev S8 : Shape := ⟨1, ![8]⟩
abbrev S8192x1024 : Shape := ⟨2, ![8192, 1024]⟩
abbrev S8192x256 : Shape := ⟨2, ![8192, 256]⟩
abbrev S8192x512 : Shape := ⟨2, ![8192, 512]⟩
abbrev S1024x512 : Shape := ⟨2, ![1024, 512]⟩
abbrev S3x512 : Shape := ⟨2, ![3, 512]⟩
abbrev S2x512x256 : Shape := ⟨3, ![2, 512, 256]⟩
abbrev S8192x2048 : Shape := ⟨2, ![8192, 2048]⟩
abbrev S2048x2048 : Shape := ⟨2, ![2048, 2048]⟩
abbrev S1x2048 : Shape := ⟨2, ![1, 2048]⟩
abbrev S128x256 : Shape := ⟨2, ![128, 256]⟩
abbrev S512x1024 : Shape := ⟨2, ![512, 1024]⟩
abbrev S512x256 : Shape := ⟨2, ![512, 256]⟩
abbrev S512x512 : Shape := ⟨2, ![512, 512]⟩
abbrev S256x512 : Shape := ⟨2, ![256, 512]⟩
abbrev S8x512 : Shape := ⟨2, ![8, 512]⟩
abbrev S512x2048 : Shape := ⟨2, ![512, 2048]⟩
abbrev S520x512 : Shape := ⟨2, ![520, 512]⟩
abbrev S1x512 : Shape := ⟨2, ![1, 512]⟩
abbrev S256x128 : Shape := ⟨2, ![256, 128]⟩
abbrev S128x128 : Shape := ⟨2, ![128, 128]⟩
abbrev S256x256 : Shape := ⟨2, ![256, 256]⟩
abbrev S1x128x256 : Shape := ⟨3, ![1, 128, 256]⟩
abbrev S1 : Shape := ⟨1, ![1]⟩
abbrev S128 : Shape := ⟨1, ![128]⟩
abbrev S128x1 : Shape := ⟨2, ![128, 1]⟩
abbrev S512x128 : Shape := ⟨2, ![512, 128]⟩
abbrev S512 : Shape := ⟨1, ![512]⟩
abbrev S512x1 : Shape := ⟨2, ![512, 1]⟩

abbrev nBuf : Space → Nat
  | .hbm => 17
  | .vmem => 33
  | .smem => 1
  | _ => 0

abbrev bufTy : (tb : Table) → Fin (tcTables nBuf tb) → BufTy
  | .hbm, ⟨0, _⟩ => ⟨S8, .f32⟩
  | .hbm, ⟨1, _⟩ => ⟨S8192x1024, .bf16⟩
  | .hbm, ⟨2, _⟩ => ⟨S8192x256, .bf16⟩
  | .hbm, ⟨3, _⟩ => ⟨S8192x256, .bf16⟩
  | .hbm, ⟨4, _⟩ => ⟨S8192x512, .bf16⟩
  | .hbm, ⟨5, _⟩ => ⟨S1024x512, .bf16⟩
  | .hbm, ⟨6, _⟩ => ⟨S1024x512, .bf16⟩
  | .hbm, ⟨7, _⟩ => ⟨S8192x512, .f32⟩
  | .hbm, ⟨8, _⟩ => ⟨S8192x512, .f32⟩
  | .hbm, ⟨9, _⟩ => ⟨S3x512, .f32⟩
  | .hbm, ⟨10, _⟩ => ⟨S2x512x256, .f32⟩
  | .hbm, ⟨11, _⟩ => ⟨S8192x2048, .f32⟩
  | .hbm, ⟨12, _⟩ => ⟨S2048x2048, .bf16⟩
  | .hbm, ⟨13, _⟩ => ⟨S1x2048, .f32⟩
  | .hbm, ⟨14, _⟩ => ⟨S128x256, .f32⟩
  | .hbm, ⟨15, _⟩ => ⟨S8192x2048, .f32⟩
  | .hbm, ⟨16, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x256, .bf16⟩
  | .local _ .vmem, ⟨3, _⟩ => ⟨S512x256, .bf16⟩
  | .local _ .vmem, ⟨4, _⟩ => ⟨S128x256, .bf16⟩
  | .local _ .vmem, ⟨5, _⟩ => ⟨S128x256, .bf16⟩
  | .local _ .vmem, ⟨6, _⟩ => ⟨S512x256, .bf16⟩
  | .local _ .vmem, ⟨7, _⟩ => ⟨S512x256, .bf16⟩
  | .local _ .vmem, ⟨8, _⟩ => ⟨S128x256, .bf16⟩
  | .local _ .vmem, ⟨9, _⟩ => ⟨S128x256, .bf16⟩
  | .local _ .vmem, ⟨10, _⟩ => ⟨S512x512, .bf16⟩
  | .local _ .vmem, ⟨11, _⟩ => ⟨S512x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S8x512, .f32⟩
  | .local _ .vmem, ⟨21, _⟩ => ⟨S8x512, .f32⟩
  | .local _ .vmem, ⟨22, _⟩ => ⟨S3x512, .f32⟩
  | .local _ .vmem, ⟨23, _⟩ => ⟨S2x512x256, .f32⟩
  | .local _ .vmem, ⟨24, _⟩ => ⟨S128x256, .f32⟩
  | .local _ .vmem, ⟨25, _⟩ => ⟨S512x2048, .f32⟩
  | .local _ .vmem, ⟨26, _⟩ => ⟨S512x2048, .f32⟩
  | .local _ .vmem, ⟨27, _⟩ => ⟨S2048x2048, .bf16⟩
  | .local _ .vmem, ⟨28, _⟩ => ⟨S1x2048, .f32⟩
  | .local _ .vmem, ⟨29, _⟩ => ⟨S512x2048, .f32⟩
  | .local _ .vmem, ⟨30, _⟩ => ⟨S512x2048, .f32⟩
  | .local _ .vmem, ⟨31, _⟩ => ⟨S512x2048, .bf16⟩
  | .local _ .vmem, ⟨32, _⟩ => ⟨S512x2048, .bf16⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0_0 : Ref sig .tc := ⟨.hbm, 15, rfl⟩
abbrev main_v0_1 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem15_1 : DmaSem sig := 27
abbrev cc0_sem16_0 : DmaSem sig := 28
abbrev cc0_sem17_0 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![4, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S2x512x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S512x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S2048x2048 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2048 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S512x2048 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MixIdeal.lean ====
variable {F : FTy → Type} [FloatOps F] [Named F]
def κ : String → Option EReal := fun
  | "log2e" => some (((Real.log 2)⁻¹ : ℝ) : EReal)
  | "mask" => some ⊥
  | "scale_log2e" => some (((Real.sqrt 128)⁻¹ * (Real.log 2)⁻¹ : ℝ) : EReal)
  | _ => none
-- ==== MixRefIdeal.lean ====
abbrev S8 : Shape := ⟨1, ![8]⟩
abbrev S8192x1024 : Shape := ⟨2, ![8192, 1024]⟩
abbrev S8192x256 : Shape := ⟨2, ![8192, 256]⟩
abbrev S8192x512 : Shape := ⟨2, ![8192, 512]⟩
abbrev S1024x512 : Shape := ⟨2, ![1024, 512]⟩
abbrev S3x512 : Shape := ⟨2, ![3, 512]⟩
abbrev S2x512x256 : Shape := ⟨3, ![2, 512, 256]⟩
abbrev S8192x2048 : Shape := ⟨2, ![8192, 2048]⟩
abbrev S2048x2048 : Shape := ⟨2, ![2048, 2048]⟩
abbrev S1x2048 : Shape := ⟨2, ![1, 2048]⟩
abbrev S4x2048x512 : Shape := ⟨3, ![4, 2048, 512]⟩
abbrev S_ : Shape := ⟨0, ![]⟩
abbrev S4x2050x512 : Shape := ⟨3, ![4, 2050, 512]⟩
abbrev S1x512 : Shape := ⟨2, ![1, 512]⟩
abbrev S512 : Shape := ⟨1, ![512]⟩
abbrev S1x1x512 : Shape := ⟨3, ![1, 1, 512]⟩
abbrev S2x4x128x256 : Shape := ⟨4, ![2, 4, 128, 256]⟩
abbrev S4x2048x8x128 : Shape := ⟨4, ![4, 2048, 8, 128]⟩
abbrev S4x2048x2x128 : Shape := ⟨4, ![4, 2048, 2, 128]⟩
abbrev S4x16x128x2x4x128 : Shape := ⟨6, ![4, 16, 128, 2, 4, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S16x1x1x128x256 : Shape := ⟨5, ![16, 1, 1, 128, 256]⟩
abbrev S4x16x128x2x128 : Shape := ⟨5, ![4, 16, 128, 2, 128]⟩
abbrev S4x15x128x2x128 : Shape := ⟨5, ![4, 15, 128, 2, 128]⟩
abbrev S4x16x256x2x128 : Shape := ⟨5, ![4, 16, 256, 2, 128]⟩
abbrev S4x16x2x256x128x4 : Shape := ⟨6, ![4, 16, 2, 256, 128, 4]⟩
abbrev S4x16x2x4x128x256 : Shape := ⟨6, ![4, 16, 2, 4, 128, 256]⟩
abbrev S1x1x2x4x128x256 : Shape := ⟨6, ![1, 1, 2, 4, 128, 256]⟩
abbrev S2x4x1x1 : Shape := ⟨4, ![2, 4, 1, 1]⟩
abbrev S4x16x2x4x128 : Shape := ⟨5, ![4, 16, 2, 4, 128]⟩
abbrev S4x16x2x4x128x1 : Shape := ⟨6, ![4, 16, 2, 4, 128, 1]⟩
abbrev S1x1x2x4x1x1 : Shape := ⟨6, ![1, 1, 2, 4, 1, 1]⟩
abbrev S4x16x2x128x4x128 : Shape := ⟨6, ![4, 16, 2, 128, 4, 128]⟩
abbrev S4x2048x1024 : Shape := ⟨3, ![4, 2048, 1024]⟩
abbrev S4x2048x4x128 : Shape := ⟨4, ![4, 2048, 4, 128]⟩
abbrev S4x256x4x128 : Shape := ⟨4, ![4, 256, 4, 128]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x2048x2048 : Shape := ⟨3, ![4, 2048, 2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 187
  | .vmem => 0
  | .smem => 0
  | _ => 0

abbrev hbmTy0_0 (i : Nat) : BufTy := match i % 128 with
  | 0 => ⟨S8, .f32⟩
  | 1 => ⟨S8192x1024, .bf16⟩
  | 2 => ⟨S8192x256, .bf16⟩
  | 3 => ⟨S8192x256, .bf16⟩
  | 4 => ⟨S8192x512, .bf16⟩
  | 5 => ⟨S1024x512, .bf16⟩
  | 6 => ⟨S1024x512, .bf16⟩
  | 7 => ⟨S8192x512, .f32⟩
  | 8 => ⟨S8192x512, .f32⟩
  | 9 => ⟨S3x512, .f32⟩
  | 10 => ⟨S2x512x256, .f32⟩
  | 11 => ⟨S8192x2048, .f32⟩
  | 12 => ⟨S2048x2048, .bf16⟩
  | 13 => ⟨S1x2048, .f32⟩
  | 14 => ⟨S4x2048x512, .f32⟩
  | 15 => ⟨S_, .i32⟩
  | 16 => ⟨S_, .f32⟩
  | 17 => ⟨S4x2050x512, .f32⟩
  | 18 => ⟨S4x2048x512, .f32⟩
  | 19 => ⟨S1x512, .f32⟩
  | 20 => ⟨S512, .f32⟩
  | 21 => ⟨S4x2048x512, .f32⟩
  | 22 => ⟨S1x1x512, .f32⟩
  | 23 => ⟨S4x2048x512, .f32⟩
  | 24 => ⟨S4x2048x512, .f32⟩
  | 25 => ⟨S1x512, .f32⟩
  | 26 => ⟨S512, .f32⟩
  | 27 => ⟨S4x2048x512, .f32⟩
  | 28 => ⟨S1x1x512, .f32⟩
  | 29 => ⟨S4x2048x512, .f32⟩
  | 30 => ⟨S4x2048x512, .f32⟩
  | 31 => ⟨S4x2048x512, .f32⟩
  | 32 => ⟨S1x512, .f32⟩
  | 33 => ⟨S512, .f32⟩
  | 34 => ⟨S4x2048x512, .f32⟩
  | 35 => ⟨S1x1x512, .f32⟩
  | 36 => ⟨S4x2048x512, .f32⟩
  | 37 => ⟨S4x2048x512, .f32⟩
  | 38 => ⟨S4x2048x512, .f32⟩
  | 39 => ⟨S4x2048x512, .f32⟩
  | 40 => ⟨S2x4x128x256, .f32⟩
  | 41 => ⟨S_, .f32⟩
  | 42 => ⟨S_, .f32⟩
  | 43 => ⟨S2x4x128x256, .f32⟩
  | 44 => ⟨S2x4x128x256, .f32⟩
  | 45 => ⟨S8192x1024, .f32⟩
  | 46 => ⟨S4x2048x8x128, .f32⟩
  | 47 => ⟨S8192x256, .f32⟩
  | 48 => ⟨S4x2048x2x128, .f32⟩
  | 49 => ⟨S8192x256, .f32⟩
  | 50 => ⟨S4x2048x2x128, .f32⟩
  | 51 => ⟨S4x16x128x2x4x128, .f32⟩
  | 52 => ⟨S128, .i32⟩
  | 53 => ⟨S128x1, .i32⟩
  | 54 => ⟨S256, .i32⟩
  | 55 => ⟨S1x256, .i32⟩
  | 56 => ⟨S_, .i32⟩
  | 57 => ⟨S128x1, .i32⟩
  | 58 => ⟨S128x1, .i32⟩
  | 59 => ⟨S128x256, .i32⟩
  | 60 => ⟨S128x256, .i32⟩
  | 61 => ⟨S128x256, .i32⟩
  | 62 => ⟨S_, .i32⟩
  | 63 => ⟨S128x256, .i32⟩
  | 64 => ⟨S128x256, .i1⟩
  | 65 => ⟨S_, .i32⟩
  | 66 => ⟨S128x256, .i32⟩
  | 67 => ⟨S128x256, .i1⟩
  | 68 => ⟨S128x256, .i1⟩
  | 69 => ⟨S16, .i32⟩
  | 70 => ⟨S16x1x1, .i32⟩
  | 71 => ⟨S_, .i32⟩
  | 72 => ⟨S16x1x1, .i32⟩
  | 73 => ⟨S16x1x1, .i1⟩
  | 74 => ⟨S1x1x256, .i32⟩
  | 75 => ⟨S_, .i32⟩
  | 76 => ⟨S1x1x256, .i32⟩
  | 77 => ⟨S1x1x256, .i1⟩
  | 78 => ⟨S16x1x256, .i1⟩
  | 79 => ⟨S16x1x256, .i1⟩
  | 80 => ⟨S16x1x256, .i1⟩
  | 81 => ⟨S1x128x256, .i1⟩
  | 82 => ⟨S16x128x256, .i1⟩
  | 83 => ⟨S16x128x256, .i1⟩
  | 84 => ⟨S16x128x256, .i1⟩
  | 85 => ⟨S16x1x1x128x256, .i1⟩
  | 86 => ⟨S4x16x128x2x128, .f32⟩
  | 87 => ⟨S4x15x128x2x128, .f32⟩
  | 88 => ⟨S_, .i32⟩
  | 89 => ⟨S_, .f32⟩
  | 90 => ⟨S4x16x128x2x128, .f32⟩
  | 91 => ⟨S4x16x256x2x128, .f32⟩
  | 92 => ⟨S4x16x128x2x128, .f32⟩
  | 93 => ⟨S4x15x128x2x128, .f32⟩
  | 94 => ⟨S_, .i32⟩
  | 95 => ⟨S_, .f32⟩
  | 96 => ⟨S4x16x128x2x128, .f32⟩
  | 97 => ⟨S4x16x256x2x128, .f32⟩
  | 98 => ⟨S4x16x2x256x128x4, .f32⟩
  | 99 => ⟨S4x16x2x4x128x256, .f32⟩
  | 100 => ⟨S_, .f32⟩
  | 101 => ⟨S_, .f32⟩
  | 102 => ⟨S4x16x2x4x128x256, .f32⟩
  | 103 => ⟨S4x16x2x4x128x256, .f32⟩
  | 104 => ⟨S1x1x2x4x128x256, .f32⟩
  | 105 => ⟨S4x16x2x4x128x256, .f32⟩
  | 106 => ⟨S4x16x2x4x128x256, .f32⟩
  | 107 => ⟨S_, .f32⟩
  | 108 => ⟨S_, .f32⟩
  | 109 => ⟨S4x16x2x4x128x256, .i1⟩
  | 110 => ⟨S4x16x2x4x128x256, .f32⟩
  | 111 => ⟨S4x16x2x4x128x256, .f32⟩
  | 112 => ⟨S2x4x1x1, .f32⟩
  | 113 => ⟨S_, .f32⟩
  | 114 => ⟨S4x16x2x4x128, .f32⟩
  | 115 => ⟨S4x16x2x4x128x1, .f32⟩
  | 116 => ⟨S1x1x2x4x1x1, .f32⟩
  | 117 => ⟨S4x16x2x4x128x1, .f32⟩
  | 118 => ⟨S4x16x2x4x128x1, .f32⟩
  | 119 => ⟨S4x16x2x4x128x256, .f32⟩
  | 120 => ⟨S4x16x2x4x128x256, .f32⟩
  | 121 => ⟨S4x16x2x4x128x256, .f32⟩
  | 122 => ⟨S_, .f32⟩
  | 123 => ⟨S4x16x2x4x128, .f32⟩
  | 124 => ⟨S4x16x2x4x128x1, .f32⟩
  | 125 => ⟨S1x1x2x4x1x1, .f32⟩
  | 126 => ⟨S4x16x2x4x128x1, .f32⟩
  | 127 => ⟨S4x16x2x4x128x1, .f32⟩
  | _ => ⟨S8, .f32⟩

abbrev hbmTy0_1 (i : Nat) : BufTy := match i % 128 with
  | 0 => ⟨S4x16x2x4x128x1, .f32⟩
  | 1 => ⟨S4x16x2x4x128x1, .f32⟩
  | 2 => ⟨S4x16x2x4x128x256, .f32⟩
  | 3 => ⟨S4x16x2x4x128x256, .f32⟩
  | 4 => ⟨S4x16x2x128x4x128, .f32⟩
  | 5 => ⟨S4x16x128x2x4x128, .f32⟩
  | 6 => ⟨S4x2048x1024, .f32⟩
  | 7 => ⟨S8192x512, .f32⟩
  | 8 => ⟨S4x2048x4x128, .f32⟩
  | 9 => ⟨S1024x512, .f32⟩
  | 10 => ⟨S4x256x4x128, .f32⟩
  | 11 => ⟨S1024x512, .f32⟩
  | 12 => ⟨S4x256x4x128, .f32⟩
  | 13 => ⟨S4x4x2048x256, .f32⟩
  | 14 => ⟨S_, .f32⟩
  | 15 => ⟨S_, .f32⟩
  | 16 => ⟨S4x4x2048x256, .f32⟩
  | 17 => ⟨S4x4x2048x256, .f32⟩
  | 18 => ⟨S_, .f32⟩
  | 19 => ⟨S4x4x2048, .f32⟩
  | 20 => ⟨S_, .f32⟩
  | 21 => ⟨S4x4x2048, .f32⟩
  | 22 => ⟨S4x4x2048, .f32⟩
  | 23 => ⟨S4x4x2048x1, .f32⟩
  | 24 => ⟨S4x4x2048x256, .f32⟩
  | 25 => ⟨S4x4x2048x256, .f32⟩
  | 26 => ⟨S4x4x2048x256, .f32⟩
  | 27 => ⟨S_, .f32⟩
  | 28 => ⟨S4x4x2048, .f32⟩
  | 29 => ⟨S4x4x2048x1, .f32⟩
  | 30 => ⟨S4x4x2048x256, .f32⟩
  | 31 => ⟨S4x4x2048x256, .f32⟩
  | 32 => ⟨S4x4x128x2048, .f32⟩
  | 33 => ⟨S4x2048x4x128, .f32⟩
  | 34 => ⟨S4x2048x512, .f32⟩
  | 35 => ⟨S4x2048x2048, .f32⟩
  | 36 => ⟨S4x2048x2048, .f32⟩
  | 37 => ⟨S2048x2048, .f32⟩
  | 38 => ⟨S4x2048x2048, .f32⟩
  | 39 => ⟨S4x2048x2048, .f32⟩
  | 40 => ⟨S4x2048x2048, .f32⟩
  | 41 => ⟨S_, .f32⟩
  | 42 => ⟨S4x2048, .f32⟩
  | 43 => ⟨S4x2048x1, .f32⟩
  | 44 => ⟨S_, .f32⟩
  | 45 => ⟨S4x2048x1, .f32⟩
  | 46 => ⟨S4x2048x1, .f32⟩
  | 47 => ⟨S_, .f32⟩
  | 48 => ⟨S4x2048x1, .f32⟩
  | 49 => ⟨S4x2048x1, .f32⟩
  | 50 => ⟨S4x2048x1, .f32⟩
  | 51 => ⟨S4x2048x2048, .f32⟩
  | 52 => ⟨S4x2048x2048, .f32⟩
  | 53 => ⟨S1x1x2048, .f32⟩
  | 54 => ⟨S4x2048x2048, .f32⟩
  | 55 => ⟨S4x2048x2048, .f32⟩
  | 56 => ⟨S8192x2048, .f32⟩
  | 57 => ⟨S8192x2048, .f32⟩
  | 58 => ⟨S8192x2048, .bf16⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_call0_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_1 : Ref sig .tc := ⟨.hbm, 62, rfl⟩
abbrev main_v44 : Ref sig .tc := ⟨.hbm, 63, rfl⟩
abbrev main_v45 : Ref sig .tc := ⟨.hbm, 64, rfl⟩
abbrev main_c_2 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_3 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_4 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_c_5 : Ref sig .tc := ⟨.hbm, 88, rfl⟩
abbrev main_call1_v0 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_6 : Ref sig .tc := ⟨.hbm, 94, rfl⟩
abbrev main_call2_v0 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_7 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_8 : Ref sig .tc := ⟨.hbm, 107, rfl⟩
abbrev main_call3_v0 : Ref sig .tc := ⟨.hbm, 108, rfl⟩
abbrev main_call3_v1 : Ref sig .tc := ⟨.hbm, 109, rfl⟩
abbrev main_call3_v2 : Ref sig .tc := ⟨.hbm, 110, rfl⟩
abbrev main_v80 : Ref sig .tc := ⟨.hbm, 111, rfl⟩
abbrev main_v81 : Ref sig .tc := ⟨.hbm, 112, rfl⟩
abbrev main_cst_9 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_10 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_11 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_12 : Ref sig .tc := ⟨.hbm, 146, rfl⟩
abbrev main_v112 : Ref sig .tc := ⟨.hbm, 147, rfl⟩
abbrev main_cst_13 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_14 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_cst_15 : Ref sig .tc := ⟨.hbm, 169, rfl⟩
abbrev main_v132 : Ref sig .tc := ⟨.hbm, 170, rfl⟩
abbrev main_v133 : Ref sig .tc := ⟨.hbm, 171, rfl⟩
abbrev main_cst_16 : Ref sig .tc := ⟨.hbm, 172, rfl⟩
abbrev main_v134 : Ref sig .tc := ⟨.hbm, 173, rfl⟩
abbrev main_v135 : Ref sig .tc := ⟨.hbm, 174, rfl⟩
abbrev main_cst_17 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩

abbrev nD : Nat := 1
abbrev τ : Topo := Topo.v7x

variable {F : FTy → Type} [FloatOps F]
-- ==== Mlp.lean ====
abbrev S8192x2048 : Shape := ⟨2, ![8192, 2048]⟩
abbrev S2048x8192 : Shape := ⟨2, ![2048, 8192]⟩
abbrev S512x2048 : Shape := ⟨2, ![512, 2048]⟩
abbrev S2048x2048 : Shape := ⟨2, ![2048, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x8192, .bf16⟩
  | .hbm, ⟨3, _⟩ => ⟨S8192x2048, .bf16⟩
  | .hbm, ⟨4, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpRefIdeal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x8192, .bf16⟩
  | .hbm, ⟨3, _⟩ => ⟨S8192x2048, .bf16⟩
  | .hbm, ⟨4, _⟩ => ⟨S8192x2048, .f32⟩
  | .hbm, ⟨5, _⟩ => ⟨S2048x8192, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x2048, .f32⟩
  | .hbm, ⟨12, _⟩ => ⟨S8192x2048, .f32⟩
  | .hbm, ⟨13, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proj.lean ====
abbrev S8192x2048 : Shape := ⟨2, ![8192, 2048]⟩
abbrev S1x2048 : Shape := ⟨2, ![1, 2048]⟩
abbrev S2048x3584 : Shape := ⟨2, ![2048, 3584]⟩
abbrev S1x128 : Shape := ⟨2, ![1, 128]⟩
abbrev S2048x2048 : Shape := ⟨2, ![2048, 2048]⟩
abbrev S8192x512 : Shape := ⟨2, ![8192, 512]⟩
abbrev S8192x1024 : Shape := ⟨2, ![8192, 1024]⟩
abbrev S16384x128 : Shape := ⟨2, ![16384, 128]⟩
abbrev S8192x256 : Shape := ⟨2, ![8192, 256]⟩
abbrev S512x2048 : Shape := ⟨2, ![512, 2048]⟩
abbrev S128x2048 : Shape := ⟨2, ![128, 2048]⟩
abbrev S512x512 : Shape := ⟨2, ![512, 512]⟩
abbrev S512x1024 : Shape := ⟨2, ![512, 1024]⟩
abbrev S1024x128 : Shape := ⟨2, ![1024, 128]⟩
abbrev S512x256 : Shape := ⟨2, ![512, 256]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S2048x1024 : Shape := ⟨2, ![2048, 1024]⟩
abbrev S256x1024 : Shape := ⟨2, ![256, 1024]⟩
abbrev S256x128 : Shape := ⟨2, ![256, 128]⟩
abbrev S2048x256 : Shape := ⟨2, ![2048, 256]⟩
abbrev S256x256 : Shape := ⟨2, ![256, 256]⟩

abbrev nBuf : Space → Nat
  | .hbm => 16
  | .vmem => 27
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x3584, .bf16⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S2048x2048, .f32⟩
  | .hbm, ⟨7, _⟩ => ⟨S8192x512, .f32⟩
  | .hbm, ⟨8, _⟩ => ⟨S8192x512, .f32⟩
  | .hbm, ⟨9, _⟩ => ⟨S8192x1024, .bf16⟩
  | .hbm, ⟨10, _⟩ => ⟨S16384x128, .f32⟩
  | .hbm, ⟨11, _⟩ => ⟨S16384x128, .f32⟩
  | .hbm, ⟨12, _⟩ => ⟨S8192x256, .bf16⟩
  | .hbm, ⟨13, _⟩ => ⟨S8192x256, .bf16⟩
  | .hbm, ⟨14, _⟩ => ⟨S8192x512, .bf16⟩
  | .hbm, ⟨15, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3584, .bf16⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x2048, .f32⟩
  | .local _ .vmem, ⟨8, _⟩ => ⟨S128x2048, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x1024, .bf16⟩
  | .local _ .vmem, ⟨14, _⟩ => ⟨S512x1024, .bf16⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x512, .bf16⟩
  | .local _ .vmem, ⟨24, _⟩ => ⟨S512x512, .bf16⟩
  | .local _ .vmem, ⟨25, _⟩ => ⟨S128x2048, .bf16⟩
  | .local _ .vmem, ⟨26, _⟩ => ⟨S128x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v0_8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ProjRefIdeal.lean ====
abbrev S8192x2048 : Shape := ⟨2, ![8192, 2048]⟩
abbrev S1x2048 : Shape := ⟨2, ![1, 2048]⟩
abbrev S2048x3584 : Shape := ⟨2, ![2048, 3584]⟩
abbrev S1x128 : Shape := ⟨2, ![1, 128]⟩
abbrev S2048x2048 : Shape := ⟨2, ![2048, 2048]⟩
abbrev S_ : Shape := ⟨0, ![]⟩
abbrev S8192 : Shape := ⟨1, ![8192]⟩
abbrev S8192x1 : Shape := ⟨2, ![8192, 1]⟩
abbrev S8192x3584 : Shape := ⟨2, ![8192, 3584]⟩
abbrev S8192x512 : Shape := ⟨2, ![8192, 512]⟩
abbrev S8192x1024 : Shape := ⟨2, ![8192, 1024]⟩
abbrev S8192x256 : Shape := ⟨2, ![8192, 256]⟩
abbrev S8192x8x128 : Shape := ⟨3, ![8192, 8, 128]⟩
abbrev S128 : Shape := ⟨1, ![128]⟩
abbrev S8192x8 : Shape := ⟨2, ![8192, 8]⟩
abbrev S8192x8x1 : Shape := ⟨3, ![8192, 8, 1]⟩
abbrev S1x1x128 : Shape := ⟨3, ![1, 1, 128]⟩
abbrev S8192x2x128 : Shape := ⟨3, ![8192, 2, 128]⟩
abbrev S8192x2 : Shape := ⟨2, ![8192, 2]⟩
abbrev S8192x2x1 : Shape := ⟨3, ![8192, 2, 1]⟩
abbrev S8192x4x128 : Shape := ⟨3, ![8192, 4, 128]⟩
abbrev S8192x4 : Shape := ⟨2, ![8192, 4]⟩
abbrev S8192x4x1 : Shape := ⟨3, ![8192, 4, 1]⟩
abbrev S16384x128 : Shape := ⟨2, ![16384, 128]⟩

abbrev nBuf : Space → Nat
  | .hbm => 98
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x3584, .bf16⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S2048x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S2048x3584, .f32⟩
  | .hbm, ⟨23, _⟩ => ⟨S8192x3584, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x1024, .f32⟩
  | .hbm, ⟨28, _⟩ => ⟨S8192x256, .f32⟩
  | .hbm, ⟨29, _⟩ => ⟨S8192x256, .f32⟩
  | .hbm, ⟨30, _⟩ => ⟨S8192x512, .f32⟩
  | .hbm, ⟨31, _⟩ => ⟨S8192x8x128, .f32⟩
  | .hbm, ⟨32, _⟩ => ⟨S128, .f32⟩
  | .hbm, ⟨33, _⟩ => ⟨S8192x8x128, .f32⟩
  | .hbm, ⟨34, _⟩ => ⟨S_, .f32⟩
  | .hbm, ⟨35, _⟩ => ⟨S8192x8, .f32⟩
  | .hbm, ⟨36, _⟩ => ⟨S8192x8x1, .f32⟩
  | .hbm, ⟨37, _⟩ => ⟨S_, .f32⟩
  | .hbm, ⟨38, _⟩ => ⟨S8192x8x1, .f32⟩
  | .hbm, ⟨39, _⟩ => ⟨S8192x8x1, .f32⟩
  | .hbm, ⟨40, _⟩ => ⟨S_, .f32⟩
  | .hbm, ⟨41, _⟩ => ⟨S8192x8x1, .f32⟩
  | .hbm, ⟨42, _⟩ => ⟨S8192x8x1, .f32⟩
  | .hbm, ⟨43, _⟩ => ⟨S8192x8x1, .f32⟩
  | .hbm, ⟨44, _⟩ => ⟨S8192x8x128, .f32⟩
  | .hbm, ⟨45, _⟩ => ⟨S8192x8x128, .f32⟩
  | .hbm, ⟨46, _⟩ => ⟨S1x1x128, .f32⟩
  | .hbm, ⟨47, _⟩ => ⟨S8192x8x128, .f32⟩
  | .hbm, ⟨48, _⟩ => ⟨S8192x8x128, .f32⟩
  | .hbm, ⟨49, _⟩ => ⟨S8192x2x128, .f32⟩
  | .hbm, ⟨50, _⟩ => ⟨S128, .f32⟩
  | .hbm, ⟨51, _⟩ => ⟨S8192x2x128, .f32⟩
  | .hbm, ⟨52, _⟩ => ⟨S_, .f32⟩
  | .hbm, ⟨53, _⟩ => ⟨S8192x2, .f32⟩
  | .hbm, ⟨54, _⟩ => ⟨S8192x2x1, .f32⟩
  | .hbm, ⟨55, _⟩ => ⟨S_, .f32⟩
  | .hbm, ⟨56, _⟩ => ⟨S8192x2x1, .f32⟩
  | .hbm, ⟨57, _⟩ => ⟨S8192x2x1, .f32⟩
  | .hbm, ⟨58, _⟩ => ⟨S_, .f32⟩
  | .hbm, ⟨59, _⟩ => ⟨S8192x2x1, .f32⟩
  | .hbm, ⟨60, _⟩ => ⟨S8192x2x1, .f32⟩
  | .hbm, ⟨61, _⟩ => ⟨S8192x2x1, .f32⟩
  | .hbm, ⟨62, _⟩ => ⟨S8192x2x128, .f32⟩
  | .hbm, ⟨63, _⟩ => ⟨S8192x2x128, .f32⟩
  | .hbm, ⟨64, _⟩ => ⟨S1x1x128, .f32⟩
  | .hbm, ⟨65, _⟩ => ⟨S8192x2x128, .f32⟩
  | .hbm, ⟨66, _⟩ => ⟨S8192x2x128, .f32⟩
  | .hbm, ⟨67, _⟩ => ⟨S8192x2x128, .f32⟩
  | .hbm, ⟨68, _⟩ => ⟨S8192x4x128, .f32⟩
  | .hbm, ⟨69, _⟩ => ⟨S128, .f32⟩
  | .hbm, ⟨70, _⟩ => ⟨S8192x4x128, .f32⟩
  | .hbm, ⟨71, _⟩ => ⟨S_, .f32⟩
  | .hbm, ⟨72, _⟩ => ⟨S8192x4, .f32⟩
  | .hbm, ⟨73, _⟩ => ⟨S8192x4x1, .f32⟩
  | .hbm, ⟨74, _⟩ => ⟨S_, .f32⟩
  | .hbm, ⟨75, _⟩ => ⟨S8192x4x1, .f32⟩
  | .hbm, ⟨76, _⟩ => ⟨S8192x4x1, .f32⟩
  | .hbm, ⟨77, _⟩ => ⟨S_, .f32⟩
  | .hbm, ⟨78, _⟩ => ⟨S8192x4x1, .f32⟩
  | .hbm, ⟨79, _⟩ => ⟨S8192x4x1, .f32⟩
  | .hbm, ⟨80, _⟩ => ⟨S8192x4x1, .f32⟩
  | .hbm, ⟨81, _⟩ => ⟨S8192x4x128, .f32⟩
  | .hbm, ⟨82, _⟩ => ⟨S8192x4x128, .f32⟩
  | .hbm, ⟨83, _⟩ => ⟨S1x1x128, .f32⟩
  | .hbm, ⟨84, _⟩ => ⟨S8192x4x128, .f32⟩
  | .hbm, ⟨85, _⟩ => ⟨S8192x4x128, .f32⟩
  | .hbm, ⟨86, _⟩ => ⟨S8192x512, .f32⟩
  | .hbm, ⟨87, _⟩ => ⟨S8192x1024, .f32⟩
  | .hbm, ⟨88, _⟩ => ⟨S8192x1024, .bf16⟩
  | .hbm, ⟨89, _⟩ => ⟨S16384x128, .f32⟩
  | .hbm, ⟨90, _⟩ => ⟨S16384x128, .f32⟩
  | .hbm, ⟨91, _⟩ => ⟨S8192x256, .f32⟩
  | .hbm, ⟨92, _⟩ => ⟨S8192x256, .bf16⟩
  | .hbm, ⟨93, _⟩ => ⟨S8192x256, .f32⟩
  | .hbm, ⟨94, _⟩ => ⟨S8192x256, .bf16⟩
  | .hbm, ⟨95, _⟩ => ⟨S8192x512, .f32⟩
  | .hbm, ⟨96, _⟩ => ⟨S8192x512, .bf16⟩
  | .hbm, ⟨97, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_cst_6 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_8 : Ref sig .tc := ⟨.hbm, 71, rfl⟩
abbrev main_v55 : Ref sig .tc := ⟨.hbm, 72, rfl⟩
abbrev main_v56 : Ref sig .tc := ⟨.hbm, 73, rfl⟩
abbrev main_cst_9 : Ref sig .tc := ⟨.hbm, 74, rfl⟩
abbrev main_v57 : Ref sig .tc := ⟨.hbm, 75, rfl⟩
abbrev main_v58 : Ref sig .tc := ⟨.hbm, 76, rfl⟩
abbrev main_cst_10 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩

abbrev nD : Nat := 1
abbrev τ : Topo := Topo.v7x

variable {F : FTy → Type} [FloatOps F]
-- ==== Kv.lean ====
abbrev S1024x2048 : Shape := ⟨2, ![1024, 2048]⟩
abbrev S1x2048 : Shape := ⟨2, ![1, 2048]⟩
abbrev S2048x512 : Shape := ⟨2, ![2048, 512]⟩
abbrev S1x128 : Shape := ⟨2, ![1, 128]⟩
abbrev S2048x3584 : Shape := ⟨2, ![2048, 3584]⟩
abbrev S4096x128 : Shape := ⟨2, ![4096, 128]⟩
abbrev S1024x512 : Shape := ⟨2, ![1024, 512]⟩
abbrev S256x2048 : Shape := ⟨2, ![256, 2048]⟩
abbrev S512x3584 : Shape := ⟨2, ![512, 3584]⟩
abbrev S1024x128 : Shape := ⟨2, ![1024, 128]⟩
abbrev S256x512 : Shape := ⟨2, ![256, 512]⟩
abbrev S256 : Shape := ⟨1, ![256]⟩
abbrev S256x1 : Shape := ⟨2, ![256, 1]⟩
abbrev S256x128 : Shape := ⟨2, ![256, 128]⟩

abbrev nBuf : Space → Nat
  | .hbm => 11
  | .vmem => 18
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S2048x512, .f32⟩
  | .hbm, ⟨3, _⟩ => ⟨S2048x512, .f32⟩
  | .hbm, ⟨4, _⟩ => ⟨S1x128, .f32⟩
  | .hbm, ⟨5, _⟩ => ⟨S2048x3584, .f32⟩
  | .hbm, ⟨6, _⟩ => ⟨S4096x128, .f32⟩
  | .hbm, ⟨7, _⟩ => ⟨S4096x128, .f32⟩
  | .hbm, ⟨8, _⟩ => ⟨S1024x512, .bf16⟩
  | .hbm, ⟨9, _⟩ => ⟨S1024x512, .bf16⟩
  | .hbm, ⟨10, _⟩ => ⟨S2048x3584, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S1x128, .f32⟩
  | .local _ .vmem, ⟨6, _⟩ => ⟨S512x3584, .f32⟩
  | .local _ .vmem, ⟨7, _⟩ => ⟨S512x3584, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S512x3584, .bf16⟩
  | .local _ .vmem, ⟨17, _⟩ => ⟨S512x3584, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3584 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KvRefIdeal.lean ====
abbrev S1024x2048 : Shape := ⟨2, ![1024, 2048]⟩
abbrev S1x2048 : Shape := ⟨2, ![1, 2048]⟩
abbrev S2048x512 : Shape := ⟨2, ![2048, 512]⟩
abbrev S1x128 : Shape := ⟨2, ![1, 128]⟩
abbrev S2048x3584 : Shape := ⟨2, ![2048, 3584]⟩
abbrev S_ : Shape := ⟨0, ![]⟩
abbrev S1024 : Shape := ⟨1, ![1024]⟩
abbrev S1024x1 : Shape := ⟨2, ![1024, 1]⟩
abbrev S1024x512 : Shape := ⟨2, ![1024, 512]⟩
abbrev S1024x4x128 : Shape := ⟨3, ![1024, 4, 128]⟩
abbrev S128 : Shape := ⟨1, ![128]⟩
abbrev S1024x4 : Shape := ⟨2, ![1024, 4]⟩
abbrev S1024x4x1 : Shape := ⟨3, ![1024, 4, 1]⟩
abbrev S1x1x128 : Shape := ⟨3, ![1, 1, 128]⟩
abbrev S4096x128 : Shape := ⟨2, ![4096, 128]⟩

abbrev nBuf : Space → Nat
  | .hbm => 49
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1x2048, .f32⟩
  | .hbm, ⟨2, _⟩ => ⟨S2048x512, .f32⟩
  | .hbm, ⟨3, _⟩ => ⟨S2048x512, .f32⟩
  | .hbm, ⟨4, _⟩ => ⟨S1x128, .f32⟩
  | .hbm, ⟨5, _⟩ => ⟨S2048x3584, .f32⟩
  | .hbm, ⟨6, _⟩ => ⟨S1024x2048, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S1024x1, .f32⟩
  | .hbm, ⟨17, _⟩ => ⟨S1024x2048, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S1024x512, .f32⟩
  | .hbm, ⟨22, _⟩ => ⟨S1024x4x128, .f32⟩
  | .hbm, ⟨23, _⟩ => ⟨S128, .f32⟩
  | .hbm, ⟨24, _⟩ => ⟨S1024x4x128, .f32⟩
  | .hbm, ⟨25, _⟩ => ⟨S_, .f32⟩
  | .hbm, ⟨26, _⟩ => ⟨S1024x4, .f32⟩
  | .hbm, ⟨27, _⟩ => ⟨S1024x4x1, .f32⟩
  | .hbm, ⟨28, _⟩ => ⟨S_, .f32⟩
  | .hbm, ⟨29, _⟩ => ⟨S1024x4x1, .f32⟩
  | .hbm, ⟨30, _⟩ => ⟨S1024x4x1, .f32⟩
  | .hbm, ⟨31, _⟩ => ⟨S_, .f32⟩
  | .hbm, ⟨32, _⟩ => ⟨S1024x4x1, .f32⟩
  | .hbm, ⟨33, _⟩ => ⟨S1024x4x1, .f32⟩
  | .hbm, ⟨34, _⟩ => ⟨S1024x4x1, .f32⟩
  | .hbm, ⟨35, _⟩ => ⟨S1024x4x128, .f32⟩
  | .hbm, ⟨36, _⟩ => ⟨S1024x4x128, .f32⟩
  | .hbm, ⟨37, _⟩ => ⟨S1x1x128, .f32⟩
  | .hbm, ⟨38, _⟩ => ⟨S1024x4x128, .f32⟩
  | .hbm, ⟨39, _⟩ => ⟨S1024x4x128, .f32⟩
  | .hbm, ⟨40, _⟩ => ⟨S1024x512, .f32⟩
  | .hbm, ⟨41, _⟩ => ⟨S1024x4x128, .f32⟩
  | .hbm, ⟨42, _⟩ => ⟨S4096x128, .f32⟩
  | .hbm, ⟨43, _⟩ => ⟨S4096x128, .f32⟩
  | .hbm, ⟨44, _⟩ => ⟨S1024x512, .f32⟩
  | .hbm, ⟨45, _⟩ => ⟨S1024x512, .bf16⟩
  | .hbm, ⟨46, _⟩ => ⟨S1024x512, .f32⟩
  | .hbm, ⟨47, _⟩ => ⟨S1024x512, .bf16⟩
  | .hbm, ⟨48, _⟩ => ⟨S2048x3584, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== MlpCast.lean ====
abbrev S1024x2048 : Shape := ⟨2, ![1024, 2048]⟩
abbrev S2048x8192 : Shape := ⟨2, ![2048, 8192]⟩
abbrev S8192x2048 : Shape := ⟨2, ![8192, 2048]⟩
abbrev S2048x512 : Shape := ⟨2, ![2048, 512]⟩
abbrev S512x2048 : Shape := ⟨2, ![512, 2048]⟩
abbrev S_ : Shape := ⟨0, ![]⟩
abbrev S1024x512 : Shape := ⟨2, ![1024, 512]⟩
abbrev S512x512 : Shape := ⟨2, ![512, 512]⟩

abbrev nBuf : Space → Nat
  | .hbm => 7
  | .vmem => 10
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S2048x8192, .f32⟩
  | .hbm, ⟨3, _⟩ => ⟨S8192x2048, .f32⟩
  | .hbm, ⟨4, _⟩ => ⟨S1024x2048, .f32⟩
  | .hbm, ⟨5, _⟩ => ⟨S2048x8192, .bf16⟩
  | .hbm, ⟨6, _⟩ => ⟨S8192x2048, .bf16⟩
  | .local _ .vmem, ⟨0, _⟩ => ⟨S1024x2048, .bf16⟩
  | .local _ .vmem, ⟨1, _⟩ => ⟨S2048x512, .f32⟩
  | .local _ .vmem, ⟨2, _⟩ => ⟨S2048x512, .f32⟩
  | .local _ .vmem, ⟨3, _⟩ => ⟨S512x2048, .f32⟩
  | .local _ .vmem, ⟨4, _⟩ => ⟨S512x2048, .f32⟩
  | .local _ .vmem, ⟨5, _⟩ => ⟨S1024x2048, .f32⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== MlpCastRefIdeal.lean ====
abbrev S1024x2048 : Shape := ⟨2, ![1024, 2048]⟩
abbrev S2048x8192 : Shape := ⟨2, ![2048, 8192]⟩
abbrev S8192x2048 : Shape := ⟨2, ![8192, 2048]⟩
abbrev S1024x8192 : Shape := ⟨2, ![1024, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .bf16⟩
  | .hbm, ⟨2, _⟩ => ⟨S2048x8192, .f32⟩
  | .hbm, ⟨3, _⟩ => ⟨S8192x2048, .f32⟩
  | .hbm, ⟨4, _⟩ => ⟨S1024x2048, .f32⟩
  | .hbm, ⟨5, _⟩ => ⟨S1024x8192, .f32⟩
  | .hbm, ⟨6, _⟩ => ⟨S_, .f32⟩
  | .hbm, ⟨7, _⟩ => ⟨S1024x8192, .f32⟩
  | .hbm, ⟨8, _⟩ => ⟨S1024x8192, .f32⟩
  | .hbm, ⟨9, _⟩ => ⟨S1024x8192, .f32⟩
  | .hbm, ⟨10, _⟩ => ⟨S1024x2048, .f32⟩
  | .hbm, ⟨11, _⟩ => ⟨S1024x2048, .f32⟩
  | .hbm, ⟨12, _⟩ => ⟨S2048x8192, .bf16⟩
  | .hbm, ⟨13, _⟩ => ⟨S8192x2048, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== MixSample.lean ====
abbrev S8 : Shape := ⟨1, ![8]⟩
abbrev S1024x1024 : Shape := ⟨2, ![1024, 1024]⟩
abbrev S2048x128 : Shape := ⟨2, ![2048, 128]⟩
abbrev S32768x128 : Shape := ⟨2, ![32768, 128]⟩
abbrev S1024x512 : Shape := ⟨2, ![1024, 512]⟩
abbrev S131072x128 : Shape := ⟨2, ![131072, 128]⟩
abbrev S128x2x512 : Shape := ⟨3, ![128, 2, 512]⟩
abbrev S3x512 : Shape := ⟨2, ![3, 512]⟩
abbrev S64x384 : Shape := ⟨2, ![64, 384]⟩
abbrev S1024x2048 : Shape := ⟨2, ![1024, 2048]⟩
abbrev S2048x2048 : Shape := ⟨2, ![2048, 2048]⟩
abbrev S1x2048 : Shape := ⟨2, ![1, 2048]⟩
abbrev S64x1024 : Shape := ⟨2, ![64, 1024]⟩
abbrev S128x128 : Shape := ⟨2, ![128, 128]⟩
abbrev S64x512 : Shape := ⟨2, ![64, 512]⟩
abbrev S8192x128 : Shape := ⟨2, ![8192, 128]⟩
abbrev S8x2x512 : Shape := ⟨3, ![8, 2, 512]⟩
abbrev S64x2048 : Shape := ⟨2, ![64, 2048]⟩
abbrev S512x384 : Shape := ⟨2, ![512, 384]⟩
abbrev S1 : Shape := ⟨1, ![1]⟩
abbrev S8x1 : Shape := ⟨2, ![8, 1]⟩
abbrev S512x1 : Shape := ⟨2, ![512, 1]⟩
abbrev S256x1024 : Shape := ⟨2, ![256, 1024]⟩
abbrev S8x512 : Shape := ⟨2, ![8, 512]⟩
abbrev S112x128 : Shape := ⟨2, ![112, 128]⟩
abbrev S240x128 : Shape := ⟨2, ![240, 128]⟩
abbrev S16x128 : Shape := ⟨2, ![16, 128]⟩
abbrev S1x2x512 : Shape := ⟨3, ![1, 2, 512]⟩
abbrev S2x512 : Shape := ⟨2, ![2, 512]⟩
abbrev S1x512 : Shape := ⟨2, ![1, 512]⟩
abbrev S8x1024 : Shape := ⟨2, ![8, 1024]⟩
abbrev S8x128 : Shape := ⟨2, ![8, 128]⟩
abbrev S64x128 : Shape := ⟨2, ![64, 128]⟩
abbrev S256x128 : Shape := ⟨2, ![256, 128]⟩
abbrev S384x128 : Shape := ⟨2, ![384, 128]⟩
abbrev S32x128 : Shape := ⟨2, ![32, 128]⟩
abbrev S1024x128 : Shape := ⟨2, ![1024, 128]⟩
abbrev S32x1024 : Shape := ⟨2, ![32, 1024]⟩
abbrev S512 : Shape := ⟨1, ![512]⟩
abbrev S256 : Shape := ⟨1, ![256]⟩
abbrev S256x1 : Shape := ⟨2, ![256, 1]⟩
abbrev S384x256 : Shape := ⟨2, ![384, 256]⟩
abbrev S64x256 : Shape := ⟨2, ![64, 256]⟩
abbrev S64x1 : Shape := ⟨2, ![64, 1]⟩
abbrev S1024x256 : Shape := ⟨2, ![1024, 256]⟩
abbrev S32x256 : Shape := ⟨2, ![32, 256]⟩
abbrev S64 : Shape := ⟨1, ![64]⟩

abbrev nBuf : Space → Nat
  | .hbm => 21
  | .vmem => 37
  | .smem => 1
  | _ => 0

abbrev bufTy : (tb : Table) → Fin (tcTables nBuf tb) → BufTy
  | .hbm, ⟨0, _⟩ => ⟨S8, .f32⟩
  | .hbm, ⟨1, _⟩ => ⟨S1024x1024, .f32⟩
  | .hbm, ⟨2, _⟩ => ⟨S2048x128, .f32⟩
  | .hbm, ⟨3, _⟩ => ⟨S2048x128, .f32⟩
  | .hbm, ⟨4, _⟩ => ⟨S32768x128, .f32⟩
  | .hbm, ⟨5, _⟩ => ⟨S32768x128, .f32⟩
  | .hbm, ⟨6, _⟩ => ⟨S1024x512, .f32⟩
  | .hbm, ⟨7, _⟩ => ⟨S131072x128, .f32⟩
  | .hbm, ⟨8, _⟩ => ⟨S131072x128, .f32⟩
  | .hbm, ⟨9, _⟩ => ⟨S1024x512, .f32⟩
  | .hbm, ⟨10, _⟩ => ⟨S1024x512, .f32⟩
  | .hbm, ⟨11, _⟩ => ⟨S128x2x512, .f32⟩
  | .hbm, ⟨12, _⟩ => ⟨S3x512, .f32⟩
  | .hbm, ⟨13, _⟩ => ⟨S64x384, .f32⟩
  | .hbm, ⟨14, _⟩ => ⟨S1024x2048, .f32⟩
  | .hbm, ⟨15, _⟩ => ⟨S2048x2048, .bf16⟩
  | .hbm, ⟨16, _⟩ => ⟨S1x2048, .f32⟩
  | .hbm, ⟨17, _⟩ => ⟨S1024x2048, .f32⟩
  | .hbm, ⟨18, _⟩ => ⟨S1024x2048, .bf16⟩
  | .hbm, ⟨19, _⟩ => ⟨S32768x128, .f32⟩
  | .hbm, ⟨20, _⟩ => ⟨S32768x128, .f32⟩
  | .local _ .vmem, ⟨0, _⟩ => ⟨S64x1024, .f32⟩
  | .local _ .vmem, ⟨1, _⟩ => ⟨S64x1024, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S64x512, .f32⟩
  | .local _ .vmem, ⟨11, _⟩ => ⟨S64x512, .f32⟩
  | .local _ .vmem, ⟨12, _⟩ => ⟨S8192x128, .f32⟩
  | .local _ .vmem, ⟨13, _⟩ => ⟨S8192x128, .f32⟩
  | .local _ .vmem, ⟨14, _⟩ => ⟨S8192x128, .f32⟩
  | .local _ .vmem, ⟨15, _⟩ => ⟨S8192x128, .f32⟩
  | .local _ .vmem, ⟨16, _⟩ => ⟨S64x512, .f32⟩
  | .local _ .vmem, ⟨17, _⟩ => ⟨S64x512, .f32⟩
  | .local _ .vmem, ⟨18, _⟩ => ⟨S64x512, .f32⟩
  | .local _ .vmem, ⟨19, _⟩ => ⟨S64x512, .f32⟩
  | .local _ .vmem, ⟨20, _⟩ => ⟨S8x2x512, .f32⟩
  | .local _ .vmem, ⟨21, _⟩ => ⟨S8x2x512, .f32⟩
  | .local _ .vmem, ⟨22, _⟩ => ⟨S3x512, .f32⟩
  | .local _ .vmem, ⟨23, _⟩ => ⟨S64x384, .f32⟩
  | .local _ .vmem, ⟨24, _⟩ => ⟨S64x2048, .f32⟩
  | .local _ .vmem, ⟨25, _⟩ => ⟨S64x2048, .f32⟩
  | .local _ .vmem, ⟨26, _⟩ => ⟨S2048x2048, .bf16⟩
  | .local _ .vmem, ⟨27, _⟩ => ⟨S1x2048, .f32⟩
  | .local _ .vmem, ⟨28, _⟩ => ⟨S64x2048, .f32⟩
  | .local _ .vmem, ⟨29, _⟩ => ⟨S64x2048, .f32⟩
  | .local _ .vmem, ⟨30, _⟩ => ⟨S64x2048, .bf16⟩
  | .local _ .vmem, ⟨31, _⟩ => ⟨S64x2048, .bf16⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S64x2048, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v0_2 : Ref sig .tc := ⟨.hbm, 19, rfl⟩
abbrev main_v0_3 : Ref sig .tc := ⟨.hbm, 20, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_scratch0 : Ref sig .tc := ⟨.vmem, 36, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x2x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S64x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S2048x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2048 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S64x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x2048 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2048x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2048x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== MixSampleRefIdeal.lean ====
abbrev S8 : Shape := ⟨1, ![8]⟩
abbrev S1024x1024 : Shape := ⟨2, ![1024, 1024]⟩
abbrev S2048x128 : Shape := ⟨2, ![2048, 128]⟩
abbrev S32768x128 : Shape := ⟨2, ![32768, 128]⟩
abbrev S1024x512 : Shape := ⟨2, ![1024, 512]⟩
abbrev S131072x128 : Shape := ⟨2, ![131072, 128]⟩
abbrev S128x2x512 : Shape := ⟨3, ![128, 2, 512]⟩
abbrev S3x512 : Shape := ⟨2, ![3, 512]⟩
abbrev S64x384 : Shape := ⟨2, ![64, 384]⟩
abbrev S1024x2048 : Shape := ⟨2, ![1024, 2048]⟩
abbrev S2048x2048 : Shape := ⟨2, ![2048, 2048]⟩
abbrev S1x2048 : Shape := ⟨2, ![1, 2048]⟩
abbrev S128x128x2x128 : Shape := ⟨4, ![128, 128, 2, 128]⟩
abbrev S128x8x2x128 : Shape := ⟨4, ![128, 8, 2, 128]⟩
abbrev S128x136x2x128 : Shape := ⟨4, ![128, 136, 2, 128]⟩

abbrev nBuf : Space → Nat
  | .hbm => 27
  | .vmem => 0
  | .smem => 0
  | _ => 0

abbrev bufTy : (tb : Table) → Fin (tcTables nBuf tb) → BufTy
  | .hbm, ⟨0, _⟩ => ⟨S8, .f32⟩
  | .hbm, ⟨1, _⟩ => ⟨S1024x1024, .f32⟩
  | .hbm, ⟨2, _⟩ => ⟨S2048x128, .f32⟩
  | .hbm, ⟨3, _⟩ => ⟨S2048x128, .f32⟩
  | .hbm, ⟨4, _⟩ => ⟨S32768x128, .f32⟩
  | .hbm, ⟨5, _⟩ => ⟨S32768x128, .f32⟩
  | .hbm, ⟨6, _⟩ => ⟨S1024x512, .f32⟩
  | .hbm, ⟨7, _⟩ => ⟨S131072x128, .f32⟩
  | .hbm, ⟨8, _⟩ => ⟨S131072x128, .f32⟩
  | .hbm, ⟨9, _⟩ => ⟨S1024x512, .f32⟩
  | .hbm, ⟨10, _⟩ => ⟨S1024x512, .f32⟩
  | .hbm, ⟨11, _⟩ => ⟨S128x2x512, .f32⟩
  | .hbm, ⟨12, _⟩ => ⟨S3x512, .f32⟩
  | .hbm, ⟨13, _⟩ => ⟨S64x384, .f32⟩
  | .hbm, ⟨14, _⟩ => ⟨S1024x2048, .f32⟩
  | .hbm, ⟨15, _⟩ => ⟨S2048x2048, .bf16⟩
  | .hbm, ⟨16, _⟩ => ⟨S1x2048, .f32⟩
  | .hbm, ⟨17, _⟩ => ⟨S128x128x2x128, .f32⟩
  | .hbm, ⟨18, _⟩ => ⟨S128x8x2x128, .f32⟩
  | .hbm, ⟨19, _⟩ => ⟨S128x136x2x128, .f32⟩
  | .hbm, ⟨20, _⟩ => ⟨S128x128x2x128, .f32⟩
  | .hbm, ⟨21, _⟩ => ⟨S32768x128, .f32⟩
  | .hbm, ⟨22, _⟩ => ⟨S128x128x2x128, .f32⟩
  | .hbm, ⟨23, _⟩ => ⟨S128x8x2x128, .f32⟩
  | .hbm, ⟨24, _⟩ => ⟨S128x136x2x128, .f32⟩
  | .hbm, ⟨25, _⟩ => ⟨S128x128x2x128, .f32⟩
  | .hbm, ⟨26, _⟩ => ⟨S32768x128, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩

abbrev nD : Nat := 1
abbrev τ : Topo := Topo.v7x

variable {F : FTy → Type} [FloatOps F]
-- ==== Bias.lean ====
abbrev S32x8 : Shape := ⟨2, ![32, 8]⟩
abbrev S128x256 : Shape := ⟨2, ![128, 256]⟩
abbrev S8x384 : Shape := ⟨2, ![8, 384]⟩
abbrev S256 : Shape := ⟨1, ![256]⟩
abbrev S2x512x256 : Shape := ⟨3, ![2, 512, 256]⟩
abbrev S64x384 : Shape := ⟨2, ![64, 384]⟩
abbrev S1 : Shape := ⟨1, ![1]⟩
abbrev S1x128x256 : Shape := ⟨3, ![1, 128, 256]⟩

abbrev nBuf : Space → Nat
  | .hbm => 6
  | .vmem => 4
  | .smem => 1
  | _ => 0

abbrev bufTy : (tb : Table) → Fin (tcTables nBuf tb) → BufTy
  | .hbm, ⟨0, _⟩ => ⟨S32x8, .f32⟩
  | .hbm, ⟨1, _⟩ => ⟨S128x256, .i32⟩
  | .hbm, ⟨2, _⟩ => ⟨S8x384, .i32⟩
  | .hbm, ⟨3, _⟩ => ⟨S256, .f32⟩
  | .hbm, ⟨4, _⟩ => ⟨S2x512x256, .f32⟩
  | .hbm, ⟨5, _⟩ => ⟨S64x384, .f32⟩
  | .local _ .vmem, ⟨0, _⟩ => ⟨S128x256, .i32⟩
  | .local _ .vmem, ⟨1, _⟩ => ⟨S8x384, .i32⟩
  | .local _ .vmem, ⟨2, _⟩ => ⟨S2x512x256, .f32⟩
  | .local _ .vmem, ⟨3, _⟩ => ⟨S64x384, .f32⟩
  | .local _ .smem, ⟨0, _⟩ => ⟨S256, .f32⟩
  | _, _ => ⟨S32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .smem S256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== BiasIdeal.lean ====
variable {F : FTy → Type} [FloatOps F] [Named F]
def κ : String → Option EReal := fun
  | "log2e" => some (((Real.log 2)⁻¹ : ℝ) : EReal)
  | _ => none
-- ==== BiasRefIdeal.lean ====
abbrev S32x8 : Shape := ⟨2, ![32, 8]⟩
abbrev S128 : Shape := ⟨1, ![128]⟩
abbrev S128x1 : Shape := ⟨2, ![128, 1]⟩
abbrev S_ : Shape := ⟨0, ![]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1 : Shape := ⟨2, ![8, 1]⟩
abbrev S384 : Shape := ⟨1, ![384]⟩
abbrev S1x384 : Shape := ⟨2, ![1, 384]⟩
abbrev S8x384 : Shape := ⟨2, ![8, 384]⟩
abbrev S128x256x1 : Shape := ⟨3, ![128, 256, 1]⟩
abbrev S128x256x8 : Shape := ⟨3, ![128, 256, 8]⟩
abbrev S8x128x256 : Shape := ⟨3, ![8, 128, 256]⟩
abbrev S2x512x256 : Shape := ⟨3, ![2, 512, 256]⟩
abbrev S8x384x1 : Shape := ⟨3, ![8, 384, 1]⟩
abbrev S8x384x8 : Shape := ⟨3, ![8, 384, 8]⟩
abbrev S8x8x384 : Shape := ⟨3, ![8, 8, 384]⟩
abbrev S64x384 : Shape := ⟨2, ![64, 384]⟩

abbrev nBuf : Space → Nat
  | .hbm => 127
  | .vmem => 0
  | .smem => 0
  | _ => 0

abbrev bufTy : (tb : Table) → Fin (tcTables nBuf tb) → BufTy
  | .hbm, ⟨0, _⟩ => ⟨S32x8, .f32⟩
  | .hbm, ⟨1, _⟩ => ⟨S128, .i32⟩
  | .hbm, ⟨2, _⟩ => ⟨S128x1, .i32⟩
  | .hbm, ⟨3, _⟩ => ⟨S_, .i32⟩
  | .hbm, ⟨4, _⟩ => ⟨S128x1, .i32⟩
  | .hbm, ⟨5, _⟩ => ⟨S128x1, .i32⟩
  | .hbm, ⟨6, _⟩ => ⟨S256, .i32⟩
  | .hbm, ⟨7, _⟩ => ⟨S1x256, .i32⟩
  | .hbm, ⟨8, _⟩ => ⟨S128x256, .i32⟩
  | .hbm, ⟨9, _⟩ => ⟨S128x256, .i32⟩
  | .hbm, ⟨10, _⟩ => ⟨S128x256, .i32⟩
  | .hbm, ⟨11, _⟩ => ⟨S8, .i32⟩
  | .hbm, ⟨12, _⟩ => ⟨S8x1, .i32⟩
  | .hbm, ⟨13, _⟩ => ⟨S_, .i32⟩
  | .hbm, ⟨14, _⟩ => ⟨S8x1, .i32⟩
  | .hbm, ⟨15, _⟩ => ⟨S8x1, .i32⟩
  | .hbm, ⟨16, _⟩ => ⟨S384, .i32⟩
  | .hbm, ⟨17, _⟩ => ⟨S_, .i32⟩
  | .hbm, ⟨18, _⟩ => ⟨S_, .i32⟩
  | .hbm, ⟨19, _⟩ => ⟨S384, .i32⟩
  | .hbm, ⟨20, _⟩ => ⟨S384, .i32⟩
  | .hbm, ⟨21, _⟩ => ⟨S384, .i32⟩
  | .hbm, ⟨22, _⟩ => ⟨S_, .i32⟩
  | .hbm, ⟨23, _⟩ => ⟨S384, .i32⟩
  | .hbm, ⟨24, _⟩ => ⟨S384, .i1⟩
  | .hbm, ⟨25, _⟩ => ⟨S384, .i32⟩
  | .hbm, ⟨26, _⟩ => ⟨S384, .i32⟩
  | .hbm, ⟨27, _⟩ => ⟨S_, .i32⟩
  | .hbm, ⟨28, _⟩ => ⟨S384, .i32⟩
  | .hbm, ⟨29, _⟩ => ⟨S384, .i1⟩
  | .hbm, ⟨30, _⟩ => ⟨S384, .i1⟩
  | .hbm, ⟨31, _⟩ => ⟨S_, .i32⟩
  | .hbm, ⟨32, _⟩ => ⟨S384, .i32⟩
  | .hbm, ⟨33, _⟩ => ⟨S384, .i32⟩
  | .hbm, ⟨34, _⟩ => ⟨S384, .i32⟩
  | .hbm, ⟨35, _⟩ => ⟨S1x384, .i32⟩
  | .hbm, ⟨36, _⟩ => ⟨S8x384, .i32⟩
  | .hbm, ⟨37, _⟩ => ⟨S8x384, .i32⟩
  | .hbm, ⟨38, _⟩ => ⟨S8x384, .i32⟩
  | .hbm, ⟨39, _⟩ => ⟨S_, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S128x256, .f32⟩
  | .hbm, ⟨46, _⟩ => ⟨S_, .f32⟩
  | .hbm, ⟨47, _⟩ => ⟨S128x256, .f32⟩
  | .hbm, ⟨48, _⟩ => ⟨S128x256, .f32⟩
  | .hbm, ⟨49, _⟩ => ⟨S128x256, .f32⟩
  | .hbm, ⟨50, _⟩ => ⟨S_, .f32⟩
  | .hbm, ⟨51, _⟩ => ⟨S_, .f32⟩
  | .hbm, ⟨52, _⟩ => ⟨S128x256, .f32⟩
  | .hbm, ⟨53, _⟩ => ⟨S128x256, .f32⟩
  | .hbm, ⟨54, _⟩ => ⟨S_, .f32⟩
  | .hbm, ⟨55, _⟩ => ⟨S128x256, .f32⟩
  | .hbm, ⟨56, _⟩ => ⟨S128x256, .f32⟩
  | .hbm, ⟨57, _⟩ => ⟨S128x256, .i32⟩
  | .hbm, ⟨58, _⟩ => ⟨S_, .i32⟩
  | .hbm, ⟨59, _⟩ => ⟨S128x256, .i32⟩
  | .hbm, ⟨60, _⟩ => ⟨S128x256, .i32⟩
  | .hbm, ⟨61, _⟩ => ⟨S_, .i32⟩
  | .hbm, ⟨62, _⟩ => ⟨S128x256, .i32⟩
  | .hbm, ⟨63, _⟩ => ⟨S128x256, .i32⟩
  | .hbm, ⟨64, _⟩ => ⟨S_, .i32⟩
  | .hbm, ⟨65, _⟩ => ⟨S128x256, .i32⟩
  | .hbm, ⟨66, _⟩ => ⟨S128x256, .i1⟩
  | .hbm, ⟨67, _⟩ => ⟨S128x256, .i32⟩
  | .hbm, ⟨68, _⟩ => ⟨S_, .i32⟩
  | .hbm, ⟨69, _⟩ => ⟨S128x256, .i32⟩
  | .hbm, ⟨70, _⟩ => ⟨S128x256, .i1⟩
  | .hbm, ⟨71, _⟩ => ⟨S_, .i32⟩
  | .hbm, ⟨72, _⟩ => ⟨S128x256, .i32⟩
  | .hbm, ⟨73, _⟩ => ⟨S128x256, .i32⟩
  | .hbm, ⟨74, _⟩ => ⟨S128x256, .i32⟩
  | .hbm, ⟨75, _⟩ => ⟨S128x256x1, .i32⟩
  | .hbm, ⟨76, _⟩ => ⟨S128x256x8, .f32⟩
  | .hbm, ⟨77, _⟩ => ⟨S8x128x256, .f32⟩
  | .hbm, ⟨78, _⟩ => ⟨S_, .f32⟩
  | .hbm, ⟨79, _⟩ => ⟨S_, .f32⟩
  | .hbm, ⟨80, _⟩ => ⟨S8x128x256, .f32⟩
  | .hbm, ⟨81, _⟩ => ⟨S8x128x256, .f32⟩
  | .hbm, ⟨82, _⟩ => ⟨S2x512x256, .f32⟩
  | .hbm, ⟨83, _⟩ => ⟨S_, .i32⟩
  | .hbm, ⟨84, _⟩ => ⟨S8x384, .i32⟩
  | .hbm, ⟨85, _⟩ => ⟨S8x384, .i32⟩
  | .hbm, ⟨86, _⟩ => ⟨S_, .i32⟩
  | .hbm, ⟨87, _⟩ => ⟨S8x384, .i32⟩
  | .hbm, ⟨88, _⟩ => ⟨S8x384, .i32⟩
  | .hbm, ⟨89, _⟩ => ⟨S8x384, .f32⟩
  | .hbm, ⟨90, _⟩ => ⟨S_, .f32⟩
  | .hbm, ⟨91, _⟩ => ⟨S8x384, .f32⟩
  | .hbm, ⟨92, _⟩ => ⟨S8x384, .f32⟩
  | .hbm, ⟨93, _⟩ => ⟨S8x384, .f32⟩
  | .hbm, ⟨94, _⟩ => ⟨S_, .f32⟩
  | .hbm, ⟨95, _⟩ => ⟨S_, .f32⟩
  | .hbm, ⟨96, _⟩ => ⟨S8x384, .f32⟩
  | .hbm, ⟨97, _⟩ => ⟨S8x384, .f32⟩
  | .hbm, ⟨98, _⟩ => ⟨S_, .f32⟩
  | .hbm, ⟨99, _⟩ => ⟨S8x384, .f32⟩
  | .hbm, ⟨100, _⟩ => ⟨S8x384, .f32⟩
  | .hbm, ⟨101, _⟩ => ⟨S8x384, .i32⟩
  | .hbm, ⟨102, _⟩ => ⟨S_, .i32⟩
  | .hbm, ⟨103, _⟩ => ⟨S8x384, .i32⟩
  | .hbm, ⟨104, _⟩ => ⟨S8x384, .i32⟩
  | .hbm, ⟨105, _⟩ => ⟨S_, .i32⟩
  | .hbm, ⟨106, _⟩ => ⟨S8x384, .i32⟩
  | .hbm, ⟨107, _⟩ => ⟨S8x384, .i32⟩
  | .hbm, ⟨108, _⟩ => ⟨S_, .i32⟩
  | .hbm, ⟨109, _⟩ => ⟨S8x384, .i32⟩
  | .hbm, ⟨110, _⟩ => ⟨S8x384, .i1⟩
  | .hbm, ⟨111, _⟩ => ⟨S8x384, .i32⟩
  | .hbm, ⟨112, _⟩ => ⟨S_, .i32⟩
  | .hbm, ⟨113, _⟩ => ⟨S8x384, .i32⟩
  | .hbm, ⟨114, _⟩ => ⟨S8x384, .i1⟩
  | .hbm, ⟨115, _⟩ => ⟨S_, .i32⟩
  | .hbm, ⟨116, _⟩ => ⟨S8x384, .i32⟩
  | .hbm, ⟨117, _⟩ => ⟨S8x384, .i32⟩
  | .hbm, ⟨118, _⟩ => ⟨S8x384, .i32⟩
  | .hbm, ⟨119, _⟩ => ⟨S8x384x1, .i32⟩
  | .hbm, ⟨120, _⟩ => ⟨S8x384x8, .f32⟩
  | .hbm, ⟨121, _⟩ => ⟨S8x8x384, .f32⟩
  | .hbm, ⟨122, _⟩ => ⟨S_, .f32⟩
  | .hbm, ⟨123, _⟩ => ⟨S_, .f32⟩
  | .hbm, ⟨124, _⟩ => ⟨S8x8x384, .f32⟩
  | .hbm, ⟨125, _⟩ => ⟨S8x8x384, .f32⟩
  | .hbm, ⟨126, _⟩ => ⟨S64x384, .f32⟩
  | _, _ => ⟨S32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_c_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_c_8 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_9 : Ref sig .tc := ⟨.hbm, 68, rfl⟩
abbrev main_v40 : Ref sig .tc := ⟨.hbm, 69, rfl⟩
abbrev main_v41 : Ref sig .tc := ⟨.hbm, 70, rfl⟩
abbrev main_c_10 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_11 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_12 : Ref sig .tc := ⟨.hbm, 83, rfl⟩
abbrev main_v52 : Ref sig .tc := ⟨.hbm, 84, rfl⟩
abbrev main_v53 : Ref sig .tc := ⟨.hbm, 85, rfl⟩
abbrev main_c_13 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_14 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_15 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_16 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c_17 : Ref sig .tc := ⟨.hbm, 102, rfl⟩
abbrev main_v66 : Ref sig .tc := ⟨.hbm, 103, rfl⟩
abbrev main_v67 : Ref sig .tc := ⟨.hbm, 104, rfl⟩
abbrev main_c_18 : Ref sig .tc := ⟨.hbm, 105, rfl⟩
abbrev main_v68 : Ref sig .tc := ⟨.hbm, 106, rfl⟩
abbrev main_v69 : Ref sig .tc := ⟨.hbm, 107, rfl⟩
abbrev main_c_19 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_c_20 : Ref sig .tc := ⟨.hbm, 112, rfl⟩
abbrev main_v73 : Ref sig .tc := ⟨.hbm, 113, rfl⟩
abbrev main_v74 : Ref sig .tc := ⟨.hbm, 114, rfl⟩
abbrev main_c_21 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_22 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩

abbrev nD : Nat := 1
abbrev τ : Topo := Topo.v7x

variable {F : FTy → Type} [FloatOps F]
-- ==== Proof.Tile.lean ====
module

public import proofs.«01_k».proof.Proof.Gen.MixIdeal.Value

@[expose] public section

set_option maxRecDepth 16384

noncomputable section

namespace Cert.MixIdeal.Tile

open Cert.MixIdeal Cert.MixIdeal.Gen Idealize.ShloMosaic Idealize.ShloMosaic.TcCoe Idealize.SL.Sem
open Idealize.ShloMosaic.Tactic

variable {F : FTy → Type} [FloatOps F] [Named F]

/-! # What one grid point of the mixer call writes, as a function of its input blocks

  The two outputs of a grid point are written here once, head by head and row group by row group, from the blocks the
  point reads; the theorems at the end say that the printed body leaves exactly these. -/

/-- Weighted values of one 128-row tile: the weights `p` times the values, divided by the row's weight sum plus `extra`
    (the sink's weight, or zero columns). The row sum is taken by the same product, against columns of ones. -/
def weighted (p : FVec F S128x256 .f32) (v : FVec F S256x128 .bf16) : FVec F S128x256 .f32 :=
  matmul dot_S128x256_S256x256_S128x256_1_0_0_1_n_n none (truncf .bf16 p bitsLt_bf16_f32)
    (concatenate S256x256 1 [⟨S256x128, v⟩, ⟨S256x128, broadcast S256x128 (Scalar.ofBits .bf16 0x3F80#16)⟩] concatenates_S256x128_S256x128_S256x256_d1)
    (constant S128x256 .f32 0x00000000#32)

/-- The 128 value columns of `weighted`. -/
def numer (w : FVec F S128x256 .f32) : FVec F S128x128 .f32 :=
  extractStridedSlice S128x128 ![0, 0] w slices_S128x256_o0_0_S128x128

/-- The 128 columns of `weighted` that hold the row's weight sum. -/
def denom (w : FVec F S128x256 .f32) : FVec F S128x128 .f32 :=
  extractStridedSlice S128x128 ![0, 128] w slices_S128x256_o0_128_S128x128

/-- Numerator over denominator, rounded. -/
def quotient (n d : FVec F S128x128 .f32) : FVec F S128x128 .bf16 :=
  truncf .bf16 (mulf n (divf (broadcast S128x128 (Scalar.ofBits .f32 0x3F800000#32)) d)) bitsLt_bf16_f32

/-- Scaled scores of 128 query rows against 256 key rows, in base-two units. -/
def scores (q : FVec F S128x128 .bf16) (k : FVec F S256x128 .bf16) : FVec F S128x256 .f32 :=
  mulf (matmul dot_S128x128_S256x128_S128x256_1_1_0_0_n_n none q k (constant S128x256 .f32 0x00000000#32))
    (broadcast S128x256 (Named.named κ "scale_log2e" 0x3E0293EE#32))

/-- Windowed scores: the bias added where the band exceeds `mb`, the mask elsewhere. -/
def masked (mb : F .f32) (s : FVec F S128x256 .f32) (band : FVec F S128x256 .f32) (bias : FVec F S1x128x256 .f32) :
    FVec F S128x256 .f32 :=
  select (cmpf .ogt band (broadcast S128x256 mb)) (addf s (shapeCast S128x256 bias shapeCasts_S1x128x256_S128x256))
    (broadcast S128x256 (Named.named κ "mask" 0xF149F2CA#32))

/-- The row maxima as a column. -/
def rowMax (s : FVec F S128x256 .f32) : FVec F S128x1 .f32 :=
  shapeCast S128x1 (multiReduction .maximumf [1] S128 s 0xFF800000#32 reduces_S128x256_S128 (.inl rfl) rfl) shapeCasts_S128_S128x1

/-- Exponentials of the scores after subtracting the column `m`. -/
def weights (s : FVec F S128x256 .f32) (m : FVec F S128x1 .f32) : FVec F S128x256 .f32 :=
  exp2 (subf s (broadcastTo S128x256 m broadcasts_S128x1_S128x256))

/-- The sink's logit in base-two units. -/
def sinkOf (sink : F .f32) : F .f32 := Scalar.mulf sink (Named.named κ "log2e" 0x3FB8AA3B#32)

/-- One head, 128 query rows, of the windowed attention with a sink. -/
def swaTile (mb : F .f32) (k v : FVec F S256x128 .bf16) (q : FVec F S128x128 .bf16) (band : FVec F S128x256 .f32)
    (bias : FVec F S1x128x256 .f32) (sink : F .f32) : FVec F S128x128 .bf16 :=
  quotient (numer (weighted (weights (masked mb (scores q k) band bias) (maximumf (rowMax (masked mb (scores q k) band bias)) (broadcast S128x1 (sinkOf sink)))) v))
    (addf (denom (weighted (weights (masked mb (scores q k) band bias) (maximumf (rowMax (masked mb (scores q k) band bias)) (broadcast S128x1 (sinkOf sink)))) v))
      (broadcastTo S128x128 (exp2 (subf (broadcast S128x1 (sinkOf sink)) (maximumf (rowMax (masked mb (scores q k) band bias)) (broadcast S128x1 (sinkOf sink))))) broadcasts_S128x1_S128x128))

/-- One head, 128 query rows, of the attention over the memory. -/
def crossTile (q : FVec F S128x128 .bf16) (k v : FVec F S256x128 .bf16) : FVec F S128x128 .bf16 :=
  quotient (numer (weighted (weights (scores q k) (rowMax (scores q k))) v))
    (denom (weighted (weights (scores q k) (rowMax (scores q k))) v))

/-- Four 128-row tiles one under the other. -/
def stack4 (f : Fin 4 → FVec F S128x128 .bf16) : FVec F S512x128 .bf16 :=
  concatenate S512x128 0 [⟨S128x128, f 0⟩, ⟨S128x128, f 1⟩, ⟨S128x128, f 2⟩, ⟨S128x128, f 3⟩] concatenates_S128x128_S128x128_S128x128_S128x128_S512x128_d0

/-- A 256-row window of key (or value) rows for row group `j` and key head `h`: the previous block's last 128 rows
    before the first group, then the block's own rows. -/
def windowRows (prev : FVec F S128x256 .bf16) (cur : FVec F S512x256 .bf16) (h : Fin 2) : Fin 4 → FVec F S256x128 .bf16
  | ⟨0, _⟩ => concatenate S256x128 0 [⟨S128x128, View.ld (Val := Elt F) (e' := .bf16) prev (Rect.unit (s := S128x256) ![0, h.val * 128] S128x128.size (by intro a; have := h.isLt; match a with | ⟨0, _⟩ => show 0 + 128 ≤ 128; omega | ⟨1, _⟩ => show h.val * 128 + 128 ≤ 256; omega))⟩,
      ⟨S128x128, View.ld (Val := Elt F) (e' := .bf16) cur (Rect.unit (s := S512x256) ![0, h.val * 128] S128x128.size (by intro a; have := h.isLt; match a with | ⟨0, _⟩ => show 0 + 128 ≤ 512; omega | ⟨1, _⟩ => show h.val * 128 + 128 ≤ 256; omega))⟩] concatenates_S128x128_S128x128_S256x128_d0
  | ⟨j + 1, hj⟩ => View.ld (Val := Elt F) (e' := .bf16) cur (Rect.unit (s := S512x256) ![j * 128, h.val * 128] S256x128.size (by intro a; have := h.isLt; match a with | ⟨0, _⟩ => show j * 128 + 256 ≤ 512; omega | ⟨1, _⟩ => show h.val * 128 + 128 ≤ 256; omega))

/-- The band value a key must exceed: without a previous block the first group's earlier keys (band 1) are out. -/
def minBand (i : grid0.Coords) : Fin 4 → F .f32
  | ⟨0, _⟩ => Scalar.select (Scalar.cmpi .sgt (BitVec.ofNat 32 (i 1).val) 0#32) (Scalar.ofBits .f32 0x3F000000#32) (Scalar.ofBits .f32 0x3FC00000#32)
  | ⟨_ + 1, _⟩ => Scalar.ofBits .f32 0x3F000000#32

/-- The windowed attention of query head `n` over the block's 512 rows. -/
def swaHead (i : grid0.Coords) (x0 : Vec F S8 .f32) (x1 : Vec F S512x1024 .bf16) (x2 : Vec F S512x256 .bf16) (x3 : Vec F S128x256 .bf16)
    (x4 : Vec F S512x256 .bf16) (x5 : Vec F S128x256 .bf16) (x13 : Vec F S2x512x256 .f32) (x14 : Vec F S128x256 .f32)
    (h : Fin 2) (g : Fin 4) : FVec F S512x128 .bf16 :=
  stack4 fun j => swaTile (minBand i j) (windowRows x3 x2 h j) (windowRows x5 x4 h j)
    (View.ld x1 (Rect.unit (s := S512x1024) ![j.val * 128, (h.val * 4 + g.val) * 128] S128x128.size (by intro a; have := h.isLt; have := g.isLt; have := j.isLt; match a with | ⟨0, _⟩ => show j.val * 128 + 128 ≤ 512; omega | ⟨1, _⟩ => show (h.val * 4 + g.val) * 128 + 128 ≤ 1024; omega)))
    (View.ld x14 (Rect.unit (s := S128x256) ![0, 0] S128x256.size inb_S128x256_S128x256_0_0))
    (View.ld x13 (Rect.unit (s := S2x512x256) ![h.val, g.val * 128, 0] S1x128x256.size (by intro a; have := h.isLt; have := g.isLt; match a with | ⟨0, _⟩ => show h.val + 1 ≤ 2; omega | ⟨1, _⟩ => show g.val * 128 + 128 ≤ 512; omega | ⟨2, _⟩ => show 0 + 256 ≤ 256; omega)))
    (View.ld x0 (Rect.unit (s := S8) ![h.val * 4 + g.val] S1.size (by intro a; have := h.isLt; have := g.isLt; match a with | ⟨0, _⟩ => show h.val * 4 + g.val + 1 ≤ 8; omega)) (Shape.Idx.first (s := S1) (by decide)))

/-- The memory attention of head `n` over the block's 512 rows. -/
def crossHead (x6 : Vec F S512x512 .bf16) (x7 x8 : Vec F S256x512 .bf16) (n : Fin 4) : FVec F S512x128 .bf16 :=
  stack4 fun j => crossTile
    (View.ld x6 (Rect.unit (s := S512x512) ![j.val * 128, n.val * 128] S128x128.size (by intro a; have := n.isLt; have := j.isLt; match a with | ⟨0, _⟩ => show j.val * 128 + 128 ≤ 512; omega | ⟨1, _⟩ => show n.val * 128 + 128 ≤ 512; omega)))
    (View.ld x7 (Rect.unit (s := S256x512) ![0, n.val * 128] S256x128.size (by intro a; have := n.isLt; match a with | ⟨0, _⟩ => show 0 + 256 ≤ 256; omega | ⟨1, _⟩ => show n.val * 128 + 128 ≤ 512; omega)))
    (View.ld x8 (Rect.unit (s := S256x512) ![0, n.val * 128] S256x128.size (by intro a; have := n.isLt; match a with | ⟨0, _⟩ => show 0 + 256 ≤ 256; omega | ⟨1, _⟩ => show n.val * 128 + 128 ≤ 512; omega)))

/-- The block's mixer columns: the gated short convolution, the eight windowed heads, the four memory heads. -/
def mixCols (c : FVec F S512x512 .bf16) (f : Fin 2 → Fin 4 → FVec F S512x128 .bf16) (e : Fin 4 → FVec F S512x128 .bf16) : FVec F S512x2048 .bf16 :=
  concatenate S512x2048 1 [⟨S512x512, c⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1

/-- The gated short convolution of the block. -/
def convCols (i : grid0.Coords) (x9 x10 : Vec F S512x512 .f32) (x11 : Vec F S8x512 .f32) (x12 : Vec F S3x512 .f32) : FVec F S512x512 .bf16 :=
  k0_pay2 i x10 x11 x12 x9

/-- The first output block: the residual rows plus the mixer columns through the output projection. -/
def residual (y : FVec F S512x2048 .bf16) (x15 : Vec F S512x2048 .f32) (x16 : Vec F S2048x2048 .bf16) : FVec F S512x2048 .f32 :=
  addf x15 (matmul dot_S512x2048_S2048x2048_S512x2048_1_0_0_1_n_n none y x16 (constant S512x2048 .f32 0x00000000#32))

/-- The printed residual sum over any thirteen column groups equal to the mixer's. -/
theorem residual_of {c c' : FVec F S512x512 .bf16} {b0 b1 b2 b3 b4 b5 b6 b7 b8 b9 b10 b11 : FVec F S512x128 .bf16} {f : Fin 2 → Fin 4 → FVec F S512x128 .bf16} {e : Fin 4 → FVec F S512x128 .bf16}
    {r : Vec F S512x2048 .f32} {w : Vec F S2048x2048 .bf16} (hc : c = c') (h0 : b0 = f 0 0) (h1 : b1 = f 0 1) (h2 : b2 = f 0 2) (h3 : b3 = f 0 3) (h4 : b4 = f 1 0) (h5 : b5 = f 1 1) (h6 : b6 = f 1 2) (h7 : b7 = f 1 3) (h8 : b8 = e 0) (h9 : b9 = e 1) (h10 : b10 = e 2) (h11 : b11 = e 3) :
    k0_pay162 c b0 b1 b2 b3 b4 b5 b6 b7 b8 b9 b10 b11 r w = residual (mixCols c' f e) r w := by
  subst hc h0 h1 h2 h3 h4 h5 h6 h7 h8 h9 h10 h11
  rfl

set_option maxHeartbeats 2000000 in
/-- The first output block of a grid point is the residual sum over the mixer columns of its input blocks. -/
theorem out18_eq (c : Dev nD) (i : grid0.Coords) (arg2 : Memref sig .tc .smem S8 .f32) (harg2 : arg2.IsWhole) (arg3 : Memref sig .tc .vmem S512x1024 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S512x256 .bf16) (harg6 : arg6.IsWhole) (arg7 : Memref sig .tc .vmem S128x256 .bf16) (harg7 : arg7.IsWhole) (arg8 : Memref sig .tc .vmem S512x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S8x512 .f32) (harg13 : arg13.IsWhole) (arg14 : Memref sig .tc .vmem S3x512 .f32) (harg14 : arg14.IsWhole) (arg15 : Memref sig .tc .vmem S2x512x256 .f32) (harg15 : arg15.IsWhole) (arg16 : Memref sig .tc .vmem S128x256 .f32) (harg16 : arg16.IsWhole) (arg17 : Memref sig .tc .vmem S512x2048 .f32) (harg17 : arg17.IsWhole) (arg18 : Memref sig .tc .vmem S2048x2048 .bf16) (harg18 : arg18.IsWhole) (arg19 : Memref sig .tc .vmem S1x2048 .f32) (harg19 : arg19.IsWhole) (arg20 : Memref sig .tc .vmem S512x2048 .f32) (harg20 : arg20.IsWhole) (arg21 : Memref sig .tc .vmem S512x2048 .bf16) (harg21 : arg21.IsWhole)
    (x0 : Vec F S8 .f32) (x1 : Vec F S512x1024 .bf16) (x2 : Vec F S512x256 .bf16) (x3 : Vec F S128x256 .bf16) (x4 : Vec F S512x256 .bf16) (x5 : Vec F S128x256 .bf16) (x6 : Vec F S512x512 .bf16) (x7 : Vec F S256x512 .bf16) (x8 : Vec F S256x512 .bf16) (x9 : Vec F S512x512 .f32) (x10 : Vec F S512x512 .f32) (x11 : Vec F S8x512 .f32) (x12 : Vec F S3x512 .f32) (x13 : Vec F S2x512x256 .f32) (x14 : Vec F S128x256 .f32) (x15 : Vec F S512x2048 .f32) (x16 : Vec F S2048x2048 .bf16) (x17 : Vec F S1x2048 .f32)  : out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 = residual (mixCols (convCols i (View.ld x9 (Rect.unit (s := S512x512) ![0, 0] S512x512.size inb_S512x512_S512x512_0_0)) (View.ld x10 (Rect.unit (s := S512x512) ![0, 0] S512x512.size inb_S512x512_S512x512_0_0)) (View.ld x11 (Rect.unit (s := S8x512) ![0, 0] S8x512.size inb_S8x512_S8x512_0_0)) (View.ld x12 (Rect.unit (s := S3x512) ![0, 0] S3x512.size inb_S3x512_S3x512_0_0))) (swaHead i x0 x1 x2 x3 x4 x5 x13 x14) (crossHead x6 x7 x8)) (View.ld x15 (Rect.unit (s := S512x2048) ![0, 0] S512x2048.size inb_S512x2048_S512x2048_0_0)) (View.ld x16 (Rect.unit (s := S2048x2048) ![0, 0] S2048x2048.size inb_S2048x2048_S2048x2048_0_0)) := by
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17)]
  unfold kernelRun0_A
  dsimp only
  sl_unfold_words
  simp only [View.readAt_eq_ld]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [harg15.read_unread]
  try rw [harg16.read_unread]
  try rw [harg17.read_unread]
  try rw [harg18.read_unread]
  try rw [harg19.read_unread]
  refine (View.canon_unit_zero (by funext a; match a with | ⟨0, _⟩ => rfl | ⟨1, _⟩ => rfl) _ _).trans ?_
  refine residual_of ?c ?h0 ?h1 ?h2 ?h3 ?h4 ?h5 ?h6 ?h7 ?h8 ?h9 ?h10 ?h11
  case c => rfl
  case h0 => rfl
  case h1 => rfl
  case h2 => rfl
  case h3 => rfl
  case h4 => rfl
  case h5 => rfl
  case h6 => rfl
  case h7 => rfl
  case h8 => rfl
  case h9 => rfl
  case h10 => rfl
  case h11 => rfl

set_option maxHeartbeats 2000000 in
/-- The second output block is the normalised, rounded first. -/
theorem out19_eq (c : Dev nD) (i : grid0.Coords) (arg2 : Memref sig .tc .smem S8 .f32) (harg2 : arg2.IsWhole) (arg3 : Memref sig .tc .vmem S512x1024 .bf16) (harg3 : arg3.IsWhole) (arg4 : Memref sig .tc .vmem S512x256 .bf16) (harg4 : arg4.IsWhole) (arg5 : Memref sig .tc .vmem S128x256 .bf16) (harg5 : arg5.IsWhole) (arg6 : Memref sig .tc .vmem S512x256 .bf16) (harg6 : arg6.IsWhole) (arg7 : Memref sig .tc .vmem S128x256 .bf16) (harg7 : arg7.IsWhole) (arg8 : Memref sig .tc .vmem S512x512 .bf16) (harg8 : arg8.IsWhole) (arg9 : Memref sig .tc .vmem S256x512 .bf16) (harg9 : arg9.IsWhole) (arg10 : Memref sig .tc .vmem S256x512 .bf16) (harg10 : arg10.IsWhole) (arg11 : Memref sig .tc .vmem S512x512 .f32) (harg11 : arg11.IsWhole) (arg12 : Memref sig .tc .vmem S512x512 .f32) (harg12 : arg12.IsWhole) (arg13 : Memref sig .tc .vmem S8x512 .f32) (harg13 : arg13.IsWhole) (arg14 : Memref sig .tc .vmem S3x512 .f32) (harg14 : arg14.IsWhole) (arg15 : Memref sig .tc .vmem S2x512x256 .f32) (harg15 : arg15.IsWhole) (arg16 : Memref sig .tc .vmem S128x256 .f32) (harg16 : arg16.IsWhole) (arg17 : Memref sig .tc .vmem S512x2048 .f32) (harg17 : arg17.IsWhole) (arg18 : Memref sig .tc .vmem S2048x2048 .bf16) (harg18 : arg18.IsWhole) (arg19 : Memref sig .tc .vmem S1x2048 .f32) (harg19 : arg19.IsWhole) (arg20 : Memref sig .tc .vmem S512x2048 .f32) (harg20 : arg20.IsWhole) (arg21 : Memref sig .tc .vmem S512x2048 .bf16) (harg21 : arg21.IsWhole)
    (x0 : Vec F S8 .f32) (x1 : Vec F S512x1024 .bf16) (x2 : Vec F S512x256 .bf16) (x3 : Vec F S128x256 .bf16) (x4 : Vec F S512x256 .bf16) (x5 : Vec F S128x256 .bf16) (x6 : Vec F S512x512 .bf16) (x7 : Vec F S256x512 .bf16) (x8 : Vec F S256x512 .bf16) (x9 : Vec F S512x512 .f32) (x10 : Vec F S512x512 .f32) (x11 : Vec F S8x512 .f32) (x12 : Vec F S3x512 .f32) (x13 : Vec F S2x512x256 .f32) (x14 : Vec F S128x256 .f32) (x15 : Vec F S512x2048 .f32) (x16 : Vec F S2048x2048 .bf16) (x17 : Vec F S1x2048 .f32)  : out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 = k0_pay1 (residual (mixCols (convCols i (View.ld x9 (Rect.unit (s := S512x512) ![0, 0] S512x512.size inb_S512x512_S512x512_0_0)) (View.ld x10 (Rect.unit (s := S512x512) ![0, 0] S512x512.size inb_S512x512_S512x512_0_0)) (View.ld x11 (Rect.unit (s := S8x512) ![0, 0] S8x512.size inb_S8x512_S8x512_0_0)) (View.ld x12 (Rect.unit (s := S3x512) ![0, 0] S3x512.size inb_S3x512_S3x512_0_0))) (swaHead i x0 x1 x2 x3 x4 x5 x13 x14) (crossHead x6 x7 x8)) (View.ld x15 (Rect.unit (s := S512x2048) ![0, 0] S512x2048.size inb_S512x2048_S512x2048_0_0)) (View.ld x16 (Rect.unit (s := S2048x2048) ![0, 0] S2048x2048.size inb_S2048x2048_S2048x2048_0_0))) (View.ld x17 (Rect.unit (s := S1x2048) ![0, 0] S1x2048.size inb_S1x2048_S1x2048_0_0)) := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17)]
  unfold kernelRun0_A
  dsimp only
  sl_unfold_words
  simp only [View.readAt_eq_ld]
  try rw [harg2.read_unread]
  try rw [harg3.read_unread]
  try rw [harg4.read_unread]
  try rw [harg5.read_unread]
  try rw [harg6.read_unread]
  try rw [harg7.read_unread]
  try rw [harg8.read_unread]
  try rw [harg9.read_unread]
  try rw [harg10.read_unread]
  try rw [harg11.read_unread]
  try rw [harg12.read_unread]
  try rw [harg13.read_unread]
  try rw [harg14.read_unread]
  try rw [harg15.read_unread]
  try rw [harg16.read_unread]
  try rw [harg17.read_unread]
  try rw [harg18.read_unread]
  try rw [harg19.read_unread]
  refine (View.canon_unit_zero (by funext a; match a with | ⟨0, _⟩ => rfl | ⟨1, _⟩ => rfl) _ _).trans ?_
  refine congrArg (fun z => k0_pay1 z _) (residual_of ?c ?h0 ?h1 ?h2 ?h3 ?h4 ?h5 ?h6 ?h7 ?h8 ?h9 ?h10 ?h11)
  case c => rfl
  case h0 => rfl
  case h1 => rfl
  case h2 => rfl
  case h3 => rfl
  case h4 => rfl
  case h5 => rfl
  case h6 => rfl
  case h7 => rfl
  case h8 => rfl
  case h9 => rfl
  case h10 => rfl
  case h11 => rfl

end Cert.MixIdeal.Tile
-- ==== Proof.Softmax.lean ====
module

public import proofs.«01_k».proof.Proof.Gen.MixIdeal
public import proofs.«01_k».proof.Proof.Gen.MixRefIdeal

@[expose] public section

noncomputable section

namespace Cert.Softmax

open Idealize.ShloMosaic

/-! # Softmax rows in base two and in base e

  A row of scores `S` in natural units and the same row `K` in base-two units (`K = S / log 2`, masked entries `⊥` in
  both), with a further logit `σ` that takes part in the normaliser only. -/

/-- `1 / log 2`, the ratio of the two units. -/
abbrev ratio : ℝ := (Real.log 2)⁻¹

theorem ratio_pos : 0 < ratio := inv_pos.mpr (Real.log_pos one_lt_two)

/-- The rows hold the same scores, each masked in both or real in both. -/
def SameRow {ι : Type} (S K : ι → EReal) : Prop :=
  ∀ k, (S k = ⊥ ∧ K k = ⊥) ∨ ∃ r : ℝ, S k = (r : EReal) ∧ K k = ((ratio * r : ℝ) : EReal)

/-- A power of two of a scaled real is the exponential. -/
theorem exp2_ratio (x y : ℝ) : Ideal.exp2 (((ratio * x : ℝ) : EReal) - ((ratio * y : ℝ) : EReal)) = ((Real.exp (x - y) : ℝ) : EReal) := by
  rw [← EReal.coe_sub, Ideal.exp2_coe]
  congr 1
  show (2 : ℝ) ^ (ratio * x - ratio * y) = _
  rw [Real.rpow_def_of_pos two_pos, ← mul_sub, ← mul_assoc]
  rw [mul_inv_cancel₀ (Real.log_pos one_lt_two).ne', one_mul]

/-- The row maxima, the further logit included, correspond: both are real, in the ratio of the units. -/
theorem max_same {ι : Type} {S K : ι → EReal} (h : SameRow S K) (s : ℝ) (t : Finset ι) :
    ∃ m : ℝ, max (t.fold max ⊥ S) (s : EReal) = (m : EReal) ∧ max (t.fold max ⊥ K) ((ratio * s : ℝ) : EReal) = ((ratio * m : ℝ) : EReal) := by
  classical
  induction t using Finset.induction_on with
  | empty => exact ⟨s, by simp, by simp⟩
  | insert a t ha ih =>
    obtain ⟨m, h1, h2⟩ := ih
    rw [Finset.fold_insert ha, Finset.fold_insert ha, max_assoc, max_assoc, h1, h2]
    rcases h a with ⟨e1, e2⟩ | ⟨r, e1, e2⟩
    · exact ⟨m, by rw [e1]; simp, by rw [e2]; simp⟩
    · refine ⟨max r m, ?_, ?_⟩
      · rw [e1]; exact (EReal.coe_strictMono.monotone.map_max).symm
      · rw [e2, mul_max_of_nonneg _ _ ratio_pos.le]; exact (EReal.coe_strictMono.monotone.map_max).symm

/-- So the exponentials agree, are real and not negative, vanish where masked and are positive elsewhere. -/
theorem weights_same {ι : Type} {S K : ι → EReal} (h : SameRow S K) (m : ℝ) (k : ι) :
    ∃ w : ℝ, 0 ≤ w ∧ Ideal.exp (S k - (m : EReal)) = (w : EReal) ∧ Ideal.exp2 (K k - ((ratio * m : ℝ) : EReal)) = (w : EReal)
      ∧ (S k = ⊥ → w = 0) ∧ (S k ≠ ⊥ → 0 < w) := by
  rcases h k with ⟨e1, e2⟩ | ⟨r, e1, e2⟩
  · refine ⟨0, le_rfl, ?_, ?_, fun _ => rfl, fun hn => absurd e1 hn⟩
    · rw [e1, EReal.bot_sub]; rfl
    · rw [e2, EReal.bot_sub]; rfl
  · refine ⟨Real.exp (r - m), (Real.exp_pos _).le, ?_, ?_, fun hb => ?_, fun _ => Real.exp_pos _⟩
    · rw [e1, ← EReal.coe_sub]; rfl
    · rw [e2]; exact exp2_ratio r m
    · rw [e1] at hb; exact absurd hb (EReal.coe_ne_bot r)

/-- A sum times a real that is not negative is the sum of the products. -/
theorem sum_mul_coe {ι : Type} (t : Finset ι) (f : ι → EReal) (c : ℝ) (hc : 0 ≤ c) :
    (∑ k ∈ t, f k) * (c : EReal) = ∑ k ∈ t, f k * (c : EReal) := by
  classical
  induction t using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- Values weighted by `w` and divided by the weight total `d` afterwards, or weighted by the quotients `w / d`. -/
theorem quotient_inside {ι : Type} [Fintype ι] (w : ι → ℝ) (d : ℝ) (hd : 0 < d) (v v' : ι → EReal) (hv : ∀ k, w k ≠ 0 → v k = v' k) :
    (∑ k, (w k : EReal) * v k) * Ideal.div 1 (d : EReal) = ∑ k, v' k * Ideal.div (w k : EReal) (d : EReal) := by
  rw [Ideal.div_coe hd.ne', one_mul, sum_mul_coe _ _ _ (by positivity)]
  refine Finset.sum_congr rfl fun k _ => ?_
  rw [Ideal.div_coe hd.ne']
  by_cases hk : w k = 0
  · rw [hk]; simp
  · rw [hv k hk, mul_comm (w k : EReal), mul_assoc]

theorem coe_sum {ι : Type} (t : Finset ι) (w : ι → ℝ) : ∑ k ∈ t, (w k : EReal) = ((∑ k ∈ t, w k : ℝ) : EReal) := by
  classical
  induction t using Finset.induction_on with
  | empty => simp
  | insert a t ha ih => rw [Finset.sum_insert ha, Finset.sum_insert ha, ih, EReal.coe_add]

/-- The row of the base-two computation. -/
def rowTwo {ι : Type} [Fintype ι] (K : ι → EReal) (τ : EReal) (v : ι → EReal) : EReal :=
  (∑ k, Ideal.exp2 (K k - max (Finset.univ.fold max ⊥ K) τ) * v k)
    * Ideal.div 1 ((∑ k, Ideal.exp2 (K k - max (Finset.univ.fold max ⊥ K) τ) * 1) + Ideal.exp2 (τ - max (Finset.univ.fold max ⊥ K) τ))

/-- The row of the textbook computation. -/
def rowNat {ι : Type} [Fintype ι] (S : ι → EReal) (σ : EReal) (v : ι → EReal) : EReal :=
  ∑ k, v k * Ideal.div (Ideal.exp (S k - max (Finset.univ.fold max ⊥ S) σ))
    ((∑ k, Ideal.exp (S k - max (Finset.univ.fold max ⊥ S) σ)) + Ideal.exp (σ - max (Finset.univ.fold max ⊥ S) σ))

/-- A sink row in base two is the textbook row, whatever the values at masked keys. -/
theorem sink_row {ι : Type} [Fintype ι] {S K : ι → EReal} (h : SameRow S K) (s : ℝ) (v v' : ι → EReal)
    (hv : ∀ k, S k ≠ ⊥ → v k = v' k) : rowTwo K ((ratio * s : ℝ) : EReal) v = rowNat S (s : EReal) v' := by
  obtain ⟨m, h1, h2⟩ := max_same h s Finset.univ
  choose w hw e1 e2 hz hp using weights_same h m
  unfold rowTwo rowNat
  rw [h1, h2]
  simp only [e1, e2, mul_one]
  rw [exp2_ratio, ← EReal.coe_sub, Ideal.exp_coe, coe_sum, ← EReal.coe_add]
  exact quotient_inside w _ (by have := Finset.sum_nonneg (s := Finset.univ) fun k _ => hw k; have := Real.exp_pos (s - m); linarith) v v'
    fun k hk => hv k fun hb => hk (hz k hb)

/-- The row of the base-two computation without a sink. -/
def rowTwo' {ι : Type} [Fintype ι] (K : ι → EReal) (v : ι → EReal) : EReal :=
  (∑ k, Ideal.exp2 (K k - Finset.univ.fold max ⊥ K) * v k) * Ideal.div 1 (∑ k, Ideal.exp2 (K k - Finset.univ.fold max ⊥ K) * 1)

/-- The row of the textbook computation without a sink. -/
def rowNat' {ι : Type} [Fintype ι] (S : ι → EReal) (v : ι → EReal) : EReal :=
  ∑ k, v k * Ideal.div (Ideal.exp (S k - Finset.univ.fold max ⊥ S)) (∑ k, Ideal.exp (S k - Finset.univ.fold max ⊥ S))

theorem fold_max_absorb {ι : Type} [Fintype ι] (S : ι → EReal) (k : ι) : max (Finset.univ.fold max ⊥ S) (S k) = Finset.univ.fold max ⊥ S :=
  max_eq_left ((Finset.le_fold_max _).mpr (Or.inr ⟨k, Finset.mem_univ k, le_rfl⟩))

/-- A row of real scores in base two is the textbook row. -/
theorem plain_row {ι : Type} [Fintype ι] {S K : ι → EReal} (r : ι → ℝ) (hS : ∀ k, S k = (r k : EReal)) (hK : ∀ k, K k = ((ratio * r k : ℝ) : EReal))
    (k₀ : ι) (v : ι → EReal) : rowTwo' K v = rowNat' S v := by
  have h : SameRow S K := fun k => Or.inr ⟨r k, hS k, hK k⟩
  obtain ⟨m, h1, h2⟩ := max_same h (r k₀) Finset.univ
  rw [← hS, fold_max_absorb] at h1
  rw [← hK, fold_max_absorb] at h2
  choose w hw e1 e2 hz hp using weights_same h m
  unfold rowTwo' rowNat'
  rw [h1, h2]
  simp only [e1, e2, mul_one]
  rw [coe_sum]
  refine quotient_inside w _ ?_ v v fun _ _ => rfl
  exact Finset.sum_pos' (fun k _ => hw k) ⟨k₀, Finset.mem_univ _, hp k₀ (by rw [hS]; exact EReal.coe_ne_bot _)⟩

/-- An extended real that is neither infinity is a real. -/
theorem exists_coe {x : EReal} (h : x ≠ ⊤ ∧ x ≠ ⊥) : ∃ r : ℝ, x = (r : EReal) := ⟨x.toReal, (EReal.coe_toReal h.1 h.2).symm⟩

/-- A product of finite rows summed is real. -/
theorem dot_finite {ι : Type} [Fintype ι] {x y : ι → EReal} (hx : ∀ k, ∃ r : ℝ, x k = (r : EReal)) (hy : ∀ k, ∃ r : ℝ, y k = (r : EReal)) :
    ∃ r : ℝ, ∑ k, x k * y k = (r : EReal) := by
  choose a ha using hx
  choose b hb using hy
  exact ⟨∑ k, a k * b k, by simp only [ha, hb, ← EReal.coe_mul, coe_sum]⟩

end Cert.Softmax

end
-- ==== Proof.TileRead.lean ====
module

public import proofs.«01_k».proof.Proof.Tile
public import proofs.«01_k».proof.Proof.Softmax
public import Idealize.ShloMosaic.Lib.MatmulPlain
public import Idealize.ShloMosaic.Lib.IdealHost

@[expose] public section

set_option maxRecDepth 16384

noncomputable section

namespace Cert.MixIdeal.Tile

open Cert.MixIdeal Cert.MixIdeal.Gen Idealize.ShloMosaic Idealize.ShloMosaic.TcCoe Idealize.SL.Sem
open Idealize.ShloMosaic.ValueIdx

/-! # The tiles of the mixer read at an index, over the extended reals -/

/-- The value columns of the weighted product: the weighted sum of the values. -/
theorem numer_weighted_apply (p : FVec Ideal S128x256 .f32) (v : FVec Ideal S256x128 .bf16) (r d : Fin 128) :
    numer (weighted p v) (ix2 r d) = ∑ k : Fin 256, p (ix2 r k) * v (ix2 k d) := by
  unfold numer
  rw [extractStridedSlice_apply ![0, 0] _ slices_S128x256_o0_0_S128x128 (ix2 r d) (ix2 r ⟨d.val, by omega⟩)
    (by intro a; match a with | ⟨0, _⟩ => exact (Nat.zero_add _).symm | ⟨1, _⟩ => exact (Nat.zero_add _).symm)]
  unfold weighted
  refine (Ideal.matmul_plain_apply (M := 128) (K := 256) (N := 256) none _ _ _ r ⟨d.val, by omega⟩).trans ?_
  rw [constant_apply, Ideal.ofBits_zero_f32, zero_add]
  refine Finset.sum_congr rfl fun k _ => ?_
  rw [truncf_apply]
  congr 1
  exact concatenate_pair_apply_left (t := S256x256) (s₁ := S256x128) (s₂ := S256x128) 1 v _ concatenates_S256x128_S256x128_S256x256_d1 (ix2 k ⟨d.val, by omega⟩) rfl (ix2 k d) (by intro b; match b with | ⟨0, _⟩ => rfl | ⟨1, _⟩ => rfl)

/-- The remaining columns of the weighted product: the sum of the weights. -/
theorem denom_weighted_apply (p : FVec Ideal S128x256 .f32) (v : FVec Ideal S256x128 .bf16) (r d : Fin 128) :
    denom (weighted p v) (ix2 r d) = ∑ k : Fin 256, p (ix2 r k) * 1 := by
  unfold denom
  rw [extractStridedSlice_apply ![0, 128] _ slices_S128x256_o0_128_S128x128 (ix2 r d) (ix2 r ⟨128 + d.val, by omega⟩)
    (by intro a; match a with | ⟨0, _⟩ => exact (Nat.zero_add _).symm | ⟨1, _⟩ => rfl)]
  unfold weighted
  refine (Ideal.matmul_plain_apply (M := 128) (K := 256) (N := 256) none _ _ _ r ⟨128 + d.val, by omega⟩).trans ?_
  rw [constant_apply, Ideal.ofBits_zero_f32, zero_add]
  refine Finset.sum_congr rfl fun k _ => ?_
  rw [truncf_apply]
  congr 1
  refine (concatenate_pair_apply_right (t := S256x256) (s₁ := S256x128) (s₂ := S256x128) 1 v (broadcast S256x128 (Scalar.ofBits (F := Ideal) .bf16 0x3F80#16)) concatenates_S256x128_S256x128_S256x256_d1 (ix2 k ⟨128 + d.val, by omega⟩) rfl rfl (ix2 k d) ?_ ?_).trans Ideal.ofBits_one_bf16
  · intro b hb; match b with | ⟨0, _⟩ => rfl | ⟨1, _⟩ => exact absurd rfl hb
  · exact Nat.add_comm _ _

/-- The scale of the scores: the reciprocal root of the head width, in base-two units. -/
abbrev scaleTwo : EReal := (((Real.sqrt 128)⁻¹ * (Real.log 2)⁻¹ : ℝ) : EReal)

theorem scores_apply (q : FVec Ideal S128x128 .bf16) (k : FVec Ideal S256x128 .bf16) (r : Fin 128) (c : Fin 256) :
    scores q k (ix2 r c) = (∑ t : Fin 128, q (ix2 r t) * k (ix2 c t)) * scaleTwo := by
  unfold scores
  rw [mulf_apply, broadcast_apply, IdealRules.named_const.ideal_named_scalar (κ := κ) (name := "scale_log2e") _ scaleTwo rfl]
  congr 1
  refine (Ideal.matmul_transposedRhs_apply (M := 128) (K := 128) (N := 256) none _ _ _ r c).trans ?_
  rw [constant_apply, Ideal.ofBits_zero_f32, zero_add]

theorem masked_apply (mb : Ideal .f32) (s : FVec Ideal S128x256 .f32) (band : FVec Ideal S128x256 .f32) (bias : FVec Ideal S1x128x256 .f32)
    (r : Fin 128) (c : Fin 256) :
    masked mb s band bias (ix2 r c) = Scalar.select (FloatOps.cmpf .ogt (band (ix2 r c)) mb) (s (ix2 r c) + bias (ix3 0 r c)) ⊥ := by
  unfold masked
  rw [select_apply, broadcast_apply, IdealRules.named_const.ideal_named_scalar (κ := κ) (name := "mask") _ ⊥ rfl, addf_apply,
    shapeCast_apply bias shapeCasts_S1x128x256_S128x256 (ix2 r c) (ix3 0 r c)
      (by rw [Shape.rowMajor_val_two, Shape.rowMajor_val_three]; show (0 * 128 + r.val) * 256 + c.val = r.val * 256 + c.val; omega)]
  rfl

theorem rowMax_apply (s : FVec Ideal S128x256 .f32) (r : Fin 128) :
    rowMax s (ix2 r 0) = (Finset.univ : Finset (Fin 256)).fold max ⊥ fun c => s (ix2 r c) := by
  unfold rowMax
  rw [shapeCast_apply _ shapeCasts_S128_S128x1 (ix2 r 0) (ix1 r)
    (by rw [Shape.rowMajor_val_two, Shape.rowMajor_val_one]; show r.val = r.val * 1 + 0; omega)]
  refine (Ideal.multiReduction_maximumf_single s _ reduces_S128x256_S128 _ _ (ix1 r)).trans ?_
  have hbot : (FloatOps.ofBits .f32 0xFF800000#32 : Ideal .f32) = ⊥ := by simp [Ideal.ofBits, Ideal.ieee]
  rw [hbot]
  have he : s ∘ reduces_S128x256_S128.lift (ix1 r) = fun c => s (ix2 r c) := by
    funext c
    refine congrArg s (funext fun a => ?_)
    match a with
    | ⟨0, _⟩ => rfl
    | ⟨1, _⟩ => rfl
  rw [he]
  rfl

theorem weights_apply (s : FVec Ideal S128x256 .f32) (m : FVec Ideal S128x1 .f32) (r : Fin 128) (c : Fin 256) :
    weights s m (ix2 r c) = Ideal.exp2 (s (ix2 r c) - m (ix2 r 0)) := by
  unfold weights
  show Ideal.exp2 (subf s (broadcastTo S128x256 m broadcasts_S128x1_S128x256) (ix2 r c)) = _
  rw [subf_apply, broadcastTo_apply m broadcasts_S128x1_S128x256 (ix2 r c) (ix2 r 0)
    (by intro a; match a with | ⟨0, _⟩ => rfl | ⟨1, _⟩ => rfl)]

theorem quotient_apply (n d : FVec Ideal S128x128 .f32) (i : S128x128.Idx) :
    quotient n d i = n i * Ideal.div 1 (d i) := by
  unfold quotient
  rw [truncf_apply, mulf_apply, divf_apply, broadcast_apply]
  congr 2
  exact Ideal.ofBits_one_f32

/-- The sink's logit in base-two units. -/
theorem sinkOf_apply (x : Ideal .f32) : sinkOf x = x * ((Softmax.ratio : ℝ) : EReal) := by
  unfold sinkOf
  rw [IdealRules.named_const.ideal_named_scalar (κ := κ) (name := "log2e") _ ((Softmax.ratio : ℝ) : EReal) rfl]
  rfl

/-- A windowed tile at (r, d): the base-two softmax row of query `r` with the sink, against value column `d`. -/
theorem swaTile_apply (mb : Ideal .f32) (k v : FVec Ideal S256x128 .bf16) (q : FVec Ideal S128x128 .bf16) (band : FVec Ideal S128x256 .f32)
    (bias : FVec Ideal S1x128x256 .f32) (sink : Ideal .f32) (r d : Fin 128) :
    swaTile mb k v q band bias sink (ix2 r d) = Softmax.rowTwo
      (fun c : Fin 256 => Scalar.select (FloatOps.cmpf .ogt (band (ix2 r c)) mb)
        ((∑ t : Fin 128, q (ix2 r t) * k (ix2 c t)) * scaleTwo + bias (ix3 0 r c)) ⊥)
      (sink * ((Softmax.ratio : ℝ) : EReal)) (fun c => v (ix2 c d)) := by
  have hm : ∀ c, masked mb (scores q k) band bias (ix2 r c) = Scalar.select (FloatOps.cmpf .ogt (band (ix2 r c)) mb)
        ((∑ t : Fin 128, q (ix2 r t) * k (ix2 c t)) * scaleTwo + bias (ix3 0 r c)) ⊥ := fun c => by rw [masked_apply, scores_apply]
  unfold swaTile
  rw [quotient_apply, numer_weighted_apply, addf_apply, denom_weighted_apply,
    broadcastTo_apply _ broadcasts_S128x1_S128x128 (ix2 r d) (ix2 r 0) (by intro a; match a with | ⟨0, _⟩ => rfl | ⟨1, _⟩ => rfl)]
  simp only [weights_apply]
  have hmax : maximumf (rowMax (masked mb (scores q k) band bias)) (broadcast S128x1 (sinkOf sink)) (ix2 r 0)
      = max ((Finset.univ : Finset (Fin 256)).fold max ⊥ fun c => masked mb (scores q k) band bias (ix2 r c)) (sink * ((Softmax.ratio : ℝ) : EReal)) := by
    rw [maximumf_apply, rowMax_apply, broadcast_apply, sinkOf_apply]
  have hx : exp2 (subf (broadcast S128x1 (sinkOf sink)) (maximumf (rowMax (masked mb (scores q k) band bias)) (broadcast S128x1 (sinkOf sink)))) (ix2 r 0)
      = Ideal.exp2 (sink * ((Softmax.ratio : ℝ) : EReal) - maximumf (rowMax (masked mb (scores q k) band bias)) (broadcast S128x1 (sinkOf sink)) (ix2 r 0)) := by
    show Ideal.exp2 ((subf (broadcast S128x1 (sinkOf sink)) (maximumf (rowMax (masked mb (scores q k) band bias)) (broadcast S128x1 (sinkOf sink))) : FVec Ideal S128x1 .f32) (ix2 r 0)) = _
    rw [subf_apply, broadcast_apply, sinkOf_apply]
  rw [hx, hmax]
  simp only [hm]
  rfl

/-- A memory tile at (r, d): the base-two softmax row of query `r`, against value column `d`. -/
theorem crossTile_apply (q : FVec Ideal S128x128 .bf16) (k v : FVec Ideal S256x128 .bf16) (r d : Fin 128) :
    crossTile q k v (ix2 r d) = Softmax.rowTwo'
      (fun c : Fin 256 => (∑ t : Fin 128, q (ix2 r t) * k (ix2 c t)) * scaleTwo) (fun c => v (ix2 c d)) := by
  unfold crossTile
  rw [quotient_apply, numer_weighted_apply, denom_weighted_apply]
  simp only [weights_apply, rowMax_apply, scores_apply]
  rfl

/-- Tile `j` of a stack at its row `r`. -/
theorem stack4_apply (f : Fin 4 → FVec Ideal S128x128 .bf16) (j : Fin 4) (r d : Fin 128) :
    stack4 f (ix2 ⟨j.val * 128 + r.val, by omega⟩ d) = f j (ix2 r d) := by
  unfold stack4
  match j with
  | ⟨0, _⟩ => exact concatenate_apply_piece (t := S512x128) 0 [⟨S128x128, f 0⟩, ⟨S128x128, f 1⟩, ⟨S128x128, f 2⟩, ⟨S128x128, f 3⟩] concatenates_S128x128_S128x128_S128x128_S128x128_S512x128_d0 _ 0 (by show 0 < 4; decide) S128x128 (f 0) rfl rfl 0 rfl (ix2 r d) (by intro b hb; match b with | ⟨0, _⟩ => exact absurd rfl hb | ⟨1, _⟩ => rfl) rfl
  | ⟨1, _⟩ => exact concatenate_apply_piece (t := S512x128) 0 [⟨S128x128, f 0⟩, ⟨S128x128, f 1⟩, ⟨S128x128, f 2⟩, ⟨S128x128, f 3⟩] concatenates_S128x128_S128x128_S128x128_S128x128_S512x128_d0 _ 1 (by show 1 < 4; decide) S128x128 (f 1) rfl rfl 128 rfl (ix2 r d) (by intro b hb; match b with | ⟨0, _⟩ => exact absurd rfl hb | ⟨1, _⟩ => rfl) rfl
  | ⟨2, _⟩ => exact concatenate_apply_piece (t := S512x128) 0 [⟨S128x128, f 0⟩, ⟨S128x128, f 1⟩, ⟨S128x128, f 2⟩, ⟨S128x128, f 3⟩] concatenates_S128x128_S128x128_S128x128_S128x128_S512x128_d0 _ 2 (by show 2 < 4; decide) S128x128 (f 2) rfl rfl 256 rfl (ix2 r d) (by intro b hb; match b with | ⟨0, _⟩ => exact absurd rfl hb | ⟨1, _⟩ => rfl) rfl
  | ⟨3, _⟩ => exact concatenate_apply_piece (t := S512x128) 0 [⟨S128x128, f 0⟩, ⟨S128x128, f 1⟩, ⟨S128x128, f 2⟩, ⟨S128x128, f 3⟩] concatenates_S128x128_S128x128_S128x128_S128x128_S512x128_d0 _ 3 (by show 3 < 4; decide) S128x128 (f 3) rfl rfl 384 rfl (ix2 r d) (by intro b hb; match b with | ⟨0, _⟩ => exact absurd rfl hb | ⟨1, _⟩ => rfl) rfl

end Cert.MixIdeal.Tile

end
-- ==== Proof.Spec.lean ====
module

public import proofs.«01_k».proof.Proof.Softmax
public import Idealize.ShloMosaic.Lib.Pipeline.Value
public import Idealize.ShloMosaic.Lib.MatmulPlain

@[expose] public section

noncomputable section

namespace Cert.Spec

open Idealize.ShloMosaic Idealize.ShloMosaic.ValueIdx

/-! # The mixer call's two results as formulas of the argument arrays, over the extended reals

  Rows are counted over the four sequences of 2048 one after the other: `B` is one of the 64 groups of 128 rows. -/

/-- A two-axis array of extended reals. -/
abbrev Arr (M N : ℕ) := (⟨2, ![M, N]⟩ : Shape).Idx → EReal

/-- Row `r` of row group `B`. -/
abbrev row (B : Fin 64) (r : Fin 128) : Fin 8192 := ⟨B.val * 128 + r.val, by omega⟩

/-- Column `d` of query head `g` of key head `h`. -/
abbrev col (h : Fin 2) (g : Fin 4) (d : Fin 128) : Fin 1024 := ⟨(h.val * 4 + g.val) * 128 + d.val, by omega⟩

/-- Column `d` of key head `h`. -/
abbrev kcol (h : Fin 2) (d : Fin 128) : Fin 256 := ⟨h.val * 128 + d.val, by omega⟩

/-- Column `d` of memory head `n`. -/
abbrev xcol (n : Fin 4) (d : Fin 128) : Fin 512 := ⟨n.val * 128 + d.val, by omega⟩

/-- Row of the `kk`-th of the 256 keys a row group looks at: the 128 rows before the group, then its own. -/
abbrev keyRow (B : Fin 64) (kk : Fin 256) : Fin 8192 := ⟨B.val * 128 + kk.val - 128, by omega⟩

/-- Row of the `kk`-th memory slot of the sequence the row group lies in. -/
abbrev memRow (B : Fin 64) (kk : Fin 256) : Fin 1024 := ⟨B.val / 16 * 256 + kk.val, by omega⟩

/-- The keys before the first group of a sequence do not exist. -/
abbrev Inside (B : Fin 64) (kk : Fin 256) : Prop := B.val % 16 ≠ 0 ∨ 128 ≤ kk.val

/-- A key is seen when it is one of the 128 last ones up to the query's own position and exists. -/
abbrev Seen (B : Fin 64) (r : Fin 128) (kk : Fin 256) : Prop := (r.val < kk.val ∧ kk.val ≤ r.val + 128) ∧ Inside B kk

/-- The scale of the scores, the reciprocal root of the head width. -/
abbrev scale : EReal := (((Real.sqrt 128)⁻¹ : ℝ) : EReal)

/-- The score of a seen key, its bias turned from base two to base e; a key that is not seen has score minus infinity. -/
def score (q : Arr 8192 1024) (k : Arr 8192 256) (bias : (⟨3, ![2, 512, 256]⟩ : Shape).Idx → EReal) (h : Fin 2) (g : Fin 4)
    (B : Fin 64) (r : Fin 128) (kk : Fin 256) : EReal :=
  if Seen B r kk then
    (∑ t : Fin 128, q (ix2 (row B r) (col h g t)) * k (ix2 (keyRow B kk) (kcol h t))) * scale
      + bias (ix3 h ⟨g.val * 128 + r.val, by omega⟩ kk) * ((Real.log 2 : ℝ) : EReal)
  else ⊥

/-- The windowed attention with a sink: one entry. -/
def swa (sinks : (⟨1, ![8]⟩ : Shape).Idx → EReal) (q : Arr 8192 1024) (k v : Arr 8192 256) (bias : (⟨3, ![2, 512, 256]⟩ : Shape).Idx → EReal)
    (h : Fin 2) (g : Fin 4) (B : Fin 64) (r d : Fin 128) : EReal :=
  Softmax.rowNat (score q k bias h g B r) (sinks (ix1 ⟨h.val * 4 + g.val, by omega⟩))
    fun kk => if Inside B kk then v (ix2 (keyRow B kk) (kcol h d)) else 0

/-- The attention over the memory: one entry. -/
def cross (q : Arr 8192 512) (k v : Arr 1024 512) (n : Fin 4) (B : Fin 64) (r d : Fin 128) : EReal :=
  Softmax.rowNat' (fun kk => (∑ t : Fin 128, q (ix2 (row B r) (xcol n t)) * k (ix2 (memRow B kk) (xcol n t))) * scale)
    fun kk => v (ix2 (memRow B kk) (xcol n d))

/-- The entry `s` rows earlier in the same sequence, zero before its start. -/
def earlier (u : Arr 8192 512) (s : ℕ) (ρ : Fin 8192) (c : Fin 512) : EReal :=
  if ρ.val % 2048 < s then 0 else u (ix2 ⟨ρ.val - s, by omega⟩ c)

/-- The gated short convolution: one entry. -/
def conv (b u : Arr 8192 512) (w : Arr 3 512) (ρ : Fin 8192) (c : Fin 512) : EReal :=
  b (ix2 ρ c) * ((w (ix2 0 c) * earlier u 2 ρ c + w (ix2 1 c) * earlier u 1 ρ c) + w (ix2 2 c) * u (ix2 ρ c))

/-- The mixer's columns side by side: convolution, windowed heads, memory heads. -/
def mixed (sinks : (⟨1, ![8]⟩ : Shape).Idx → EReal) (q : Arr 8192 1024) (k v : Arr 8192 256) (qx : Arr 8192 512) (mk mv : Arr 1024 512)
    (b u : Arr 8192 512) (w : Arr 3 512) (bias : (⟨3, ![2, 512, 256]⟩ : Shape).Idx → EReal) (B : Fin 64) (r : Fin 128) (j : Fin 2048) : EReal :=
  if h₁ : j.val < 512 then conv b u w (row B r) ⟨j.val, h₁⟩
  else if h₂ : j.val < 1536 then
    swa sinks q k v bias ⟨(j.val - 512) / 512, by omega⟩ ⟨(j.val - 512) / 128 % 4, by omega⟩ B r ⟨(j.val - 512) % 128, by omega⟩
  else cross qx mk mv ⟨(j.val - 1536) / 128, by omega⟩ B r ⟨(j.val - 1536) % 128, by omega⟩

/-- The first result: the residual rows plus the mixer's columns through the output projection. -/
def x1 (y : Fin 2048 → EReal) (x : Arr 8192 2048) (wo : Arr 2048 2048) (ρ : Fin 8192) (j : Fin 2048) : EReal :=
  x (ix2 ρ j) + ∑ k : Fin 2048, y k * wo (ix2 k j)

/-- A row normalised by its root mean square and scaled by `g`. -/
def norm (y : Fin 2048 → EReal) (g : Arr 1 2048) (j : Fin 2048) : EReal :=
  y j * Ideal.rsqrt (Ideal.div (∑ k : Fin 2048, y k * y k) (Ideal.ofBits .f32 0x45000000#32) + Ideal.ofBits .f32 0x358637BD#32) * g (ix2 0 j)

theorem congr_arg₃' {α β γ δ : Type} (f : α → β → γ → δ) {a a' : α} {b b' : β} {c c' : γ} (ha : a = a') (hb : b = b') (hc : c = c') :
    f a b c = f a' b' c' := by subst ha hb hc; rfl

section Columns
variable {sinks : (⟨1, ![8]⟩ : Shape).Idx → EReal} {q : Arr 8192 1024} {k v : Arr 8192 256} {qx : Arr 8192 512} {mk mv : Arr 1024 512}
    {b u : Arr 8192 512} {w : Arr 3 512} {bias : (⟨3, ![2, 512, 256]⟩ : Shape).Idx → EReal} {B : Fin 64} {r : Fin 128}

theorem mixed_conv (c : Fin 512) : mixed sinks q k v qx mk mv b u w bias B r ⟨c.val, by omega⟩ = conv b u w (row B r) c := by
  unfold mixed
  rw [dif_pos c.isLt]

theorem mixed_swa (h : Fin 2) (g : Fin 4) (d : Fin 128) :
    mixed sinks q k v qx mk mv b u w bias B r ⟨512 + ((h.val * 4 + g.val) * 128 + d.val), by omega⟩ = swa sinks q k v bias h g B r d := by
  have e₁ : (512 + ((h.val * 4 + g.val) * 128 + d.val) - 512) / 512 = h.val := by omega
  have e₂ : (512 + ((h.val * 4 + g.val) * 128 + d.val) - 512) / 128 % 4 = g.val := by omega
  have e₃ : (512 + ((h.val * 4 + g.val) * 128 + d.val) - 512) % 128 = d.val := by omega
  unfold mixed
  rw [dif_neg (by show ¬ (512 + ((h.val * 4 + g.val) * 128 + d.val) < 512); omega), dif_pos (by show 512 + ((h.val * 4 + g.val) * 128 + d.val) < 1536; omega)]
  exact congr_arg₃' (fun h g d => swa sinks q k v bias h g B r d) (Fin.ext e₁) (Fin.ext e₂) (Fin.ext e₃)

theorem mixed_cross (n : Fin 4) (d : Fin 128) :
    mixed sinks q k v qx mk mv b u w bias B r ⟨1536 + (n.val * 128 + d.val), by omega⟩ = cross qx mk mv n B r d := by
  have e₂ : (1536 + (n.val * 128 + d.val) - 1536) / 128 = n.val := by omega
  have e₃ : (1536 + (n.val * 128 + d.val) - 1536) % 128 = d.val := by omega
  unfold mixed
  rw [dif_neg (by show ¬ (1536 + (n.val * 128 + d.val) < 512); omega), dif_neg (by show ¬ (1536 + (n.val * 128 + d.val) < 1536); omega)]
  exact congrArg₂ (fun n d => cross qx mk mv n B r d) (Fin.ext e₂) (Fin.ext e₃)

/-- A row of columns that is the convolution's on the first 512, the windowed heads' on the next 1024 and the memory
    heads' on the last 512 is the mixer's row. -/
theorem eq_mixed (y : Fin 2048 → EReal) (hc : ∀ c : Fin 512, y ⟨c.val, by omega⟩ = conv b u w (row B r) c)
    (hs : ∀ (h : Fin 2) (g : Fin 4) (d : Fin 128), y ⟨512 + ((h.val * 4 + g.val) * 128 + d.val), by omega⟩ = swa sinks q k v bias h g B r d)
    (hx : ∀ (n : Fin 4) (d : Fin 128), y ⟨1536 + (n.val * 128 + d.val), by omega⟩ = cross qx mk mv n B r d) :
    y = mixed sinks q k v qx mk mv b u w bias B r := by
  funext j
  by_cases h₁ : j.val < 512
  · exact (hc ⟨j.val, h₁⟩).trans (mixed_conv ⟨j.val, h₁⟩).symm
  · by_cases h₂ : j.val < 1536
    · have e : j = ⟨512 + (((j.val - 512) / 512 * 4 + (j.val - 512) / 128 % 4) * 128 + (j.val - 512) % 128), by omega⟩ := Fin.ext (by show j.val = 512 + (((j.val - 512) / 512 * 4 + (j.val - 512) / 128 % 4) * 128 + (j.val - 512) % 128); omega)
      have h := (hs ⟨(j.val - 512) / 512, by omega⟩ ⟨(j.val - 512) / 128 % 4, by omega⟩ ⟨(j.val - 512) % 128, by omega⟩).trans (mixed_swa (qx := qx) (mk := mk) (mv := mv) (b := b) (u := u) (w := w) _ _ _).symm
      rw [e]
      exact h
    · have e : j = ⟨1536 + ((j.val - 1536) / 128 * 128 + (j.val - 1536) % 128), by omega⟩ := Fin.ext (by show j.val = 1536 + ((j.val - 1536) / 128 * 128 + (j.val - 1536) % 128); omega)
      have h := (hx ⟨(j.val - 1536) / 128, by omega⟩ ⟨(j.val - 1536) % 128, by omega⟩).trans (mixed_cross (sinks := sinks) (q := q) (k := k) (v := v) (b := b) (u := u) (w := w) (bias := bias) _ _).symm
      rw [e]
      exact h

end Columns

end Cert.Spec
-- ==== Proof.BandWord.lean ====
module

public import proofs.«01_k».proof.MixIdeal
public import Idealize.ShloMosaic.PureOps.Ideal.Laws
public import Idealize.ShloMosaic.Lib.IdealHost

@[expose] public section

set_option maxRecDepth 16384

namespace Cert.MixIdeal.Band

open Cert.MixIdeal Idealize.ShloMosaic

/-! # The band table of the windowed attention, row by row

  A 128×256 table: zero where the key is outside the query's window, one on the keys before the row group, two on the
  group's own keys. -/

/-- The word the band table is meant to hold at row `r`, column `k`. -/
def word (r k : ℕ) : BitVec 32 :=
  if r < k ∧ k ≤ r + 128 then if k < 128 then 0x3F800000#32 else 0x40000000#32 else 0#32

/-- The four rows from `a * 4` on hold the intended words. -/
def Rows (a : ℕ) : Prop := ∀ (r : Fin 4) (k : Fin 256), lit0t ((a * 4 + r.val) * 256 + k.val) = word (a * 4 + r.val) k.val

noncomputable instance (a : ℕ) : Decidable (Rows a) := inferInstanceAs (Decidable (∀ (r : Fin 4) (k : Fin 256), _))

end Cert.MixIdeal.Band
-- ==== Proof.BandRows0.lean ====
module

public import proofs.«01_k».proof.Proof.BandWord

@[expose] public section

set_option maxRecDepth 16384

namespace Cert.MixIdeal.Band

/-! # Rows 0 to 31 of the band table, four at a time -/

theorem rows_0 : Rows 0 := by decide +kernel
theorem rows_1 : Rows 1 := by decide +kernel
theorem rows_2 : Rows 2 := by decide +kernel
theorem rows_3 : Rows 3 := by decide +kernel
theorem rows_4 : Rows 4 := by decide +kernel
theorem rows_5 : Rows 5 := by decide +kernel
theorem rows_6 : Rows 6 := by decide +kernel
theorem rows_7 : Rows 7 := by decide +kernel

end Cert.MixIdeal.Band
-- ==== Proof.BandRows1.lean ====
module

public import proofs.«01_k».proof.Proof.BandWord

@[expose] public section

set_option maxRecDepth 16384

namespace Cert.MixIdeal.Band

/-! # Rows 32 to 63 of the band table, four at a time -/

theorem rows_8 : Rows 8 := by decide +kernel
theorem rows_9 : Rows 9 := by decide +kernel
theorem rows_10 : Rows 10 := by decide +kernel
theorem rows_11 : Rows 11 := by decide +kernel
theorem rows_12 : Rows 12 := by decide +kernel
theorem rows_13 : Rows 13 := by decide +kernel
theorem rows_14 : Rows 14 := by decide +kernel
theorem rows_15 : Rows 15 := by decide +kernel

end Cert.MixIdeal.Band
-- ==== Proof.BandRows2.lean ====
module

public import proofs.«01_k».proof.Proof.BandWord

@[expose] public section

set_option maxRecDepth 16384

namespace Cert.MixIdeal.Band

/-! # Rows 64 to 95 of the band table, four at a time -/

theorem rows_16 : Rows 16 := by decide +kernel
theorem rows_17 : Rows 17 := by decide +kernel
theorem rows_18 : Rows 18 := by decide +kernel
theorem rows_19 : Rows 19 := by decide +kernel
theorem rows_20 : Rows 20 := by decide +kernel
theorem rows_21 : Rows 21 := by decide +kernel
theorem rows_22 : Rows 22 := by decide +kernel
theorem rows_23 : Rows 23 := by decide +kernel

end Cert.MixIdeal.Band
-- ==== Proof.BandRows3.lean ====
module

public import proofs.«01_k».proof.Proof.BandWord

@[expose] public section

set_option maxRecDepth 16384

namespace Cert.MixIdeal.Band

/-! # Rows 96 to 127 of the band table, four at a time -/

theorem rows_24 : Rows 24 := by decide +kernel
theorem rows_25 : Rows 25 := by decide +kernel
theorem rows_26 : Rows 26 := by decide +kernel
theorem rows_27 : Rows 27 := by decide +kernel
theorem rows_28 : Rows 28 := by decide +kernel
theorem rows_29 : Rows 29 := by decide +kernel
theorem rows_30 : Rows 30 := by decide +kernel
theorem rows_31 : Rows 31 := by decide +kernel

end Cert.MixIdeal.Band
-- ==== Proof.Band.lean ====
module

public import proofs.«01_k».proof.Proof.BandRows0
public import proofs.«01_k».proof.Proof.BandRows1
public import proofs.«01_k».proof.Proof.BandRows2
public import proofs.«01_k».proof.Proof.BandRows3

@[expose] public section

namespace Cert.MixIdeal.Band

open Cert.MixIdeal

/-- All groups of four rows hold the intended words. -/
theorem all_rows : ∀ a : ℕ, a < 32 → Rows a
  | 0, _ => rows_0
  | 1, _ => rows_1
  | 2, _ => rows_2
  | 3, _ => rows_3
  | 4, _ => rows_4
  | 5, _ => rows_5
  | 6, _ => rows_6
  | 7, _ => rows_7
  | 8, _ => rows_8
  | 9, _ => rows_9
  | 10, _ => rows_10
  | 11, _ => rows_11
  | 12, _ => rows_12
  | 13, _ => rows_13
  | 14, _ => rows_14
  | 15, _ => rows_15
  | 16, _ => rows_16
  | 17, _ => rows_17
  | 18, _ => rows_18
  | 19, _ => rows_19
  | 20, _ => rows_20
  | 21, _ => rows_21
  | 22, _ => rows_22
  | 23, _ => rows_23
  | 24, _ => rows_24
  | 25, _ => rows_25
  | 26, _ => rows_26
  | 27, _ => rows_27
  | 28, _ => rows_28
  | 29, _ => rows_29
  | 30, _ => rows_30
  | 31, _ => rows_31
  | n + 32, h => absurd h (by omega)

/-- The table holds the intended word everywhere. -/
theorem word_eq (r : Fin 128) (k : Fin 256) : lit0t (r.val * 256 + k.val) = word r.val k.val := by
  have h := all_rows (r.val / 4) (by omega)
  unfold Rows at h
  have h' := h ⟨r.val % 4, by omega⟩ k
  have e : r.val / 4 * 4 + r.val % 4 = r.val := by omega
  simp only [e] at h'
  exact h'

end Cert.MixIdeal.Band
-- ==== Proof.BandRead.lean ====
module

public import proofs.«01_k».proof.Proof.Band

@[expose] public section

namespace Cert.MixIdeal.Band

open Idealize.ShloMosaic

theorem ofBits_two : Ideal.ofBits .f32 0x40000000#32 = ((2 : ℝ) : EReal) := by
  simp [Ideal.ofBits, Ideal.ieee, -EReal.coe_mul]; norm_num

theorem ofBits_half : Ideal.ofBits .f32 0x3F000000#32 = (((1 : ℝ) / 2 : ℝ) : EReal) := by
  simp [Ideal.ofBits, Ideal.ieee, -EReal.coe_mul]; norm_num

theorem ofBits_three_halves : Ideal.ofBits .f32 0x3FC00000#32 = (((3 : ℝ) / 2 : ℝ) : EReal) := by
  simp [Ideal.ofBits, Ideal.ieee, -EReal.coe_mul]; norm_num

/-- The band exceeds one half exactly on the window. -/
theorem exceeds_half (r k : ℕ) :
    FloatOps.cmpf (F := Ideal) .ogt (Ideal.ofBits .f32 (word r k)) (Ideal.ofBits .f32 0x3F000000#32)
      = if r < k ∧ k ≤ r + 128 then 1#1 else 0#1 := by
  rw [ofBits_half]
  show Ideal.cmp .ogt _ _ = _
  unfold word
  by_cases h : r < k ∧ k ≤ r + 128
  · rw [if_pos h, if_pos h]
    by_cases h' : k < 128
    · rw [if_pos h', Ideal.ofBits_one_f32, show (1 : EReal) = ((1 : ℝ) : EReal) by norm_cast]
      simp [Ideal.cmp, EReal.coe_lt_coe_iff, -EReal.coe_one]
      norm_num; rfl
    · rw [if_neg h', ofBits_two]
      simp [Ideal.cmp, EReal.coe_lt_coe_iff]
      norm_num; rfl
  · rw [if_neg h, if_neg h, Ideal.ofBits_zero_f32, show (0 : EReal) = ((0 : ℝ) : EReal) by norm_cast]
    simp [Ideal.cmp, EReal.coe_lt_coe_iff, -EReal.coe_zero]
    norm_num; rfl

/-- The band exceeds three halves exactly on the window's keys from the row group itself. -/
theorem exceeds_three_halves (r k : ℕ) :
    FloatOps.cmpf (F := Ideal) .ogt (Ideal.ofBits .f32 (word r k)) (Ideal.ofBits .f32 0x3FC00000#32)
      = if (r < k ∧ k ≤ r + 128) ∧ 128 ≤ k then 1#1 else 0#1 := by
  rw [ofBits_three_halves]
  show Ideal.cmp .ogt _ _ = _
  unfold word
  by_cases h : r < k ∧ k ≤ r + 128
  · rw [if_pos h]
    by_cases h' : k < 128
    · rw [if_pos h', if_neg (by omega), Ideal.ofBits_one_f32, show (1 : EReal) = ((1 : ℝ) : EReal) by norm_cast]
      simp [Ideal.cmp, EReal.coe_lt_coe_iff, -EReal.coe_one]
      norm_num; rfl
    · rw [if_neg h', if_pos ⟨h, by omega⟩, ofBits_two]
      simp [Ideal.cmp, EReal.coe_lt_coe_iff]
      norm_num; rfl
  · rw [if_neg h, if_neg (by tauto), Ideal.ofBits_zero_f32, show (0 : EReal) = ((0 : ℝ) : EReal) by norm_cast]
    simp [Ideal.cmp, EReal.coe_lt_coe_iff, -EReal.coe_zero]
    norm_num; rfl

end Cert.MixIdeal.Band
-- ==== Proof.Attn.lean ====
module

public import proofs.«01_k».proof.Proof.TileRead
public import proofs.«01_k».proof.Proof.Spec
public import proofs.«01_k».proof.Proof.BandRead
public import Idealize.ShloMosaic.Lib.Pipeline.ValueKit.Basic

@[expose] public section

set_option maxRecDepth 16384

noncomputable section

namespace Cert.MixIdeal.Tile

open Cert.MixIdeal Cert.MixIdeal.Gen Idealize.ShloMosaic Idealize.ShloMosaic.TcCoe Idealize.SL.Sem
open Idealize.ShloMosaic.ValueIdx

/-! # The two attentions of one grid point are the formulas' -/

/-- A load through a rectangle of unit steps, at the index it places. -/
theorem load_apply {S : Shape} {e : EltTy} (X : S.Idx → Elt Ideal e) (off size : Fin S.rank → ℕ) (inb) (x : (Rect.unit off size inb).shape.Idx)
    (i : S.Idx) (hi : ∀ a, (i a).val = off a + (x a).val) : View.ld (Val := Elt Ideal) X (Rect.unit off size inb) x = X i := by
  refine congrArg X (funext fun a => Fin.ext ?_)
  show off a + 1 * (x a).val = (i a).val
  rw [hi a]
  omega

/-- The `j`-th of the four row groups of grid point `t`. -/
abbrev grp (t : Fin 16) (j : Fin 4) : Fin 64 := ⟨t.val * 4 + j.val, by omega⟩

/-- Row `a` of grid point `t`'s 512 rows. -/
abbrev brow (t : Fin 16) (a : Fin 512) : Fin 8192 := ⟨t.val * 512 + a.val, by omega⟩

/-- Every entry is a real number. -/
abbrev Finite {ι : Type} (x : ι → EReal) : Prop := ∀ i, ∃ r : ℝ, x i = (r : EReal)

/-- The window of key (or value) rows of row group `j` holds the array's rows, where they exist. -/
theorem windowRows_apply (V : Spec.Arr 8192 256) (prev : Vec Ideal S128x256 .bf16) (cur : Vec Ideal S512x256 .bf16) (h : Fin 2) (t : Fin 16) (j : Fin 4)
    (hp : t.val ≠ 0 → ∀ (r : Fin 128) (c : Fin 256), prev (ix2 r c) = V (ix2 ⟨t.val * 512 - 128 + r.val, by omega⟩ c))
    (hc : ∀ (a : Fin 512) (c : Fin 256), cur (ix2 a c) = V (ix2 (brow t a) c)) (kk : Fin 256) (d : Fin 128)
    (hin : Spec.Inside (grp t j) kk) :
    windowRows (F := Ideal) prev cur h j (ix2 kk d) = V (ix2 (Spec.keyRow (grp t j) kk) (Spec.kcol h d)) := by
  match j, hin with
  | ⟨0, _⟩, hin =>
    unfold windowRows
    by_cases hk : kk.val < 128
    · refine (concatenate_pair_apply_left (t := S256x128) (s₁ := S128x128) (s₂ := S128x128) 0 _ _ concatenates_S128x128_S128x128_S256x128_d0 (ix2 kk d) rfl (ix2 ⟨kk.val, hk⟩ d) (by intro b; match b with | ⟨0, _⟩ => rfl | ⟨1, _⟩ => rfl)).trans ?_
      refine (load_apply (e := .bf16) prev _ _ _ _ (ix2 ⟨kk.val, hk⟩ (Spec.kcol h d)) (by intro b; match b with | ⟨0, _⟩ => exact (Nat.zero_add _).symm | ⟨1, _⟩ => rfl)).trans ?_
      have ht : t.val ≠ 0 := by
        rcases hin with h0 | h0
        · intro e; apply h0; show (t.val * 4 + 0) % 16 = 0; omega
        · omega
      rw [hp ht]
      congr 2
      exact Fin.ext (by show t.val * 512 - 128 + kk.val = (t.val * 4 + 0) * 128 + kk.val - 128; omega)
    · refine (concatenate_pair_apply_right (t := S256x128) (s₁ := S128x128) (s₂ := S128x128) 0 _ _ concatenates_S128x128_S128x128_S256x128_d0 (ix2 kk d) rfl rfl (ix2 ⟨kk.val - 128, by omega⟩ d) (by intro b hb; match b with | ⟨0, _⟩ => exact absurd rfl hb | ⟨1, _⟩ => rfl) (by show kk.val - 128 + 128 = kk.val; omega)).trans ?_
      refine (load_apply (e := .bf16) cur _ _ _ _ (ix2 ⟨kk.val - 128, by omega⟩ (Spec.kcol h d)) (by intro b; match b with | ⟨0, _⟩ => exact (Nat.zero_add _).symm | ⟨1, _⟩ => rfl)).trans ?_
      rw [hc]
      congr 2
      exact Fin.ext (by show t.val * 512 + (kk.val - 128) = (t.val * 4 + 0) * 128 + kk.val - 128; omega)
  | ⟨j' + 1, hj⟩, hin =>
    unfold windowRows
    refine (load_apply (e := .bf16) cur _ _ _ _ (ix2 ⟨j' * 128 + kk.val, by omega⟩ (Spec.kcol h d)) (by intro b; match b with | ⟨0, _⟩ => rfl | ⟨1, _⟩ => rfl)).trans ?_
    rw [hc]
    congr 2
    exact Fin.ext (by show t.val * 512 + (j' * 128 + kk.val) = (t.val * 4 + (j' + 1)) * 128 + kk.val - 128; omega)

/-- The band exceeds the row group's least band exactly at the keys that are seen. -/
theorem band_seen (i : grid0.Coords) (t : Fin 16) (ht : (i 1).val = t.val % 4) (j : Fin 4) (r : Fin 128) (kk : Fin 256) :
    FloatOps.cmpf (F := Ideal) (φ := .f32) .ogt (Ideal.ofBits .f32 (lit0t (r.val * 256 + kk.val))) (minBand (F := Ideal) i j)
      = if Spec.Seen (grp t j) r kk then 1#1 else 0#1 := by
  rw [Band.word_eq]
  match j with
  | ⟨0, _⟩ =>
    have h01 : ∀ n : Fin 4, IntOp.cmpi .sgt (BitVec.ofNat 32 n.val) 0#32 = if n.val = 0 then 0#1 else 1#1 := by decide
    unfold minBand
    show FloatOps.cmpf .ogt _ (Scalar.select (IntOp.cmpi .sgt (BitVec.ofNat 32 (i 1).val) 0#32) _ _) = _
    rw [ht, h01 ⟨t.val % 4, by omega⟩]
    by_cases hz : t.val % 4 = 0
    · rw [if_pos hz]
      refine (Band.exceeds_three_halves r.val kk.val).trans ?_
      by_cases h : (r.val < kk.val ∧ kk.val ≤ r.val + 128) ∧ 128 ≤ kk.val
      · rw [if_pos h, if_pos ⟨h.1, Or.inr h.2⟩]
      · rw [if_neg h, if_neg]
        rintro ⟨h1, h2 | h2⟩
        · exact h2 (by show (t.val * 4 + 0) % 16 = 0; omega)
        · exact h ⟨h1, h2⟩
    · rw [if_neg hz]
      refine (Band.exceeds_half r.val kk.val).trans ?_
      by_cases h : r.val < kk.val ∧ kk.val ≤ r.val + 128
      · rw [if_pos h, if_pos ⟨h, Or.inl (by show (t.val * 4 + 0) % 16 ≠ 0; omega)⟩]
      · rw [if_neg h, if_neg fun h' => h h'.1]
  | ⟨j' + 1, hj⟩ =>
    unfold minBand
    refine (Band.exceeds_half r.val kk.val).trans ?_
    by_cases h : r.val < kk.val ∧ kk.val ≤ r.val + 128
    · rw [if_pos h, if_pos ⟨h, Or.inl (by show (t.val * 4 + (j' + 1)) % 16 ≠ 0; omega)⟩]
    · rw [if_neg h, if_neg fun h' => h h'.1]

/-- A dot product scaled in base two, plus a bias, is the ratio times the plain score. -/
theorem two_score {x y : Fin 128 → EReal} {b : EReal} (hx : Finite x) (hy : Finite y) (hb : ∃ r : ℝ, b = (r : EReal)) :
    ∃ s : ℝ, (∑ t, x t * y t) * Spec.scale + b * ((Real.log 2 : ℝ) : EReal) = (s : EReal)
      ∧ (∑ t, x t * y t) * scaleTwo + b = ((Softmax.ratio * s : ℝ) : EReal) := by
  obtain ⟨p, hp⟩ := Softmax.dot_finite hx hy
  obtain ⟨β, rfl⟩ := hb
  have h0 : Real.log 2 ≠ 0 := (Real.log_pos one_lt_two).ne'
  refine ⟨p * (Real.sqrt 128)⁻¹ + β * Real.log 2, ?_, ?_⟩
  · rw [hp, ← EReal.coe_mul, ← EReal.coe_mul, ← EReal.coe_add]
  · rw [hp, ← EReal.coe_mul, ← EReal.coe_add]
    congr 1
    unfold Softmax.ratio
    field_simp

/-- The same without a bias. -/
theorem two_score' {x y : Fin 128 → EReal} (hx : Finite x) (hy : Finite y) :
    ∃ s : ℝ, (∑ t, x t * y t) * Spec.scale = (s : EReal) ∧ (∑ t, x t * y t) * scaleTwo = ((Softmax.ratio * s : ℝ) : EReal) := by
  obtain ⟨p, hp⟩ := Softmax.dot_finite hx hy
  refine ⟨p * (Real.sqrt 128)⁻¹, ?_, ?_⟩
  · rw [hp, ← EReal.coe_mul]
  · rw [hp, ← EReal.coe_mul]
    congr 1
    unfold Softmax.ratio
    ring

/-- The windowed attention of one head over the grid point's 512 rows. -/
theorem swaHead_apply (i : grid0.Coords) (t : Fin 16) (ht : (i 1).val = t.val % 4)
    (x0 : Vec Ideal S8 .f32) (x1 : Vec Ideal S512x1024 .bf16) (x2 : Vec Ideal S512x256 .bf16) (x3 : Vec Ideal S128x256 .bf16)
    (x4 : Vec Ideal S512x256 .bf16) (x5 : Vec Ideal S128x256 .bf16) (x13 : Vec Ideal S2x512x256 .f32) (x14 : Vec Ideal S128x256 .f32)
    (q : Spec.Arr 8192 1024) (k v : Spec.Arr 8192 256)
    (h0 : Finite (ι := S8.Idx) x0) (hq : Finite q) (hk : Finite k) (hb : Finite (ι := S2x512x256.Idx) x13)
    (h1 : ∀ (a : Fin 512) (c : Fin 1024), x1 (ix2 a c) = q (ix2 (brow t a) c))
    (h2 : ∀ (a : Fin 512) (c : Fin 256), x2 (ix2 a c) = k (ix2 (brow t a) c))
    (h3 : t.val ≠ 0 → ∀ (r : Fin 128) (c : Fin 256), x3 (ix2 r c) = k (ix2 ⟨t.val * 512 - 128 + r.val, by omega⟩ c))
    (h4 : ∀ (a : Fin 512) (c : Fin 256), x4 (ix2 a c) = v (ix2 (brow t a) c))
    (h5 : t.val ≠ 0 → ∀ (r : Fin 128) (c : Fin 256), x5 (ix2 r c) = v (ix2 ⟨t.val * 512 - 128 + r.val, by omega⟩ c))
    (h14 : ∀ (r : Fin 128) (c : Fin 256), x14 (ix2 r c) = Ideal.ofBits .f32 (lit0t (r.val * 256 + c.val)))
    (h : Fin 2) (g : Fin 4) (j : Fin 4) (r d : Fin 128) :
    swaHead (F := Ideal) i x0 x1 x2 x3 x4 x5 x13 x14 h g (ix2 ⟨j.val * 128 + r.val, by omega⟩ d) = Spec.swa x0 q k v x13 h g (grp t j) r d := by
  unfold swaHead
  rw [stack4_apply, swaTile_apply]
  have e0 : View.ld (Val := Elt Ideal) (e' := .f32) x0 (Rect.unit (s := S8) ![h.val * 4 + g.val] S1.size (by intro a; have := h.isLt; have := g.isLt; match a with | ⟨0, _⟩ => show h.val * 4 + g.val + 1 ≤ 8; omega)) (Shape.Idx.first (s := S1) (by decide)) = x0 (ix1 ⟨h.val * 4 + g.val, by omega⟩) :=
    load_apply (e := .f32) x0 _ _ _ _ _ (by intro b; match b with | ⟨0, _⟩ => rfl)
  rw [e0]
  have e1 : ∀ c : Fin 128, View.ld (Val := Elt Ideal) (e' := .bf16) x1 (Rect.unit (s := S512x1024) ![j.val * 128, (h.val * 4 + g.val) * 128] S128x128.size (by intro a; have := h.isLt; have := g.isLt; have := j.isLt; match a with | ⟨0, _⟩ => show j.val * 128 + 128 ≤ 512; omega | ⟨1, _⟩ => show (h.val * 4 + g.val) * 128 + 128 ≤ 1024; omega)) (ix2 r c) = q (ix2 (Spec.row (grp t j) r) (Spec.col h g c)) := fun c => by
    refine (load_apply (e := .bf16) x1 _ _ _ _ (ix2 ⟨j.val * 128 + r.val, by omega⟩ (Spec.col h g c)) (by intro b; match b with | ⟨0, _⟩ => rfl | ⟨1, _⟩ => rfl)).trans ?_
    rw [h1]
    congr 2
    exact Fin.ext (by show t.val * 512 + (j.val * 128 + r.val) = (t.val * 4 + j.val) * 128 + r.val; omega)
  have e13 : ∀ c : Fin 256, View.ld (Val := Elt Ideal) (e' := .f32) x13 (Rect.unit (s := S2x512x256) ![h.val, g.val * 128, 0] S1x128x256.size (by intro a; have := h.isLt; have := g.isLt; match a with | ⟨0, _⟩ => show h.val + 1 ≤ 2; omega | ⟨1, _⟩ => show g.val * 128 + 128 ≤ 512; omega | ⟨2, _⟩ => show 0 + 256 ≤ 256; omega)) (ix3 0 r c) = x13 (ix3 h ⟨g.val * 128 + r.val, by omega⟩ c) := fun c =>
    load_apply (e := .f32) x13 _ _ _ _ _ (by intro b; match b with | ⟨0, _⟩ => rfl | ⟨1, _⟩ => rfl | ⟨2, _⟩ => exact (Nat.zero_add _).symm)
  obtain ⟨σ, hσ⟩ := h0 (ix1 ⟨h.val * 4 + g.val, by omega⟩)
  unfold Spec.swa
  rw [hσ, ← EReal.coe_mul, mul_comm σ]
  refine Softmax.sink_row ?_ σ _ _ ?_
  · intro kk
    have hband : FloatOps.cmpf (F := Ideal) (φ := .f32) .ogt (View.ld (Val := Elt Ideal) (e' := .f32) x14 (Rect.unit (s := S128x256) ![0, 0] S128x256.size inb_S128x256_S128x256_0_0) (ix2 r kk)) (minBand (F := Ideal) i j) = if Spec.Seen (grp t j) r kk then 1#1 else 0#1 := by
      rw [View.ld_unit_lit inb_S128x256_S128x256_0_0 x14 (by decide), h14]
      exact band_seen i t ht j r kk
    by_cases hs : Spec.Seen (grp t j) r kk
    · right
      obtain ⟨s, hs1, hs2⟩ := two_score (x := fun c => q (ix2 (Spec.row (grp t j) r) (Spec.col h g c))) (y := fun c => k (ix2 (Spec.keyRow (grp t j) kk) (Spec.kcol h c))) (b := x13 (ix3 h ⟨g.val * 128 + r.val, by omega⟩ kk)) (fun _ => hq _) (fun _ => hk _) (hb _)
      refine ⟨s, ?_, ?_⟩
      · unfold Spec.score
        rw [if_pos hs]
        exact hs1
      · beta_reduce
        rw [hband, if_pos hs, select_one, e13, ← hs2]
        congr 2
        refine Finset.sum_congr rfl fun c _ => ?_
        rw [e1, windowRows_apply k x3 x2 h t j h3 h2 kk c hs.2]
    · left
      refine ⟨?_, ?_⟩
      · unfold Spec.score
        rw [if_neg hs]
      · beta_reduce
        rw [hband, if_neg hs, select_zero]
  · intro kk hne
    have hs : Spec.Seen (grp t j) r kk := by
      by_contra hs
      exact hne (by unfold Spec.score; rw [if_neg hs])
    rw [if_pos hs.2]
    exact windowRows_apply v x5 x4 h t j h5 h4 kk d hs.2

/-- The memory attention of one head over the grid point's 512 rows. -/
theorem crossHead_apply (t : Fin 16) (x6 : Vec Ideal S512x512 .bf16) (x7 x8 : Vec Ideal S256x512 .bf16)
    (q : Spec.Arr 8192 512) (k v : Spec.Arr 1024 512) (hq : Finite q) (hk : Finite k)
    (h6 : ∀ (a : Fin 512) (c : Fin 512), x6 (ix2 a c) = q (ix2 (brow t a) c))
    (h7 : ∀ (a : Fin 256) (c : Fin 512), x7 (ix2 a c) = k (ix2 ⟨t.val / 4 * 256 + a.val, by omega⟩ c))
    (h8 : ∀ (a : Fin 256) (c : Fin 512), x8 (ix2 a c) = v (ix2 ⟨t.val / 4 * 256 + a.val, by omega⟩ c))
    (n : Fin 4) (j : Fin 4) (r d : Fin 128) :
    crossHead (F := Ideal) x6 x7 x8 n (ix2 ⟨j.val * 128 + r.val, by omega⟩ d) = Spec.cross q k v n (grp t j) r d := by
  have em : ∀ kk : Fin 256, (⟨t.val / 4 * 256 + kk.val, by omega⟩ : Fin 1024) = Spec.memRow (grp t j) kk := fun kk =>
    Fin.ext (by show t.val / 4 * 256 + kk.val = (t.val * 4 + j.val) / 16 * 256 + kk.val; omega)
  have e6 : ∀ c : Fin 128, View.ld (Val := Elt Ideal) (e' := .bf16) x6 (Rect.unit (s := S512x512) ![j.val * 128, n.val * 128] S128x128.size (by intro a; have := n.isLt; have := j.isLt; match a with | ⟨0, _⟩ => show j.val * 128 + 128 ≤ 512; omega | ⟨1, _⟩ => show n.val * 128 + 128 ≤ 512; omega)) (ix2 r c) = q (ix2 (Spec.row (grp t j) r) (Spec.xcol n c)) := fun c => by
    refine (load_apply (e := .bf16) x6 _ _ _ _ (ix2 ⟨j.val * 128 + r.val, by omega⟩ (Spec.xcol n c)) (by intro b; match b with | ⟨0, _⟩ => rfl | ⟨1, _⟩ => rfl)).trans ?_
    rw [h6]
    congr 2
    exact Fin.ext (by show t.val * 512 + (j.val * 128 + r.val) = (t.val * 4 + j.val) * 128 + r.val; omega)
  have e7 : ∀ (kk : Fin 256) (c : Fin 128), View.ld (Val := Elt Ideal) (e' := .bf16) x7 (Rect.unit (s := S256x512) ![0, n.val * 128] S256x128.size (by intro a; have := n.isLt; match a with | ⟨0, _⟩ => show 0 + 256 ≤ 256; omega | ⟨1, _⟩ => show n.val * 128 + 128 ≤ 512; omega)) (ix2 kk c) = k (ix2 (Spec.memRow (grp t j) kk) (Spec.xcol n c)) := fun kk c => by
    refine (load_apply (e := .bf16) x7 _ _ _ _ (ix2 kk (Spec.xcol n c)) (by intro b; match b with | ⟨0, _⟩ => exact (Nat.zero_add _).symm | ⟨1, _⟩ => rfl)).trans ?_
    rw [h7, em]
  have e8 : ∀ (kk : Fin 256) (c : Fin 128), View.ld (Val := Elt Ideal) (e' := .bf16) x8 (Rect.unit (s := S256x512) ![0, n.val * 128] S256x128.size (by intro a; have := n.isLt; match a with | ⟨0, _⟩ => show 0 + 256 ≤ 256; omega | ⟨1, _⟩ => show n.val * 128 + 128 ≤ 512; omega)) (ix2 kk c) = v (ix2 (Spec.memRow (grp t j) kk) (Spec.xcol n c)) := fun kk c => by
    refine (load_apply (e := .bf16) x8 _ _ _ _ (ix2 kk (Spec.xcol n c)) (by intro b; match b with | ⟨0, _⟩ => exact (Nat.zero_add _).symm | ⟨1, _⟩ => rfl)).trans ?_
    rw [h8, em]
  unfold crossHead
  rw [stack4_apply, crossTile_apply]
  simp only [e6, e7, e8]
  choose s hs1 hs2 using fun kk : Fin 256 => two_score' (x := fun c => q (ix2 (Spec.row (grp t j) r) (Spec.xcol n c))) (y := fun c => k (ix2 (Spec.memRow (grp t j) kk) (Spec.xcol n c))) (fun _ => hq _) (fun _ => hk _)
  exact Softmax.plain_row s hs1 hs2 0 _

end Cert.MixIdeal.Tile
-- ==== Proof.Finite.lean ====
module

public import proofs.«01_k».proof.Defs
public import proofs.«01_k».proof.Proof.Attn
public import Idealize.ShloMosaic.Lib.ReduceAll

@[expose] public section

set_option maxRecDepth 16384

noncomputable section

namespace Cert.Proof

open Idealize.ShloMosaic Idealize.SL.Sem Cert.MixIdeal.Tile

/-! # The precondition: the six score arguments have finite entries -/

open Cert.Pre_finite_scores in
/-- The side conditions the predicate states. -/
theorem preFacts : Cert.Pre_finite_scores.Facts :=
  ⟨by decide, by decide, by decide, by decide, by decide, by decide, by decide, by decide, by decide, by decide, by decide, by decide, by decide, by decide⟩

theorem one_of_and : ∀ a b : BitVec 1, IntOp.andi a b = 1#1 → a = 1#1 ∧ b = 1#1 := by decide

/-- An entry whose absolute value is below infinity is a real number. -/
theorem real_of_abs_lt (x : EReal) (h : max x (-x) < ⊤) : ∃ r : ℝ, x = (r : EReal) := by
  induction x using EReal.rec with
  | bot => simp at h
  | coe r => exact ⟨r, rfl⟩
  | top => simp at h

/-- All entries of absolute value below infinity. -/
theorem finite_of_all {s t u : Shape} [Subsingleton t.Idx] {axes : List (Fin s.rank)} (x y : FVec Ideal s .f32) (hy : ∀ i, y i = (⊤ : EReal))
    (init : u.Idx → BitVec 1) (h : s.ReducesTo axes t) (hu : 0 < u.numel) (j : t.Idx)
    (e : Host.reduce IntOp.andi (cmpf .olt (Host.absf x) y) init h hu j = 1#1) : Finite (ι := s.Idx) x := by
  intro i
  have hi := Host.reduce_andi_all _ init h hu j e i
  have hc : BitVec.ofBool (decide (max (x i : EReal) (-(x i)) < y i)) = 1#1 := hi
  rw [hy i] at hc
  refine real_of_abs_lt (x i) ?_
  by_contra hn
  rw [decide_eq_false hn] at hc
  exact absurd hc (by decide)

theorem infinity : Ideal.ofBits .f32 0x7F800000#32 = ⊤ := by simp [Ideal.ofBits, Ideal.ieee]

open Cert.Pre_finite_scores in
/-- The predicate's six finiteness facts. -/
theorem finite_of_pre [hF : Cert.Pre_finite_scores.Facts] (x0 : FVec Ideal S8 .f32) (x1 : FVec Ideal S8192x1024 .bf16) (x2 x3 : FVec Ideal S8192x256 .bf16) (x4 : FVec Ideal S8192x512 .bf16) (x5 x6 : FVec Ideal S1024x512 .bf16) (x7 x8 : FVec Ideal S8192x512 .f32) (x9 : FVec Ideal S3x512 .f32) (x10 : FVec Ideal S2x512x256 .f32) (x11 : FVec Ideal S8192x2048 .f32) (x12 : FVec Ideal S2048x2048 .bf16) (x13 : FVec Ideal S1x2048 .f32)
    (h : Cert.Pre_finite_scores.fn (F := Ideal) x0 x1 x2 x3 x4 x5 x6 x7 x8 x9 x10 x11 x12 x13 = fun _ => 1#1) :
    Finite (ι := S8.Idx) x0 ∧ Finite (ι := S8192x1024.Idx) x1 ∧ Finite (ι := S8192x256.Idx) x2 ∧ Finite (ι := S8192x512.Idx) x4 ∧ Finite (ι := S1024x512.Idx) x5 ∧ Finite (ι := S2x512x256.Idx) x10 := by
  haveI : Subsingleton S_.Idx := ⟨fun a b => funext fun k => k.elim0⟩
  have e := congrFun h (Shape.Idx.first hF.h_S_)
  unfold Cert.Pre_finite_scores.fn Cert.Pre_finite_scores.fn_part1 at e
  dsimp only at e
  obtain ⟨e, e10⟩ := one_of_and _ _ e
  obtain ⟨e, e5⟩ := one_of_and _ _ e
  obtain ⟨e, e4⟩ := one_of_and _ _ e
  obtain ⟨e, e2⟩ := one_of_and _ _ e
  obtain ⟨e0, e1⟩ := one_of_and _ _ e
  exact ⟨finite_of_all _ _ (fun _ => infinity) _ _ _ _ e0, finite_of_all _ _ (fun _ => infinity) _ _ _ _ e1, finite_of_all _ _ (fun _ => infinity) _ _ _ _ e2,
    finite_of_all _ _ (fun _ => infinity) _ _ _ _ e4, finite_of_all _ _ (fun _ => infinity) _ _ _ _ e5, finite_of_all _ _ (fun _ => infinity) _ _ _ _ e10⟩

end Cert.Proof
-- ==== Proof.BlockRead.lean ====
module

public import proofs.«01_k».proof.Proof.Tile
public import proofs.«01_k».proof.Proof.TileRead
public import proofs.«01_k».proof.Proof.Spec

@[expose] public section

set_option maxRecDepth 16384

noncomputable section

namespace Cert.MixIdeal.Tile

open Cert.MixIdeal Cert.MixIdeal.Gen Idealize.ShloMosaic Idealize.ShloMosaic.TcCoe Idealize.SL.Sem
open Idealize.ShloMosaic.ValueIdx

/-! # The convolution, the column groups, the output projection and the normalisation of one block, entry by entry -/

/-- The block's rows with the eight rows before them in front, zero at the start of a sequence. -/
def extended (i : grid0.Coords) (x10 : Vec Ideal S512x512 .f32) (x11 : Vec Ideal S8x512 .f32) : FVec Ideal S520x512 .f32 :=
  concatenate S520x512 0 [⟨S8x512, Scalar.select (Scalar.cmpi .sgt (BitVec.ofNat 32 (i 1).val) 0#32) x11 (broadcast S8x512 (Scalar.ofBits (F := Ideal) .f32 0x00000000#32))⟩, ⟨S512x512, x10⟩] concatenates_S8x512_S512x512_S520x512_d0

/-- A row of weights over a block. -/
theorem weight_apply (x12 : Vec Ideal S3x512 .f32) (o : Fin 3) (h : S3x512.Slices ![o.val, 0] S1x512) (a : Fin 512) (c : Fin 512) :
    (broadcastTo S512x512 (extractStridedSlice S1x512 ![o.val, 0] x12 h) broadcasts_S1x512_S512x512 : FVec Ideal S512x512 .f32) (ix2 a c) = x12 (ix2 o c) := by
  rw [broadcastTo_apply _ _ (ix2 a c) (ix2 0 c) (by intro b; match b with | ⟨0, _⟩ => rfl | ⟨1, _⟩ => rfl)]
  exact extractStridedSlice_apply _ x12 h (ix2 0 c) (ix2 o c) (by intro b; match b with | ⟨0, _⟩ => rfl | ⟨1, _⟩ => exact (Nat.zero_add _).symm)

/-- The block's convolution at row `a`, column `c`. -/
theorem convCols_apply (i : grid0.Coords) (x9 x10 : Vec Ideal S512x512 .f32) (x11 : Vec Ideal S8x512 .f32) (x12 : Vec Ideal S3x512 .f32) (a c : Fin 512) :
    convCols i x9 x10 x11 x12 (ix2 a c)
      = x9 (ix2 a c) * ((x12 (ix2 0 c) * extended i x10 x11 (ix2 ⟨6 + a.val, by omega⟩ c) + x12 (ix2 1 c) * extended i x10 x11 (ix2 ⟨7 + a.val, by omega⟩ c)) + x12 (ix2 2 c) * x10 (ix2 a c)) := by
  unfold convCols k0_pay2
  dsimp only
  rw [truncf_apply, mulf_apply, addf_apply, addf_apply, mulf_apply, mulf_apply, mulf_apply]
  have w0 := weight_apply x12 0 slices_S3x512_o0_0_S1x512 a c
  have w1 := weight_apply x12 1 slices_S3x512_o1_0_S1x512 a c
  have w2 := weight_apply x12 2 slices_S3x512_o2_0_S1x512 a c
  rw [← w0, ← w1, ← w2]
  rw [extractStridedSlice_apply _ _ slices_S520x512_o6_0_S512x512 (ix2 a c) (ix2 ⟨6 + a.val, by omega⟩ c) (by intro b; match b with | ⟨0, _⟩ => rfl | ⟨1, _⟩ => exact (Nat.zero_add _).symm),
    extractStridedSlice_apply _ _ slices_S520x512_o7_0_S512x512 (ix2 a c) (ix2 ⟨7 + a.val, by omega⟩ c) (by intro b; match b with | ⟨0, _⟩ => rfl | ⟨1, _⟩ => exact (Nat.zero_add _).symm)]
  rfl

/-- A row of the extended block: the row's own entry from the ninth on. -/
theorem extended_own (i : grid0.Coords) (x10 : Vec Ideal S512x512 .f32) (x11 : Vec Ideal S8x512 .f32) (e : Fin 520) (c : Fin 512) (he : 8 ≤ e.val) :
    extended i x10 x11 (ix2 e c) = x10 (ix2 ⟨e.val - 8, by omega⟩ c) := by
  unfold extended
  exact concatenate_pair_apply_right (t := S520x512) (s₁ := S8x512) (s₂ := S512x512) 0 _ _ concatenates_S8x512_S512x512_S520x512_d0 (ix2 e c) rfl rfl (ix2 ⟨e.val - 8, by omega⟩ c) (by intro b hb; match b with | ⟨0, _⟩ => exact absurd rfl hb | ⟨1, _⟩ => rfl) (by show e.val - 8 + 8 = e.val; omega)

/-- The eight rows in front. -/
theorem extended_front (i : grid0.Coords) (x10 : Vec Ideal S512x512 .f32) (x11 : Vec Ideal S8x512 .f32) (e : Fin 520) (c : Fin 512) (he : e.val < 8) :
    extended i x10 x11 (ix2 e c) = if (i 1).val = 0 then 0 else x11 (ix2 ⟨e.val, he⟩ c) := by
  unfold extended
  refine (concatenate_pair_apply_left (t := S520x512) (s₁ := S8x512) (s₂ := S512x512) 0 _ _ concatenates_S8x512_S512x512_S520x512_d0 (ix2 e c) rfl (ix2 ⟨e.val, he⟩ c) (by intro b; match b with | ⟨0, _⟩ => rfl | ⟨1, _⟩ => rfl)).trans ?_
  have h01 : ∀ n : Fin 4, IntOp.cmpi .sgt (BitVec.ofNat 32 n.val) 0#32 = if n.val = 0 then 0#1 else 1#1 := by decide
  have hc : Scalar.cmpi .sgt (BitVec.ofNat 32 (i 1).val) 0#32 = if (i 1).val = 0 then 0#1 else 1#1 := h01 ⟨(i 1).val, (i 1).isLt⟩
  rw [hc]
  by_cases hz : (i 1).val = 0
  · rw [if_pos hz, if_pos hz]
    show (Scalar.select 0#1 x11 (broadcast S8x512 (Scalar.ofBits (F := Ideal) .f32 0x00000000#32))) (ix2 ⟨e.val, he⟩ c) = 0
    rw [select_zero, broadcast_apply]
    exact Ideal.ofBits_zero_f32
  · rw [if_neg hz, if_neg hz]
    show (Scalar.select 1#1 x11 (broadcast S8x512 (Scalar.ofBits (F := Ideal) .f32 0x00000000#32))) (ix2 ⟨e.val, he⟩ c) = _
    rw [select_one]

/-- The row's root-mean-square normalisation of the second output block. -/
theorem normalised_apply (z : FVec Ideal S512x2048 .f32) (g : Vec Ideal S1x2048 .f32) (a : Fin 512) (j : Fin 2048) :
    k0_pay1 (F := Ideal) z g (ix2 a j) = Spec.norm (fun k => z (ix2 a k)) g j := by
  unfold k0_pay1
  dsimp only
  rw [truncf_apply, mulf_apply, mulf_apply]
  rw [broadcastTo_apply _ broadcasts_S1x2048_S512x2048 (ix2 a j) (ix2 0 j) (by intro b; match b with | ⟨0, _⟩ => rfl | ⟨1, _⟩ => rfl)]
  rw [broadcastTo_apply _ broadcasts_S512x1_S512x2048 (ix2 a j) (ix2 a 0) (by intro b; match b with | ⟨0, _⟩ => rfl | ⟨1, _⟩ => rfl)]
  have hs : (shapeCast S512x1 (multiReduction (F := Ideal) (φ := .f32) .add [1] S512 (mulf z z) 0x00000000#32 reduces_S512x2048_S512 (.inl rfl) rfl) shapeCasts_S512_S512x1 : FVec Ideal S512x1 .f32) (ix2 a 0)
      = ∑ k : Fin 2048, z (ix2 a k) * z (ix2 a k) := by
    rw [shapeCast_apply _ shapeCasts_S512_S512x1 (ix2 a 0) (ix1 a) (by rw [Shape.rowMajor_val_two, Shape.rowMajor_val_one]; show a.val = a.val * 1 + 0; omega)]
    refine (Ideal.multiReduction_add_single _ _ reduces_S512x2048_S512 _ _ (ix1 a)).trans ?_
    refine Finset.sum_congr rfl fun k _ => ?_
    have e : reduces_S512x2048_S512.lift (ix1 a) k = ix2 a k := by
      funext b
      match b with | ⟨0, _⟩ => rfl | ⟨1, _⟩ => rfl
    rw [e]
    rfl
  unfold Spec.norm
  rw [← hs]
  rfl

/-- The output projection with the residual. -/
theorem residual_apply (y : FVec Ideal S512x2048 .bf16) (x15 : Vec Ideal S512x2048 .f32) (x16 : Vec Ideal S2048x2048 .bf16) (a : Fin 512) (j : Fin 2048) :
    residual (F := Ideal) y x15 x16 (ix2 a j) = x15 (ix2 a j) + ∑ k : Fin 2048, y (ix2 a k) * x16 (ix2 k j) := by
  unfold residual
  rw [addf_apply]
  refine congrArg (fun s : EReal => x15 (ix2 a j) + s) ?_
  refine (Ideal.matmul_plain_apply (M := 512) (K := 2048) (N := 2048) none _ _ _ a j).trans ?_
  rw [constant_apply, Ideal.ofBits_zero_f32, zero_add]

section Columns
variable (C : FVec Ideal S512x512 .bf16) (f : Fin 2 → Fin 4 → FVec Ideal S512x128 .bf16) (e : Fin 4 → FVec Ideal S512x128 .bf16) (a : Fin 512)

/-- The first 512 columns are the convolution's. -/
theorem mixCols_conv (c : Fin 512) : mixCols (F := Ideal) C f e (ix2 a ⟨c.val, by omega⟩) = C (ix2 a c) := by
  unfold mixCols
  exact concatenate_apply_piece (t := S512x2048) 1 [⟨S512x512, C⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1 _ 0 (by show 0 < 13; decide) S512x512 _ rfl rfl 0 rfl (ix2 a c) (by intro b hb; match b with | ⟨0, _⟩ => rfl | ⟨1, _⟩ => exact absurd rfl hb) (Nat.zero_add _)

set_option maxHeartbeats 1000000 in
/-- The eight windowed heads' columns follow. -/
theorem mixCols_swa (h : Fin 2) (g : Fin 4) (d : Fin 128) :
    mixCols (F := Ideal) C f e (ix2 a ⟨512 + ((h.val * 4 + g.val) * 128 + d.val), by omega⟩) = f h g (ix2 a d) := by
  unfold mixCols
  match h, g with
  | ⟨0, _⟩, ⟨0, _⟩ => exact concatenate_apply_piece (t := S512x2048) 1 [⟨S512x512, C⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1 _ 1 (by show 1 < 13; decide) S512x128 _ rfl rfl 512 rfl (ix2 a d) (by intro b hb; match b with | ⟨0, _⟩ => rfl | ⟨1, _⟩ => exact absurd rfl hb) (by show 512 + d.val = 512 + ((0 * 4 + 0) * 128 + d.val); omega)
  | ⟨0, _⟩, ⟨1, _⟩ => exact concatenate_apply_piece (t := S512x2048) 1 [⟨S512x512, C⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1 _ 2 (by show 2 < 13; decide) S512x128 _ rfl rfl 640 rfl (ix2 a d) (by intro b hb; match b with | ⟨0, _⟩ => rfl | ⟨1, _⟩ => exact absurd rfl hb) (by show 640 + d.val = 512 + ((0 * 4 + 1) * 128 + d.val); omega)
  | ⟨0, _⟩, ⟨2, _⟩ => exact concatenate_apply_piece (t := S512x2048) 1 [⟨S512x512, C⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1 _ 3 (by show 3 < 13; decide) S512x128 _ rfl rfl 768 rfl (ix2 a d) (by intro b hb; match b with | ⟨0, _⟩ => rfl | ⟨1, _⟩ => exact absurd rfl hb) (by show 768 + d.val = 512 + ((0 * 4 + 2) * 128 + d.val); omega)
  | ⟨0, _⟩, ⟨3, _⟩ => exact concatenate_apply_piece (t := S512x2048) 1 [⟨S512x512, C⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1 _ 4 (by show 4 < 13; decide) S512x128 _ rfl rfl 896 rfl (ix2 a d) (by intro b hb; match b with | ⟨0, _⟩ => rfl | ⟨1, _⟩ => exact absurd rfl hb) (by show 896 + d.val = 512 + ((0 * 4 + 3) * 128 + d.val); omega)
  | ⟨1, _⟩, ⟨0, _⟩ => exact concatenate_apply_piece (t := S512x2048) 1 [⟨S512x512, C⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1 _ 5 (by show 5 < 13; decide) S512x128 _ rfl rfl 1024 rfl (ix2 a d) (by intro b hb; match b with | ⟨0, _⟩ => rfl | ⟨1, _⟩ => exact absurd rfl hb) (by show 1024 + d.val = 512 + ((1 * 4 + 0) * 128 + d.val); omega)
  | ⟨1, _⟩, ⟨1, _⟩ => exact concatenate_apply_piece (t := S512x2048) 1 [⟨S512x512, C⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1 _ 6 (by show 6 < 13; decide) S512x128 _ rfl rfl 1152 rfl (ix2 a d) (by intro b hb; match b with | ⟨0, _⟩ => rfl | ⟨1, _⟩ => exact absurd rfl hb) (by show 1152 + d.val = 512 + ((1 * 4 + 1) * 128 + d.val); omega)
  | ⟨1, _⟩, ⟨2, _⟩ => exact concatenate_apply_piece (t := S512x2048) 1 [⟨S512x512, C⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1 _ 7 (by show 7 < 13; decide) S512x128 _ rfl rfl 1280 rfl (ix2 a d) (by intro b hb; match b with | ⟨0, _⟩ => rfl | ⟨1, _⟩ => exact absurd rfl hb) (by show 1280 + d.val = 512 + ((1 * 4 + 2) * 128 + d.val); omega)
  | ⟨1, _⟩, ⟨3, _⟩ => exact concatenate_apply_piece (t := S512x2048) 1 [⟨S512x512, C⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1 _ 8 (by show 8 < 13; decide) S512x128 _ rfl rfl 1408 rfl (ix2 a d) (by intro b hb; match b with | ⟨0, _⟩ => rfl | ⟨1, _⟩ => exact absurd rfl hb) (by show 1408 + d.val = 512 + ((1 * 4 + 3) * 128 + d.val); omega)

set_option maxHeartbeats 1000000 in
/-- The four memory heads' columns come last. -/
theorem mixCols_cross (n : Fin 4) (d : Fin 128) :
    mixCols (F := Ideal) C f e (ix2 a ⟨1536 + (n.val * 128 + d.val), by omega⟩) = e n (ix2 a d) := by
  unfold mixCols
  match n with
  | ⟨0, _⟩ => exact concatenate_apply_piece (t := S512x2048) 1 [⟨S512x512, C⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1 _ 9 (by show 9 < 13; decide) S512x128 _ rfl rfl 1536 rfl (ix2 a d) (by intro b hb; match b with | ⟨0, _⟩ => rfl | ⟨1, _⟩ => exact absurd rfl hb) (by show 1536 + d.val = 1536 + (0 * 128 + d.val); omega)
  | ⟨1, _⟩ => exact concatenate_apply_piece (t := S512x2048) 1 [⟨S512x512, C⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1 _ 10 (by show 10 < 13; decide) S512x128 _ rfl rfl 1664 rfl (ix2 a d) (by intro b hb; match b with | ⟨0, _⟩ => rfl | ⟨1, _⟩ => exact absurd rfl hb) (by show 1664 + d.val = 1536 + (1 * 128 + d.val); omega)
  | ⟨2, _⟩ => exact concatenate_apply_piece (t := S512x2048) 1 [⟨S512x512, C⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1 _ 11 (by show 11 < 13; decide) S512x128 _ rfl rfl 1792 rfl (ix2 a d) (by intro b hb; match b with | ⟨0, _⟩ => rfl | ⟨1, _⟩ => exact absurd rfl hb) (by show 1792 + d.val = 1536 + (2 * 128 + d.val); omega)
  | ⟨3, _⟩ => exact concatenate_apply_piece (t := S512x2048) 1 [⟨S512x512, C⟩, ⟨S512x128, f 0 0⟩, ⟨S512x128, f 0 1⟩, ⟨S512x128, f 0 2⟩, ⟨S512x128, f 0 3⟩, ⟨S512x128, f 1 0⟩, ⟨S512x128, f 1 1⟩, ⟨S512x128, f 1 2⟩, ⟨S512x128, f 1 3⟩, ⟨S512x128, e 0⟩, ⟨S512x128, e 1⟩, ⟨S512x128, e 2⟩, ⟨S512x128, e 3⟩] concatenates_S512x512_S512x128_S512x128_S512x128_S512x128_S512x128_S512x128_S512x128_S512x128_S512x128_S512x128_S512x128_S512x128_S512x2048_d1 _ 12 (by show 12 < 13; decide) S512x128 _ rfl rfl 1920 rfl (ix2 a d) (by intro b hb; match b with | ⟨0, _⟩ => rfl | ⟨1, _⟩ => exact absurd rfl hb) (by show 1920 + d.val = 1536 + (3 * 128 + d.val); omega)

end Columns

end Cert.MixIdeal.Tile
-- ==== Proof.Block.lean ====
module

public import proofs.«01_k».proof.Proof.BlockRead
public import proofs.«01_k».proof.Proof.Attn

@[expose] public section

set_option maxRecDepth 16384

noncomputable section

namespace Cert.MixIdeal.Tile

open Cert.MixIdeal Cert.MixIdeal.Gen Idealize.ShloMosaic Idealize.ShloMosaic.TcCoe Idealize.SL.Sem
open Idealize.ShloMosaic.ValueIdx

/-! # One grid point's two output blocks as the mixer's formulas

  A grid point has 512 rows, four groups of 128; its input blocks are the argument arrays' rows as the hypotheses say. -/

/-- Row `r` of the `j`-th group of a block. -/
abbrev lrow (j : Fin 4) (r : Fin 128) : Fin 512 := ⟨j.val * 128 + r.val, by omega⟩

/-- The 128 rows before a block. -/
abbrev prev128 (t : Fin 16) (r : Fin 128) : Fin 8192 := ⟨t.val * 512 - 128 + r.val, by omega⟩

/-- The eight rows before a block. -/
abbrev prev8 (t : Fin 16) (a : Fin 8) : Fin 8192 := ⟨t.val * 512 - 8 + a.val, by omega⟩

/-- The memory slots of a block's sequence. -/
abbrev slotRow (t : Fin 16) (a : Fin 256) : Fin 1024 := ⟨t.val / 4 * 256 + a.val, by omega⟩

theorem brow_eq (t : Fin 16) (j : Fin 4) (r : Fin 128) : brow t (lrow j r) = Spec.row (grp t j) r :=
  Fin.ext (by show t.val * 512 + (j.val * 128 + r.val) = (t.val * 4 + j.val) * 128 + r.val; omega)

/-- The entry `s` rows before row `a` of the block (`s` at most eight). -/
theorem extended_earlier (i : grid0.Coords) (t : Fin 16) (ht : (i 1).val = t.val % 4) (x10 : Vec Ideal S512x512 .f32) (x11 : Vec Ideal S8x512 .f32)
    (u : Spec.Arr 8192 512) (h10 : ∀ (a : Fin 512) (c : Fin 512), x10 (ix2 a c) = u (ix2 (brow t a) c))
    (h11 : t.val ≠ 0 → ∀ (a : Fin 8) (c : Fin 512), x11 (ix2 a c) = u (ix2 (prev8 t a) c))
    (s : ℕ) (hs : 1 ≤ s) (hs8 : s ≤ 8) (a c : Fin 512) (e : Fin 520) (he : e.val = 8 - s + a.val) :
    extended i x10 x11 (ix2 e c) = Spec.earlier u s (brow t a) c := by
  have hb : (brow t a).val = t.val * 512 + a.val := rfl
  unfold Spec.earlier
  by_cases h8 : 8 ≤ e.val
  · rw [extended_own i x10 x11 e c h8, h10, if_neg (by rw [hb]; omega)]
    exact congrArg (fun ρ => u (ix2 ρ c)) (Fin.ext (by show t.val * 512 + (e.val - 8) = t.val * 512 + a.val - s; omega))
  · rw [extended_front i x10 x11 e c (by omega), ht]
    by_cases hz : t.val % 4 = 0
    · rw [if_pos hz, if_pos (by rw [hb]; omega)]
    · rw [if_neg hz, if_neg (by rw [hb]; omega), h11 (by omega)]
      exact congrArg (fun ρ => u (ix2 ρ c)) (Fin.ext (by show t.val * 512 - 8 + e.val = t.val * 512 + a.val - s; omega))

/-- The block's convolution is the arrays'. -/
theorem convCols_eq (i : grid0.Coords) (t : Fin 16) (ht : (i 1).val = t.val % 4) (x9 x10 : Vec Ideal S512x512 .f32) (x11 : Vec Ideal S8x512 .f32) (x12 : Vec Ideal S3x512 .f32)
    (b u : Spec.Arr 8192 512) (h9 : ∀ (a : Fin 512) (c : Fin 512), x9 (ix2 a c) = b (ix2 (brow t a) c)) (h10 : ∀ (a : Fin 512) (c : Fin 512), x10 (ix2 a c) = u (ix2 (brow t a) c))
    (h11 : t.val ≠ 0 → ∀ (a : Fin 8) (c : Fin 512), x11 (ix2 a c) = u (ix2 (prev8 t a) c)) (a c : Fin 512) :
    convCols (F := Ideal) i x9 x10 x11 x12 (ix2 a c) = Spec.conv b u x12 (brow t a) c := by
  rw [convCols_apply, extended_earlier i t ht x10 x11 u h10 h11 2 (by omega) (by omega) a c _ rfl, extended_earlier i t ht x10 x11 u h10 h11 1 (by omega) (by omega) a c _ rfl, h9, h10]
  rfl

section Point
variable (i : grid0.Coords) (t : Fin 16) (ht : (i 1).val = t.val % 4)
  (x0 : Vec Ideal S8 .f32) (x1 : Vec Ideal S512x1024 .bf16) (x2 : Vec Ideal S512x256 .bf16) (x3 : Vec Ideal S128x256 .bf16) (x4 : Vec Ideal S512x256 .bf16) (x5 : Vec Ideal S128x256 .bf16)
  (x6 : Vec Ideal S512x512 .bf16) (x7 x8 : Vec Ideal S256x512 .bf16) (x9 x10 : Vec Ideal S512x512 .f32) (x11 : Vec Ideal S8x512 .f32) (x12 : Vec Ideal S3x512 .f32)
  (x13 : Vec Ideal S2x512x256 .f32) (x14 : Vec Ideal S128x256 .f32) (x15 : Vec Ideal S512x2048 .f32) (x16 : Vec Ideal S2048x2048 .bf16) (x17 : Vec Ideal S1x2048 .f32)
  (q : Spec.Arr 8192 1024) (k v : Spec.Arr 8192 256) (qx : Spec.Arr 8192 512) (mk mv : Spec.Arr 1024 512) (b u : Spec.Arr 8192 512) (x : Spec.Arr 8192 2048)
  (f0 : Finite (ι := S8.Idx) x0) (fq : Finite q) (fk : Finite k) (fqx : Finite qx) (fmk : Finite mk) (fb : Finite (ι := S2x512x256.Idx) x13)
  (h1 : ∀ (a : Fin 512) (c : Fin 1024), x1 (ix2 a c) = q (ix2 (brow t a) c))
  (h2 : ∀ (a : Fin 512) (c : Fin 256), x2 (ix2 a c) = k (ix2 (brow t a) c))
  (h3 : t.val ≠ 0 → ∀ (r : Fin 128) (c : Fin 256), x3 (ix2 r c) = k (ix2 (prev128 t r) c))
  (h4 : ∀ (a : Fin 512) (c : Fin 256), x4 (ix2 a c) = v (ix2 (brow t a) c))
  (h5 : t.val ≠ 0 → ∀ (r : Fin 128) (c : Fin 256), x5 (ix2 r c) = v (ix2 (prev128 t r) c))
  (h6 : ∀ (a : Fin 512) (c : Fin 512), x6 (ix2 a c) = qx (ix2 (brow t a) c))
  (h7 : ∀ (a : Fin 256) (c : Fin 512), x7 (ix2 a c) = mk (ix2 (slotRow t a) c))
  (h8 : ∀ (a : Fin 256) (c : Fin 512), x8 (ix2 a c) = mv (ix2 (slotRow t a) c))
  (h9 : ∀ (a : Fin 512) (c : Fin 512), x9 (ix2 a c) = b (ix2 (brow t a) c))
  (h10 : ∀ (a : Fin 512) (c : Fin 512), x10 (ix2 a c) = u (ix2 (brow t a) c))
  (h11 : t.val ≠ 0 → ∀ (a : Fin 8) (c : Fin 512), x11 (ix2 a c) = u (ix2 (prev8 t a) c))
  (h14 : ∀ (r : Fin 128) (c : Fin 256), x14 (ix2 r c) = Ideal.ofBits .f32 (lit0t (r.val * 256 + c.val)))
  (h15 : ∀ (a : Fin 512) (c : Fin 2048), x15 (ix2 a c) = x (ix2 (brow t a) c))
include ht f0 fq fk fqx fmk fb h1 h2 h3 h4 h5 h6 h7 h8 h9 h10 h11 h14

/-- A row of the block's mixer columns. -/
theorem columns_eq (j : Fin 4) (r : Fin 128) :
    (fun l : Fin 2048 => mixCols (F := Ideal) (convCols i x9 x10 x11 x12) (swaHead i x0 x1 x2 x3 x4 x5 x13 x14) (crossHead x6 x7 x8) (ix2 (lrow j r) l))
      = Spec.mixed x0 q k v qx mk mv b u x12 x13 (grp t j) r := by
  refine Spec.eq_mixed _ (fun c => ?_) (fun h g d => ?_) (fun n d => ?_)
  · refine (mixCols_conv _ _ _ _ c).trans ?_
    rw [convCols_eq i t ht x9 x10 x11 x12 b u h9 h10 h11, brow_eq]
  · refine (mixCols_swa _ _ _ _ h g d).trans ?_
    exact swaHead_apply i t ht x0 x1 x2 x3 x4 x5 x13 x14 q k v f0 fq fk fb h1 h2 h3 h4 h5 h14 h g j r d
  · refine (mixCols_cross _ _ _ _ n d).trans ?_
    exact crossHead_apply t x6 x7 x8 qx mk mv fqx fmk h6 h7 h8 n j r d

include h15

/-- An entry of the first output block. -/
theorem first_block (j : Fin 4) (r : Fin 128) (l : Fin 2048) :
    residual (F := Ideal) (mixCols (convCols i x9 x10 x11 x12) (swaHead i x0 x1 x2 x3 x4 x5 x13 x14) (crossHead x6 x7 x8)) x15 x16 (ix2 (lrow j r) l)
      = Spec.x1 (Spec.mixed x0 q k v qx mk mv b u x12 x13 (grp t j) r) x x16 (Spec.row (grp t j) r) l := by
  rw [residual_apply, h15, brow_eq, ← columns_eq i t ht x0 x1 x2 x3 x4 x5 x6 x7 x8 x9 x10 x11 x12 x13 x14 q k v qx mk mv b u f0 fq fk fqx fmk fb h1 h2 h3 h4 h5 h6 h7 h8 h9 h10 h11 h14 j r]
  rfl

/-- An entry of the second output block. -/
theorem second_block (j : Fin 4) (r : Fin 128) (l : Fin 2048) :
    k0_pay1 (F := Ideal) (residual (mixCols (convCols i x9 x10 x11 x12) (swaHead i x0 x1 x2 x3 x4 x5 x13 x14) (crossHead x6 x7 x8)) x15 x16) x17 (ix2 (lrow j r) l)
      = Spec.norm (Spec.x1 (Spec.mixed x0 q k v qx mk mv b u x12 x13 (grp t j) r) x x16 (Spec.row (grp t j) r)) x17 l := by
  rw [normalised_apply]
  refine congrArg (fun y => Spec.norm y x17 l) (funext fun l' => ?_)
  exact first_block i t ht x0 x1 x2 x3 x4 x5 x6 x7 x8 x9 x10 x11 x12 x13 x14 x15 x16 q k v qx mk mv b u x f0 fq fk fqx fmk fb h1 h2 h3 h4 h5 h6 h7 h8 h9 h10 h11 h14 h15 j r l'

end Point

end Cert.MixIdeal.Tile
-- ==== Proof.Windows.lean ====
module

public import proofs.«01_k».proof.Proof.Block
public import proofs.«01_k».proof.Proof.Gen.MixIdeal.Value

@[expose] public section

set_option maxRecDepth 16384

noncomputable section

namespace Cert.MixIdeal.Tile

open Cert.MixIdeal Cert.MixIdeal.Gen Idealize.ShloMosaic Idealize.ShloMosaic.TcCoe Idealize.SL.Sem
open Idealize.ShloMosaic.ValueIdx

/-! # The windows' blocks at an index, as entries of the argument arrays -/

variable (m : (ℓ : Loc nD τ sig) → Buf (Elt Ideal) ℓ)

/-- The grid point as a number below sixteen. -/
abbrev pt (t : Fin cfg0.N) : Fin 16 := ⟨t.val, lt_of_lt_of_eq t.isLt N_0⟩

theorem point_coord : ∀ t : Fin cfg0.N, (grid0.coords t 1).val = (pt t).val % 4 :=
  (by decide +kernel : ∀ t : Fin grid0.N, (grid0.coords t 1).val = t.val % 4)

theorem index_1 : ∀ t : Fin cfg0.N, win0_1.index t 0 = t.val ∧ win0_1.index t 1 = 0 :=
  (by decide +kernel : ∀ t : Fin grid0.N, win0_1.index t 0 = t.val ∧ win0_1.index t 1 = 0)

theorem block_1 (c : Dev nD) (t : Fin cfg0.N) (a : Fin 512) (l : Fin 1024) :
    (iblk m c 1 t : Vec Ideal S512x1024 .bf16) (ix2 a l) = m ((c : Thread nD τ).loc main_arg1) (ix2 (brow (pt t) a) l) := by
  have hi := index_1 t
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ => show win0_1.index t 0 * 512 + 1 * a.val = t.val * 512 + a.val; rw [hi.1]; omega
  | ⟨1, _⟩ => show win0_1.index t 1 * 1024 + 1 * l.val = l.val; rw [hi.2]; omega

theorem index_2 : ∀ t : Fin cfg0.N, win0_2.index t 0 = t.val ∧ win0_2.index t 1 = 0 :=
  (by decide +kernel : ∀ t : Fin grid0.N, win0_2.index t 0 = t.val ∧ win0_2.index t 1 = 0)

theorem block_2 (c : Dev nD) (t : Fin cfg0.N) (a : Fin 512) (l : Fin 256) :
    (iblk m c 2 t : Vec Ideal S512x256 .bf16) (ix2 a l) = m ((c : Thread nD τ).loc main_arg2) (ix2 (brow (pt t) a) l) := by
  have hi := index_2 t
  unfold iblk
  rw [View.read_apply]
  show V m c main_arg2 _ = m (c.tc.loc main_arg2) _
  rw [V_main_arg2]
  refine congrArg (m (c.tc.loc main_arg2)) (funext fun b => Fin.ext ?_)
  match b with
  | ⟨0, _⟩ => show win0_2.index t 0 * 512 + 1 * a.val = t.val * 512 + a.val; rw [hi.1]; omega
  | ⟨1, _⟩ => show win0_2.index t 1 * 256 + 1 * l.val = l.val; rw [hi.2]; omega

theorem index_4 : ∀ t : Fin cfg0.N, win0_4.index t 0 = t.val ∧ win0_4.index t 1 = 0 :=
  (by decide +kernel : ∀ t : Fin grid0.N, win0_4.index t 0 = t.val ∧ win0_4.index t 1 = 0)

theorem block_4 (c : Dev nD) (t : Fin cfg0.N) (a : Fin 512) (l : Fin 256) :
    (iblk m c 4 t : Vec Ideal S512x256 .bf16) (ix2 a l) = m ((c : Thread nD τ).loc main_arg3) (ix2 (brow (pt t) a) l) := by
  have hi := index_4 t
  unfold iblk
  rw [View.read_apply]
  show V m c main_arg3 _ = m (c.tc.loc main_arg3) _
  rw [V_main_arg3]
  refine congrArg (m (c.tc.loc main_arg3)) (funext fun b => Fin.ext ?_)
  match b with
  | ⟨0, _⟩ => show win0_4.index t 0 * 512 + 1 * a.val = t.val * 512 + a.val; rw [hi.1]; omega
  | ⟨1, _⟩ => show win0_4.index t 1 * 256 + 1 * l.val = l.val; rw [hi.2]; omega

theorem index_6 : ∀ t : Fin cfg0.N, win0_6.index t 0 = t.val ∧ win0_6.index t 1 = 0 :=
  (by decide +kernel : ∀ t : Fin grid0.N, win0_6.index t 0 = t.val ∧ win0_6.index t 1 = 0)

theorem block_6 (c : Dev nD) (t : Fin cfg0.N) (a : Fin 512) (l : Fin 512) :
    (iblk m c 6 t : Vec Ideal S512x512 .bf16) (ix2 a l) = m ((c : Thread nD τ).loc main_arg4) (ix2 (brow (pt t) a) l) := by
  have hi := index_6 t
  unfold iblk
  rw [View.read_apply]
  show V m c main_arg4 _ = m (c.tc.loc main_arg4) _
  rw [V_main_arg4]
  refine congrArg (m (c.tc.loc main_arg4)) (funext fun b => Fin.ext ?_)
  match b with
  | ⟨0, _⟩ => show win0_6.index t 0 * 512 + 1 * a.val = t.val * 512 + a.val; rw [hi.1]; omega
  | ⟨1, _⟩ => show win0_6.index t 1 * 512 + 1 * l.val = l.val; rw [hi.2]; omega

theorem index_9 : ∀ t : Fin cfg0.N, win0_9.index t 0 = t.val ∧ win0_9.index t 1 = 0 :=
  (by decide +kernel : ∀ t : Fin grid0.N, win0_9.index t 0 = t.val ∧ win0_9.index t 1 = 0)

theorem block_9 (c : Dev nD) (t : Fin cfg0.N) (a : Fin 512) (l : Fin 512) :
    (iblk m c 9 t : Vec Ideal S512x512 .f32) (ix2 a l) = m ((c : Thread nD τ).loc main_arg7) (ix2 (brow (pt t) a) l) := by
  have hi := index_9 t
  unfold iblk
  rw [View.read_apply]
  show V m c main_arg7 _ = m (c.tc.loc main_arg7) _
  rw [V_main_arg7]
  refine congrArg (m (c.tc.loc main_arg7)) (funext fun b => Fin.ext ?_)
  match b with
  | ⟨0, _⟩ => show win0_9.index t 0 * 512 + 1 * a.val = t.val * 512 + a.val; rw [hi.1]; omega
  | ⟨1, _⟩ => show win0_9.index t 1 * 512 + 1 * l.val = l.val; rw [hi.2]; omega

theorem index_10 : ∀ t : Fin cfg0.N, win0_10.index t 0 = t.val ∧ win0_10.index t 1 = 0 :=
  (by decide +kernel : ∀ t : Fin grid0.N, win0_10.index t 0 = t.val ∧ win0_10.index t 1 = 0)

theorem block_10 (c : Dev nD) (t : Fin cfg0.N) (a : Fin 512) (l : Fin 512) :
    (iblk m c 10 t : Vec Ideal S512x512 .f32) (ix2 a l) = m ((c : Thread nD τ).loc main_arg8) (ix2 (brow (pt t) a) l) := by
  have hi := index_10 t
  unfold iblk
  rw [View.read_apply]
  show V m c main_arg8 _ = m (c.tc.loc main_arg8) _
  rw [V_main_arg8]
  refine congrArg (m (c.tc.loc main_arg8)) (funext fun b => Fin.ext ?_)
  match b with
  | ⟨0, _⟩ => show win0_10.index t 0 * 512 + 1 * a.val = t.val * 512 + a.val; rw [hi.1]; omega
  | ⟨1, _⟩ => show win0_10.index t 1 * 512 + 1 * l.val = l.val; rw [hi.2]; omega

theorem index_15 : ∀ t : Fin cfg0.N, win0_15.index t 0 = t.val ∧ win0_15.index t 1 = 0 :=
  (by decide +kernel : ∀ t : Fin grid0.N, win0_15.index t 0 = t.val ∧ win0_15.index t 1 = 0)

theorem block_15 (c : Dev nD) (t : Fin cfg0.N) (a : Fin 512) (l : Fin 2048) :
    (iblk m c 15 t : Vec Ideal S512x2048 .f32) (ix2 a l) = m ((c : Thread nD τ).loc main_arg11) (ix2 (brow (pt t) a) l) := by
  have hi := index_15 t
  unfold iblk
  rw [View.read_apply]
  show V m c main_arg11 _ = m (c.tc.loc main_arg11) _
  rw [V_main_arg11]
  refine congrArg (m (c.tc.loc main_arg11)) (funext fun b => Fin.ext ?_)
  match b with
  | ⟨0, _⟩ => show win0_15.index t 0 * 512 + 1 * a.val = t.val * 512 + a.val; rw [hi.1]; omega
  | ⟨1, _⟩ => show win0_15.index t 1 * 2048 + 1 * l.val = l.val; rw [hi.2]; omega

theorem index_3 : ∀ t : Fin cfg0.N, win0_3.index t 0 = t.val * 4 - 1 ∧ win0_3.index t 1 = 0 :=
  (by decide +kernel : ∀ t : Fin grid0.N, win0_3.index t 0 = t.val * 4 - 1 ∧ win0_3.index t 1 = 0)

theorem block_3 (c : Dev nD) (t : Fin cfg0.N) (ht : (pt t).val ≠ 0) (a : Fin 128) (l : Fin 256) :
    (iblk m c 3 t : Vec Ideal S128x256 .bf16) (ix2 a l) = m ((c : Thread nD τ).loc main_arg2) (ix2 (prev128 (pt t) a) l) := by
  have hi := index_3 t
  unfold iblk
  rw [View.read_apply]
  show V m c main_arg2 _ = m (c.tc.loc main_arg2) _
  rw [V_main_arg2]
  refine congrArg (m (c.tc.loc main_arg2)) (funext fun b => Fin.ext ?_)
  match b with
  | ⟨0, _⟩ => show win0_3.index t 0 * 128 + 1 * a.val = t.val * 512 - 128 + a.val; rw [hi.1]; have : t.val ≠ 0 := ht; omega
  | ⟨1, _⟩ => show win0_3.index t 1 * 256 + 1 * l.val = l.val; rw [hi.2]; omega

theorem index_5 : ∀ t : Fin cfg0.N, win0_5.index t 0 = t.val * 4 - 1 ∧ win0_5.index t 1 = 0 :=
  (by decide +kernel : ∀ t : Fin grid0.N, win0_5.index t 0 = t.val * 4 - 1 ∧ win0_5.index t 1 = 0)

theorem block_5 (c : Dev nD) (t : Fin cfg0.N) (ht : (pt t).val ≠ 0) (a : Fin 128) (l : Fin 256) :
    (iblk m c 5 t : Vec Ideal S128x256 .bf16) (ix2 a l) = m ((c : Thread nD τ).loc main_arg3) (ix2 (prev128 (pt t) a) l) := by
  have hi := index_5 t
  unfold iblk
  rw [View.read_apply]
  show V m c main_arg3 _ = m (c.tc.loc main_arg3) _
  rw [V_main_arg3]
  refine congrArg (m (c.tc.loc main_arg3)) (funext fun b => Fin.ext ?_)
  match b with
  | ⟨0, _⟩ => show win0_5.index t 0 * 128 + 1 * a.val = t.val * 512 - 128 + a.val; rw [hi.1]; have : t.val ≠ 0 := ht; omega
  | ⟨1, _⟩ => show win0_5.index t 1 * 256 + 1 * l.val = l.val; rw [hi.2]; omega

theorem index_11 : ∀ t : Fin cfg0.N, win0_11.index t 0 = t.val * 64 - 1 ∧ win0_11.index t 1 = 0 :=
  (by decide +kernel : ∀ t : Fin grid0.N, win0_11.index t 0 = t.val * 64 - 1 ∧ win0_11.index t 1 = 0)

theorem block_11 (c : Dev nD) (t : Fin cfg0.N) (ht : (pt t).val ≠ 0) (a : Fin 8) (l : Fin 512) :
    (iblk m c 11 t : Vec Ideal S8x512 .f32) (ix2 a l) = m ((c : Thread nD τ).loc main_arg8) (ix2 (prev8 (pt t) a) l) := by
  have hi := index_11 t
  unfold iblk
  rw [View.read_apply]
  show V m c main_arg8 _ = m (c.tc.loc main_arg8) _
  rw [V_main_arg8]
  refine congrArg (m (c.tc.loc main_arg8)) (funext fun b => Fin.ext ?_)
  match b with
  | ⟨0, _⟩ => show win0_11.index t 0 * 8 + 1 * a.val = t.val * 512 - 8 + a.val; rw [hi.1]; have : t.val ≠ 0 := ht; omega
  | ⟨1, _⟩ => show win0_11.index t 1 * 512 + 1 * l.val = l.val; rw [hi.2]; omega

theorem index_7 : ∀ t : Fin cfg0.N, win0_7.index t 0 = t.val / 4 ∧ win0_7.index t 1 = 0 :=
  (by decide +kernel : ∀ t : Fin grid0.N, win0_7.index t 0 = t.val / 4 ∧ win0_7.index t 1 = 0)

theorem block_7 (c : Dev nD) (t : Fin cfg0.N) (a : Fin 256) (l : Fin 512) :
    (iblk m c 7 t : Vec Ideal S256x512 .bf16) (ix2 a l) = m ((c : Thread nD τ).loc main_arg5) (ix2 (slotRow (pt t) a) l) := by
  have hi := index_7 t
  unfold iblk
  rw [View.read_apply]
  show V m c main_arg5 _ = m (c.tc.loc main_arg5) _
  rw [V_main_arg5]
  refine congrArg (m (c.tc.loc main_arg5)) (funext fun b => Fin.ext ?_)
  match b with
  | ⟨0, _⟩ => show win0_7.index t 0 * 256 + 1 * a.val = t.val / 4 * 256 + a.val; rw [hi.1]; omega
  | ⟨1, _⟩ => show win0_7.index t 1 * 512 + 1 * l.val = l.val; rw [hi.2]; omega

theorem index_8 : ∀ t : Fin cfg0.N, win0_8.index t 0 = t.val / 4 ∧ win0_8.index t 1 = 0 :=
  (by decide +kernel : ∀ t : Fin grid0.N, win0_8.index t 0 = t.val / 4 ∧ win0_8.index t 1 = 0)

theorem block_8 (c : Dev nD) (t : Fin cfg0.N) (a : Fin 256) (l : Fin 512) :
    (iblk m c 8 t : Vec Ideal S256x512 .bf16) (ix2 a l) = m ((c : Thread nD τ).loc main_arg6) (ix2 (slotRow (pt t) a) l) := by
  have hi := index_8 t
  unfold iblk
  rw [View.read_apply]
  show V m c main_arg6 _ = m (c.tc.loc main_arg6) _
  rw [V_main_arg6]
  refine congrArg (m (c.tc.loc main_arg6)) (funext fun b => Fin.ext ?_)
  match b with
  | ⟨0, _⟩ => show win0_8.index t 0 * 256 + 1 * a.val = t.val / 4 * 256 + a.val; rw [hi.1]; omega
  | ⟨1, _⟩ => show win0_8.index t 1 * 512 + 1 * l.val = l.val; rw [hi.2]; omega

theorem index_0 : ∀ t : Fin cfg0.N, win0_0.index t 0 = 0 :=
  (by decide +kernel : ∀ t : Fin grid0.N, win0_0.index t 0 = 0)

theorem block_0 (c : Dev nD) (t : Fin cfg0.N) :
    (iblk m c 0 t : Vec Ideal S8 .f32) = m ((c : Thread nD τ).loc main_arg0) := by
  have hi := index_0 t
  unfold iblk
  funext j
  rw [View.read_apply]
  show V m c main_arg0 _ = m (c.tc.loc main_arg0) _
  rw [V_main_arg0]
  refine congrArg (m (c.tc.loc main_arg0)) (funext fun b => Fin.ext ?_)
  match b with
  | ⟨0, _⟩ => show win0_0.index t 0 * 8 + 1 * (j 0).val = (j 0).val; rw [hi]; omega

theorem index_12 : ∀ t : Fin cfg0.N, win0_12.index t 0 = 0 ∧ win0_12.index t 1 = 0 :=
  (by decide +kernel : ∀ t : Fin grid0.N, win0_12.index t 0 = 0 ∧ win0_12.index t 1 = 0)

theorem block_12 (c : Dev nD) (t : Fin cfg0.N) :
    (iblk m c 12 t : Vec Ideal S3x512 .f32) = m ((c : Thread nD τ).loc main_arg9) := by
  have hi := index_12 t
  unfold iblk
  funext j
  rw [View.read_apply]
  show V m c main_arg9 _ = m (c.tc.loc main_arg9) _
  rw [V_main_arg9]
  refine congrArg (m (c.tc.loc main_arg9)) (funext fun b => Fin.ext ?_)
  match b with
  | ⟨0, _⟩ => show win0_12.index t 0 * 3 + 1 * (j 0).val = (j 0).val; rw [hi.1]; omega
  | ⟨1, _⟩ => show win0_12.index t 1 * 512 + 1 * (j 1).val = (j 1).val; rw [hi.2]; omega

theorem index_13 : ∀ t : Fin cfg0.N, win0_13.index t 0 = 0 ∧ win0_13.index t 1 = 0 ∧ win0_13.index t 2 = 0 :=
  (by decide +kernel : ∀ t : Fin grid0.N, win0_13.index t 0 = 0 ∧ win0_13.index t 1 = 0 ∧ win0_13.index t 2 = 0)

theorem block_13 (c : Dev nD) (t : Fin cfg0.N) :
    (iblk m c 13 t : Vec Ideal S2x512x256 .f32) = m ((c : Thread nD τ).loc main_arg10) := by
  have hi := index_13 t
  unfold iblk
  funext j
  rw [View.read_apply]
  show V m c main_arg10 _ = m (c.tc.loc main_arg10) _
  rw [V_main_arg10]
  refine congrArg (m (c.tc.loc main_arg10)) (funext fun b => Fin.ext ?_)
  match b with
  | ⟨0, _⟩ => show win0_13.index t 0 * 2 + 1 * (j 0).val = (j 0).val; rw [hi.1]; omega
  | ⟨1, _⟩ => show win0_13.index t 1 * 512 + 1 * (j 1).val = (j 1).val; rw [hi.2.1]; omega
  | ⟨2, _⟩ => show win0_13.index t 2 * 256 + 1 * (j 2).val = (j 2).val; rw [hi.2.2]; omega

theorem index_16 : ∀ t : Fin cfg0.N, win0_16.index t 0 = 0 ∧ win0_16.index t 1 = 0 :=
  (by decide +kernel : ∀ t : Fin grid0.N, win0_16.index t 0 = 0 ∧ win0_16.index t 1 = 0)

theorem block_16 (c : Dev nD) (t : Fin cfg0.N) :
    (iblk m c 16 t : Vec Ideal S2048x2048 .bf16) = m ((c : Thread nD τ).loc main_arg12) := by
  have hi := index_16 t
  unfold iblk
  funext j
  rw [View.read_apply]
  show V m c main_arg12 _ = m (c.tc.loc main_arg12) _
  rw [V_main_arg12]
  refine congrArg (m (c.tc.loc main_arg12)) (funext fun b => Fin.ext ?_)
  match b with
  | ⟨0, _⟩ => show win0_16.index t 0 * 2048 + 1 * (j 0).val = (j 0).val; rw [hi.1]; omega
  | ⟨1, _⟩ => show win0_16.index t 1 * 2048 + 1 * (j 1).val = (j 1).val; rw [hi.2]; omega

theorem index_17 : ∀ t : Fin cfg0.N, win0_17.index t 0 = 0 ∧ win0_17.index t 1 = 0 :=
  (by decide +kernel : ∀ t : Fin grid0.N, win0_17.index t 0 = 0 ∧ win0_17.index t 1 = 0)

theorem block_17 (c : Dev nD) (t : Fin cfg0.N) :
    (iblk m c 17 t : Vec Ideal S1x2048 .f32) = m ((c : Thread nD τ).loc main_arg13) := by
  have hi := index_17 t
  unfold iblk
  funext j
  rw [View.read_apply]
  show V m c main_arg13 _ = m (c.tc.loc main_arg13) _
  rw [V_main_arg13]
  refine congrArg (m (c.tc.loc main_arg13)) (funext fun b => Fin.ext ?_)
  match b with
  | ⟨0, _⟩ => show win0_17.index t 0 * 1 + 1 * (j 0).val = (j 0).val; rw [hi.1]; omega
  | ⟨1, _⟩ => show win0_17.index t 1 * 2048 + 1 * (j 1).val = (j 1).val; rw [hi.2]; omega

theorem index_14 : ∀ t : Fin cfg0.N, win0_14.index t 0 = 0 ∧ win0_14.index t 1 = 0 :=
  (by decide +kernel : ∀ t : Fin grid0.N, win0_14.index t 0 = 0 ∧ win0_14.index t 1 = 0)

/-- The table of distances is the one constant the program computes before the call. -/
theorem table_value (c : Dev nD) : V m c main_cst = fun i => Ideal.ofBits .f32 (lit0 (S128x256.rowMajor i)) := by
  show StableHlo.after hostOps0 (fun b => m (c, b)) (Proc.devRef .tc main_cst) = _
  simp only [hostOps0, StableHlo.after_cons, StableHlo.after_nil]
  rw [StableHlo.nullary_result]
  rfl

theorem block_14 (c : Dev nD) (t : Fin cfg0.N) (a : Fin 128) (l : Fin 256) :
    (iblk m c 14 t : Vec Ideal S128x256 .f32) (ix2 a l) = Ideal.ofBits .f32 (lit0t (a.val * 256 + l.val)) := by
  have hi := index_14 t
  unfold iblk
  rw [View.read_apply]
  show V m c main_cst _ = _
  rw [table_value]
  have e : (((cfg0.win 14).blk t).view.emb (ix2 a l) : S128x256.Idx) = ix2 a l := by
    funext b
    apply Fin.ext
    match b with
    | ⟨0, _⟩ => show win0_14.index t 0 * 128 + 1 * a.val = a.val; rw [hi.1]; omega
    | ⟨1, _⟩ => show win0_14.index t 1 * 256 + 1 * l.val = l.val; rw [hi.2]; omega
  show Ideal.ofBits .f32 (lit0 (S128x256.rowMajor (((cfg0.win 14).blk t).view.emb (ix2 a l)))) = _
  rw [e]
  refine congrArg (fun n => Ideal.ofBits .f32 (lit0t n)) ?_
  exact Shape.rowMajor_val_two _

end Cert.MixIdeal.Tile
-- ==== Proof.Arrays.lean ====
module

public import proofs.«01_k».proof.Proof.Windows

@[expose] public section

set_option maxRecDepth 16384

noncomputable section

namespace Cert.MixIdeal.Tile

open Cert.MixIdeal Cert.MixIdeal.Gen Idealize.ShloMosaic Idealize.ShloMosaic.TcCoe Idealize.SL.Sem
open Idealize.ShloMosaic.ValueIdx

/-! # The two result arrays of the call, entry by entry -/

variable (m : (ℓ : Loc nD τ sig) → Buf (Elt Ideal) ℓ) (c : Dev nD)

/-- The mixer's row `r` of group `B`, of the argument arrays. -/
abbrev mixedOf (B : Fin 64) (r : Fin 128) : Fin 2048 → EReal :=
  Spec.mixed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) B r

theorem index_18 : ∀ t : Fin cfg0.N, win0_18.index t 0 = t.val ∧ win0_18.index t 1 = 0 :=
  (by decide +kernel : ∀ t : Fin grid0.N, win0_18.index t 0 = t.val ∧ win0_18.index t 1 = 0)

theorem index_19 : ∀ t : Fin cfg0.N, win0_19.index t 0 = t.val ∧ win0_19.index t 1 = 0 :=
  (by decide +kernel : ∀ t : Fin grid0.N, win0_19.index t 0 = t.val ∧ win0_19.index t 1 = 0)

/-- Where row `a` of a grid point's block lies in the first result. -/
theorem place_18 (t : Fin cfg0.N) (a : Fin 512) (l : Fin 2048) : (((cfg0.win 18).blk t).view.emb (ix2 a l) : S8192x2048.Idx) = ix2 (brow (pt t) a) l := by
  have hi := index_18 t
  funext b
  apply Fin.ext
  match b with
  | ⟨0, _⟩ => show win0_18.index t 0 * 512 + 1 * a.val = t.val * 512 + a.val; rw [hi.1]; omega
  | ⟨1, _⟩ => show win0_18.index t 1 * 2048 + 1 * l.val = l.val; rw [hi.2]; omega

/-- Where row `a` of a grid point's block lies in the second result. -/
theorem place_19 (t : Fin cfg0.N) (a : Fin 512) (l : Fin 2048) : (((cfg0.win 19).blk t).view.emb (ix2 a l) : S8192x2048.Idx) = ix2 (brow (pt t) a) l := by
  have hi := index_19 t
  funext b
  apply Fin.ext
  match b with
  | ⟨0, _⟩ => show win0_19.index t 0 * 512 + 1 * a.val = t.val * 512 + a.val; rw [hi.1]; omega
  | ⟨1, _⟩ => show win0_19.index t 1 * 2048 + 1 * l.val = l.val; rw [hi.2]; omega

/-- A load of a whole block is the block. -/
theorem loads_whole (i : grid0.Coords) (f : Fin 2 → Fin 4 → FVec Ideal S512x128 .bf16) (e : Fin 4 → FVec Ideal S512x128 .bf16)
    (x9 x10 : Vec Ideal S512x512 .f32) (x11 : Vec Ideal S8x512 .f32) (x12 : Vec Ideal S3x512 .f32) (x15 : Vec Ideal S512x2048 .f32) (x16 : Vec Ideal S2048x2048 .bf16) :
    residual (F := Ideal) (mixCols (convCols i (View.ld x9 (Rect.unit (s := S512x512) ![0, 0] S512x512.size inb_S512x512_S512x512_0_0)) (View.ld x10 (Rect.unit (s := S512x512) ![0, 0] S512x512.size inb_S512x512_S512x512_0_0)) (View.ld x11 (Rect.unit (s := S8x512) ![0, 0] S8x512.size inb_S8x512_S8x512_0_0)) (View.ld x12 (Rect.unit (s := S3x512) ![0, 0] S3x512.size inb_S3x512_S3x512_0_0))) f e) (View.ld x15 (Rect.unit (s := S512x2048) ![0, 0] S512x2048.size inb_S512x2048_S512x2048_0_0)) (View.ld x16 (Rect.unit (s := S2048x2048) ![0, 0] S2048x2048.size inb_S2048x2048_S2048x2048_0_0))
      = residual (mixCols (convCols i x9 x10 x11 x12) f e) x15 x16 := by
  rw [View.ld_unit_lit inb_S512x512_S512x512_0_0 x9 (by decide), View.ld_unit_lit inb_S512x512_S512x512_0_0 x10 (by decide), View.ld_unit_lit inb_S8x512_S8x512_0_0 x11 (by decide), View.ld_unit_lit inb_S3x512_S3x512_0_0 x12 (by decide), View.ld_unit_lit inb_S512x2048_S512x2048_0_0 x15 (by decide), View.ld_unit_lit inb_S2048x2048_S2048x2048_0_0 x16 (by decide)]

/-- Likewise under the normalisation. -/
theorem norm_loads_whole (z z' : FVec Ideal S512x2048 .f32) (hz : z = z') (x17 : Vec Ideal S1x2048 .f32) :
    k0_pay1 (F := Ideal) z (View.ld x17 (Rect.unit (s := S1x2048) ![0, 0] S1x2048.size inb_S1x2048_S1x2048_0_0)) = k0_pay1 z' x17 := by
  rw [hz, View.ld_unit_lit inb_S1x2048_S1x2048_0_0 x17 (by decide)]

variable (f0 : Finite (ι := S8.Idx) (m ((c : Thread nD τ).loc main_arg0))) (f1 : Finite (ι := S8192x1024.Idx) (m ((c : Thread nD τ).loc main_arg1))) (f2 : Finite (ι := S8192x256.Idx) (m ((c : Thread nD τ).loc main_arg2)))
  (f4 : Finite (ι := S8192x512.Idx) (m ((c : Thread nD τ).loc main_arg4))) (f5 : Finite (ι := S1024x512.Idx) (m ((c : Thread nD τ).loc main_arg5))) (f10 : Finite (ι := S2x512x256.Idx) (m ((c : Thread nD τ).loc main_arg10)))
include f0 f1 f2 f4 f5 f10

set_option maxHeartbeats 1000000 in
/-- The first result: residual rows plus the mixer's row through the output projection. -/
theorem first_array (t : Fin cfg0.N) (j : Fin 4) (r : Fin 128) (l : Fin 2048) :
    ((dats m 0 c).arrAt 18 cfg0.N : S8192x2048.Idx → EReal) (ix2 (Spec.row (grp (pt t) j) r) l)
      = Spec.x1 (mixedOf m c (grp (pt t) j) r) (m ((c : Thread nD τ).loc main_arg11)) (m ((c : Thread nD τ).loc main_arg12)) (Spec.row (grp (pt t) j) r) l := by
  have hb := congrFun (Value.blocks18 m c t (flush0_18 t)) (ix2 (lrow j r) l)
  rw [View.read_apply, Value.flushed18_A, out18_eq] at hb
  have hp : ((dats m 0 c).arrAt 18 cfg0.N : S8192x2048.Idx → EReal) (((cfg0.win 18).blk t).view.emb (ix2 (lrow j r) l)) = _ := hb
  rw [place_18, brow_eq] at hp
  refine hp.trans ?_
  have key := first_block (grid0.coords t) (pt t) (point_coord t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11))
    (by rw [block_0]; exact f0) f1 f2 f4 f5 (by rw [block_13]; exact f10)
    (block_1 m c t) (block_2 m c t) (block_3 m c t) (block_4 m c t) (block_5 m c t) (block_6 m c t) (block_7 m c t) (block_8 m c t) (block_9 m c t) (block_10 m c t) (block_11 m c t) (block_14 m c t) (block_15 m c t) j r l
  refine (congrFun (loads_whole (grid0.coords t) _ _ (iblk m c 9 t) (iblk m c 10 t) (iblk m c 11 t) (iblk m c 12 t) (iblk m c 15 t) (iblk m c 16 t)) _).trans (Eq.trans key ?_)
  rw [block_0, block_12, block_13, block_16]

set_option maxHeartbeats 1000000 in
/-- The second result: the first one's row normalised and scaled. -/
theorem second_array (t : Fin cfg0.N) (j : Fin 4) (r : Fin 128) (l : Fin 2048) :
    ((dats m 0 c).arrAt 19 cfg0.N : S8192x2048.Idx → EReal) (ix2 (Spec.row (grp (pt t) j) r) l)
      = Spec.norm (Spec.x1 (mixedOf m c (grp (pt t) j) r) (m ((c : Thread nD τ).loc main_arg11)) (m ((c : Thread nD τ).loc main_arg12)) (Spec.row (grp (pt t) j) r)) (m ((c : Thread nD τ).loc main_arg13)) l := by
  have hb := congrFun (Value.blocks19 m c t (flush0_19 t)) (ix2 (lrow j r) l)
  rw [View.read_apply, Value.flushed19_A, out19_eq] at hb
  have hp : ((dats m 0 c).arrAt 19 cfg0.N : S8192x2048.Idx → EReal) (((cfg0.win 19).blk t).view.emb (ix2 (lrow j r) l)) = _ := hb
  rw [place_19, brow_eq] at hp
  refine hp.trans ?_
  have key := second_block (grid0.coords t) (pt t) (point_coord t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t)
    (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg11))
    (by rw [block_0]; exact f0) f1 f2 f4 f5 (by rw [block_13]; exact f10)
    (block_1 m c t) (block_2 m c t) (block_3 m c t) (block_4 m c t) (block_5 m c t) (block_6 m c t) (block_7 m c t) (block_8 m c t) (block_9 m c t) (block_10 m c t) (block_11 m c t) (block_14 m c t) (block_15 m c t) j r l
  refine (congrFun (norm_loads_whole _ _ (loads_whole (grid0.coords t) _ _ (iblk m c 9 t) (iblk m c 10 t) (iblk m c 11 t) (iblk m c 12 t) (iblk m c 15 t) (iblk m c 16 t)) (iblk m c 17 t)) _).trans (Eq.trans key ?_)
  rw [block_0, block_12, block_13, block_16, block_17]

end Cert.MixIdeal.Tile
-- ==== Proof.RefConv.lean ====
module

public import proofs.«01_k».proof.Proof.Gen.MixRefIdeal.Read
public import proofs.«01_k».proof.Proof.Spec
public import Idealize.ShloMosaic.Lib.KernelVsHost

@[expose] public section

set_option maxRecDepth 16384

noncomputable section

namespace Cert.MixRefIdeal.Val

open Cert.MixRefIdeal Cert.MixRefIdeal.Gen Cert.MixRefIdeal.Read Idealize.ShloMosaic Idealize.ShloMosaic.TcCoe Idealize.SL.Sem
open Idealize.ShloMosaic.ValueIdx

/-! # The reference's gated short convolution is the formula's -/

variable (x7 x8 : (⟨S8192x512, .f32⟩ : BufTy).Contents (Elt Ideal)) (x9 : (⟨S3x512, .f32⟩ : BufTy).Contents (Elt Ideal))

/-- Row `s` of sequence `b`, counted over all four sequences. -/
abbrev srow (b : Fin 4) (s : Fin 2048) : Fin 8192 := ⟨b.val * 2048 + s.val, by omega⟩

/-- The padded sequence: two zero rows, then the rows of the sequence. -/
theorem padded_apply (b : Fin 4) (s : Fin 2050) (c : Fin 512) :
    val_main_v1 (F := Ideal) x8 (ix3 b s c) = if h : s.val < 2 then 0 else x8 (ix2 (srow b ⟨s.val - 2, by omega⟩) c) := by
  unfold val_main_v1
  by_cases h : s.val < 2
  · rw [dif_pos h]
    refine (pad_apply_of_not_inside _ _ _ _ _ pads_S4x2048x512_S4x2050x512_000_200_000 h_S_ (ix3 b s c) 1 ?_).trans ?_
    · rintro ⟨h1, _⟩
      exact absurd h (not_lt.mpr h1)
    · show ((((0#32 : BitVec 32).toInt : ℝ)) : EReal) = 0
      simp
  · rw [dif_neg h]
    refine (pad_apply_of_inside _ _ _ _ _ pads_S4x2048x512_S4x2050x512_000_200_000 h_S_ (ix3 b s c) (ix3 b ⟨s.val - 2, by omega⟩ c) ?_).trans ?_
    · intro a
      match a with
      | ⟨0, _⟩ => show b.val = 0 + b.val * (0 + 1); omega
      | ⟨1, _⟩ => show s.val = 2 + (s.val - 2) * (0 + 1); omega
      | ⟨2, _⟩ => show c.val = 0 + c.val * (0 + 1); omega
    · rw [val_main_v0_apply]
      refine congrArg x8 (funext fun a => ?_)
      match a with
      | ⟨0, _⟩ => exact Fin.ext (by show ((b.val * 2048 + (s.val - 2)) * 512 + c.val) / 512 = b.val * 2048 + (s.val - 2); omega)
      | ⟨1, _⟩ => exact Fin.ext (by show ((b.val * 2048 + (s.val - 2)) * 512 + c.val) % 512 = c.val; omega)

/-- The convolution's output at row `s` of sequence `b`. -/
theorem conv_apply (b : Fin 4) (s : Fin 2048) (c : Fin 512) :
    val_main_v23 (F := Ideal) x7 x8 x9 (ix3 b s c) = Spec.conv x7 x8 x9 (srow b s) c := by
  have e2 : val_main_v2 (F := Ideal) x7 (ix3 b s c) = x7 (ix2 (srow b s) c) := by
    rw [val_main_v2_apply]
    refine congrArg x7 (funext fun a => ?_)
    match a with
    | ⟨0, _⟩ => exact Fin.ext (by show ((b.val * 2048 + s.val) * 512 + c.val) / 512 = b.val * 2048 + s.val; omega)
    | ⟨1, _⟩ => exact Fin.ext (by show ((b.val * 2048 + s.val) * 512 + c.val) % 512 = c.val; omega)
  have w0 : val_main_v7 (F := Ideal) x9 (ix3 b s c) = x9 (ix2 0 c) := by
    rw [val_main_v7_apply, val_main_v6_apply, val_main_v4_apply, val_main_v3_apply]
    refine congrArg x9 (funext fun a => ?_)
    match a with
    | ⟨0, _⟩ => exact Fin.ext rfl
    | ⟨1, _⟩ => exact Fin.ext (Nat.mod_eq_of_lt c.isLt)
  have w1 : val_main_v13 (F := Ideal) x9 (ix3 b s c) = x9 (ix2 1 c) := by
    rw [val_main_v13_apply, val_main_v12_apply, val_main_v10_apply, val_main_v9_apply]
    refine congrArg x9 (funext fun a => ?_)
    match a with
    | ⟨0, _⟩ => exact Fin.ext rfl
    | ⟨1, _⟩ => exact Fin.ext (Nat.mod_eq_of_lt c.isLt)
  have w2 : val_main_v20 (F := Ideal) x9 (ix3 b s c) = x9 (ix2 2 c) := by
    rw [val_main_v20_apply, val_main_v19_apply, val_main_v17_apply, val_main_v16_apply]
    refine congrArg x9 (funext fun a => ?_)
    match a with
    | ⟨0, _⟩ => exact Fin.ext rfl
    | ⟨1, _⟩ => exact Fin.ext (Nat.mod_eq_of_lt c.isLt)
  have t0 : val_main_v5 (F := Ideal) x8 (ix3 b s c) = Spec.earlier x8 2 (srow b s) c := by
    rw [val_main_v5_apply]
    refine (congrArg (val_main_v1 (F := Ideal) x8) (a₂ := ix3 b ⟨s.val, by omega⟩ c) ((eq_ix3 _).trans rfl)).trans ?_
    rw [padded_apply]
    unfold Spec.earlier
    by_cases h : s.val < 2
    · rw [dif_pos h, if_pos (by show (b.val * 2048 + s.val) % 2048 < 2; omega)]
    · rw [dif_neg h, if_neg (by show ¬ (b.val * 2048 + s.val) % 2048 < 2; omega)]
      exact congrArg (fun ρ => x8 (ix2 ρ c)) (Fin.ext (by show b.val * 2048 + (s.val - 2) = b.val * 2048 + s.val - 2; omega))
  have t1 : val_main_v11 (F := Ideal) x8 (ix3 b s c) = Spec.earlier x8 1 (srow b s) c := by
    rw [val_main_v11_apply]
    refine (congrArg (val_main_v1 (F := Ideal) x8) (a₂ := ix3 b ⟨1 + s.val, by omega⟩ c) ((eq_ix3 _).trans rfl)).trans ?_
    rw [padded_apply]
    unfold Spec.earlier
    by_cases h : 1 + s.val < 2
    · rw [dif_pos h, if_pos (by show (b.val * 2048 + s.val) % 2048 < 1; omega)]
    · rw [dif_neg h, if_neg (by show ¬ (b.val * 2048 + s.val) % 2048 < 1; omega)]
      exact congrArg (fun ρ => x8 (ix2 ρ c)) (Fin.ext (by show b.val * 2048 + (1 + s.val - 2) = b.val * 2048 + s.val - 1; omega))
  have t2 : val_main_v18 (F := Ideal) x8 (ix3 b s c) = x8 (ix2 (srow b s) c) := by
    rw [val_main_v18_apply]
    refine (congrArg (val_main_v1 (F := Ideal) x8) (a₂ := ix3 b ⟨2 + s.val, by omega⟩ c) ((eq_ix3 _).trans rfl)).trans ?_
    rw [padded_apply, dif_neg (by show ¬ 2 + s.val < 2; omega)]
    exact congrArg (fun ρ => x8 (ix2 ρ c)) (Fin.ext (by show b.val * 2048 + (2 + s.val - 2) = b.val * 2048 + s.val; omega))
  rw [val_main_v23_apply, val_main_v22_apply, val_main_v15_apply, val_main_v8_apply, val_main_v14_apply, val_main_v21_apply, e2, w0, w1, w2, t0, t1, t2]
  rfl

end Cert.MixRefIdeal.Val
-- ==== Proof.RefAttn.lean ====
module

public import proofs.«01_k».proof.Proof.Gen.MixRefIdeal.Read
public import proofs.«01_k».proof.Proof.Spec
public import Idealize.ShloMosaic.Lib.KernelVsHost
public import Idealize.ShloMosaic.Lib.ValueIdxRank6

@[expose] public section

set_option maxRecDepth 16384

noncomputable section

namespace Cert.MixRefIdeal.Val

open Cert.MixRefIdeal Cert.MixRefIdeal.Gen Cert.MixRefIdeal.Read Idealize.ShloMosaic Idealize.ShloMosaic.TcCoe Idealize.SL.Sem
open Idealize.ShloMosaic.ValueIdx

/-! # The reference's windowed attention is the formula's -/

/-- Row group `n` of sequence `b`, counted over all four sequences. -/
abbrev bgrp (b : Fin 4) (n : Fin 16) : Fin 64 := ⟨b.val * 16 + n.val, by omega⟩

theorem ofBits_128 : Ideal.ofBits .f32 0x43000000#32 = ((128 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem ofBits_bot : Ideal.ofBits .f32 0xFF800000#32 = (⊥ : EReal) := by simp [Ideal.ofBits, Ideal.ieee]

/-- The reciprocal root of 128 is the scale. -/
theorem rsqrt_128 : Ideal.rsqrt (Ideal.ofBits .f32 0x43000000#32) = Spec.scale := by
  rw [ofBits_128]
  show (if (128 : ℝ) < 0 then (⊥ : EReal) else if (128 : ℝ) = 0 then ⊤ else ((Real.sqrt 128)⁻¹ : ℝ)) = _
  rw [if_neg (by norm_num), if_neg (by norm_num)]

/-- The logarithm of two. -/
theorem log_2 : Ideal.log (Ideal.ofBits .f32 0x40000000#32) = ((Real.log 2 : ℝ) : EReal) := by
  rw [ofBits_2]
  show (if (2 : ℝ) ≤ 0 then (⊥ : EReal) else ((Real.log 2 : ℝ) : EReal)) = _
  rw [if_neg (by norm_num)]

variable (x0 : (⟨S8, .f32⟩ : BufTy).Contents (Elt Ideal)) (x1 : (⟨S8192x1024, .bf16⟩ : BufTy).Contents (Elt Ideal))
  (x2 x3 : (⟨S8192x256, .bf16⟩ : BufTy).Contents (Elt Ideal)) (x10 : (⟨S2x512x256, .f32⟩ : BufTy).Contents (Elt Ideal))

/-- The keys by sequence, row group, row, head and column. -/
theorem keys_apply (b : Fin 4) (n : Fin 16) (r : Fin 128) (h : Fin 2) (t : Fin 128) :
    val_main_v64 (F := Ideal) x2 (ix5 b n r h t) = x2 (ix2 (Spec.row (bgrp b n) r) (Spec.kcol h t)) := by
  rw [val_main_v64_apply]
  have e : idx_main_v64 (ix5 b n r h t) = ix4 b ⟨n.val * 128 + r.val, by omega⟩ h t := by
    funext a
    match a with
    | ⟨0, _⟩ => exact Fin.ext (by show (((((b.val * 16 + n.val) * 128 + r.val) * 2 + h.val) * 128 + t.val)) / 524288 = b.val; omega)
    | ⟨1, _⟩ => exact Fin.ext (by show (((((b.val * 16 + n.val) * 128 + r.val) * 2 + h.val) * 128 + t.val)) / 256 % 2048 = n.val * 128 + r.val; omega)
    | ⟨2, _⟩ => exact Fin.ext (by show (((((b.val * 16 + n.val) * 128 + r.val) * 2 + h.val) * 128 + t.val)) / 128 % 2 = h.val; omega)
    | ⟨3, _⟩ => exact Fin.ext (by show (((((b.val * 16 + n.val) * 128 + r.val) * 2 + h.val) * 128 + t.val)) % 128 = t.val; omega)
  rw [e, val_main_v31_apply, val_main_v30_apply]
  show x2 _ = _
  refine congrArg x2 (funext fun a => ?_)
  match a with
  | ⟨0, _⟩ => exact Fin.ext (by show ((((b.val * 2048 + (n.val * 128 + r.val)) * 2 + h.val) * 128 + t.val)) / 256 = (b.val * 16 + n.val) * 128 + r.val; omega)
  | ⟨1, _⟩ => exact Fin.ext (by show ((((b.val * 2048 + (n.val * 128 + r.val)) * 2 + h.val) * 128 + t.val)) % 256 = h.val * 128 + t.val; omega)

/-- The keys with the row group before put in front: zero before the first row group of a sequence. -/
theorem window_apply (b : Fin 4) (n : Fin 16) (kk : Fin 256) (h : Fin 2) (t : Fin 128) :
    val_main_v67 (F := Ideal) x2 (ix5 b n kk h t)
      = if Spec.Inside (bgrp b n) kk then x2 (ix2 (Spec.keyRow (bgrp b n) kk) (Spec.kcol h t)) else 0 := by
  unfold val_main_v67
  by_cases hk : kk.val < 128
  · refine (concatenate_pair_apply_left (t := S4x16x256x2x128) (s₁ := S4x16x128x2x128) (s₂ := S4x16x128x2x128) 2 _ _ concatenates_S4x16x128x2x128_S4x16x128x2x128_S4x16x256x2x128_d2 (ix5 b n kk h t) rfl (ix5 b n ⟨kk.val, hk⟩ h t) (by intro a; match a with | ⟨0, _⟩ => rfl | ⟨1, _⟩ => rfl | ⟨2, _⟩ => rfl | ⟨3, _⟩ => rfl | ⟨4, _⟩ => rfl)).trans ?_
    unfold val_main_v66
    by_cases hn : n.val = 0
    · rw [if_neg (fun h0 => h0.elim (fun h1 => h1 (by show (b.val * 16 + n.val) % 16 = 0; omega)) (fun h1 => by omega))]
      refine (pad_apply_of_not_inside _ _ _ _ _ pads_S4x15x128x2x128_S4x16x128x2x128_000_100_000_000_000 h_S_ (ix5 b n ⟨kk.val, hk⟩ h t) 1 ?_).trans ?_
      · rintro ⟨h1, _⟩
        have h1' : 1 ≤ n.val := h1
        omega
      · show ((((0#32 : BitVec 32).toInt : ℝ)) : EReal) = 0
        simp
    · rw [if_pos (Or.inl (by show (b.val * 16 + n.val) % 16 ≠ 0; omega))]
      refine (pad_apply_of_inside _ _ _ _ _ pads_S4x15x128x2x128_S4x16x128x2x128_000_100_000_000_000 h_S_ (ix5 b n ⟨kk.val, hk⟩ h t) (ix5 b ⟨n.val - 1, by omega⟩ ⟨kk.val, hk⟩ h t) ?_).trans ?_
      · intro a
        match a with
        | ⟨0, _⟩ => show b.val = 0 + b.val * (0 + 1); omega
        | ⟨1, _⟩ => show n.val = 1 + (n.val - 1) * (0 + 1); omega
        | ⟨2, _⟩ => show kk.val = 0 + kk.val * (0 + 1); omega
        | ⟨3, _⟩ => show h.val = 0 + h.val * (0 + 1); omega
        | ⟨4, _⟩ => show t.val = 0 + t.val * (0 + 1); omega
      · rw [val_main_v65_apply]
        refine (congrArg (val_main_v64 (F := Ideal) x2) (a₂ := ix5 b ⟨n.val - 1, by omega⟩ ⟨kk.val, hk⟩ h t) ((eq_ix5 _).trans rfl)).trans ?_
        rw [keys_apply]
        refine congrArg (fun ρ => x2 (ix2 ρ (Spec.kcol h t))) (Fin.ext ?_)
        show (b.val * 16 + (n.val - 1)) * 128 + kk.val = (b.val * 16 + n.val) * 128 + kk.val - 128
        omega
  · rw [if_pos (Or.inr (by omega))]
    refine (concatenate_pair_apply_right (t := S4x16x256x2x128) (s₁ := S4x16x128x2x128) (s₂ := S4x16x128x2x128) 2 _ _ concatenates_S4x16x128x2x128_S4x16x128x2x128_S4x16x256x2x128_d2 (ix5 b n kk h t) rfl rfl (ix5 b n ⟨kk.val - 128, by omega⟩ h t) (by intro a ha; match a with | ⟨0, _⟩ => rfl | ⟨1, _⟩ => rfl | ⟨2, _⟩ => exact absurd rfl ha | ⟨3, _⟩ => rfl | ⟨4, _⟩ => rfl) (by show kk.val - 128 + 128 = kk.val; omega)).trans ?_
    rw [keys_apply]
    refine congrArg (fun ρ => x2 (ix2 ρ (Spec.kcol h t))) (Fin.ext ?_)
    show (b.val * 16 + n.val) * 128 + (kk.val - 128) = (b.val * 16 + n.val) * 128 + kk.val - 128
    omega

/-- The values are laid out as the keys are. -/
theorem values_eq (x : (⟨S8192x256, .bf16⟩ : BufTy).Contents (Elt Ideal)) : val_main_v71 (F := Ideal) x = val_main_v67 (F := Ideal) x := rfl

/-- The queries by sequence, row group, row, key head, head of the group and column. -/
theorem queries_apply (b : Fin 4) (n : Fin 16) (r : Fin 128) (h : Fin 2) (g : Fin 4) (t : Fin 128) :
    val_main_v34 (F := Ideal) x1 (ix6 b n r h g t) = x1 (ix2 (Spec.row (bgrp b n) r) (Spec.col h g t)) := by
  unfold val_main_v34
  rw [shapeCast_apply (val_main_v29 (F := Ideal) x1) shapeCasts_S4x2048x8x128_S4x16x128x2x4x128 (ix6 b n r h g t) (ix4 b ⟨n.val * 128 + r.val, by omega⟩ ⟨h.val * 4 + g.val, by omega⟩ t)
    (by
      rw [Shape.rowMajor_val_four, Shape.rowMajor_val_six]
      show ((b.val * 2048 + (n.val * 128 + r.val)) * 8 + (h.val * 4 + g.val)) * 128 + t.val = ((((b.val * 16 + n.val) * 128 + r.val) * 2 + h.val) * 4 + g.val) * 128 + t.val
      omega)]
  rw [val_main_v29_apply, val_main_v28_apply]
  show x1 _ = _
  refine congrArg x1 (funext fun a => ?_)
  match a with
  | ⟨0, _⟩ => exact Fin.ext (by show ((((b.val * 2048 + (n.val * 128 + r.val)) * 8 + (h.val * 4 + g.val)) * 128 + t.val)) / 1024 = (b.val * 16 + n.val) * 128 + r.val; omega)
  | ⟨1, _⟩ => exact Fin.ext (by show ((((b.val * 2048 + (n.val * 128 + r.val)) * 8 + (h.val * 4 + g.val)) * 128 + t.val)) % 1024 = (h.val * 4 + g.val) * 128 + t.val; omega)

/-- The comparisons of one distance with the window's two ends. -/
theorem ends : ∀ e : Fin 384, IntOp.andi (IntOp.cmpi .sge (BitVec.ofNat 32 e.val - 127#32) 0#32) (IntOp.cmpi .slt (BitVec.ofNat 32 e.val - 127#32) 128#32)
    = if 127 ≤ e.val ∧ e.val < 255 then 1#1 else 0#1 := by decide +kernel

/-- The first row group of a sequence. -/
theorem later : ∀ n : Fin 16, IntOp.cmpi .sgt (BitVec.ofNat 32 n.val) 0#32 = if n.val = 0 then 0#1 else 1#1 := by decide +kernel

/-- The keys from the row group's own on. -/
theorem own : ∀ kk : Fin 256, IntOp.cmpi .sge (BitVec.ofNat 32 kk.val) 128#32 = if 128 ≤ kk.val then 1#1 else 0#1 := by decide +kernel

/-- The mask: one exactly at the keys that are seen. -/
theorem mask_apply (b : Fin 4) (n : Fin 16) (r : Fin 128) (kk : Fin 256) :
    val_main_v62 (F := Ideal) (ix3 n r kk) = if Spec.Seen (bgrp b n) r kk then 1#1 else 0#1 := by
  have hw : val_main_v60 (F := Ideal) (ix3 n r kk) = if r.val < kk.val ∧ kk.val ≤ r.val + 128 then 1#1 else 0#1 := by
    rw [val_main_v60_apply, val_main_v59_apply]
    show IntOp.andi (IntOp.cmpi .sge (128#32 + BitVec.ofNat 32 r.val - BitVec.ofNat 32 kk.val) 0#32) (IntOp.cmpi .slt (128#32 + BitVec.ofNat 32 r.val - BitVec.ofNat 32 kk.val) 128#32) = _
    have hd : 128#32 + BitVec.ofNat 32 r.val - BitVec.ofNat 32 kk.val = BitVec.ofNat 32 (r.val + 255 - kk.val) - 127#32 := by
      have := r.isLt
      have := kk.isLt
      apply BitVec.eq_of_toNat_eq
      simp only [BitVec.toNat_sub, BitVec.toNat_add, BitVec.toNat_ofNat]
      omega
    rw [hd, ends ⟨r.val + 255 - kk.val, by omega⟩]
    by_cases hc : r.val < kk.val ∧ kk.val ≤ r.val + 128
    · rw [if_pos hc, if_pos (by show 127 ≤ r.val + 255 - kk.val ∧ r.val + 255 - kk.val < 255; omega)]
    · rw [if_neg hc, if_neg (by show ¬ (127 ≤ r.val + 255 - kk.val ∧ r.val + 255 - kk.val < 255); omega)]
  have hi : val_main_v61 (F := Ideal) (ix3 n r kk) = if Spec.Inside (bgrp b n) kk then 1#1 else 0#1 := by
    rw [val_main_v61_apply]
    show IntOp.ori (IntOp.cmpi .sgt (BitVec.ofNat 32 n.val) 0#32) (IntOp.cmpi .sge (BitVec.ofNat 32 kk.val) 128#32) = _
    rw [later, own]
    have hB : (bgrp b n).val % 16 = n.val := by show (b.val * 16 + n.val) % 16 = n.val; omega
    unfold Spec.Inside
    rw [hB]
    by_cases h1 : n.val = 0 <;> by_cases h2 : 128 ≤ kk.val <;> simp [h1, h2] <;> rfl
  show IntOp.andi (val_main_v60 (F := Ideal) (ix3 n r kk)) (val_main_v61 (F := Ideal) (ix3 n r kk)) = _
  rw [hw, hi]
  by_cases h1 : r.val < kk.val ∧ kk.val ≤ r.val + 128 <;> by_cases h2 : Spec.Inside (bgrp b n) kk
  · rw [if_pos h1, if_pos h2, if_pos ⟨h1, h2⟩]; rfl
  · rw [if_pos h1, if_neg h2, if_neg fun h => h2 h.2]; rfl
  · rw [if_neg h1, if_pos h2, if_neg fun h => h1 h.1]; rfl
  · rw [if_neg h1, if_neg h2, if_neg fun h => h1 h.1]; rfl

/-- The masked scores. -/
theorem score_apply (b : Fin 4) (n : Fin 16) (h : Fin 2) (g : Fin 4) (r : Fin 128) (kk : Fin 256) :
    val_main_v80 (F := Ideal) x1 x2 x10 (ix6 b n h g r kk) = Spec.score x1 x2 x10 h g (bgrp b n) r kk := by
  rw [val_main_v80_apply]
  have hm : val_main_call3_v1 (F := Ideal) (ix6 b n h g r kk) = if Spec.Seen (bgrp b n) r kk then 1#1 else 0#1 := by
    rw [val_main_call3_v1_apply, val_main_v63_apply]
    exact (congrArg (val_main_v62 (F := Ideal)) (a₂ := ix3 n r kk) ((eq_ix3 _).trans rfl)).trans (mask_apply b n r kk)
  rw [hm]
  unfold Spec.score
  by_cases hs : Spec.Seen (bgrp b n) r kk
  · rw [if_pos hs, if_pos hs, select_one, val_main_v79_apply, val_main_v76_apply]
    have hd : val_main_v73 (F := Ideal) x1 x2 (ix6 b n h g r kk) = ∑ t : Fin 128, x1 (ix2 (Spec.row (bgrp b n) r) (Spec.col h g t)) * x2 (ix2 (Spec.keyRow (bgrp b n) kk) (Spec.kcol h t)) := by
      rw [val_main_v73_apply, val_main_v72_apply]
      refine Finset.sum_congr rfl fun t _ => ?_
      rw [show lidx_main_v72 (idx_main_v73 (ix6 b n h g r kk)) t = ix5 b n kk h t from (eq_ix5 _).trans rfl,
        show ridx_main_v72 (idx_main_v73 (ix6 b n h g r kk)) t = ix6 b n r h g t from (eq_ix6 _).trans rfl,
        window_apply, queries_apply, if_pos hs.2, mul_comm]
    have hsc : val_main_v75 (F := Ideal) (ix6 b n h g r kk) = Spec.scale := rsqrt_128
    have hb : val_main_v78 (F := Ideal) x10 (ix6 b n h g r kk) = x10 (ix3 h ⟨g.val * 128 + r.val, by omega⟩ kk) * ((Real.log 2 : ℝ) : EReal) := by
      rw [val_main_v78_apply, val_main_v77_apply]
      refine (congrArg (val_main_v27 (F := Ideal) x10) (a₂ := ix4 h g r kk) ((eq_ix4 _).trans rfl)).trans ?_
      rw [val_main_v27_apply, val_main_v24_apply]
      refine congrArg₂ (fun a c : EReal => a * c) (congrArg x10 (funext fun a => ?_)) log_2
      match a with
      | ⟨0, _⟩ => exact Fin.ext (by show (((h.val * 4 + g.val) * 128 + r.val) * 256 + kk.val) / 131072 = h.val; omega)
      | ⟨1, _⟩ => exact Fin.ext (by show (((h.val * 4 + g.val) * 128 + r.val) * 256 + kk.val) / 256 % 512 = g.val * 128 + r.val; omega)
      | ⟨2, _⟩ => exact Fin.ext (by show (((h.val * 4 + g.val) * 128 + r.val) * 256 + kk.val) % 256 = kk.val; omega)
    rw [hd, hsc, hb]
    rfl
  · rw [if_neg hs, if_neg hs, select_zero]
    exact ofBits_bot

/-- The row maximum with the sink. -/
theorem max_apply (b : Fin 4) (n : Fin 16) (h : Fin 2) (g : Fin 4) (r : Fin 128) :
    val_main_v86 (F := Ideal) x0 x1 x2 x10 (ix6 b n h g r 0)
      = max ((Finset.univ : Finset (Fin 256)).fold max ⊥ (Spec.score x1 x2 x10 h g (bgrp b n) r)) (x0 (ix1 ⟨h.val * 4 + g.val, by omega⟩)) := by
  have hr : S4x16x2x4x128x256.Reduces [5] S4x16x2x4x128 := by decide
  have h1 : val_main_v83 (F := Ideal) x1 x2 x10 (ix6 b n h g r 0) = (Finset.univ : Finset (Fin 256)).fold max ⊥ (Spec.score x1 x2 x10 h g (bgrp b n) r) := by
    rw [val_main_v83_apply]
    unfold val_main_v82 val_main_cst_9
    rw [hostReduce_maximumf_eq_multiReduction (F := Ideal) (φ := .f32) _ 0xFF800000#32 reducesTo_S4x16x2x4x128x256_S4x16x2x4x128_d5 h_S_ hr (by decide) (by decide)]
    refine (Ideal.multiReduction_maximumf_single _ _ hr _ _ _).trans ?_
    rw [show (FloatOps.ofBits .f32 0xFF800000#32 : Ideal .f32) = ⊥ from ofBits_bot]
    refine congrArg ((Finset.univ : Finset (Fin 256)).fold max ⊥) (funext fun kk => ?_)
    refine Eq.trans (congrArg (val_main_v80 (F := Ideal) x1 x2 x10) (a₂ := ix6 b n h g r kk) ?_) (score_apply x1 x2 x10 b n h g r kk)
    funext a
    match a with | ⟨0, _⟩ => rfl | ⟨1, _⟩ => rfl | ⟨2, _⟩ => rfl | ⟨3, _⟩ => rfl | ⟨4, _⟩ => rfl | ⟨5, _⟩ => rfl
  have h2 : val_main_v85 (F := Ideal) x0 (ix6 b n h g r 0) = x0 (ix1 ⟨h.val * 4 + g.val, by omega⟩) := by
    rw [val_main_v85_apply, val_main_v84_apply, val_main_v81_apply]
    refine congrArg x0 (funext fun a => ?_)
    match a with
    | ⟨0, _⟩ => exact Fin.ext (by show ((h.val * 4 + g.val) * 1 + 0) * 1 + 0 = h.val * 4 + g.val; omega)
  rw [val_main_v86_apply, h1, h2]
  rfl

/-- The windowed attention's output. -/
theorem swa_apply (b : Fin 4) (n : Fin 16) (r : Fin 128) (h : Fin 2) (g : Fin 4) (d : Fin 128) :
    val_main_v100 (F := Ideal) x0 x1 x2 x3 x10 (ix6 b n r h g d) = Spec.swa x0 x1 x2 x3 x10 h g (bgrp b n) r d := by
  have hp : ∀ kk : Fin 256, val_main_v89 (F := Ideal) x0 x1 x2 x10 (ix6 b n h g r kk)
      = Ideal.exp (Spec.score x1 x2 x10 h g (bgrp b n) r kk - max ((Finset.univ : Finset (Fin 256)).fold max ⊥ (Spec.score x1 x2 x10 h g (bgrp b n) r)) (x0 (ix1 ⟨h.val * 4 + g.val, by omega⟩))) := fun kk => by
    rw [val_main_v89_apply, val_main_v88_apply, score_apply, val_main_v87_apply,
      show idx_main_v87 (ix6 b n h g r kk) = ix6 b n h g r 0 from (eq_ix6 _).trans rfl, max_apply]
    rfl
  have hden : val_main_v96 (F := Ideal) x0 x1 x2 x10 (ix6 b n h g r 0)
      = (∑ kk : Fin 256, Ideal.exp (Spec.score x1 x2 x10 h g (bgrp b n) r kk - max ((Finset.univ : Finset (Fin 256)).fold max ⊥ (Spec.score x1 x2 x10 h g (bgrp b n) r)) (x0 (ix1 ⟨h.val * 4 + g.val, by omega⟩))))
        + Ideal.exp (x0 (ix1 ⟨h.val * 4 + g.val, by omega⟩) - max ((Finset.univ : Finset (Fin 256)).fold max ⊥ (Spec.score x1 x2 x10 h g (bgrp b n) r)) (x0 (ix1 ⟨h.val * 4 + g.val, by omega⟩))) := by
    have h1 : val_main_v91 (F := Ideal) x0 x1 x2 x10 (ix6 b n h g r 0)
        = ∑ kk : Fin 256, Ideal.exp (Spec.score x1 x2 x10 h g (bgrp b n) r kk - max ((Finset.univ : Finset (Fin 256)).fold max ⊥ (Spec.score x1 x2 x10 h g (bgrp b n) r)) (x0 (ix1 ⟨h.val * 4 + g.val, by omega⟩))) := by
      rw [val_main_v91_apply, val_main_v90_apply, show (val_main_cst_10 (F := Ideal)) (Shape.Idx.first h_S_) = 0 from Ideal.ofBits_zero_f32, zero_add]
      refine Finset.sum_congr rfl fun kk _ => ?_
      rw [show idx_main_v90 (idx_main_v91 (ix6 b n h g r 0)) kk = ix6 b n h g r kk from (eq_ix6 _).trans rfl, hp]
    have h2 : val_main_v93 (F := Ideal) x0 (ix6 b n h g r 0) = x0 (ix1 ⟨h.val * 4 + g.val, by omega⟩) := by
      rw [val_main_v93_apply, val_main_v92_apply, val_main_v81_apply]
      refine congrArg x0 (funext fun a => ?_)
      match a with
      | ⟨0, _⟩ => exact Fin.ext (by show ((h.val * 4 + g.val) * 1 + 0) * 1 + 0 = h.val * 4 + g.val; omega)
    rw [val_main_v96_apply, h1, val_main_v95_apply, val_main_v94_apply, h2, max_apply]
    rfl
  rw [val_main_v100_apply, val_main_v99_apply]
  unfold Spec.swa Softmax.rowNat
  refine Finset.sum_congr rfl fun kk _ => ?_
  rw [show lidx_main_v99 (idx_main_v100 (ix6 b n r h g d)) kk = ix5 b n kk h d from (eq_ix5 _).trans rfl,
    show ridx_main_v99 (idx_main_v100 (ix6 b n r h g d)) kk = ix6 b n h g r kk from (eq_ix6 _).trans rfl,
    values_eq, window_apply, val_main_v98_apply, val_main_v97_apply,
    show idx_main_v97 (ix6 b n h g r kk) = ix6 b n h g r 0 from (eq_ix6 _).trans rfl, hp, hden]
  rfl

/-- The windowed attention's output, heads side by side. -/
theorem swa_cols_apply (b : Fin 4) (n : Fin 16) (r : Fin 128) (h : Fin 2) (g : Fin 4) (d : Fin 128) :
    val_main_v101 (F := Ideal) x0 x1 x2 x3 x10 (ix3 b ⟨n.val * 128 + r.val, by omega⟩ (Spec.col h g d)) = Spec.swa x0 x1 x2 x3 x10 h g (bgrp b n) r d := by
  unfold val_main_v101
  rw [shapeCast_apply (val_main_v100 (F := Ideal) x0 x1 x2 x3 x10) shapeCasts_S4x16x128x2x4x128_S4x2048x1024 (ix3 b ⟨n.val * 128 + r.val, by omega⟩ (Spec.col h g d)) (ix6 b n r h g d)
    (by
      rw [Shape.rowMajor_val_three, Shape.rowMajor_val_six]
      show ((((b.val * 16 + n.val) * 128 + r.val) * 2 + h.val) * 4 + g.val) * 128 + d.val = (b.val * 2048 + (n.val * 128 + r.val)) * 1024 + ((h.val * 4 + g.val) * 128 + d.val)
      omega)]
  exact swa_apply x0 x1 x2 x3 x10 b n r h g d

end Cert.MixRefIdeal.Val
-- ==== Proof.RefOut.lean ====
module

public import proofs.«01_k».proof.Proof.RefConv
public import proofs.«01_k».proof.Proof.RefAttn

@[expose] public section

set_option maxRecDepth 16384

noncomputable section

namespace Cert.MixRefIdeal.Val

open Cert.MixRefIdeal Cert.MixRefIdeal.Gen Cert.MixRefIdeal.Read Idealize.ShloMosaic Idealize.ShloMosaic.TcCoe Idealize.SL.Sem
open Idealize.ShloMosaic.ValueIdx

/-! # The reference's memory attention, and its two results, are the formulas' -/

variable (x0 : (⟨S8, .f32⟩ : BufTy).Contents (Elt Ideal)) (x1 : (⟨S8192x1024, .bf16⟩ : BufTy).Contents (Elt Ideal))
  (x2 x3 : (⟨S8192x256, .bf16⟩ : BufTy).Contents (Elt Ideal)) (x4 : (⟨S8192x512, .bf16⟩ : BufTy).Contents (Elt Ideal))
  (x5 x6 : (⟨S1024x512, .bf16⟩ : BufTy).Contents (Elt Ideal)) (x7 x8 : (⟨S8192x512, .f32⟩ : BufTy).Contents (Elt Ideal))
  (x9 : (⟨S3x512, .f32⟩ : BufTy).Contents (Elt Ideal)) (x10 : (⟨S2x512x256, .f32⟩ : BufTy).Contents (Elt Ideal))
  (x11 : (⟨S8192x2048, .f32⟩ : BufTy).Contents (Elt Ideal)) (x12 : (⟨S2048x2048, .bf16⟩ : BufTy).Contents (Elt Ideal))
  (x13 : (⟨S1x2048, .f32⟩ : BufTy).Contents (Elt Ideal))

/-- The memory queries by sequence, row, head and column. -/
theorem xqueries_apply (b : Fin 4) (n : Fin 16) (r : Fin 128) (m : Fin 4) (t : Fin 128) :
    val_main_v103 (F := Ideal) x4 (ix4 b ⟨n.val * 128 + r.val, by omega⟩ m t) = x4 (ix2 (Spec.row (bgrp b n) r) (Spec.xcol m t)) := by
  rw [val_main_v103_apply, val_main_v102_apply]
  show x4 _ = _
  refine congrArg x4 (funext fun a => ?_)
  match a with
  | ⟨0, _⟩ => exact Fin.ext (by show (((b.val * 2048 + (n.val * 128 + r.val)) * 4 + m.val) * 128 + t.val) / 512 = (b.val * 16 + n.val) * 128 + r.val; omega)
  | ⟨1, _⟩ => exact Fin.ext (by show (((b.val * 2048 + (n.val * 128 + r.val)) * 4 + m.val) * 128 + t.val) % 512 = m.val * 128 + t.val; omega)

/-- The memory keys by sequence, slot, head and column. -/
theorem xkeys_apply (b : Fin 4) (n : Fin 16) (kk : Fin 256) (m : Fin 4) (t : Fin 128) :
    val_main_v105 (F := Ideal) x5 (ix4 b kk m t) = x5 (ix2 (Spec.memRow (bgrp b n) kk) (Spec.xcol m t)) := by
  rw [val_main_v105_apply, val_main_v104_apply]
  show x5 _ = _
  refine congrArg x5 (funext fun a => ?_)
  match a with
  | ⟨0, _⟩ => exact Fin.ext (by show (((b.val * 256 + kk.val) * 4 + m.val) * 128 + t.val) / 512 = (b.val * 16 + n.val) / 16 * 256 + kk.val; omega)
  | ⟨1, _⟩ => exact Fin.ext (by show (((b.val * 256 + kk.val) * 4 + m.val) * 128 + t.val) % 512 = m.val * 128 + t.val; omega)

/-- The memory values are laid out as the memory keys are. -/
theorem xvalues_eq (x : (⟨S1024x512, .bf16⟩ : BufTy).Contents (Elt Ideal)) : val_main_v107 (F := Ideal) x = val_main_v105 (F := Ideal) x := rfl

/-- The memory attention's scores. -/
theorem xscore_apply (b : Fin 4) (n : Fin 16) (r : Fin 128) (m : Fin 4) (kk : Fin 256) :
    val_main_v111 (F := Ideal) x4 x5 (ix4 b m ⟨n.val * 128 + r.val, by omega⟩ kk)
      = (∑ t : Fin 128, x4 (ix2 (Spec.row (bgrp b n) r) (Spec.xcol m t)) * x5 (ix2 (Spec.memRow (bgrp b n) kk) (Spec.xcol m t))) * Spec.scale := by
  have hd : val_main_v108 (F := Ideal) x4 x5 (ix4 b m ⟨n.val * 128 + r.val, by omega⟩ kk) = ∑ t : Fin 128, x4 (ix2 (Spec.row (bgrp b n) r) (Spec.xcol m t)) * x5 (ix2 (Spec.memRow (bgrp b n) kk) (Spec.xcol m t)) := by
    rw [val_main_v108_apply]
    refine Finset.sum_congr rfl fun t _ => ?_
    rw [show lidx_main_v108 (ix4 b m (⟨n.val * 128 + r.val, by omega⟩ : Fin 2048) kk) t = ix4 b ⟨n.val * 128 + r.val, by omega⟩ m t from (eq_ix4 _).trans rfl,
      show ridx_main_v108 (ix4 b m (⟨n.val * 128 + r.val, by omega⟩ : Fin 2048) kk) t = ix4 b kk m t from (eq_ix4 _).trans rfl,
      xqueries_apply, xkeys_apply x5 b n]
  rw [val_main_v111_apply, hd, show val_main_v110 (F := Ideal) (ix4 b m (⟨n.val * 128 + r.val, by omega⟩ : Fin 2048) kk) = Spec.scale from rsqrt_128]
  rfl

/-- The memory attention's output, heads side by side. -/
theorem cross_cols_apply (b : Fin 4) (n : Fin 16) (r : Fin 128) (m : Fin 4) (d : Fin 128) :
    val_main_v125 (F := Ideal) x4 x5 x6 (ix3 b ⟨n.val * 128 + r.val, by omega⟩ (Spec.xcol m d)) = Spec.cross x4 x5 x6 m (bgrp b n) r d := by
  have hr : S4x4x2048x256.Reduces [3] S4x4x2048 := by decide
  have hmax : val_main_v115 (F := Ideal) x4 x5 (ix4 b m (⟨n.val * 128 + r.val, by omega⟩ : Fin 2048) 0)
      = (Finset.univ : Finset (Fin 256)).fold max ⊥ fun kk => (∑ t : Fin 128, x4 (ix2 (Spec.row (bgrp b n) r) (Spec.xcol m t)) * x5 (ix2 (Spec.memRow (bgrp b n) kk) (Spec.xcol m t))) * Spec.scale := by
    rw [val_main_v115_apply, show idx_main_v115 (ix4 b m (⟨n.val * 128 + r.val, by omega⟩ : Fin 2048) 0) = ix3 b m ⟨n.val * 128 + r.val, by omega⟩ from (eq_ix3 _).trans rfl, val_main_v114_apply]
    rw [show val_main_v113 (F := Ideal) (ix3 b m (⟨n.val * 128 + r.val, by omega⟩ : Fin 2048)) = (⊥ : EReal) from ofBits_bot]
    refine (max_eq_right bot_le).trans ?_
    unfold val_main_v112 val_main_cst_12
    rw [hostReduce_maximumf_eq_multiReduction (F := Ideal) (φ := .f32) _ 0xFF800000#32 reducesTo_S4x4x2048x256_S4x4x2048_d3 h_S_ hr (by decide) (by decide)]
    refine (Ideal.multiReduction_maximumf_single _ _ hr _ _ _).trans ?_
    rw [show (FloatOps.ofBits .f32 0xFF800000#32 : Ideal .f32) = ⊥ from ofBits_bot]
    refine congrArg ((Finset.univ : Finset (Fin 256)).fold max ⊥) (funext fun kk => ?_)
    refine Eq.trans (congrArg (val_main_v111 (F := Ideal) x4 x5) (a₂ := ix4 b m ⟨n.val * 128 + r.val, by omega⟩ kk) ?_) (xscore_apply x4 x5 b n r m kk)
    funext a
    match a with | ⟨0, _⟩ => rfl | ⟨1, _⟩ => rfl | ⟨2, _⟩ => rfl | ⟨3, _⟩ => rfl
  have hp : ∀ kk : Fin 256, val_main_v118 (F := Ideal) x4 x5 (ix4 b m (⟨n.val * 128 + r.val, by omega⟩ : Fin 2048) kk)
      = Ideal.exp ((∑ t : Fin 128, x4 (ix2 (Spec.row (bgrp b n) r) (Spec.xcol m t)) * x5 (ix2 (Spec.memRow (bgrp b n) kk) (Spec.xcol m t))) * Spec.scale
        - (Finset.univ : Finset (Fin 256)).fold max ⊥ fun kk => (∑ t : Fin 128, x4 (ix2 (Spec.row (bgrp b n) r) (Spec.xcol m t)) * x5 (ix2 (Spec.memRow (bgrp b n) kk) (Spec.xcol m t))) * Spec.scale) := fun kk => by
    rw [val_main_v118_apply, val_main_v117_apply, xscore_apply, val_main_v116_apply,
      show idx_main_v116 (ix4 b m (⟨n.val * 128 + r.val, by omega⟩ : Fin 2048) kk) = ix4 b m ⟨n.val * 128 + r.val, by omega⟩ 0 from (eq_ix4 _).trans rfl, hmax]
    rfl
  have hden : ∀ kk : Fin 256, val_main_v121 (F := Ideal) x4 x5 (ix4 b m (⟨n.val * 128 + r.val, by omega⟩ : Fin 2048) kk)
      = ∑ kk : Fin 256, Ideal.exp ((∑ t : Fin 128, x4 (ix2 (Spec.row (bgrp b n) r) (Spec.xcol m t)) * x5 (ix2 (Spec.memRow (bgrp b n) kk) (Spec.xcol m t))) * Spec.scale
        - (Finset.univ : Finset (Fin 256)).fold max ⊥ fun kk => (∑ t : Fin 128, x4 (ix2 (Spec.row (bgrp b n) r) (Spec.xcol m t)) * x5 (ix2 (Spec.memRow (bgrp b n) kk) (Spec.xcol m t))) * Spec.scale) := fun kk => by
    rw [val_main_v121_apply, val_main_v120_apply, val_main_v119_apply, show (val_main_cst_14 (F := Ideal)) (Shape.Idx.first h_S_) = 0 from Ideal.ofBits_zero_f32, zero_add]
    refine Finset.sum_congr rfl fun k' _ => ?_
    rw [show idx_main_v119 (idx_main_v120 (idx_main_v121 (ix4 b m (⟨n.val * 128 + r.val, by omega⟩ : Fin 2048) kk))) k' = ix4 b m ⟨n.val * 128 + r.val, by omega⟩ k' from (eq_ix4 _).trans rfl, hp]
  rw [val_main_v125_apply]
  have e : idx_main_v125 (ix3 b (⟨n.val * 128 + r.val, by omega⟩ : Fin 2048) (Spec.xcol m d)) = ix4 b ⟨n.val * 128 + r.val, by omega⟩ m d := by
    funext a
    match a with
    | ⟨0, _⟩ => exact Fin.ext (by show ((b.val * 2048 + (n.val * 128 + r.val)) * 512 + (m.val * 128 + d.val)) / 1048576 = b.val; omega)
    | ⟨1, _⟩ => exact Fin.ext (by show ((b.val * 2048 + (n.val * 128 + r.val)) * 512 + (m.val * 128 + d.val)) / 512 % 2048 = n.val * 128 + r.val; omega)
    | ⟨2, _⟩ => exact Fin.ext (by show ((b.val * 2048 + (n.val * 128 + r.val)) * 512 + (m.val * 128 + d.val)) / 128 % 4 = m.val; omega)
    | ⟨3, _⟩ => exact Fin.ext (by show ((b.val * 2048 + (n.val * 128 + r.val)) * 512 + (m.val * 128 + d.val)) % 128 = d.val; omega)
  rw [e, val_main_v124_apply, val_main_v123_apply]
  unfold Spec.cross Softmax.rowNat'
  refine Finset.sum_congr rfl fun kk _ => ?_
  rw [show lidx_main_v123 (idx_main_v124 (ix4 b (⟨n.val * 128 + r.val, by omega⟩ : Fin 2048) m d)) kk = ix4 b kk m d from (eq_ix4 _).trans rfl,
    show ridx_main_v123 (idx_main_v124 (ix4 b (⟨n.val * 128 + r.val, by omega⟩ : Fin 2048) m d)) kk = ix4 b m ⟨n.val * 128 + r.val, by omega⟩ kk from (eq_ix4 _).trans rfl,
    xvalues_eq, xkeys_apply x6 b n, val_main_v122_apply, hp, hden]
  rfl

/-- The three parts side by side are the mixer's columns. -/
theorem mixed_apply (b : Fin 4) (n : Fin 16) (r : Fin 128) :
    (fun j : Fin 2048 => val_main_v126 (F := Ideal) x0 x1 x2 x3 x4 x5 x6 x7 x8 x9 x10 (ix3 b ⟨n.val * 128 + r.val, by omega⟩ j))
      = Spec.mixed x0 x1 x2 x3 x4 x5 x6 x7 x8 x9 x10 (bgrp b n) r := by
  refine Spec.eq_mixed _ (fun c => ?_) (fun h g d => ?_) (fun m d => ?_)
  · unfold val_main_v126
    refine (concatenate_apply_piece (t := S4x2048x2048) 2 [⟨S4x2048x512, val_main_v23 (F := Ideal) x7 x8 x9⟩, ⟨S4x2048x1024, val_main_v101 (F := Ideal) x0 x1 x2 x3 x10⟩, ⟨S4x2048x512, val_main_v125 (F := Ideal) x4 x5 x6⟩] concatenates_S4x2048x512_S4x2048x1024_S4x2048x512_S4x2048x2048_d2 _ 0 (by show 0 < 3; decide) S4x2048x512 _ rfl rfl 0 rfl (ix3 b ⟨n.val * 128 + r.val, by omega⟩ c) (by intro a ha; match a with | ⟨0, _⟩ => rfl | ⟨1, _⟩ => rfl | ⟨2, _⟩ => exact absurd rfl ha) (Nat.zero_add _)).trans ?_
    rw [conv_apply]
    refine congrArg (fun ρ => Spec.conv x7 x8 x9 ρ c) (Fin.ext ?_)
    show b.val * 2048 + (n.val * 128 + r.val) = (b.val * 16 + n.val) * 128 + r.val
    omega
  · unfold val_main_v126
    refine (concatenate_apply_piece (t := S4x2048x2048) 2 [⟨S4x2048x512, val_main_v23 (F := Ideal) x7 x8 x9⟩, ⟨S4x2048x1024, val_main_v101 (F := Ideal) x0 x1 x2 x3 x10⟩, ⟨S4x2048x512, val_main_v125 (F := Ideal) x4 x5 x6⟩] concatenates_S4x2048x512_S4x2048x1024_S4x2048x512_S4x2048x2048_d2 _ 1 (by show 1 < 3; decide) S4x2048x1024 _ rfl rfl 512 rfl (ix3 b ⟨n.val * 128 + r.val, by omega⟩ (Spec.col h g d)) (by intro a ha; match a with | ⟨0, _⟩ => rfl | ⟨1, _⟩ => rfl | ⟨2, _⟩ => exact absurd rfl ha) rfl).trans ?_
    exact swa_cols_apply x0 x1 x2 x3 x10 b n r h g d
  · unfold val_main_v126
    refine (concatenate_apply_piece (t := S4x2048x2048) 2 [⟨S4x2048x512, val_main_v23 (F := Ideal) x7 x8 x9⟩, ⟨S4x2048x1024, val_main_v101 (F := Ideal) x0 x1 x2 x3 x10⟩, ⟨S4x2048x512, val_main_v125 (F := Ideal) x4 x5 x6⟩] concatenates_S4x2048x512_S4x2048x1024_S4x2048x512_S4x2048x2048_d2 _ 2 (by show 2 < 3; decide) S4x2048x512 _ rfl rfl 1536 rfl (ix3 b ⟨n.val * 128 + r.val, by omega⟩ (Spec.xcol m d)) (by intro a ha; match a with | ⟨0, _⟩ => rfl | ⟨1, _⟩ => rfl | ⟨2, _⟩ => exact absurd rfl ha) rfl).trans ?_
    exact cross_cols_apply x4 x5 x6 b n r m d

/-- The residual rows plus the output projection. -/
theorem residual_apply (b : Fin 4) (n : Fin 16) (r : Fin 128) (j : Fin 2048) :
    val_main_v130 (F := Ideal) x0 x1 x2 x3 x4 x5 x6 x7 x8 x9 x10 x11 x12 (ix3 b ⟨n.val * 128 + r.val, by omega⟩ j)
      = Spec.x1 (Spec.mixed x0 x1 x2 x3 x4 x5 x6 x7 x8 x9 x10 (bgrp b n) r) x11 x12 (Spec.row (bgrp b n) r) j := by
  have e : val_main_v127 (F := Ideal) x11 (ix3 b ⟨n.val * 128 + r.val, by omega⟩ j) = x11 (ix2 (Spec.row (bgrp b n) r) j) := by
    rw [val_main_v127_apply]
    refine congrArg x11 (funext fun a => ?_)
    match a with
    | ⟨0, _⟩ => exact Fin.ext (by show ((b.val * 2048 + (n.val * 128 + r.val)) * 2048 + j.val) / 2048 = (b.val * 16 + n.val) * 128 + r.val; omega)
    | ⟨1, _⟩ => exact Fin.ext (by show ((b.val * 2048 + (n.val * 128 + r.val)) * 2048 + j.val) % 2048 = j.val; omega)
  rw [val_main_v130_apply, e, val_main_v129_apply]
  unfold Spec.x1
  refine congrArg (fun s : EReal => x11 (ix2 (Spec.row (bgrp b n) r) j) + s) (Finset.sum_congr rfl fun k _ => ?_)
  rw [show lidx_main_v129 (ix3 b (⟨n.val * 128 + r.val, by omega⟩ : Fin 2048) j) k = ix3 b ⟨n.val * 128 + r.val, by omega⟩ k from (eq_ix3 _).trans rfl,
    show ridx_main_v129 (ix3 b (⟨n.val * 128 + r.val, by omega⟩ : Fin 2048) j) k = ix2 k j from (eq_ix2 _).trans rfl, ← mixed_apply]
  rfl

/-- The first result at row `r` of group `n` of sequence `b`. -/
theorem first_apply (b : Fin 4) (n : Fin 16) (r : Fin 128) (j : Fin 2048) :
    val_main_v144 (F := Ideal) x0 x1 x2 x3 x4 x5 x6 x7 x8 x9 x10 x11 x12 (ix2 (Spec.row (bgrp b n) r) j)
      = Spec.x1 (Spec.mixed x0 x1 x2 x3 x4 x5 x6 x7 x8 x9 x10 (bgrp b n) r) x11 x12 (Spec.row (bgrp b n) r) j := by
  have e : idx_main_v144 (ix2 (Spec.row (bgrp b n) r) j) = ix3 b ⟨n.val * 128 + r.val, by omega⟩ j := by
    funext a
    match a with
    | ⟨0, _⟩ => exact Fin.ext (by show (((b.val * 16 + n.val) * 128 + r.val) * 2048 + j.val) / 4194304 = b.val; omega)
    | ⟨1, _⟩ => exact Fin.ext (by show (((b.val * 16 + n.val) * 128 + r.val) * 2048 + j.val) / 2048 % 2048 = n.val * 128 + r.val; omega)
    | ⟨2, _⟩ => exact Fin.ext (by show (((b.val * 16 + n.val) * 128 + r.val) * 2048 + j.val) % 2048 = j.val; omega)
  rw [val_main_v144_apply, e, residual_apply]

/-- The second result at row `r` of group `n` of sequence `b`. -/
theorem second_apply (b : Fin 4) (n : Fin 16) (r : Fin 128) (j : Fin 2048) :
    val_main_v146 (F := Ideal) x0 x1 x2 x3 x4 x5 x6 x7 x8 x9 x10 x11 x12 x13 (ix2 (Spec.row (bgrp b n) r) j)
      = Spec.norm (Spec.x1 (Spec.mixed x0 x1 x2 x3 x4 x5 x6 x7 x8 x9 x10 (bgrp b n) r) x11 x12 (Spec.row (bgrp b n) r)) x13 j := by
  have e : idx_main_v145 (ix2 (Spec.row (bgrp b n) r) j) = ix3 b ⟨n.val * 128 + r.val, by omega⟩ j := by
    funext a
    match a with
    | ⟨0, _⟩ => exact Fin.ext (by show (((b.val * 16 + n.val) * 128 + r.val) * 2048 + j.val) / 4194304 = b.val; omega)
    | ⟨1, _⟩ => exact Fin.ext (by show (((b.val * 16 + n.val) * 128 + r.val) * 2048 + j.val) / 2048 % 2048 = n.val * 128 + r.val; omega)
    | ⟨2, _⟩ => exact Fin.ext (by show (((b.val * 16 + n.val) * 128 + r.val) * 2048 + j.val) % 2048 = j.val; omega)
  have hs : val_main_v133 (F := Ideal) x0 x1 x2 x3 x4 x5 x6 x7 x8 x9 x10 x11 x12 (ix3 b ⟨n.val * 128 + r.val, by omega⟩ 0)
      = ∑ k : Fin 2048, Spec.x1 (Spec.mixed x0 x1 x2 x3 x4 x5 x6 x7 x8 x9 x10 (bgrp b n) r) x11 x12 (Spec.row (bgrp b n) r) k * Spec.x1 (Spec.mixed x0 x1 x2 x3 x4 x5 x6 x7 x8 x9 x10 (bgrp b n) r) x11 x12 (Spec.row (bgrp b n) r) k := by
    rw [val_main_v133_apply, val_main_v132_apply, show (val_main_cst_15 (F := Ideal)) (Shape.Idx.first h_S_) = 0 from Ideal.ofBits_zero_f32, zero_add]
    refine Finset.sum_congr rfl fun k _ => ?_
    rw [show idx_main_v132 (idx_main_v133 (ix3 b (⟨n.val * 128 + r.val, by omega⟩ : Fin 2048) 0)) k = ix3 b ⟨n.val * 128 + r.val, by omega⟩ k from (eq_ix3 _).trans rfl,
      val_main_v131_apply, residual_apply]
    rfl
  have hg : val_main_v142 (F := Ideal) x13 (ix3 b ⟨n.val * 128 + r.val, by omega⟩ j) = x13 (ix2 0 j) := by
    rw [val_main_v142_apply, val_main_v141_apply]
    exact congrArg x13 ((eq_ix2 _).trans rfl)
  rw [val_main_v146_apply]
  show val_main_v145 (F := Ideal) x0 x1 x2 x3 x4 x5 x6 x7 x8 x9 x10 x11 x12 x13 (ix2 (Spec.row (bgrp b n) r) j) = _
  rw [val_main_v145_apply, e, val_main_v143_apply, val_main_v140_apply, residual_apply, hg, val_main_v139_apply,
    show idx_main_v139 (ix3 b (⟨n.val * 128 + r.val, by omega⟩ : Fin 2048) j) = ix3 b ⟨n.val * 128 + r.val, by omega⟩ 0 from (eq_ix3 _).trans rfl,
    val_main_v138_apply, val_main_v137_apply, val_main_v135_apply, hs]
  rfl

end Cert.MixRefIdeal.Val
-- ==== Proof.Claims.lean ====
module

public import proofs.«01_k».proof.Proof.Finite
public import proofs.«01_k».proof.Proof.Arrays
public import proofs.«01_k».proof.Proof.RefOut
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import Idealize.ShloMosaic.Adequacy
public import Idealize.ShloMosaic.Init

@[expose] public section

set_option maxRecDepth 16384

noncomputable section

namespace Cert.Proof

open Idealize.ShloMosaic Idealize.SL.Sem Idealize.ShloMosaic.ValueIdx
open Cert.MixIdeal.Tile Cert.MixRefIdeal.Val

/-! # The claims of the mixer call -/

theorem frame_kernel : Cert.quiescent_Mix (hMix := Cert.Mix.Gen.facts) := fun m ρ _ => Cert.Mix.Gen.frame m ρ

theorem frame_ideal : Cert.quiescent_MixIdeal (hMixIdeal := Cert.MixIdeal.Gen.facts) := fun m ρ _ => Cert.MixIdeal.Gen.frame m ρ

theorem frame_ideal_pre : Cert.quiescent_MixIdeal_pre_finite_scores (hMixIdeal := Cert.MixIdeal.Gen.facts) (hPre_finite_scores := preFacts) := fun m ρ _ => Cert.MixIdeal.Gen.frame m ρ

theorem frame_reference : Cert.quiescent_MixRefIdeal (hMixRefIdeal := Cert.MixRefIdeal.Gen.facts) := fun m ρ _ =>
  (θ_run Cert.MixRefIdeal.defs _ _).mono (fun r h => ⟨fun c => (h c).2.2, Idealize.ShloMosaic.sem_eq_zero_of_no_sems (by decide) r.2⟩)
    (Cert.MixRefIdeal.Value.run (F := Ideal) m ρ)

theorem frame_reference_pre : Cert.quiescent_MixRefIdeal_pre_finite_scores (hMixRefIdeal := Cert.MixRefIdeal.Gen.facts) (hPre_finite_scores := preFacts) := fun m ρ _ =>
  frame_reference m ρ trivial

/-- The three named constants have their table's values. -/
theorem preserves : Cert.preserves_Mix_MixIdeal :=
  ⟨IdealRules.named_const.statement Cert.MixIdeal.κ "scale_log2e" .f32 0x3E0293EE#32 (((Real.sqrt 128)⁻¹ * (Real.log 2)⁻¹ : ℝ) : EReal) rfl,
    IdealRules.named_const.statement Cert.MixIdeal.κ "mask" .f32 0xF149F2CA#32 ⊥ rfl,
    IdealRules.named_const.statement Cert.MixIdeal.κ "log2e" .f32 0x3FB8AA3B#32 (((Real.log 2)⁻¹ : ℝ) : EReal) rfl⟩

/-- A row by its grid point, its group in the point's block and its place in the group. -/
theorem split_row (ρ : Fin 8192) : ρ = Spec.row (grp ⟨ρ.val / 512, by omega⟩ ⟨ρ.val / 128 % 4, by omega⟩) ⟨ρ.val % 128, by omega⟩ :=
  Fin.ext (by show ρ.val = (ρ.val / 512 * 4 + ρ.val / 128 % 4) * 128 + ρ.val % 128; omega)

/-- The same group by its sequence and its place in the sequence. -/
theorem group_eq (t : Fin 16) (j : Fin 4) : grp t j = bgrp ⟨t.val / 4, by omega⟩ ⟨t.val % 4 * 4 + j.val, by omega⟩ :=
  Fin.ext (by show t.val * 4 + j.val = t.val / 4 * 16 + (t.val % 4 * 4 + j.val); omega)

/-- Two arrays equal at every row of every group of every grid point are equal. -/
theorem arrays_ext (f g : (⟨2, ![8192, 2048]⟩ : Shape).Idx → EReal)
    (h : ∀ (t : Fin Cert.MixIdeal.cfg0.N) (j : Fin 4) (r : Fin 128) (l : Fin 2048), f (ix2 (Spec.row (grp (pt t) j) r) l) = g (ix2 (Spec.row (grp (pt t) j) r) l)) : f = g := by
  funext i
  rw [eq_ix2 i]
  have hN : Cert.MixIdeal.cfg0.N = 16 := Cert.MixIdeal.Gen.N_0
  have hl : (i 0).val < 8192 := (i 0).isLt
  have e : (i 0) = Spec.row (grp (pt ⟨(i 0).val / 512, by omega⟩) ⟨(i 0).val / 128 % 4, by omega⟩) ⟨(i 0).val % 128, by omega⟩ := split_row (i 0)
  rw [e]
  exact h _ _ _ _

/-- On finite score arguments the kernel's two result arrays are the reference's. -/
theorem algebraic : Cert.algebraic_MixIdeal_MixRefIdeal_pre_finite_scores (hMixIdeal := Cert.MixIdeal.Gen.facts) (hMixRefIdeal := Cert.MixRefIdeal.Gen.facts) (hPre_finite_scores := preFacts) := by
  intro m ρ m' ρ' hpre hagree
  refine ⟨_, _, Cert.MixIdeal.Value.run_blocks (F := Ideal) m ρ, ?_⟩
  refine (θ_run Cert.MixRefIdeal.defs _ _).mono (fun _ h c => ⟨(h c).1.trans ?_, (h c).2.1.trans ?_, (h c).2.2⟩)
    (Cert.MixRefIdeal.Value.run (F := Ideal) m' ρ')
  · obtain ⟨f0, f1, f2, f4, f5, f10⟩ := finite_of_pre (hF := preFacts) _ _ _ _ _ _ _ _ _ _ _ _ _ _ (hpre c)
    obtain ⟨a0, a1, a2, a3, a4, a5, a6, a7, a8, a9, a10, a11, a12, a13⟩ := hagree c
    rw [Cert.MixRefIdeal.Read.val_main_v144_eq, a0, a1, a2, a3, a4, a5, a6, a7, a8, a9, a10, a11, a12]
    refine arrays_ext _ _ fun t j r l => ?_
    refine Eq.trans ?_ (first_array m c f0 f1 f2 f4 f5 f10 t j r l).symm
    rw [group_eq]
    exact first_apply _ _ _ _ _ _ _ _ _ _ _ _ _ _ _ r l
  · obtain ⟨f0, f1, f2, f4, f5, f10⟩ := finite_of_pre (hF := preFacts) _ _ _ _ _ _ _ _ _ _ _ _ _ _ (hpre c)
    obtain ⟨a0, a1, a2, a3, a4, a5, a6, a7, a8, a9, a10, a11, a12, a13⟩ := hagree c
    rw [Cert.MixRefIdeal.Read.val_main_v146_eq, a0, a1, a2, a3, a4, a5, a6, a7, a8, a9, a10, a11, a12, a13]
    refine arrays_ext _ _ fun t j r l => ?_
    refine Eq.trans ?_ (second_array m c f0 f1 f2 f4 f5 f10 t j r l).symm
    rw [group_eq]
    exact second_apply _ _ _ _ _ _ _ _ _ _ _ _ _ _ _ _ r l

end Cert.Proof
-- ==== Proof.FeedSpec.lean ====
module

public import Idealize.ShloMosaic.Lib.ValueIdx

@[expose] public section

noncomputable section

namespace Cert.Feed

open Idealize.ShloMosaic Idealize.ShloMosaic.ValueIdx

/-! # The feed-forward part, entry by entry -/

/-- A matrix of extended reals. -/
abbrev Mat (M N : ℕ) := (⟨2, ![M, N]⟩ : Shape).Idx → EReal

/-- The product of a row of `h` and a column of `w`. -/
def dotAt {M K N : ℕ} (h : Mat M K) (w : Mat K N) (r : Fin M) (f : Fin N) : EReal := ∑ k : Fin K, h (ix2 r k) * w (ix2 k f)

/-- A hidden unit's share of an entry: the square of its positive part, times its weight to the column. -/
def unitTerm {M K N D : ℕ} (h : Mat M K) (wu : Mat K N) (wd : Mat N D) (r : Fin M) (l : Fin D) (f : Fin N) : EReal :=
  max (dotAt h wu r f) 0 * max (dotAt h wu r f) 0 * wd (ix2 f l)

/-- All hidden units' share of an entry. -/
def unitSum {M K N D : ℕ} (h : Mat M K) (wu : Mat K N) (wd : Mat N D) (r : Fin M) (l : Fin D) : EReal := ∑ f : Fin N, unitTerm h wu wd r l f

/-- The hidden unit `f` of the tile `s` of `T` units. -/
abbrev unitOf {S T : ℕ} (s : Fin S) (f : Fin T) : Fin (S * T) := ⟨s.val * T + f.val, by
  have h1 := s.isLt; have h2 := f.isLt
  calc s.val * T + f.val < s.val * T + T := by omega
    _ = (s.val + 1) * T := by ring
    _ ≤ S * T := Nat.mul_le_mul_right T h1⟩

/-- A sum over all units is the sum over the tiles of the sums over a tile's units. -/
theorem sum_tiles {S T : ℕ} (g : Fin (S * T) → EReal) : ∑ f : Fin (S * T), g f = ∑ s : Fin S, ∑ f : Fin T, g (unitOf s f) := by
  rw [← Fintype.sum_prod_type' (f := fun (s : Fin S) (f : Fin T) => g (unitOf s f)), ← Equiv.sum_comp finProdFinEquiv]
  refine Finset.sum_congr rfl fun x _ => congrArg g (Fin.ext ?_)
  show x.2.val + T * x.1.val = x.1.val * T + x.2.val
  ring

end Cert.Feed

end
-- ==== Proof.FeedBlocks.lean ====
module

public import proofs.«01_k».proof.Proof.FeedSpec
public import proofs.«01_k».proof.Proof.Gen.MlpIdeal.Value
public import Idealize.ShloMosaic.Lib.ValueIdx
public import Idealize.ShloMosaic.Lib.MatmulPlain
public import Idealize.ShloMosaic.Lib.IdealHost

@[expose] public section

set_option maxRecDepth 16384

noncomputable section

namespace Cert.MlpIdeal.Tile

open Cert.MlpIdeal Cert.MlpIdeal.Gen Cert.Feed Idealize.ShloMosaic Idealize.ShloMosaic.TcCoe Idealize.SL.Sem
open Idealize.ShloMosaic.ValueIdx

/-! # What a grid point of the feed-forward call adds, and the array it leaves -/

/-- A point's stored block at an index: the block it had plus the point's hidden units' share. -/
theorem stored_apply (x1 : Vec Ideal S512x2048 .bf16) (x2 : Vec Ideal S2048x2048 .bf16) (acc : Vec Ideal S512x2048 .f32) (x3 : Vec Ideal S2048x2048 .bf16)
    (a : Fin 512) (l : Fin 2048) :
    k0_pay1 (F := Ideal) x1 x2 acc x3 (ix2 a l) = acc (ix2 a l) + unitSum (M := 512) (K := 2048) (N := 2048) (D := 2048) x1 x2 x3 a l := by
  unfold k0_pay1
  rw [addf_apply, shapeCast_self]
  refine congrArg (acc (ix2 a l) + ·) ?_
  refine (Ideal.matmul_plain_apply (M := 512) (K := 2048) (N := 2048) none _ _ _ a l).trans ?_
  rw [constant_apply, Ideal.ofBits_zero_f32, zero_add]
  refine Finset.sum_congr rfl fun f _ => ?_
  have e : (matmul (F := Ideal) (φ₁ := .bf16) (φ₂ := .bf16) dot_S512x2048_S2048x2048_S512x2048_1_0_0_1_n_n none x1 x2 (constant S512x2048 .f32 0x00000000#32) : Mat 512 2048) (ix2 a f) = dotAt (M := 512) (K := 2048) (N := 2048) x1 x2 a f := by
    refine (Ideal.matmul_plain_apply (M := 512) (K := 2048) (N := 2048) none _ _ _ a f).trans ?_
    rw [constant_apply, Ideal.ofBits_zero_f32, zero_add]
    rfl
  rw [truncf_apply, mulf_apply, maximumf_apply, e]
  have z : broadcast S512x2048 (Scalar.ofBits (F := Ideal) .f32 0x00000000#32) (ix2 a f) = (0 : EReal) := Ideal.ofBits_zero_f32
  rw [z]
  rfl

variable (m : (ℓ : Loc nD τ sig) → Buf (Elt Ideal) ℓ)

/-- The row of the array that a point's block has at `a`. -/
abbrev rowOf (t : Fin cfg0.N) (a : Fin 512) : Fin 8192 := ⟨t.val / 4 * 512 + a.val, by have := lt_of_lt_of_eq t.isLt N_0; omega⟩

/-- The point's tile of hidden units. -/
abbrev tileOf (t : Fin cfg0.N) : Fin 4 := ⟨t.val % 4, by omega⟩

theorem index_0 : ∀ t : Fin cfg0.N, win0_0.index t 0 = t.val / 4 ∧ win0_0.index t 1 = 0 :=
  (by decide +kernel : ∀ t : Fin grid0.N, win0_0.index t 0 = t.val / 4 ∧ win0_0.index t 1 = 0)

theorem index_1 : ∀ t : Fin cfg0.N, win0_1.index t 0 = t.val / 4 ∧ win0_1.index t 1 = 0 :=
  (by decide +kernel : ∀ t : Fin grid0.N, win0_1.index t 0 = t.val / 4 ∧ win0_1.index t 1 = 0)

theorem index_2 : ∀ t : Fin cfg0.N, win0_2.index t 0 = 0 ∧ win0_2.index t 1 = t.val % 4 :=
  (by decide +kernel : ∀ t : Fin grid0.N, win0_2.index t 0 = 0 ∧ win0_2.index t 1 = t.val % 4)

theorem index_3 : ∀ t : Fin cfg0.N, win0_3.index t 0 = t.val % 4 ∧ win0_3.index t 1 = 0 :=
  (by decide +kernel : ∀ t : Fin grid0.N, win0_3.index t 0 = t.val % 4 ∧ win0_3.index t 1 = 0)

theorem block_0 (c : Dev nD) (t : Fin cfg0.N) (a : Fin 512) (l : Fin 2048) :
    (iblk m c 0 t : Vec Ideal S512x2048 .f32) (ix2 a l) = m ((c : Thread nD τ).loc main_arg0) (ix2 (rowOf t a) l) := by
  have hi := index_0 t
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ => show win0_0.index t 0 * 512 + 1 * a.val = t.val / 4 * 512 + a.val; rw [hi.1]; omega
  | ⟨1, _⟩ => show win0_0.index t 1 * 2048 + 1 * l.val = l.val; rw [hi.2]; omega

theorem block_1 (c : Dev nD) (t : Fin cfg0.N) (a : Fin 512) (l : Fin 2048) :
    (iblk m c 1 t : Vec Ideal S512x2048 .bf16) (ix2 a l) = m ((c : Thread nD τ).loc main_arg1) (ix2 (rowOf t a) l) := by
  have hi := index_1 t
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ => show win0_1.index t 0 * 512 + 1 * a.val = t.val / 4 * 512 + a.val; rw [hi.1]; omega
  | ⟨1, _⟩ => show win0_1.index t 1 * 2048 + 1 * l.val = l.val; rw [hi.2]; omega

theorem block_2 (c : Dev nD) (t : Fin cfg0.N) (k : Fin 2048) (f : Fin 2048) :
    (iblk m c 2 t : Vec Ideal S2048x2048 .bf16) (ix2 k f) = m ((c : Thread nD τ).loc main_arg2) (ix2 k (unitOf (tileOf t) f : Fin 8192)) := by
  have hi := index_2 t
  unfold iblk
  rw [View.read_apply]
  show V m c main_arg2 _ = m (c.tc.loc main_arg2) _
  rw [V_main_arg2]
  refine congrArg (m (c.tc.loc main_arg2)) (funext fun b => Fin.ext ?_)
  match b with
  | ⟨0, _⟩ => show win0_2.index t 0 * 2048 + 1 * k.val = k.val; rw [hi.1]; omega
  | ⟨1, _⟩ => show win0_2.index t 1 * 2048 + 1 * f.val = t.val % 4 * 2048 + f.val; rw [hi.2]; omega

theorem block_3 (c : Dev nD) (t : Fin cfg0.N) (f : Fin 2048) (l : Fin 2048) :
    (iblk m c 3 t : Vec Ideal S2048x2048 .bf16) (ix2 f l) = m ((c : Thread nD τ).loc main_arg3) (ix2 (unitOf (tileOf t) f : Fin 8192) l) := by
  have hi := index_3 t
  unfold iblk
  rw [View.read_apply]
  show V m c main_arg3 _ = m (c.tc.loc main_arg3) _
  rw [V_main_arg3]
  refine congrArg (m (c.tc.loc main_arg3)) (funext fun b => Fin.ext ?_)
  match b with
  | ⟨0, _⟩ => show win0_3.index t 0 * 2048 + 1 * f.val = t.val % 4 * 2048 + f.val; rw [hi.1]; omega
  | ⟨1, _⟩ => show win0_3.index t 1 * 2048 + 1 * l.val = l.val; rw [hi.2]; omega

/-- A point's share: the sum over its tile of hidden units. -/
theorem share_eq (c : Dev nD) (t : Fin cfg0.N) (a : Fin 512) (l : Fin 2048) :
    unitSum (M := 512) (K := 2048) (N := 2048) (D := 2048) (iblk m c 1 t) (iblk m c 2 t) (iblk m c 3 t) a l
      = ∑ f : Fin 2048, unitTerm (M := 8192) (K := 2048) (N := 8192) (D := 2048) (m ((c : Thread nD τ).loc main_arg1)) (m ((c : Thread nD τ).loc main_arg2))
          (m ((c : Thread nD τ).loc main_arg3)) (rowOf t a) l (unitOf (tileOf t) f : Fin 8192) := by
  refine Finset.sum_congr rfl fun f _ => ?_
  have e : dotAt (M := 512) (K := 2048) (N := 2048) (iblk m c 1 t) (iblk m c 2 t) a f
      = dotAt (M := 8192) (K := 2048) (N := 8192) (m ((c : Thread nD τ).loc main_arg1)) (m ((c : Thread nD τ).loc main_arg2)) (rowOf t a) (unitOf (tileOf t) f : Fin 8192) :=
    Finset.sum_congr rfl fun k _ => congrArg₂ (· * ·) (block_1 m c t a k) (block_2 m c t k f)
  exact congrArg₂ (· * ·) (congrArg₂ (· * ·) (congrArg (max · 0) e) (congrArg (max · 0) e)) (block_3 m c t f l)

/-- The share of the point of a given number. -/
def shareAt (c : Dev nD) (n : ℕ) (i : S512x2048.Idx) : EReal :=
  if h : n < cfg0.N then unitSum (M := 512) (K := 2048) (N := 2048) (D := 2048) (iblk m c 1 ⟨n, h⟩) (iblk m c 2 ⟨n, h⟩) (iblk m c 3 ⟨n, h⟩) (i 0) (i 1) else 0

/-- A row's block of rows. -/
abbrev runAt (ρ : Fin 8192) : ℕ := ρ.val / 512

/-- The first point of the run of a row. -/
abbrev firstPt (ρ : Fin 8192) : Fin cfg0.N := ⟨4 * (ρ.val / 512), by rw [show cfg0.N = 64 from N_0]; omega⟩

theorem run_lt (ρ : Fin 8192) (s : ℕ) (hs : s < 4) : 4 * (ρ.val / 512) + s < cfg0.N := by rw [show cfg0.N = 64 from N_0]; omega

/-- A row's place in its block. -/
abbrev placeAt (ρ : Fin 8192) : Fin 512 := ⟨ρ.val % 512, by omega⟩

/-- The block of the residual that the first point of a row's run fetched. -/
abbrev fetched (c : Dev nD) (ρ : Fin 8192) : Mat 512 2048 := iblk m c 0 (firstPt ρ)

/-- The residual array. -/
abbrev residual (c : Dev nD) : Mat 8192 2048 := m ((c : Thread nD τ).loc main_arg0)

/-- The fold over a run of four points: the block that the first point fetched, plus the four shares. -/
theorem fold_apply (c : Dev nD) (ρ : Fin 8192) (i : S512x2048.Idx) (h : 4 * (ρ.val / 512) + 3 < cfg0.N) :
    Pipeline.accAt (Value.reset4 m c) (Value.step4 m c) (4 * (ρ.val / 512)) 3 h i
      = fetched m c ρ i + ∑ s ∈ Finset.range 4, shareAt m c (4 * (ρ.val / 512) + s) i := by
  refine Pipeline.accAt_add_apply (Value.reset4 m c) (Value.step4 m c) (fetched m c ρ) (shareAt m c) _ 3 ?_ ?_ 3 le_rfl h i
  · intro h' i
    unfold Value.reset4 shareAt
    rw [dif_pos h', eq_ix2 i]
    exact stored_apply _ _ _ _ _ _
  · intro n h' acc i _ _
    unfold Value.step4 shareAt
    rw [dif_pos h', eq_ix2 i]
    exact stored_apply _ _ _ _ _ _

/-- The array the call leaves: the residual plus all hidden units' share. -/
theorem array_apply (c : Dev nD) (ρ : Fin 8192) (l : Fin 2048) :
    Value.G4 m c (ix2 ρ l) = residual m c (ix2 ρ l)
      + unitSum (M := 8192) (K := 2048) (N := 8192) (D := 2048) (m ((c : Thread nD τ).loc main_arg1)) (m ((c : Thread nD τ).loc main_arg2)) (m ((c : Thread nD τ).loc main_arg3)) ρ l := by
  have hr : Value.run4Of (ix2 ρ l) = ρ.val / 512 := by
    show 1 * (ρ.val / 512 - 0) + 1 * (l.val / 2048 - 0) = _
    have := l.isLt; omega
  have hl : Value.loc4Of (ix2 ρ l) = ix2 (placeAt ρ) l := by
    funext b; apply Fin.ext
    match b with
    | ⟨0, _⟩ => rfl
    | ⟨1, _⟩ => show l.val % 2048 = l.val; have := l.isLt; omega
  unfold Value.G4
  have hlt : 4 * Value.run4Of (ix2 ρ l) + 3 < cfg0.N := by rw [hr]; exact run_lt ρ 3 (by decide)
  rw [dif_pos hlt, hl]
  have e : ∀ (b : ℕ) (h : b + 3 < cfg0.N) (b' : ℕ) (h' : b' + 3 < cfg0.N), b = b' →
      Pipeline.accAt (Value.reset4 m c) (Value.step4 m c) b 3 h = Pipeline.accAt (Value.reset4 m c) (Value.step4 m c) b' 3 h' := by
    intro b h b' h' hb; subst hb; rfl
  rw [e _ _ (4 * (ρ.val / 512)) (run_lt ρ 3 (by decide)) (by rw [hr]), fold_apply]
  have hrow : ∀ (s : ℕ) (hs : s < 4), rowOf ⟨4 * (ρ.val / 512) + s, run_lt ρ s hs⟩ (placeAt ρ) = ρ := fun s hs =>
    Fin.ext (by show (4 * (ρ.val / 512) + s) / 4 * 512 + ρ.val % 512 = ρ.val; omega)
  refine congrArg₂ (· + ·) ((block_0 m c (firstPt ρ) (placeAt ρ) l).trans (congrArg (fun x => m ((c : Thread nD τ).loc main_arg0) (ix2 x l)) (hrow 0 (by decide)))) ?_
  unfold unitSum
  refine Eq.trans ?_ (sum_tiles (S := 4) (T := 2048) (unitTerm (M := 8192) (K := 2048) (N := 8192) (D := 2048) (m ((c : Thread nD τ).loc main_arg1)) (m ((c : Thread nD τ).loc main_arg2)) (m ((c : Thread nD τ).loc main_arg3)) ρ l)).symm
  rw [Finset.sum_range]
  refine Finset.sum_congr rfl fun s _ => ?_
  unfold shareAt
  rw [dif_pos (run_lt ρ s.val s.isLt)]
  refine (share_eq m c _ _ _).trans ?_
  refine Finset.sum_congr rfl fun f _ => ?_
  refine congrArg₂ (fun x y => unitTerm (M := 8192) (K := 2048) (N := 8192) (D := 2048) (m ((c : Thread nD τ).loc main_arg1)) (m ((c : Thread nD τ).loc main_arg2)) (m ((c : Thread nD τ).loc main_arg3)) x l y) (hrow s.val s.isLt) (Fin.ext ?_)
  show (4 * (ρ.val / 512) + s.val) % 4 * 2048 + f.val = s.val * 2048 + f.val
  have := s.isLt; omega

end Cert.MlpIdeal.Tile

end
-- ==== Proof.ClaimsMlp.lean ====
module

public import proofs.«01_k».proof.Defs
public import proofs.«01_k».proof.Proof.FeedBlocks
public import proofs.«01_k».proof.Proof.Gen.Mlp.Frame
public import proofs.«01_k».proof.Proof.Gen.MlpIdeal.Frame
public import proofs.«01_k».proof.Proof.Gen.MlpIdeal.Value
public import proofs.«01_k».proof.Proof.Gen.MlpRefIdeal.Run
public import proofs.«01_k».proof.Proof.Gen.MlpRefIdeal.Read
public import Idealize.ShloMosaic.Adequacy
public import Idealize.ShloMosaic.Init

@[expose] public section

set_option maxRecDepth 16384

noncomputable section

namespace Cert.Proof.Feed

open Idealize.ShloMosaic Idealize.SL.Sem Idealize.ShloMosaic.ValueIdx Cert.Feed

/-! # The claims of the feed-forward call -/

theorem frame_kernel : Cert.quiescent_Mlp (hMlp := Cert.Mlp.Gen.facts) := fun m ρ _ => Cert.Mlp.Gen.frame m ρ

theorem frame_ideal : Cert.quiescent_MlpIdeal (hMlpIdeal := Cert.MlpIdeal.Gen.facts) := fun m ρ _ => Cert.MlpIdeal.Gen.frame m ρ

theorem frame_reference : Cert.quiescent_MlpRefIdeal (hMlpRefIdeal := Cert.MlpRefIdeal.Gen.facts) := fun m ρ _ =>
  (θ_run Cert.MlpRefIdeal.defs _ _).mono (fun r h => ⟨fun c => (h c).2, Idealize.ShloMosaic.sem_eq_zero_of_no_sems (by decide) r.2⟩)
    (Cert.MlpRefIdeal.Value.run (F := Ideal) m ρ)

open Cert.MlpRefIdeal Cert.MlpRefIdeal.Gen Cert.MlpRefIdeal.Read in
/-- The reference at an index: the residual plus all hidden units' share. -/
theorem reference_apply (x0 : (⟨S8192x2048, .f32⟩ : BufTy).Contents (Elt Ideal)) (x1 : (⟨S8192x2048, .bf16⟩ : BufTy).Contents (Elt Ideal))
    (x2 : (⟨S2048x8192, .bf16⟩ : BufTy).Contents (Elt Ideal)) (x3 : (⟨S8192x2048, .bf16⟩ : BufTy).Contents (Elt Ideal)) (ρ : Fin 8192) (l : Fin 2048) :
    val_main_v7 (F := Ideal) x0 x1 x2 x3 (ix2 ρ l) = (x0 (ix2 ρ l) : EReal) + unitSum (M := 8192) (K := 2048) (N := 8192) (D := 2048) x1 x2 x3 ρ l := by
  rw [val_main_v7_apply]
  refine congrArg (fun y : EReal => (x0 (ix2 ρ l) : EReal) + y) ?_
  rw [val_main_v6_apply]
  refine Finset.sum_congr rfl fun f _ => ?_
  have ei : lidx_main_v6 (ix2 ρ l) f = ix2 ρ f := funext fun b => by match b with | ⟨0, _⟩ => rfl | ⟨1, _⟩ => rfl
  have er : ridx_main_v6 (ix2 ρ l) f = ix2 f l := funext fun b => by match b with | ⟨0, _⟩ => rfl | ⟨1, _⟩ => rfl
  have ed : val_main_v2 (F := Ideal) x1 x2 (ix2 ρ f) = dotAt (M := 8192) (K := 2048) (N := 8192) x1 x2 ρ f := by
    rw [val_main_v2_apply]
    refine Finset.sum_congr rfl fun k _ => ?_
    have e1 : lidx_main_v2 (ix2 ρ f) k = ix2 ρ k := funext fun b => by match b with | ⟨0, _⟩ => rfl | ⟨1, _⟩ => rfl
    have e2 : ridx_main_v2 (ix2 ρ f) k = ix2 k f := funext fun b => by match b with | ⟨0, _⟩ => rfl | ⟨1, _⟩ => rfl
    rw [e1, e2]
    rfl
  have ez : val_main_call0_v0 (F := Ideal) (ix2 ρ f) = (0 : EReal) := by
    rw [val_main_call0_v0_apply, val_main_call0_cst_apply]
    exact Ideal.ofBits_zero_f32
  have e3 : val_main_v3 (F := Ideal) x1 x2 (ix2 ρ f) = max (dotAt (M := 8192) (K := 2048) (N := 8192) x1 x2 ρ f) 0 := by
    rw [val_main_v3_apply, ed, ez]
    rfl
  rw [ei, er, val_main_v4_apply, e3]
  rfl

theorem preserves : Cert.preserves_Mlp_MlpIdeal := trivial

theorem algebraic : Cert.algebraic_MlpIdeal_MlpRefIdeal (hMlpIdeal := Cert.MlpIdeal.Gen.facts) (hMlpRefIdeal := Cert.MlpRefIdeal.Gen.facts) := by
  intro m ρ m' ρ' _ hagree
  refine ⟨_, Cert.MlpIdeal.Value.run (F := Ideal) m ρ, ?_⟩
  refine (θ_run Cert.MlpRefIdeal.defs _ _).mono (fun _ h c => ⟨(h c).1.trans ?_, (h c).2⟩) (Cert.MlpRefIdeal.Value.run (F := Ideal) m' ρ')
  obtain ⟨a0, a1, a2, a3⟩ := hagree c
  rw [Cert.MlpRefIdeal.Read.val_main_v7_eq, a0, a1, a2, a3]
  funext i
  rw [eq_ix2 i]
  exact (reference_apply _ _ _ _ _ _).trans (Cert.MlpIdeal.Tile.array_apply m c _ _).symm

end Cert.Proof.Feed

end
-- ==== Proof.ProjSpec.lean ====
module

public import Idealize.ShloMosaic.Lib.Pipeline.Value
public import Idealize.ShloMosaic.Lib.MatmulPlain

@[expose] public section

noncomputable section

namespace Cert.Inputs

open Idealize.ShloMosaic Idealize.ShloMosaic.ValueIdx

/-! # The input projections' nine results as formulas of the rows they read, over the extended reals

  The projection's 3584 columns hold, in order, the gate (512), two factors of the convolution's input (512 each), the
  queries (1024), the keys and the values (256 each) and the memory queries (512). -/

/-- A two-axis array of extended reals. -/
abbrev Arr (M N : ℕ) := (⟨2, ![M, N]⟩ : Shape).Idx → EReal

/-- A row over the root of its mean square (`n` its length, as a bit pattern) plus a millionth, scaled by `g`. -/
def rms {K : ℕ} (n : BitVec 32) (y : Fin K → EReal) (g : Arr 1 K) (j : Fin K) : EReal :=
  y j * Ideal.rsqrt (Ideal.div (∑ k : Fin K, y k * y k) (Ideal.ofBits .f32 n) + Ideal.ofBits .f32 0x358637BD#32) * g (ix2 0 j)

/-- A column of the projection, by number. -/
abbrev colAt (j : ℕ) : Fin 3584 := ⟨j % 3584, Nat.mod_lt _ (by decide)⟩

/-- The normalised row through the projection: column `j`. -/
def proj (y : Fin 2048 → EReal) (g : Arr 1 2048) (w : Arr 2048 3584) (j : ℕ) : EReal :=
  ∑ k : Fin 2048, rms 0x45000000#32 y g k * w (ix2 k (colAt j))

/-- The 128 columns from `o` on of the projected row, normalised over themselves. -/
def head (y : Fin 2048 → EReal) (g : Arr 1 2048) (w : Arr 2048 3584) (gh : Arr 1 128) (o : ℕ) (d : Fin 128) : EReal :=
  rms 0x43000000#32 (fun t : Fin 128 => proj y g w (o + t.val)) gh d

section Results
variable {M : ℕ} (y : Fin M → Fin 2048 → EReal) (g : Arr 1 2048) (w : Arr 2048 3584) (gh : Arr 1 128)

/-- `N` columns from `o` on, as they are. -/
def flat (N o : ℕ) : Arr M N := fun i => proj (y (i 0)) g w (o + (i 1).val)

/-- The convolution's input: the product of its two factors. -/
def gated : Arr M 512 := fun i => proj (y (i 0)) g w (512 + (i 1).val) * proj (y (i 0)) g w (1024 + (i 1).val)

/-- `N` columns from `o` on, each head of 128 normalised. -/
def heads (N o : ℕ) : Arr M N := fun i => head (y (i 0)) g w gh (o + (i 1).val / 128 * 128) ⟨(i 1).val % 128, Nat.mod_lt _ (by decide)⟩

/-- The row that has its two heads in rows `2ρ` and `2ρ + 1`. -/
abbrev half {P : ℕ} (h : P = 2 * M) (ρ : Fin P) : Fin M := ⟨ρ.val / 2, by omega⟩

/-- The keys, a head a row. -/
def keyRows {P : ℕ} (h : P = 2 * M) : Arr P 128 := fun i => head (y (half h (i 0))) g w gh (2560 + (i 0).val % 2 * 128) (i 1)

/-- The values, a head a row. -/
def valueRows {P : ℕ} (h : P = 2 * M) : Arr P 128 := fun i => proj (y (half h (i 0))) g w (2816 + ((i 0).val % 2 * 128 + (i 1).val))

end Results

end Cert.Inputs

end
-- ==== Proof.ProjIdealBody.lean ====
/- The frame of the input projections' kernel over the reals: the body runs at every grid point, each output block ends at what its
   stores leave (the key and value blocks are stored by rows at stride two), and the launch follows. -/
module

public import proofs.«01_k».proof.Proof.Gen.ProjIdeal.Frame
public import proofs.«01_k».proof.Proof.Gen.ProjIdeal.Skeleton
public import Idealize.ShloMosaic.Lib.Claim

@[expose] public section

set_option maxRecDepth 16384

noncomputable section

namespace Cert.ProjIdeal.Body

open Cert.ProjIdeal Cert.ProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Points

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x3584 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x2048 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1024 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x512 .bf16) (harg15 : arg15.IsWhole) (arg16 : Memref sig .tc .vmem S128x2048 .bf16) (harg16 : arg16.IsWhole)
    (x0 : Vec F S512x2048 .f32) (x1 : Vec F S1x2048 .f32) (x2 : Vec F S2048x3584 .bf16) (x3 : Vec F S1x128 .f32) (x4 : Vec F S1x128 .f32) (x5 : Vec F S1x128 .f32) (x6 : Vec F S128x2048 .f32)

set_option maxHeartbeats 2000000 in
/-- The body, from whole blocks at their contents and outputs at anything, ends with the inputs as they were and each output
    under the pieces that its stores wrote (last first); the pieces are found by the run. -/
def run :
    Σ' (L7 : List (View.Piece (Elt F) S512x512 .f32)), Σ' (L8 : List (View.Piece (Elt F) S512x512 .f32)), Σ' (L9 : List (View.Piece (Elt F) S512x1024 .bf16)), Σ' (L10 : List (View.Piece (Elt F) S1024x128 .f32)), Σ' (L11 : List (View.Piece (Elt F) S1024x128 .f32)), Σ' (L12 : List (View.Piece (Elt F) S512x256 .bf16)), Σ' (L13 : List (View.Piece (Elt F) S512x256 .bf16)), Σ' (L14 : List (View.Piece (Elt F) S512x512 .bf16)), { L15 : List (View.Piece (Elt F) S128x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15)) -∗ K ⟨⟩))
          ⊢ wp frame (wpE (defs₀ (F := F)) Variants.none c none) E (cc0_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, ?_, ?_, fun E K => ?run⟩
  case run =>
    simp only [cc0_proj_eq_skeleton]; unfold cc0_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold k0_part1_skel; unfold k0_part2_skel; unfold k0_part3_skel; unfold k0_part4_skel; unfold k0_part5_skel; unfold k0_part6_skel; unfold k0_part7_skel; unfold k0_part8_skel; unfold k0_part9_skel; unfold k0_part10_skel; unfold k0_part11_skel; unfold k0_part12_skel; unfold k0_part13_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    iexists _; iexact H15

/-- A row below 1024 is of one of the four stripes. -/
theorem striped_rows (r : ℕ) (h : r < 1024) : (∃ j < 256, r = 513 + 2 * j) ∨ (∃ j < 256, r = 512 + 2 * j)
    ∨ (∃ j < 256, r = 1 + 2 * j) ∨ (∃ j < 256, r = 0 + 2 * j) := by
  by_cases hc : 512 ≤ r <;> by_cases hp : r % 2 = 1
  · exact .inl ⟨(r - 513) / 2, by omega, by omega⟩
  · exact .inr (.inl ⟨(r - 512) / 2, by omega, by omega⟩)
  · exact .inr (.inr (.inl ⟨(r - 1) / 2, by omega, by omega⟩))
  · exact .inr (.inr (.inr ⟨r / 2, by omega, by omega⟩))

/-- Four stores of 256 rows each, at stride two from rows 0, 1, 512 and 513, cover 1024 rows. -/
theorem striped_cover (w3 w2 w1 w0) (y : S1024x128.Idx) :
    ∃ pc ∈ ([⟨⟨(⟨![513, 0], S256x128.size, ![2, 1], inb_S1024x128_S256x128_513_0_s_2_1⟩ : LoadRect S1024x128), spos_2_1⟩, w3⟩,
        ⟨⟨(⟨![512, 0], S256x128.size, ![2, 1], inb_S1024x128_S256x128_512_0_s_2_1⟩ : LoadRect S1024x128), spos_2_1⟩, w2⟩,
        ⟨⟨(⟨![1, 0], S256x128.size, ![2, 1], inb_S1024x128_S256x128_1_0_s_2_1⟩ : LoadRect S1024x128), spos_2_1⟩, w1⟩,
        ⟨⟨(⟨![0, 0], S256x128.size, ![2, 1], inb_S1024x128_S256x128_0_0_s_2_1⟩ : LoadRect S1024x128), spos_2_1⟩, w0⟩] :
          List (View.Piece (Elt F) S1024x128 .f32)), y ∈ pc.1.set := by
  have hy0 : (y 0).val < 1024 := (y 0).isLt
  have hy1 : (y 1).val < 128 := (y 1).isLt
  rcases (striped_rows _ hy0 : (∃ j < 256, (y 0).val = 513 + 2 * j) ∨ (∃ j < 256, (y 0).val = 512 + 2 * j)
      ∨ (∃ j < 256, (y 0).val = 1 + 2 * j) ∨ (∃ j < 256, (y 0).val = 0 + 2 * j)) with h | h | h | h
  · refine ⟨_, .head _, (LoadRect.mem_set _).mpr fun a => ?_⟩
    match a with
    | ⟨0, _⟩ => exact h
    | ⟨1, _⟩ => exact ⟨(y 1).val, hy1, by show (y 1).val = 0 + 1 * (y 1).val; omega⟩
  · refine ⟨_, .tail _ (.head _), (LoadRect.mem_set _).mpr fun a => ?_⟩
    match a with
    | ⟨0, _⟩ => exact h
    | ⟨1, _⟩ => exact ⟨(y 1).val, hy1, by show (y 1).val = 0 + 1 * (y 1).val; omega⟩
  · refine ⟨_, .tail _ (.tail _ (.head _)), (LoadRect.mem_set _).mpr fun a => ?_⟩
    match a with
    | ⟨0, _⟩ => exact h
    | ⟨1, _⟩ => exact ⟨(y 1).val, hy1, by show (y 1).val = 0 + 1 * (y 1).val; omega⟩
  · refine ⟨_, .tail _ (.tail _ (.tail _ (.head _))), (LoadRect.mem_set _).mpr fun a => ?_⟩
    match a with
    | ⟨0, _⟩ => exact h
    | ⟨1, _⟩ => exact ⟨(y 1).val, hy1, by show (y 1).val = 0 + 1 * (y 1).val; omega⟩

/-- The pieces of output 0 cover its block. -/
theorem cover7 (y : S512x512.Idx) :
    ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).1, y ∈ pc.1.set :=
  View.cover_of_tiledL (s := S512x512) _ S256x512.size (by sl_kernel_rfl) y

/-- What the body leaves in output 0's block. -/
def out7 : Vec F S512x512 .f32 :=
  View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).1

/-- The pieces of output 1 cover its block. -/
theorem cover8 (y : S512x512.Idx) :
    ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.1, y ∈ pc.1.set :=
  View.cover_of_tiledL (s := S512x512) _ S256x512.size (by sl_kernel_rfl) y

/-- What the body leaves in output 1's block. -/
def out8 : Vec F S512x512 .f32 :=
  View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.1

/-- The pieces of output 2 cover its block. -/
theorem cover9 (y : S512x1024.Idx) :
    ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.1, y ∈ pc.1.set :=
  View.cover_of_tiledL (s := S512x1024) _ S256x128.size (by sl_kernel_rfl) y

/-- What the body leaves in output 2's block. -/
def out9 : Vec F S512x1024 .bf16 :=
  View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.1

/-- The pieces of output 3 cover its block. -/
theorem cover10 (y : S1024x128.Idx) :
    ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.2.1, y ∈ pc.1.set :=
by
  unfold run
  dsimp only
  exact striped_cover _ _ _ _ y

/-- What the body leaves in output 3's block. -/
def out10 : Vec F S1024x128 .f32 :=
  View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.2.1

/-- The pieces of output 4 cover its block. -/
theorem cover11 (y : S1024x128.Idx) :
    ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.2.2.1, y ∈ pc.1.set :=
by
  unfold run
  dsimp only
  exact striped_cover _ _ _ _ y

/-- What the body leaves in output 4's block. -/
def out11 : Vec F S1024x128 .f32 :=
  View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.2.2.1

/-- The pieces of output 5 cover its block. -/
theorem cover12 (y : S512x256.Idx) :
    ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.2.2.2.1, y ∈ pc.1.set :=
  View.cover_of_tiledL (s := S512x256) _ S256x128.size (by sl_kernel_rfl) y

/-- What the body leaves in output 5's block. -/
def out12 : Vec F S512x256 .bf16 :=
  View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.2.2.2.1

/-- The pieces of output 6 cover its block. -/
theorem cover13 (y : S512x256.Idx) :
    ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.2.2.2.2.1, y ∈ pc.1.set :=
  View.cover_of_tiledL (s := S512x256) _ S256x256.size (by sl_kernel_rfl) y

/-- What the body leaves in output 6's block. -/
def out13 : Vec F S512x256 .bf16 :=
  View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.2.2.2.2.1

/-- The pieces of output 7 cover its block. -/
theorem cover14 (y : S512x512.Idx) :
    ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.2.2.2.2.2.1, y ∈ pc.1.set :=
  View.cover_of_tiledL (s := S512x512) _ S256x128.size (by sl_kernel_rfl) y

/-- What the body leaves in output 7's block. -/
def out14 : Vec F S512x512 .bf16 :=
  View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.2.2.2.2.2.1

/-- The pieces of output 8 cover its block. -/
theorem cover15 (y : S128x2048.Idx) :
    ∃ pc ∈ (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.2.2.2.2.2.2.1, y ∈ pc.1.set :=
  View.cover_of_tiledL (s := S128x2048) _ S128x2048.size (by sl_kernel_rfl) y

/-- What the body leaves in output 8's block. -/
def out15 : Vec F S128x2048 .bf16 :=
  View.canon (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).2.2.2.2.2.2.2.2.1

end Points

/-- A function of the body's blocks and their contents, at point `t`. -/
abbrev atPoint {α : Type} (f : Dev nD → grid0.Coords → (arg1 : Memref sig .tc .vmem S512x2048 .f32) → arg1.IsWhole → (arg2 : Memref sig .tc .vmem S1x2048 .f32) → arg2.IsWhole → (arg3 : Memref sig .tc .vmem S2048x3584 .bf16) → arg3.IsWhole → (arg4 : Memref sig .tc .vmem S1x128 .f32) → arg4.IsWhole → (arg5 : Memref sig .tc .vmem S1x128 .f32) → arg5.IsWhole → (arg6 : Memref sig .tc .vmem S1x128 .f32) → arg6.IsWhole → (arg7 : Memref sig .tc .vmem S128x2048 .f32) → arg7.IsWhole → (arg8 : Memref sig .tc .vmem S512x512 .f32) → arg8.IsWhole → (arg9 : Memref sig .tc .vmem S512x512 .f32) → arg9.IsWhole → (arg10 : Memref sig .tc .vmem S512x1024 .bf16) → arg10.IsWhole → (arg11 : Memref sig .tc .vmem S1024x128 .f32) → arg11.IsWhole → (arg12 : Memref sig .tc .vmem S1024x128 .f32) → arg12.IsWhole → (arg13 : Memref sig .tc .vmem S512x256 .bf16) → arg13.IsWhole → (arg14 : Memref sig .tc .vmem S512x256 .bf16) → arg14.IsWhole → (arg15 : Memref sig .tc .vmem S512x512 .bf16) → arg15.IsWhole → (arg16 : Memref sig .tc .vmem S128x2048 .bf16) → arg16.IsWhole →
    Vec F S512x2048 .f32 → Vec F S1x2048 .f32 → Vec F S2048x3584 .bf16 → Vec F S1x128 .f32 → Vec F S1x128 .f32 → Vec F S1x128 .f32 → Vec F S128x2048 .f32 → α) (c : Dev nD) (t : Fin cfg0.N) : α :=
  f c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (iblk m c 0 t) (iblk m c 1 t) (iblk m c 2 t) (iblk m c 3 t) (iblk m c 4 t) (iblk m c 5 t) (iblk m c 6 t)

/-- What output 0's block holds after the body at point `t`. -/
def after7 (c : Dev nD) (t : Fin cfg0.N) : Vec F S512x512 .f32 :=
  atPoint m out7 c t

/-- What output 1's block holds after the body at point `t`. -/
def after8 (c : Dev nD) (t : Fin cfg0.N) : Vec F S512x512 .f32 :=
  atPoint m out8 c t

/-- What output 2's block holds after the body at point `t`. -/
def after9 (c : Dev nD) (t : Fin cfg0.N) : Vec F S512x1024 .bf16 :=
  atPoint m out9 c t

/-- What output 3's block holds after the body at point `t`. -/
def after10 (c : Dev nD) (t : Fin cfg0.N) : Vec F S1024x128 .f32 :=
  atPoint m out10 c t

/-- What output 4's block holds after the body at point `t`. -/
def after11 (c : Dev nD) (t : Fin cfg0.N) : Vec F S1024x128 .f32 :=
  atPoint m out11 c t

/-- What output 5's block holds after the body at point `t`. -/
def after12 (c : Dev nD) (t : Fin cfg0.N) : Vec F S512x256 .bf16 :=
  atPoint m out12 c t

/-- What output 6's block holds after the body at point `t`. -/
def after13 (c : Dev nD) (t : Fin cfg0.N) : Vec F S512x256 .bf16 :=
  atPoint m out13 c t

/-- What output 7's block holds after the body at point `t`. -/
def after14 (c : Dev nD) (t : Fin cfg0.N) : Vec F S512x512 .bf16 :=
  atPoint m out14 c t

/-- What output 8's block holds after the body at point `t`. -/
def after15 (c : Dev nD) (t : Fin cfg0.N) : Vec F S128x2048 .bf16 :=
  atPoint m out15 c t

/-- The pipeline's proof data: the arrays as launched, the inputs at their blocks, the outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => after7 m c t
    | ⟨8, _⟩ => after8 m c t
    | ⟨9, _⟩ => after9 m c t
    | ⟨10, _⟩ => after10 m c t
    | ⟨11, _⟩ => after11 m c t
    | ⟨12, _⟩ => after12 m c t
    | ⟨13, _⟩ => after13 m c t
    | ⟨14, _⟩ => after14 m c t
    | ⟨15, _⟩ => after15 m c t
    | ⟨_ + 16, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = iblk m c 4 t := by dsimp only [dats]
theorem dats_after5 (c : Dev nD) (t : Fin cfg0.N) : (dats m 0 c).after 5 t = iblk m c 5 t := by dsimp only [dats]
theorem dats_after6 (c : Dev nD) (t : Fin cfg0.N) : (dats m 0 c).after 6 t = iblk m c 6 t := by dsimp only [dats]
theorem dats_after7 (c : Dev nD) (t : Fin cfg0.N) : (dats m 0 c).after 7 t = after7 m c t := by dsimp only [dats]
theorem dats_after8 (c : Dev nD) (t : Fin cfg0.N) : (dats m 0 c).after 8 t = after8 m c t := by dsimp only [dats]
theorem dats_after9 (c : Dev nD) (t : Fin cfg0.N) : (dats m 0 c).after 9 t = after9 m c t := by dsimp only [dats]
theorem dats_after10 (c : Dev nD) (t : Fin cfg0.N) : (dats m 0 c).after 10 t = after10 m c t := by dsimp only [dats]
theorem dats_after11 (c : Dev nD) (t : Fin cfg0.N) : (dats m 0 c).after 11 t = after11 m c t := by dsimp only [dats]
theorem dats_after12 (c : Dev nD) (t : Fin cfg0.N) : (dats m 0 c).after 12 t = after12 m c t := by dsimp only [dats]
theorem dats_after13 (c : Dev nD) (t : Fin cfg0.N) : (dats m 0 c).after 13 t = after13 m c t := by dsimp only [dats]
theorem dats_after14 (c : Dev nD) (t : Fin cfg0.N) : (dats m 0 c).after 14 t = after14 m c t := by dsimp only [dats]
theorem dats_after15 (c : Dev nD) (t : Fin cfg0.N) : (dats m 0 c).after 15 t = after15 m c t := by dsimp only [dats]

theorem before0 (c : Dev nD) (t : Fin cfg0.N) (d) : (dats m 0 c).before 0 t d = iblk m c 0 t :=
  before0_0_of m (dats m 0 c) (A_eq m c 0) (dats_after0 m c) t d
theorem before1 (c : Dev nD) (t : Fin cfg0.N) (d) : (dats m 0 c).before 1 t d = iblk m c 1 t :=
  before0_1_of m (dats m 0 c) (A_eq m c 1) (dats_after1 m c) t d
theorem before2 (c : Dev nD) (t : Fin cfg0.N) (d) : (dats m 0 c).before 2 t d = iblk m c 2 t :=
  before0_2_of m (dats m 0 c) (A_eq m c 2) (dats_after2 m c) t d
theorem before3 (c : Dev nD) (t : Fin cfg0.N) (d) : (dats m 0 c).before 3 t d = iblk m c 3 t :=
  before0_3_of m (dats m 0 c) (A_eq m c 3) (dats_after3 m c) t d
theorem before4 (c : Dev nD) (t : Fin cfg0.N) (d) : (dats m 0 c).before 4 t d = iblk m c 4 t :=
  before0_4_of m (dats m 0 c) (A_eq m c 4) (dats_after4 m c) t d
theorem before5 (c : Dev nD) (t : Fin cfg0.N) (d) : (dats m 0 c).before 5 t d = iblk m c 5 t :=
  before0_5_of m (dats m 0 c) (A_eq m c 5) (dats_after5 m c) t d
theorem before6 (c : Dev nD) (t : Fin cfg0.N) (d) : (dats m 0 c).before 6 t d = iblk m c 6 t :=
  before0_6_of m (dats m 0 c) (A_eq m c 6) (dats_after6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    dats_after0, dats_after1, dats_after2, dats_after3, dats_after4, dats_after5, dats_after6, dats_after7, dats_after8, dats_after9, dats_after10, dats_after11, dats_after12, dats_after13, dats_after14, dats_after15]
  unfold after7 after8 after9 after10 after11 after12 after13 after14 after15 atPoint out7 out8 out9 out10 out11 out12 out13 out14 out15
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((run c (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩, ⟨%e14, H14⟩, ⟨%e15, H15⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact View.read_writes_eq_canon _ _ _ (cover7 c _ _ _ _ _ _ _ _ _ _ _ _ _ _ _ _ _ _ _ _ _ _ _ _ _ _ _ _ _ _ _ _ _ _ _ _ _ _ _ _ )
  isplitl [H8]
  · unfold owns; iexists _; isplitr
    swap; · iexact H8
    ipureintro; exact View.read_writes_eq_canon _ _ _ (cover8 c _ _ _ _ _ _ _ _ _ _ _ _ _ _ _ _ _ _ _ _ _ _ _ _ _ _ _ _ _ _ _ _ _ _ _ _ _ _ _ _ )
  isplitl [H9]
  · unfold owns; iexists _; isplitr
    swap; · iexact H9
    ipureintro; exact View.read_writes_eq_canon _ _ _ (cover9 c _ _ _ _ _ _ _ _ _ _ _ _ _ _ _ _ _ _ _ _ _ _ _ _ _ _ _ _ _ _ _ _ _ _ _ _ _ _ _ _ )
  isplitl [H10]
  · unfold owns; iexists _; isplitr
    swap; · iexact H10
    ipureintro; exact View.read_writes_eq_canon _ _ _ (cover10 c _ _ _ _ _ _ _ _ _ _ _ _ _ _ _ _ _ _ _ _ _ _ _ _ _ _ _ _ _ _ _ _ _ _ _ _ _ _ _ _ )
  isplitl [H11]
  · unfold owns; iexists _; isplitr
    swap; · iexact H11
    ipureintro; exact View.read_writes_eq_canon _ _ _ (cover11 c _ _ _ _ _ _ _ _ _ _ _ _ _ _ _ _ _ _ _ _ _ _ _ _ _ _ _ _ _ _ _ _ _ _ _ _ _ _ _ _ )
  isplitl [H12]
  · unfold owns; iexists _; isplitr
    swap; · iexact H12
    ipureintro; exact View.read_writes_eq_canon _ _ _ (cover12 c _ _ _ _ _ _ _ _ _ _ _ _ _ _ _ _ _ _ _ _ _ _ _ _ _ _ _ _ _ _ _ _ _ _ _ _ _ _ _ _ )
  isplitl [H13]
  · unfold owns; iexists _; isplitr
    swap; · iexact H13
    ipureintro; exact View.read_writes_eq_canon _ _ _ (cover13 c _ _ _ _ _ _ _ _ _ _ _ _ _ _ _ _ _ _ _ _ _ _ _ _ _ _ _ _ _ _ _ _ _ _ _ _ _ _ _ _ )
  isplitl [H14]
  · unfold owns; iexists _; isplitr
    swap; · iexact H14
    ipureintro; exact View.read_writes_eq_canon _ _ _ (cover14 c _ _ _ _ _ _ _ _ _ _ _ _ _ _ _ _ _ _ _ _ _ _ _ _ _ _ _ _ _ _ _ _ _ _ _ _ _ _ _ _ )
  unfold owns; iexists _; isplitr
  swap; · iexact H15
  ipureintro; exact View.read_writes_eq_canon _ _ _ (cover15 c _ _ _ _ _ _ _ _ _ _ _ _ _ _ _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution ends, the arrays at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.ProjIdeal.Body

end
-- ==== Proof.ProjTile.lean ====
module

public import proofs.«01_k».proof.Proof.ProjSpec
public import proofs.«01_k».proof.Proof.ProjIdealBody
public import Idealize.ShloMosaic.Lib.Pipeline.ValueKit.Basic
public import Idealize.ShloMosaic.Lib.ValueIdx
public import Idealize.ShloMosaic.Lib.MatmulPlain
public import Idealize.ShloMosaic.Lib.IdealHost

@[expose] public section

set_option maxRecDepth 16384

noncomputable section

namespace Cert.ProjIdeal.Tile

open Cert.ProjIdeal Cert.ProjIdeal.Gen Cert.Inputs Idealize.ShloMosaic Idealize.ShloMosaic.TcCoe Idealize.SL.Sem
open Idealize.ShloMosaic.ValueIdx

/-! # One piece of an output block: what half a block's rows give, entry by entry -/

/-- The normalised rows. -/
theorem normed_apply (x : Vec Ideal S256x2048 .f32) (g : Vec Ideal S1x2048 .f32) (a : Fin 256) (j : Fin 2048) :
    k0_pay5 (F := Ideal) x g (ix2 a j) = rms 0x45000000#32 (fun k => x (ix2 a k)) g j := by
  unfold k0_pay5
  dsimp only
  rw [truncf_apply, mulf_apply, mulf_apply]
  rw [broadcastTo_apply _ broadcasts_S1x2048_S256x2048 (ix2 a j) (ix2 0 j) (by intro b; match b with | ⟨0, _⟩ => rfl | ⟨1, _⟩ => rfl)]
  rw [broadcastTo_apply _ broadcasts_S256x1_S256x2048 (ix2 a j) (ix2 a 0) (by intro b; match b with | ⟨0, _⟩ => rfl | ⟨1, _⟩ => rfl)]
  have hs : (shapeCast S256x1 (multiReduction (F := Ideal) (φ := .f32) .add [1] S256 (mulf x x) 0x00000000#32 reduces_S256x2048_S256 (.inl rfl) rfl) shapeCasts_S256_S256x1 : FVec Ideal S256x1 .f32) (ix2 a 0)
      = ∑ k : Fin 2048, (x (ix2 a k) * x (ix2 a k) : EReal) := by
    rw [shapeCast_apply _ shapeCasts_S256_S256x1 (ix2 a 0) (ix1 a) (by rw [Shape.rowMajor_val_two, Shape.rowMajor_val_one]; show a.val = a.val * 1 + 0; omega)]
    refine (Ideal.multiReduction_add_single _ _ reduces_S256x2048_S256 _ _ (ix1 a)).trans ?_
    refine Finset.sum_congr rfl fun k _ => ?_
    have e : reduces_S256x2048_S256.lift (ix1 a) k = ix2 a k := by
      funext b
      match b with | ⟨0, _⟩ => rfl | ⟨1, _⟩ => rfl
    rw [e]
    rfl
  unfold rms
  rw [← hs]
  rfl

/-- A head's 128 columns normalised over themselves and scaled. -/
def headOf (z : FVec Ideal S256x128 .f32) (g : Vec Ideal S1x128 .f32) : FVec Ideal S256x128 .f32 :=
  mulf (mulf z (broadcastTo S256x128 (rsqrt (addf (divf (shapeCast S256x1 (multiReduction .add [1] S256 (mulf z z) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128))
    (broadcastTo S256x128 g broadcasts_S1x128_S256x128)

theorem headOf_apply (z : FVec Ideal S256x128 .f32) (g : Vec Ideal S1x128 .f32) (a : Fin 256) (d : Fin 128) :
    headOf z g (ix2 a d) = rms 0x43000000#32 (fun k => z (ix2 a k)) g d := by
  unfold headOf
  rw [mulf_apply, mulf_apply]
  rw [broadcastTo_apply _ broadcasts_S1x128_S256x128 (ix2 a d) (ix2 0 d) (by intro b; match b with | ⟨0, _⟩ => rfl | ⟨1, _⟩ => rfl)]
  rw [broadcastTo_apply _ broadcasts_S256x1_S256x128 (ix2 a d) (ix2 a 0) (by intro b; match b with | ⟨0, _⟩ => rfl | ⟨1, _⟩ => rfl)]
  have hs : (shapeCast S256x1 (multiReduction (F := Ideal) (φ := .f32) .add [1] S256 (mulf z z) 0x00000000#32 reduces_S256x128_S256 (.inl rfl) rfl) shapeCasts_S256_S256x1 : FVec Ideal S256x1 .f32) (ix2 a 0)
      = ∑ k : Fin 128, (z (ix2 a k) * z (ix2 a k) : EReal) := by
    rw [shapeCast_apply _ shapeCasts_S256_S256x1 (ix2 a 0) (ix1 a) (by rw [Shape.rowMajor_val_two, Shape.rowMajor_val_one]; show a.val = a.val * 1 + 0; omega)]
    refine (Ideal.multiReduction_add_single _ _ reduces_S256x128_S256 _ _ (ix1 a)).trans ?_
    refine Finset.sum_congr rfl fun k _ => ?_
    have e : reduces_S256x128_S256.lift (ix1 a) k = ix2 a k := by
      funext b
      match b with | ⟨0, _⟩ => rfl | ⟨1, _⟩ => rfl
    rw [e]
    rfl
  unfold rms
  rw [← hs]
  rfl

variable (x0 : Vec Ideal S512x2048 .f32) (x1 : Vec Ideal S1x2048 .f32) (x2 : Vec Ideal S2048x3584 .bf16) (gh : Vec Ideal S1x128 .f32)

/-- The rows of a block. -/
abbrev rows : Fin 512 → Fin 2048 → EReal := fun a k => x0 (ix2 a k)

/-- 256 rows of the block from `o` on, normalised and multiplied by the `N` columns of the weight from `c` on. -/
def seg (N o c : ℕ) (hx : ∀ a, ![o, 0] a + ![256, 2048] a ≤ S512x2048.size a) (hw : ∀ a, ![0, c] a + ![2048, N] a ≤ S2048x3584.size a) :
    FVec Ideal ⟨2, ![256, N]⟩ .f32 :=
  matmul (F := Ideal) (φ₁ := .bf16) (φ₂ := .bf16) (DotDims.plain 256 2048 N) none
    (k0_pay5 (View.ld x0 (Rect.unit ![o, 0] ![256, 2048] hx)) (View.ld x1 (Rect.unit ![0, 0] ![1, 2048] inb_S1x2048_S1x2048_0_0)))
    (View.ld x2 (Rect.unit ![0, c] ![2048, N] hw)) (constant ⟨2, ![256, N]⟩ .f32 0x00000000#32)

theorem seg_apply (N o c : ℕ) (hx : ∀ a, ![o, 0] a + ![256, 2048] a ≤ S512x2048.size a) (hw : ∀ a, ![0, c] a + ![2048, N] a ≤ S2048x3584.size a)
    (ho : o + 256 ≤ 512) (hc : c + N ≤ 3584) (a : Fin 256) (j : Fin N) :
    seg x0 x1 x2 N o c hx hw (ix2 a j) = proj (rows x0 ⟨o + a.val, by omega⟩) x1 x2 (c + j.val) := by
  unfold seg
  refine (Ideal.matmul_plain_apply (M := 256) (K := 2048) (N := N) none _ _ _ a j).trans ?_
  rw [constant_apply, Ideal.ofBits_zero_f32, zero_add]
  unfold proj
  refine Finset.sum_congr rfl fun k _ => congrArg₂ (· * ·) ?_ ?_
  · rw [normed_apply]
    have e1 : (View.ld x1 (Rect.unit ![0, 0] ![1, 2048] inb_S1x2048_S1x2048_0_0) : Vec Ideal S1x2048 .f32) = x1 := View.ld_unit_lit (S := S1x2048) inb_S1x2048_S1x2048_0_0 x1 (by decide)
    have e0 : (fun k : Fin 2048 => (View.ld x0 (Rect.unit ![o, 0] ![256, 2048] hx) : Vec Ideal S256x2048 .f32) (ix2 a k)) = rows x0 ⟨o + a.val, by omega⟩ := by
      funext k
      refine congrArg x0 (funext fun b => Fin.ext ?_)
      match b with
      | ⟨0, _⟩ => show o + 1 * a.val = o + a.val; omega
      | ⟨1, _⟩ => show 0 + 1 * k.val = k.val; omega
    exact congrArg₂ (fun (y : Fin 2048 → EReal) (g : Vec Ideal S1x2048 .f32) => rms 0x45000000#32 y g k) e0 e1
  · refine congrArg x2 (funext fun b => Fin.ext ?_)
    match b with
    | ⟨0, _⟩ => show 0 + 1 * k.val = k.val; omega
    | ⟨1, _⟩ => show c + 1 * j.val = (c + j.val) % 3584; omega

/-- A head cut out of a segment and normalised. -/
theorem head_apply (N o c s : ℕ) (hx : ∀ a, ![o, 0] a + ![256, 2048] a ≤ S512x2048.size a) (hw : ∀ a, ![0, c] a + ![2048, N] a ≤ S2048x3584.size a)
    (hs : (⟨2, ![256, N]⟩ : Shape).Slices ![0, s] S256x128) (ho : o + 256 ≤ 512) (hc : c + N ≤ 3584) (hsn : s + 128 ≤ N) (a : Fin 256) (d : Fin 128) :
    headOf (extractStridedSlice S256x128 ![0, s] (seg x0 x1 x2 N o c hx hw) hs) (View.ld gh (Rect.unit ![0, 0] ![1, 128] inb_S1x128_S1x128_0_0)) (ix2 a d)
      = head (rows x0 ⟨o + a.val, by omega⟩) x1 x2 gh (c + s) d := by
  rw [headOf_apply]
  unfold head
  have e1 : (View.ld gh (Rect.unit ![0, 0] ![1, 128] inb_S1x128_S1x128_0_0) : Vec Ideal S1x128 .f32) = gh := View.ld_unit_lit (S := S1x128) inb_S1x128_S1x128_0_0 gh (by decide)
  refine congrArg₂ (fun (y : Fin 128 → EReal) (g : Vec Ideal S1x128 .f32) => rms 0x43000000#32 y g d) (funext fun t => ?_) e1
  rw [extractStridedSlice_apply _ _ hs (ix2 a t) (ix2 a ⟨s + t.val, by omega⟩) (by intro b; match b with | ⟨0, _⟩ => exact (Nat.zero_add _).symm | ⟨1, _⟩ => rfl)]
  rw [seg_apply x0 x1 x2 N o c hx hw ho hc]
  exact congrArg (proj _ x1 x2) (by show c + (s + t.val) = c + s + t.val; omega)

/-- A piece of heads stored beside each other: 256 rows from `o` on, a head from column `s` on. -/
theorem heads_piece (N o c s : ℕ) (hx : ∀ a, ![o, 0] a + ![256, 2048] a ≤ S512x2048.size a) (hw : ∀ a, ![0, c] a + ![2048, N] a ≤ S2048x3584.size a)
    (hs : (⟨2, ![256, N]⟩ : Shape).Slices ![0, s] S256x128) (hr : ∀ a, ![o, s] a + ![256, 128] a ≤ (⟨2, ![512, N]⟩ : Shape).size a)
    (ho : o + 256 ≤ 512) (hc : c + N ≤ 3584) (hsn : s + 128 ≤ N) (h128 : s % 128 = 0) (x : S256x128.Idx) :
    headOf (extractStridedSlice S256x128 ![0, s] (seg x0 x1 x2 N o c hx hw) hs) (View.ld gh (Rect.unit ![0, 0] ![1, 128] inb_S1x128_S1x128_0_0)) x
      = heads (rows x0) x1 x2 gh N c ((Rect.unit (s := ⟨2, ![512, N]⟩) ![o, s] ![256, 128] hr).emb x) := by
  obtain ⟨a, d, rfl⟩ : ∃ (a : Fin 256) (d : Fin 128), x = ix2 a d := ⟨_, _, eq_ix2 x⟩
  rw [head_apply x0 x1 x2 gh N o c s hx hw hs ho hc hsn]
  unfold heads
  have e0 : ((Rect.unit (s := ⟨2, ![512, N]⟩) ![o, s] ![256, 128] hr).emb (ix2 a d)) 0 = (⟨o + a.val, by omega⟩ : Fin 512) := Fin.ext (by show o + 1 * a.val = o + a.val; omega)
  have e1 : (((Rect.unit (s := ⟨2, ![512, N]⟩) ![o, s] ![256, 128] hr).emb (ix2 a d)) 1).val = s + d.val := by show s + 1 * d.val = _; omega
  rw [e0]
  have h1 : c + (((Rect.unit (s := ⟨2, ![512, N]⟩) ![o, s] ![256, 128] hr).emb (ix2 a d)) 1).val / 128 * 128 = c + s := by rw [e1]; have := d.isLt; omega
  have h2 : (⟨(((Rect.unit (s := ⟨2, ![512, N]⟩) ![o, s] ![256, 128] hr).emb (ix2 a d)) 1).val % 128, Nat.mod_lt _ (by decide)⟩ : Fin 128) = d := Fin.ext (by show _ % 128 = d.val; rw [e1]; have := d.isLt; omega)
  rw [h1, h2]

/-- A piece of columns stored as they are. -/
theorem flat_piece (N o c : ℕ) (hx : ∀ a, ![o, 0] a + ![256, 2048] a ≤ S512x2048.size a) (hw : ∀ a, ![0, c] a + ![2048, N] a ≤ S2048x3584.size a)
    (hr : ∀ a, ![o, 0] a + ![256, N] a ≤ (⟨2, ![512, N]⟩ : Shape).size a)
    (ho : o + 256 ≤ 512) (hc : c + N ≤ 3584) (x : (⟨2, ![256, N]⟩ : Shape).Idx) :
    seg x0 x1 x2 N o c hx hw x = flat (rows x0) x1 x2 N c ((Rect.unit (s := ⟨2, ![512, N]⟩) ![o, 0] ![256, N] hr).emb x) := by
  obtain ⟨a, d, rfl⟩ : ∃ (a : Fin 256) (d : Fin N), x = ix2 a d := ⟨_, _, eq_ix2 x⟩
  rw [seg_apply x0 x1 x2 N o c hx hw ho hc]
  unfold flat
  have e0 : ((Rect.unit (s := ⟨2, ![512, N]⟩) ![o, 0] ![256, N] hr).emb (ix2 a d)) 0 = (⟨o + a.val, by omega⟩ : Fin 512) := Fin.ext (by show o + 1 * a.val = o + a.val; omega)
  have e1 : (((Rect.unit (s := ⟨2, ![512, N]⟩) ![o, 0] ![256, N] hr).emb (ix2 a d)) 1).val = d.val := by show 0 + 1 * d.val = _; omega
  rw [e0, e1]

/-- A piece of the convolution's input. -/
theorem gated_piece (o : ℕ) (hx : ∀ a, ![o, 0] a + ![256, 2048] a ≤ S512x2048.size a) (hw hw')
    (hr : ∀ a, ![o, 0] a + ![256, 512] a ≤ (⟨2, ![512, 512]⟩ : Shape).size a) (ho : o + 256 ≤ 512) (x : S256x512.Idx) :
    mulf (F := Ideal) (φ := .f32) (seg x0 x1 x2 512 o 512 hx hw) (seg x0 x1 x2 512 o 1024 hx hw') x
      = gated (rows x0) x1 x2 ((Rect.unit (s := ⟨2, ![512, 512]⟩) ![o, 0] ![256, 512] hr).emb x) := by
  obtain ⟨a, d, rfl⟩ : ∃ (a : Fin 256) (d : Fin 512), x = ix2 a d := ⟨_, _, eq_ix2 x⟩
  rw [mulf_apply, seg_apply x0 x1 x2 512 o 512 hx hw ho (by decide), seg_apply x0 x1 x2 512 o 1024 hx hw' ho (by decide)]
  unfold gated
  have e0 : ((Rect.unit (s := ⟨2, ![512, 512]⟩) ![o, 0] ![256, 512] hr).emb (ix2 a d)) 0 = (⟨o + a.val, by omega⟩ : Fin 512) := Fin.ext (by show o + 1 * a.val = o + a.val; omega)
  have e1 : (((Rect.unit (s := ⟨2, ![512, 512]⟩) ![o, 0] ![256, 512] hr).emb (ix2 a d)) 1).val = d.val := by show 0 + 1 * d.val = _; omega
  rw [e0, e1]

/-- A stripe of the key rows: head `n` of 256 rows from `o` on, at every second row from `2 o + n` on. -/
theorem key_piece (o n s : ℕ) (hx : ∀ a, ![o, 0] a + ![256, 2048] a ≤ S512x2048.size a) (hw) (hs : (⟨2, ![256, 256]⟩ : Shape).Slices ![0, s] S256x128)
    (e : ℕ) (he : e = 2 * o + n) (hsn : s = n * 128) (hr) (ho : o + 256 ≤ 512) (hn : n < 2) (x : S256x128.Idx) :
    headOf (extractStridedSlice S256x128 ![0, s] (seg x0 x1 x2 256 o 2560 hx hw) hs) (View.ld gh (Rect.unit ![0, 0] ![1, 128] inb_S1x128_S1x128_0_0)) x
      = keyRows (rows x0) x1 x2 gh (P := 1024) rfl ((⟨⟨![e, 0], S256x128.size, ![2, 1], hr⟩, spos_2_1⟩ : Rect S1024x128).emb x) := by
  obtain ⟨a, d, rfl⟩ : ∃ (a : Fin 256) (d : Fin 128), x = ix2 a d := ⟨_, _, eq_ix2 x⟩
  subst he hsn
  rw [head_apply x0 x1 x2 gh 256 o 2560 _ hx hw hs ho (by decide) (by omega)]
  unfold keyRows
  have e0 : (((⟨⟨![2 * o + n, 0], S256x128.size, ![2, 1], hr⟩, spos_2_1⟩ : Rect S1024x128).emb (ix2 a d)) 0).val = 2 * o + n + 2 * a.val := rfl
  have e1 : ((⟨⟨![2 * o + n, 0], S256x128.size, ![2, 1], hr⟩, spos_2_1⟩ : Rect S1024x128).emb (ix2 a d)) 1 = d := Fin.ext (by show 0 + 1 * d.val = _; omega)
  have h0 : half (M := 512) (P := 1024) rfl (((⟨⟨![2 * o + n, 0], S256x128.size, ![2, 1], hr⟩, spos_2_1⟩ : Rect S1024x128).emb (ix2 a d)) 0) = ⟨o + a.val, by omega⟩ := Fin.ext (by show _ / 2 = o + a.val; rw [e0]; omega)
  have h1 : 2560 + (((⟨⟨![2 * o + n, 0], S256x128.size, ![2, 1], hr⟩, spos_2_1⟩ : Rect S1024x128).emb (ix2 a d)) 0).val % 2 * 128 = 2560 + n * 128 := by rw [e0]; omega
  rw [h0, h1, e1]

/-- A stripe of the value rows. -/
theorem value_piece (o n s : ℕ) (hx : ∀ a, ![o, 0] a + ![256, 2048] a ≤ S512x2048.size a) (hw) (hs : (⟨2, ![256, 256]⟩ : Shape).Slices ![0, s] S256x128)
    (e : ℕ) (he : e = 2 * o + n) (hsn : s = n * 128) (hr) (ho : o + 256 ≤ 512) (hn : n < 2) (x : S256x128.Idx) :
    extractStridedSlice S256x128 ![0, s] (seg x0 x1 x2 256 o 2816 hx hw) hs x
      = valueRows (rows x0) x1 x2 (P := 1024) rfl ((⟨⟨![e, 0], S256x128.size, ![2, 1], hr⟩, spos_2_1⟩ : Rect S1024x128).emb x) := by
  obtain ⟨a, d, rfl⟩ : ∃ (a : Fin 256) (d : Fin 128), x = ix2 a d := ⟨_, _, eq_ix2 x⟩
  subst he hsn
  rw [extractStridedSlice_apply _ _ hs (ix2 a d) (ix2 a ⟨n * 128 + d.val, by omega⟩) (by intro b; match b with | ⟨0, _⟩ => exact (Nat.zero_add _).symm | ⟨1, _⟩ => rfl)]
  rw [seg_apply x0 x1 x2 256 o 2816 hx hw ho (by decide)]
  unfold valueRows
  have e0 : (((⟨⟨![2 * o + n, 0], S256x128.size, ![2, 1], hr⟩, spos_2_1⟩ : Rect S1024x128).emb (ix2 a d)) 0).val = 2 * o + n + 2 * a.val := rfl
  have e1 : ((⟨⟨![2 * o + n, 0], S256x128.size, ![2, 1], hr⟩, spos_2_1⟩ : Rect S1024x128).emb (ix2 a d)) 1 = d := Fin.ext (by show 0 + 1 * d.val = _; omega)
  have h0 : half (M := 512) (P := 1024) rfl (((⟨⟨![2 * o + n, 0], S256x128.size, ![2, 1], hr⟩, spos_2_1⟩ : Rect S1024x128).emb (ix2 a d)) 0) = ⟨o + a.val, by omega⟩ := Fin.ext (by show _ / 2 = o + a.val; rw [e0]; omega)
  have h1 : (((⟨⟨![2 * o + n, 0], S256x128.size, ![2, 1], hr⟩, spos_2_1⟩ : Rect S1024x128).emb (ix2 a d)) 0).val % 2 * 128 = n * 128 := by rw [e0]; omega
  rw [h0, h1, e1]

end Cert.ProjIdeal.Tile

end
-- ==== Proof.ProjBlocks.lean ====
/- What the body leaves in each output block: its pieces, put side by side, are one formula of the block's rows. -/
module

public import proofs.«01_k».proof.Proof.ProjTile

@[expose] public section

set_option maxRecDepth 16384

noncomputable section

namespace Cert.ProjIdeal.Tile

open Cert.ProjIdeal Cert.ProjIdeal.Gen Cert.ProjIdeal.Body Cert.Inputs Idealize.ShloMosaic Idealize.ShloMosaic.TcCoe Idealize.SL.Sem Idealize.ShloMosaic.Tactic
open Idealize.ShloMosaic.ValueIdx

section Points

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x3584 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S128x2048 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x1024 .bf16) (harg10 : arg10.IsWhole) (arg11 : Memref sig .tc .vmem S1024x128 .f32) (harg11 : arg11.IsWhole) (arg12 : Memref sig .tc .vmem S1024x128 .f32) (harg12 : arg12.IsWhole) (arg13 : Memref sig .tc .vmem S512x256 .bf16) (harg13 : arg13.IsWhole) (arg14 : Memref sig .tc .vmem S512x256 .bf16) (harg14 : arg14.IsWhole) (arg15 : Memref sig .tc .vmem S512x512 .bf16) (harg15 : arg15.IsWhole) (arg16 : Memref sig .tc .vmem S128x2048 .bf16) (harg16 : arg16.IsWhole)

set_option maxHeartbeats 2000000 in
/-- Output 0's block: the gate's columns. -/
theorem block7
    (x0 : Vec Ideal S512x2048 .f32) (x1 : Vec Ideal S1x2048 .f32) (x2 : Vec Ideal S2048x3584 .bf16) (x3 : Vec Ideal S1x128 .f32) (x4 : Vec Ideal S1x128 .f32) (x5 : Vec Ideal S1x128 .f32) (x6 : Vec Ideal S128x2048 .f32) :
    out7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = flat (rows x0) x1 x2 512 0 := by
  funext y
  have hc := cover7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y
  unfold out7
  refine View.canon_apply_of_pieces (flat (rows x0) x1 x2 512 0) _ ?_ y hc
  clear hc
  unfold run
  dsimp only
  sl_unfold_words
  simp only [View.readAt_eq_ld]
  try rw [harg1.read_unread]
  try rw [harg2.read_unread]
  try rw [harg3.read_unread]
  try rw [harg4.read_unread]
  try rw [harg5.read_unread]
  try rw [harg6.read_unread]
  try rw [harg7.read_unread]
  refine List.forall_mem_cons.mpr ⟨fun x => flat_piece x0 x1 x2 512 256 0 inb_S512x2048_S256x2048_256_0 inb_S2048x3584_S2048x512_0_0 inb_S512x512_S256x512_256_0 (by decide) (by decide) x, ?_⟩
  refine List.forall_mem_cons.mpr ⟨fun x => flat_piece x0 x1 x2 512 0 0 inb_S512x2048_S256x2048_0_0 inb_S2048x3584_S2048x512_0_0 inb_S512x512_S256x512_0_0 (by decide) (by decide) x, ?_⟩
  exact fun _ h => absurd h List.not_mem_nil

set_option maxHeartbeats 2000000 in
/-- Output 1's block: the convolution's input. -/
theorem block8
    (x0 : Vec Ideal S512x2048 .f32) (x1 : Vec Ideal S1x2048 .f32) (x2 : Vec Ideal S2048x3584 .bf16) (x3 : Vec Ideal S1x128 .f32) (x4 : Vec Ideal S1x128 .f32) (x5 : Vec Ideal S1x128 .f32) (x6 : Vec Ideal S128x2048 .f32) :
    out8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = gated (rows x0) x1 x2 := by
  funext y
  have hc := cover8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y
  unfold out8
  refine View.canon_apply_of_pieces (gated (rows x0) x1 x2) _ ?_ y hc
  clear hc
  unfold run
  dsimp only
  sl_unfold_words
  simp only [View.readAt_eq_ld]
  try rw [harg1.read_unread]
  try rw [harg2.read_unread]
  try rw [harg3.read_unread]
  try rw [harg4.read_unread]
  try rw [harg5.read_unread]
  try rw [harg6.read_unread]
  try rw [harg7.read_unread]
  refine List.forall_mem_cons.mpr ⟨fun x => gated_piece x0 x1 x2 256 inb_S512x2048_S256x2048_256_0 inb_S2048x3584_S2048x512_0_512 inb_S2048x3584_S2048x512_0_1024 inb_S512x512_S256x512_256_0 (by decide) x, ?_⟩
  refine List.forall_mem_cons.mpr ⟨fun x => gated_piece x0 x1 x2 0 inb_S512x2048_S256x2048_0_0 inb_S2048x3584_S2048x512_0_512 inb_S2048x3584_S2048x512_0_1024 inb_S512x512_S256x512_0_0 (by decide) x, ?_⟩
  exact fun _ h => absurd h List.not_mem_nil

set_option maxHeartbeats 2000000 in
/-- Output 2's block: the normalised query heads. -/
theorem block9
    (x0 : Vec Ideal S512x2048 .f32) (x1 : Vec Ideal S1x2048 .f32) (x2 : Vec Ideal S2048x3584 .bf16) (x3 : Vec Ideal S1x128 .f32) (x4 : Vec Ideal S1x128 .f32) (x5 : Vec Ideal S1x128 .f32) (x6 : Vec Ideal S128x2048 .f32) :
    out9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = heads (rows x0) x1 x2 x3 1024 1536 := by
  funext y
  have hc := cover9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y
  unfold out9
  refine View.canon_apply_of_pieces (heads (rows x0) x1 x2 x3 1024 1536) _ ?_ y hc
  clear hc
  unfold run
  dsimp only
  sl_unfold_words
  simp only [View.readAt_eq_ld]
  try rw [harg1.read_unread]
  try rw [harg2.read_unread]
  try rw [harg3.read_unread]
  try rw [harg4.read_unread]
  try rw [harg5.read_unread]
  try rw [harg6.read_unread]
  try rw [harg7.read_unread]
  refine List.forall_mem_cons.mpr ⟨fun x => heads_piece x0 x1 x2 x3 1024 256 1536 896 inb_S512x2048_S256x2048_256_0 inb_S2048x3584_S2048x1024_0_1536 slices_S256x1024_o0_896_S256x128 inb_S512x1024_S256x128_256_896 (by decide) (by decide) (by decide) (by decide) x, ?_⟩
  refine List.forall_mem_cons.mpr ⟨fun x => heads_piece x0 x1 x2 x3 1024 256 1536 768 inb_S512x2048_S256x2048_256_0 inb_S2048x3584_S2048x1024_0_1536 slices_S256x1024_o0_768_S256x128 inb_S512x1024_S256x128_256_768 (by decide) (by decide) (by decide) (by decide) x, ?_⟩
  refine List.forall_mem_cons.mpr ⟨fun x => heads_piece x0 x1 x2 x3 1024 256 1536 640 inb_S512x2048_S256x2048_256_0 inb_S2048x3584_S2048x1024_0_1536 slices_S256x1024_o0_640_S256x128 inb_S512x1024_S256x128_256_640 (by decide) (by decide) (by decide) (by decide) x, ?_⟩
  refine List.forall_mem_cons.mpr ⟨fun x => heads_piece x0 x1 x2 x3 1024 256 1536 512 inb_S512x2048_S256x2048_256_0 inb_S2048x3584_S2048x1024_0_1536 slices_S256x1024_o0_512_S256x128 inb_S512x1024_S256x128_256_512 (by decide) (by decide) (by decide) (by decide) x, ?_⟩
  refine List.forall_mem_cons.mpr ⟨fun x => heads_piece x0 x1 x2 x3 1024 256 1536 384 inb_S512x2048_S256x2048_256_0 inb_S2048x3584_S2048x1024_0_1536 slices_S256x1024_o0_384_S256x128 inb_S512x1024_S256x128_256_384 (by decide) (by decide) (by decide) (by decide) x, ?_⟩
  refine List.forall_mem_cons.mpr ⟨fun x => heads_piece x0 x1 x2 x3 1024 256 1536 256 inb_S512x2048_S256x2048_256_0 inb_S2048x3584_S2048x1024_0_1536 slices_S256x1024_o0_256_S256x128 inb_S512x1024_S256x128_256_256 (by decide) (by decide) (by decide) (by decide) x, ?_⟩
  refine List.forall_mem_cons.mpr ⟨fun x => heads_piece x0 x1 x2 x3 1024 256 1536 128 inb_S512x2048_S256x2048_256_0 inb_S2048x3584_S2048x1024_0_1536 slices_S256x1024_o0_128_S256x128 inb_S512x1024_S256x128_256_128 (by decide) (by decide) (by decide) (by decide) x, ?_⟩
  refine List.forall_mem_cons.mpr ⟨fun x => heads_piece x0 x1 x2 x3 1024 256 1536 0 inb_S512x2048_S256x2048_256_0 inb_S2048x3584_S2048x1024_0_1536 slices_S256x1024_o0_0_S256x128 inb_S512x1024_S256x128_256_0 (by decide) (by decide) (by decide) (by decide) x, ?_⟩
  refine List.forall_mem_cons.mpr ⟨fun x => heads_piece x0 x1 x2 x3 1024 0 1536 896 inb_S512x2048_S256x2048_0_0 inb_S2048x3584_S2048x1024_0_1536 slices_S256x1024_o0_896_S256x128 inb_S512x1024_S256x128_0_896 (by decide) (by decide) (by decide) (by decide) x, ?_⟩
  refine List.forall_mem_cons.mpr ⟨fun x => heads_piece x0 x1 x2 x3 1024 0 1536 768 inb_S512x2048_S256x2048_0_0 inb_S2048x3584_S2048x1024_0_1536 slices_S256x1024_o0_768_S256x128 inb_S512x1024_S256x128_0_768 (by decide) (by decide) (by decide) (by decide) x, ?_⟩
  refine List.forall_mem_cons.mpr ⟨fun x => heads_piece x0 x1 x2 x3 1024 0 1536 640 inb_S512x2048_S256x2048_0_0 inb_S2048x3584_S2048x1024_0_1536 slices_S256x1024_o0_640_S256x128 inb_S512x1024_S256x128_0_640 (by decide) (by decide) (by decide) (by decide) x, ?_⟩
  refine List.forall_mem_cons.mpr ⟨fun x => heads_piece x0 x1 x2 x3 1024 0 1536 512 inb_S512x2048_S256x2048_0_0 inb_S2048x3584_S2048x1024_0_1536 slices_S256x1024_o0_512_S256x128 inb_S512x1024_S256x128_0_512 (by decide) (by decide) (by decide) (by decide) x, ?_⟩
  refine List.forall_mem_cons.mpr ⟨fun x => heads_piece x0 x1 x2 x3 1024 0 1536 384 inb_S512x2048_S256x2048_0_0 inb_S2048x3584_S2048x1024_0_1536 slices_S256x1024_o0_384_S256x128 inb_S512x1024_S256x128_0_384 (by decide) (by decide) (by decide) (by decide) x, ?_⟩
  refine List.forall_mem_cons.mpr ⟨fun x => heads_piece x0 x1 x2 x3 1024 0 1536 256 inb_S512x2048_S256x2048_0_0 inb_S2048x3584_S2048x1024_0_1536 slices_S256x1024_o0_256_S256x128 inb_S512x1024_S256x128_0_256 (by decide) (by decide) (by decide) (by decide) x, ?_⟩
  refine List.forall_mem_cons.mpr ⟨fun x => heads_piece x0 x1 x2 x3 1024 0 1536 128 inb_S512x2048_S256x2048_0_0 inb_S2048x3584_S2048x1024_0_1536 slices_S256x1024_o0_128_S256x128 inb_S512x1024_S256x128_0_128 (by decide) (by decide) (by decide) (by decide) x, ?_⟩
  refine List.forall_mem_cons.mpr ⟨fun x => heads_piece x0 x1 x2 x3 1024 0 1536 0 inb_S512x2048_S256x2048_0_0 inb_S2048x3584_S2048x1024_0_1536 slices_S256x1024_o0_0_S256x128 inb_S512x1024_S256x128_0_0 (by decide) (by decide) (by decide) (by decide) x, ?_⟩
  exact fun _ h => absurd h List.not_mem_nil

set_option maxHeartbeats 2000000 in
/-- Output 3's block: the normalised key heads, a head a row. -/
theorem block10
    (x0 : Vec Ideal S512x2048 .f32) (x1 : Vec Ideal S1x2048 .f32) (x2 : Vec Ideal S2048x3584 .bf16) (x3 : Vec Ideal S1x128 .f32) (x4 : Vec Ideal S1x128 .f32) (x5 : Vec Ideal S1x128 .f32) (x6 : Vec Ideal S128x2048 .f32) :
    out10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = keyRows (rows x0) x1 x2 x4 (P := 1024) rfl := by
  funext y
  have hc := cover10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y
  unfold out10
  refine View.canon_apply_of_pieces (keyRows (rows x0) x1 x2 x4 (P := 1024) rfl) _ ?_ y hc
  clear hc
  unfold run
  dsimp only
  sl_unfold_words
  simp only [View.readAt_eq_ld]
  try rw [harg1.read_unread]
  try rw [harg2.read_unread]
  try rw [harg3.read_unread]
  try rw [harg4.read_unread]
  try rw [harg5.read_unread]
  try rw [harg6.read_unread]
  try rw [harg7.read_unread]
  refine List.forall_mem_cons.mpr ⟨fun x => key_piece x0 x1 x2 x4 256 1 128 inb_S512x2048_S256x2048_256_0 inb_S2048x3584_S2048x256_0_2560 slices_S256x256_o0_128_S256x128 513 rfl rfl inb_S1024x128_S256x128_513_0_s_2_1 (by decide) (by decide) x, ?_⟩
  refine List.forall_mem_cons.mpr ⟨fun x => key_piece x0 x1 x2 x4 256 0 0 inb_S512x2048_S256x2048_256_0 inb_S2048x3584_S2048x256_0_2560 slices_S256x256_o0_0_S256x128 512 rfl rfl inb_S1024x128_S256x128_512_0_s_2_1 (by decide) (by decide) x, ?_⟩
  refine List.forall_mem_cons.mpr ⟨fun x => key_piece x0 x1 x2 x4 0 1 128 inb_S512x2048_S256x2048_0_0 inb_S2048x3584_S2048x256_0_2560 slices_S256x256_o0_128_S256x128 1 rfl rfl inb_S1024x128_S256x128_1_0_s_2_1 (by decide) (by decide) x, ?_⟩
  refine List.forall_mem_cons.mpr ⟨fun x => key_piece x0 x1 x2 x4 0 0 0 inb_S512x2048_S256x2048_0_0 inb_S2048x3584_S2048x256_0_2560 slices_S256x256_o0_0_S256x128 0 rfl rfl inb_S1024x128_S256x128_0_0_s_2_1 (by decide) (by decide) x, ?_⟩
  exact fun _ h => absurd h List.not_mem_nil

set_option maxHeartbeats 2000000 in
/-- Output 4's block: the values, a head a row. -/
theorem block11
    (x0 : Vec Ideal S512x2048 .f32) (x1 : Vec Ideal S1x2048 .f32) (x2 : Vec Ideal S2048x3584 .bf16) (x3 : Vec Ideal S1x128 .f32) (x4 : Vec Ideal S1x128 .f32) (x5 : Vec Ideal S1x128 .f32) (x6 : Vec Ideal S128x2048 .f32) :
    out11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = valueRows (rows x0) x1 x2 (P := 1024) rfl := by
  funext y
  have hc := cover11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y
  unfold out11
  refine View.canon_apply_of_pieces (valueRows (rows x0) x1 x2 (P := 1024) rfl) _ ?_ y hc
  clear hc
  unfold run
  dsimp only
  sl_unfold_words
  simp only [View.readAt_eq_ld]
  try rw [harg1.read_unread]
  try rw [harg2.read_unread]
  try rw [harg3.read_unread]
  try rw [harg4.read_unread]
  try rw [harg5.read_unread]
  try rw [harg6.read_unread]
  try rw [harg7.read_unread]
  refine List.forall_mem_cons.mpr ⟨fun x => value_piece x0 x1 x2 256 1 128 inb_S512x2048_S256x2048_256_0 inb_S2048x3584_S2048x256_0_2816 slices_S256x256_o0_128_S256x128 513 rfl rfl inb_S1024x128_S256x128_513_0_s_2_1 (by decide) (by decide) x, ?_⟩
  refine List.forall_mem_cons.mpr ⟨fun x => value_piece x0 x1 x2 256 0 0 inb_S512x2048_S256x2048_256_0 inb_S2048x3584_S2048x256_0_2816 slices_S256x256_o0_0_S256x128 512 rfl rfl inb_S1024x128_S256x128_512_0_s_2_1 (by decide) (by decide) x, ?_⟩
  refine List.forall_mem_cons.mpr ⟨fun x => value_piece x0 x1 x2 0 1 128 inb_S512x2048_S256x2048_0_0 inb_S2048x3584_S2048x256_0_2816 slices_S256x256_o0_128_S256x128 1 rfl rfl inb_S1024x128_S256x128_1_0_s_2_1 (by decide) (by decide) x, ?_⟩
  refine List.forall_mem_cons.mpr ⟨fun x => value_piece x0 x1 x2 0 0 0 inb_S512x2048_S256x2048_0_0 inb_S2048x3584_S2048x256_0_2816 slices_S256x256_o0_0_S256x128 0 rfl rfl inb_S1024x128_S256x128_0_0_s_2_1 (by decide) (by decide) x, ?_⟩
  exact fun _ h => absurd h List.not_mem_nil

set_option maxHeartbeats 2000000 in
/-- Output 5's block: the normalised key heads side by side. -/
theorem block12
    (x0 : Vec Ideal S512x2048 .f32) (x1 : Vec Ideal S1x2048 .f32) (x2 : Vec Ideal S2048x3584 .bf16) (x3 : Vec Ideal S1x128 .f32) (x4 : Vec Ideal S1x128 .f32) (x5 : Vec Ideal S1x128 .f32) (x6 : Vec Ideal S128x2048 .f32) :
    out12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = heads (rows x0) x1 x2 x4 256 2560 := by
  funext y
  have hc := cover12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y
  unfold out12
  refine View.canon_apply_of_pieces (heads (rows x0) x1 x2 x4 256 2560) _ ?_ y hc
  clear hc
  unfold run
  dsimp only
  sl_unfold_words
  simp only [View.readAt_eq_ld]
  try rw [harg1.read_unread]
  try rw [harg2.read_unread]
  try rw [harg3.read_unread]
  try rw [harg4.read_unread]
  try rw [harg5.read_unread]
  try rw [harg6.read_unread]
  try rw [harg7.read_unread]
  refine List.forall_mem_cons.mpr ⟨fun x => heads_piece x0 x1 x2 x4 256 256 2560 128 inb_S512x2048_S256x2048_256_0 inb_S2048x3584_S2048x256_0_2560 slices_S256x256_o0_128_S256x128 inb_S512x256_S256x128_256_128 (by decide) (by decide) (by decide) (by decide) x, ?_⟩
  refine List.forall_mem_cons.mpr ⟨fun x => heads_piece x0 x1 x2 x4 256 256 2560 0 inb_S512x2048_S256x2048_256_0 inb_S2048x3584_S2048x256_0_2560 slices_S256x256_o0_0_S256x128 inb_S512x256_S256x128_256_0 (by decide) (by decide) (by decide) (by decide) x, ?_⟩
  refine List.forall_mem_cons.mpr ⟨fun x => heads_piece x0 x1 x2 x4 256 0 2560 128 inb_S512x2048_S256x2048_0_0 inb_S2048x3584_S2048x256_0_2560 slices_S256x256_o0_128_S256x128 inb_S512x256_S256x128_0_128 (by decide) (by decide) (by decide) (by decide) x, ?_⟩
  refine List.forall_mem_cons.mpr ⟨fun x => heads_piece x0 x1 x2 x4 256 0 2560 0 inb_S512x2048_S256x2048_0_0 inb_S2048x3584_S2048x256_0_2560 slices_S256x256_o0_0_S256x128 inb_S512x256_S256x128_0_0 (by decide) (by decide) (by decide) (by decide) x, ?_⟩
  exact fun _ h => absurd h List.not_mem_nil

set_option maxHeartbeats 2000000 in
/-- Output 6's block: the values' columns. -/
theorem block13
    (x0 : Vec Ideal S512x2048 .f32) (x1 : Vec Ideal S1x2048 .f32) (x2 : Vec Ideal S2048x3584 .bf16) (x3 : Vec Ideal S1x128 .f32) (x4 : Vec Ideal S1x128 .f32) (x5 : Vec Ideal S1x128 .f32) (x6 : Vec Ideal S128x2048 .f32) :
    out13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = flat (rows x0) x1 x2 256 2816 := by
  funext y
  have hc := cover13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y
  unfold out13
  refine View.canon_apply_of_pieces (flat (rows x0) x1 x2 256 2816) _ ?_ y hc
  clear hc
  unfold run
  dsimp only
  sl_unfold_words
  simp only [View.readAt_eq_ld]
  try rw [harg1.read_unread]
  try rw [harg2.read_unread]
  try rw [harg3.read_unread]
  try rw [harg4.read_unread]
  try rw [harg5.read_unread]
  try rw [harg6.read_unread]
  try rw [harg7.read_unread]
  refine List.forall_mem_cons.mpr ⟨fun x => flat_piece x0 x1 x2 256 256 2816 inb_S512x2048_S256x2048_256_0 inb_S2048x3584_S2048x256_0_2816 inb_S512x256_S256x256_256_0 (by decide) (by decide) x, ?_⟩
  refine List.forall_mem_cons.mpr ⟨fun x => flat_piece x0 x1 x2 256 0 2816 inb_S512x2048_S256x2048_0_0 inb_S2048x3584_S2048x256_0_2816 inb_S512x256_S256x256_0_0 (by decide) (by decide) x, ?_⟩
  exact fun _ h => absurd h List.not_mem_nil

set_option maxHeartbeats 2000000 in
/-- Output 7's block: the normalised memory query heads. -/
theorem block14
    (x0 : Vec Ideal S512x2048 .f32) (x1 : Vec Ideal S1x2048 .f32) (x2 : Vec Ideal S2048x3584 .bf16) (x3 : Vec Ideal S1x128 .f32) (x4 : Vec Ideal S1x128 .f32) (x5 : Vec Ideal S1x128 .f32) (x6 : Vec Ideal S128x2048 .f32) :
    out14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = heads (rows x0) x1 x2 x5 512 3072 := by
  funext y
  have hc := cover14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 y
  unfold out14
  refine View.canon_apply_of_pieces (heads (rows x0) x1 x2 x5 512 3072) _ ?_ y hc
  clear hc
  unfold run
  dsimp only
  sl_unfold_words
  simp only [View.readAt_eq_ld]
  try rw [harg1.read_unread]
  try rw [harg2.read_unread]
  try rw [harg3.read_unread]
  try rw [harg4.read_unread]
  try rw [harg5.read_unread]
  try rw [harg6.read_unread]
  try rw [harg7.read_unread]
  refine List.forall_mem_cons.mpr ⟨fun x => heads_piece x0 x1 x2 x5 512 256 3072 384 inb_S512x2048_S256x2048_256_0 inb_S2048x3584_S2048x512_0_3072 slices_S256x512_o0_384_S256x128 inb_S512x512_S256x128_256_384 (by decide) (by decide) (by decide) (by decide) x, ?_⟩
  refine List.forall_mem_cons.mpr ⟨fun x => heads_piece x0 x1 x2 x5 512 256 3072 256 inb_S512x2048_S256x2048_256_0 inb_S2048x3584_S2048x512_0_3072 slices_S256x512_o0_256_S256x128 inb_S512x512_S256x128_256_256 (by decide) (by decide) (by decide) (by decide) x, ?_⟩
  refine List.forall_mem_cons.mpr ⟨fun x => heads_piece x0 x1 x2 x5 512 256 3072 128 inb_S512x2048_S256x2048_256_0 inb_S2048x3584_S2048x512_0_3072 slices_S256x512_o0_128_S256x128 inb_S512x512_S256x128_256_128 (by decide) (by decide) (by decide) (by decide) x, ?_⟩
  refine List.forall_mem_cons.mpr ⟨fun x => heads_piece x0 x1 x2 x5 512 256 3072 0 inb_S512x2048_S256x2048_256_0 inb_S2048x3584_S2048x512_0_3072 slices_S256x512_o0_0_S256x128 inb_S512x512_S256x128_256_0 (by decide) (by decide) (by decide) (by decide) x, ?_⟩
  refine List.forall_mem_cons.mpr ⟨fun x => heads_piece x0 x1 x2 x5 512 0 3072 384 inb_S512x2048_S256x2048_0_0 inb_S2048x3584_S2048x512_0_3072 slices_S256x512_o0_384_S256x128 inb_S512x512_S256x128_0_384 (by decide) (by decide) (by decide) (by decide) x, ?_⟩
  refine List.forall_mem_cons.mpr ⟨fun x => heads_piece x0 x1 x2 x5 512 0 3072 256 inb_S512x2048_S256x2048_0_0 inb_S2048x3584_S2048x512_0_3072 slices_S256x512_o0_256_S256x128 inb_S512x512_S256x128_0_256 (by decide) (by decide) (by decide) (by decide) x, ?_⟩
  refine List.forall_mem_cons.mpr ⟨fun x => heads_piece x0 x1 x2 x5 512 0 3072 128 inb_S512x2048_S256x2048_0_0 inb_S2048x3584_S2048x512_0_3072 slices_S256x512_o0_128_S256x128 inb_S512x512_S256x128_0_128 (by decide) (by decide) (by decide) (by decide) x, ?_⟩
  refine List.forall_mem_cons.mpr ⟨fun x => heads_piece x0 x1 x2 x5 512 0 3072 0 inb_S512x2048_S256x2048_0_0 inb_S2048x3584_S2048x512_0_3072 slices_S256x512_o0_0_S256x128 inb_S512x512_S256x128_0_0 (by decide) (by decide) (by decide) (by decide) x, ?_⟩
  exact fun _ h => absurd h List.not_mem_nil

set_option maxHeartbeats 2000000 in
/-- Output 8's block: the weight's rows as they are. -/
theorem block15
    (x0 : Vec Ideal S512x2048 .f32) (x1 : Vec Ideal S1x2048 .f32) (x2 : Vec Ideal S2048x3584 .bf16) (x3 : Vec Ideal S1x128 .f32) (x4 : Vec Ideal S1x128 .f32) (x5 : Vec Ideal S1x128 .f32) (x6 : Vec Ideal S128x2048 .f32) :
    out15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 = (x6 : S128x2048.Idx → EReal) := by
  unfold out15
  unfold run
  dsimp only
  sl_unfold_words
  simp only [View.readAt_eq_ld]
  rw [harg7.read_unread]
  refine (View.canon_unit_zero (by funext a; match a with | ⟨0, _⟩ => rfl | ⟨1, _⟩ => rfl) _ _).trans ?_
  exact View.ld_unit_lit (S := S128x2048) inb_S128x2048_S128x2048_0_0 x6 (by decide)

end Points

end Cert.ProjIdeal.Tile

end
-- ==== Proof.ProjArrays.lean ====
/- From the blocks the grid points leave to the nine arrays the call leaves. -/
module

public import proofs.«01_k».proof.Proof.ProjBlocks
public import proofs.«01_k».proof.Proof.Gen.ProjIdeal.Points

@[expose] public section

set_option maxRecDepth 16384

noncomputable section

namespace Cert.ProjIdeal.Tile

open Cert.ProjIdeal Cert.ProjIdeal.Gen Cert.ProjIdeal.Body Cert.Inputs Idealize.ShloMosaic Idealize.ShloMosaic.TcCoe Idealize.SL.Sem
open Idealize.ShloMosaic.ValueIdx

variable (m : (ℓ : Loc nD τ sig) → Buf (Elt Ideal) ℓ)

/-- The rows of the argument. -/
abbrev input (c : Dev nD) : Fin 8192 → Fin 2048 → EReal := fun ρ k => m ((c : Thread nD τ).loc main_arg0) (ix2 ρ k)

/-- The argument's row that a point's block has at `a`. -/
abbrev rowOf (t : Fin cfg0.N) (a : Fin 512) : Fin 8192 := ⟨t.val * 512 + a.val, by have := lt_of_lt_of_eq t.isLt N_0; omega⟩

/-! ## What a point reads -/

theorem index_0 : ∀ t : Fin cfg0.N, win0_0.index t 0 = t.val ∧ win0_0.index t 1 = 0 :=
  (by decide +kernel : ∀ t : Fin grid0.N, win0_0.index t 0 = t.val ∧ win0_0.index t 1 = 0)

theorem index_6 : ∀ t : Fin cfg0.N, win0_6.index t 0 = t.val ∧ win0_6.index t 1 = 0 :=
  (by decide +kernel : ∀ t : Fin grid0.N, win0_6.index t 0 = t.val ∧ win0_6.index t 1 = 0)

theorem rows_eq (c : Dev nD) (t : Fin cfg0.N) : rows (iblk m c 0 t) = fun a => input m c (rowOf t a) := by
  have hi := index_0 t
  funext a k
  show (iblk m c 0 t : Vec Ideal S512x2048 .f32) (ix2 a k) = m ((c : Thread nD τ).loc main_arg0) (ix2 (rowOf t a) k)
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ => show win0_0.index t 0 * 512 + 1 * a.val = t.val * 512 + a.val; rw [hi.1]; omega
  | ⟨1, _⟩ => show win0_0.index t 1 * 2048 + 1 * k.val = k.val; rw [hi.2]; omega

/-- The output projection's row that a point's block has at `a`. -/
abbrev outRow (t : Fin cfg0.N) (a : Fin 128) : Fin 2048 := ⟨t.val * 128 + a.val, by have := lt_of_lt_of_eq t.isLt N_0; omega⟩

theorem weights_apply (c : Dev nD) (t : Fin cfg0.N) (a : Fin 128) (l : Fin 2048) :
    (iblk m c 6 t : Vec Ideal S128x2048 .f32) (ix2 a l) = m ((c : Thread nD τ).loc main_arg6) (ix2 (outRow t a) l) := by
  have hi := index_6 t
  unfold iblk
  rw [View.read_apply]
  show V m c main_arg6 _ = m (c.tc.loc main_arg6) _
  rw [V_main_arg6]
  refine congrArg (m (c.tc.loc main_arg6)) (funext fun b => Fin.ext ?_)
  match b with
  | ⟨0, _⟩ => show win0_6.index t 0 * 128 + 1 * a.val = t.val * 128 + a.val; rw [hi.1]; omega
  | ⟨1, _⟩ => show win0_6.index t 1 * 2048 + 1 * l.val = l.val; rw [hi.2]; omega

theorem index_1 : ∀ t : Fin cfg0.N, win0_1.index t 0 = 0 ∧ win0_1.index t 1 = 0 :=
  (by decide +kernel : ∀ t : Fin grid0.N, win0_1.index t 0 = 0 ∧ win0_1.index t 1 = 0)

theorem whole_1 (c : Dev nD) (t : Fin cfg0.N) : (iblk m c 1 t : Vec Ideal S1x2048 .f32) = m ((c : Thread nD τ).loc main_arg1) := by
  have hi := index_1 t
  funext i
  unfold iblk
  rw [View.read_apply]
  show V m c main_arg1 _ = m (c.tc.loc main_arg1) i
  rw [V_main_arg1]
  refine congrArg (m (c.tc.loc main_arg1)) (funext fun b => Fin.ext ?_)
  match b with
  | ⟨0, _⟩ => show win0_1.index t 0 * 1 + 1 * (i 0).val = (i 0).val; rw [hi.1]; omega
  | ⟨1, _⟩ => show win0_1.index t 1 * 2048 + 1 * (i 1).val = (i 1).val; rw [hi.2]; omega

theorem index_2 : ∀ t : Fin cfg0.N, win0_2.index t 0 = 0 ∧ win0_2.index t 1 = 0 :=
  (by decide +kernel : ∀ t : Fin grid0.N, win0_2.index t 0 = 0 ∧ win0_2.index t 1 = 0)

theorem whole_2 (c : Dev nD) (t : Fin cfg0.N) : (iblk m c 2 t : Vec Ideal S2048x3584 .bf16) = m ((c : Thread nD τ).loc main_arg2) := by
  have hi := index_2 t
  funext i
  unfold iblk
  rw [View.read_apply]
  show V m c main_arg2 _ = m (c.tc.loc main_arg2) i
  rw [V_main_arg2]
  refine congrArg (m (c.tc.loc main_arg2)) (funext fun b => Fin.ext ?_)
  match b with
  | ⟨0, _⟩ => show win0_2.index t 0 * 2048 + 1 * (i 0).val = (i 0).val; rw [hi.1]; omega
  | ⟨1, _⟩ => show win0_2.index t 1 * 3584 + 1 * (i 1).val = (i 1).val; rw [hi.2]; omega

theorem index_3 : ∀ t : Fin cfg0.N, win0_3.index t 0 = 0 ∧ win0_3.index t 1 = 0 :=
  (by decide +kernel : ∀ t : Fin grid0.N, win0_3.index t 0 = 0 ∧ win0_3.index t 1 = 0)

theorem whole_3 (c : Dev nD) (t : Fin cfg0.N) : (iblk m c 3 t : Vec Ideal S1x128 .f32) = m ((c : Thread nD τ).loc main_arg3) := by
  have hi := index_3 t
  funext i
  unfold iblk
  rw [View.read_apply]
  show V m c main_arg3 _ = m (c.tc.loc main_arg3) i
  rw [V_main_arg3]
  refine congrArg (m (c.tc.loc main_arg3)) (funext fun b => Fin.ext ?_)
  match b with
  | ⟨0, _⟩ => show win0_3.index t 0 * 1 + 1 * (i 0).val = (i 0).val; rw [hi.1]; omega
  | ⟨1, _⟩ => show win0_3.index t 1 * 128 + 1 * (i 1).val = (i 1).val; rw [hi.2]; omega

theorem index_4 : ∀ t : Fin cfg0.N, win0_4.index t 0 = 0 ∧ win0_4.index t 1 = 0 :=
  (by decide +kernel : ∀ t : Fin grid0.N, win0_4.index t 0 = 0 ∧ win0_4.index t 1 = 0)

theorem whole_4 (c : Dev nD) (t : Fin cfg0.N) : (iblk m c 4 t : Vec Ideal S1x128 .f32) = m ((c : Thread nD τ).loc main_arg4) := by
  have hi := index_4 t
  funext i
  unfold iblk
  rw [View.read_apply]
  show V m c main_arg4 _ = m (c.tc.loc main_arg4) i
  rw [V_main_arg4]
  refine congrArg (m (c.tc.loc main_arg4)) (funext fun b => Fin.ext ?_)
  match b with
  | ⟨0, _⟩ => show win0_4.index t 0 * 1 + 1 * (i 0).val = (i 0).val; rw [hi.1]; omega
  | ⟨1, _⟩ => show win0_4.index t 1 * 128 + 1 * (i 1).val = (i 1).val; rw [hi.2]; omega

theorem index_5 : ∀ t : Fin cfg0.N, win0_5.index t 0 = 0 ∧ win0_5.index t 1 = 0 :=
  (by decide +kernel : ∀ t : Fin grid0.N, win0_5.index t 0 = 0 ∧ win0_5.index t 1 = 0)

theorem whole_5 (c : Dev nD) (t : Fin cfg0.N) : (iblk m c 5 t : Vec Ideal S1x128 .f32) = m ((c : Thread nD τ).loc main_arg5) := by
  have hi := index_5 t
  funext i
  unfold iblk
  rw [View.read_apply]
  show V m c main_arg5 _ = m (c.tc.loc main_arg5) i
  rw [V_main_arg5]
  refine congrArg (m (c.tc.loc main_arg5)) (funext fun b => Fin.ext ?_)
  match b with
  | ⟨0, _⟩ => show win0_5.index t 0 * 1 + 1 * (i 0).val = (i 0).val; rw [hi.1]; omega
  | ⟨1, _⟩ => show win0_5.index t 1 * 128 + 1 * (i 1).val = (i 1).val; rw [hi.2]; omega

/-! ## Result 0: the gate -/

theorem after_7 (c : Dev nD) (t : Fin cfg0.N) : after7 m c t = flat (fun a => input m c (rowOf t a)) (m ((c : Thread nD τ).loc main_arg1)) (m ((c : Thread nD τ).loc main_arg2)) 512 0 := by
  unfold after7 atPoint
  rw [block7, rows_eq, whole_1, whole_2]

theorem index_7 : ∀ t : Fin cfg0.N, win0_7.index t 0 = t.val ∧ win0_7.index t 1 = 0 :=
  (by decide +kernel : ∀ t : Fin grid0.N, win0_7.index t 0 = t.val ∧ win0_7.index t 1 = 0)

theorem apart_7 (t t' : Fin cfg0.N) (_ : (cfg0.win 7).flush t = true) (_ : (cfg0.win 7).flush t' = true) (hne : t ≠ t') :
    Disjoint ((cfg0.win 7).blk t).view.set ((cfg0.win 7).blk t').view.set :=
  (cfg0.win 7).disjoint_blk fun h => hne (Fin.ext ((index_7 t).1.symm.trans ((congrFun h 0).trans (index_7 t').1)))

theorem place_7 (t : Fin cfg0.N) (a : Fin 512) (l : Fin 512) : (((cfg0.win 7).blk t).view.emb (ix2 a l) : S8192x512.Idx) = ix2 (rowOf t a) l := by
  have hi := index_7 t
  refine funext fun b => Fin.ext ?_
  match b with
  | ⟨0, _⟩ => show win0_7.index t 0 * 512 + 1 * a.val = t.val * 512 + a.val; rw [hi.1]; omega
  | ⟨1, _⟩ => show win0_7.index t 1 * 512 + 1 * l.val = l.val; rw [hi.2]; omega

theorem array_7 (c : Dev nD) : ((dats m 0 c).arrAt 7 cfg0.N : S8192x512.Idx → EReal) = flat (input m c) (m ((c : Thread nD τ).loc main_arg1)) (m ((c : Thread nD τ).loc main_arg2)) 512 0 := by
  funext i
  obtain ⟨ρ, l, rfl⟩ : ∃ ρ l, i = ix2 ρ l := ⟨i 0, i 1, eq_ix2 i⟩
  have hN : cfg0.N = 16 := N_0
  let t : Fin cfg0.N := ⟨ρ.val / 512, by omega⟩
  let a : Fin 512 := ⟨ρ.val % 512, by omega⟩
  have hρ : ρ = rowOf t a := Fin.ext (by show ρ.val = ρ.val / 512 * 512 + ρ.val % 512; omega)
  clear_value t a
  subst hρ
  have hb := congrFun ((dats m 0 c).read_blk_arrAt_eq_flushed 7 apart_7 cfg0.N t t.isLt (flush0_7 t)) (ix2 a l)
  rw [View.read_apply] at hb
  have hp : ((dats m 0 c).arrAt 7 cfg0.N : S8192x512.Idx → EReal) (((cfg0.win 7).blk t).view.emb (ix2 a l)) = after7 m c t (ix2 a l) :=
    hb.trans (congrFun (dats_after7 m c t) (ix2 a l))
  rw [place_7, after_7] at hp
  refine hp.trans ?_
  rfl

/-! ## Result 1: the convolution's input -/

theorem after_8 (c : Dev nD) (t : Fin cfg0.N) : after8 m c t = gated (fun a => input m c (rowOf t a)) (m ((c : Thread nD τ).loc main_arg1)) (m ((c : Thread nD τ).loc main_arg2)) := by
  unfold after8 atPoint
  rw [block8, rows_eq, whole_1, whole_2]

theorem index_8 : ∀ t : Fin cfg0.N, win0_8.index t 0 = t.val ∧ win0_8.index t 1 = 0 :=
  (by decide +kernel : ∀ t : Fin grid0.N, win0_8.index t 0 = t.val ∧ win0_8.index t 1 = 0)

theorem apart_8 (t t' : Fin cfg0.N) (_ : (cfg0.win 8).flush t = true) (_ : (cfg0.win 8).flush t' = true) (hne : t ≠ t') :
    Disjoint ((cfg0.win 8).blk t).view.set ((cfg0.win 8).blk t').view.set :=
  (cfg0.win 8).disjoint_blk fun h => hne (Fin.ext ((index_8 t).1.symm.trans ((congrFun h 0).trans (index_8 t').1)))

theorem place_8 (t : Fin cfg0.N) (a : Fin 512) (l : Fin 512) : (((cfg0.win 8).blk t).view.emb (ix2 a l) : S8192x512.Idx) = ix2 (rowOf t a) l := by
  have hi := index_8 t
  refine funext fun b => Fin.ext ?_
  match b with
  | ⟨0, _⟩ => show win0_8.index t 0 * 512 + 1 * a.val = t.val * 512 + a.val; rw [hi.1]; omega
  | ⟨1, _⟩ => show win0_8.index t 1 * 512 + 1 * l.val = l.val; rw [hi.2]; omega

theorem array_8 (c : Dev nD) : ((dats m 0 c).arrAt 8 cfg0.N : S8192x512.Idx → EReal) = gated (input m c) (m ((c : Thread nD τ).loc main_arg1)) (m ((c : Thread nD τ).loc main_arg2)) := by
  funext i
  obtain ⟨ρ, l, rfl⟩ : ∃ ρ l, i = ix2 ρ l := ⟨i 0, i 1, eq_ix2 i⟩
  have hN : cfg0.N = 16 := N_0
  let t : Fin cfg0.N := ⟨ρ.val / 512, by omega⟩
  let a : Fin 512 := ⟨ρ.val % 512, by omega⟩
  have hρ : ρ = rowOf t a := Fin.ext (by show ρ.val = ρ.val / 512 * 512 + ρ.val % 512; omega)
  clear_value t a
  subst hρ
  have hb := congrFun ((dats m 0 c).read_blk_arrAt_eq_flushed 8 apart_8 cfg0.N t t.isLt (flush0_8 t)) (ix2 a l)
  rw [View.read_apply] at hb
  have hp : ((dats m 0 c).arrAt 8 cfg0.N : S8192x512.Idx → EReal) (((cfg0.win 8).blk t).view.emb (ix2 a l)) = after8 m c t (ix2 a l) :=
    hb.trans (congrFun (dats_after8 m c t) (ix2 a l))
  rw [place_8, after_8] at hp
  refine hp.trans ?_
  rfl

/-! ## Result 2: the queries -/

theorem after_9 (c : Dev nD) (t : Fin cfg0.N) : after9 m c t = heads (fun a => input m c (rowOf t a)) (m ((c : Thread nD τ).loc main_arg1)) (m ((c : Thread nD τ).loc main_arg2)) (m ((c : Thread nD τ).loc main_arg3)) 1024 1536 := by
  unfold after9 atPoint
  rw [block9, rows_eq, whole_1, whole_2, whole_3]

theorem index_9 : ∀ t : Fin cfg0.N, win0_9.index t 0 = t.val ∧ win0_9.index t 1 = 0 :=
  (by decide +kernel : ∀ t : Fin grid0.N, win0_9.index t 0 = t.val ∧ win0_9.index t 1 = 0)

theorem apart_9 (t t' : Fin cfg0.N) (_ : (cfg0.win 9).flush t = true) (_ : (cfg0.win 9).flush t' = true) (hne : t ≠ t') :
    Disjoint ((cfg0.win 9).blk t).view.set ((cfg0.win 9).blk t').view.set :=
  (cfg0.win 9).disjoint_blk fun h => hne (Fin.ext ((index_9 t).1.symm.trans ((congrFun h 0).trans (index_9 t').1)))

theorem place_9 (t : Fin cfg0.N) (a : Fin 512) (l : Fin 1024) : (((cfg0.win 9).blk t).view.emb (ix2 a l) : S8192x1024.Idx) = ix2 (rowOf t a) l := by
  have hi := index_9 t
  refine funext fun b => Fin.ext ?_
  match b with
  | ⟨0, _⟩ => show win0_9.index t 0 * 512 + 1 * a.val = t.val * 512 + a.val; rw [hi.1]; omega
  | ⟨1, _⟩ => show win0_9.index t 1 * 1024 + 1 * l.val = l.val; rw [hi.2]; omega

theorem array_9 (c : Dev nD) : ((dats m 0 c).arrAt 9 cfg0.N : S8192x1024.Idx → EReal) = heads (input m c) (m ((c : Thread nD τ).loc main_arg1)) (m ((c : Thread nD τ).loc main_arg2)) (m ((c : Thread nD τ).loc main_arg3)) 1024 1536 := by
  funext i
  obtain ⟨ρ, l, rfl⟩ : ∃ ρ l, i = ix2 ρ l := ⟨i 0, i 1, eq_ix2 i⟩
  have hN : cfg0.N = 16 := N_0
  let t : Fin cfg0.N := ⟨ρ.val / 512, by omega⟩
  let a : Fin 512 := ⟨ρ.val % 512, by omega⟩
  have hρ : ρ = rowOf t a := Fin.ext (by show ρ.val = ρ.val / 512 * 512 + ρ.val % 512; omega)
  clear_value t a
  subst hρ
  have hb := congrFun ((dats m 0 c).read_blk_arrAt_eq_flushed 9 apart_9 cfg0.N t t.isLt (flush0_9 t)) (ix2 a l)
  rw [View.read_apply] at hb
  have hp : ((dats m 0 c).arrAt 9 cfg0.N : S8192x1024.Idx → EReal) (((cfg0.win 9).blk t).view.emb (ix2 a l)) = after9 m c t (ix2 a l) :=
    hb.trans (congrFun (dats_after9 m c t) (ix2 a l))
  rw [place_9, after_9] at hp
  refine hp.trans ?_
  rfl

/-! ## Result 3: the keys, a head a row -/

theorem after_10 (c : Dev nD) (t : Fin cfg0.N) : after10 m c t = keyRows (fun a => input m c (rowOf t a)) (m ((c : Thread nD τ).loc main_arg1)) (m ((c : Thread nD τ).loc main_arg2)) (m ((c : Thread nD τ).loc main_arg4)) (P := 1024) rfl := by
  unfold after10 atPoint
  rw [block10, rows_eq, whole_1, whole_2, whole_4]

theorem index_10 : ∀ t : Fin cfg0.N, win0_10.index t 0 = t.val ∧ win0_10.index t 1 = 0 :=
  (by decide +kernel : ∀ t : Fin grid0.N, win0_10.index t 0 = t.val ∧ win0_10.index t 1 = 0)

theorem apart_10 (t t' : Fin cfg0.N) (_ : (cfg0.win 10).flush t = true) (_ : (cfg0.win 10).flush t' = true) (hne : t ≠ t') :
    Disjoint ((cfg0.win 10).blk t).view.set ((cfg0.win 10).blk t').view.set :=
  (cfg0.win 10).disjoint_blk fun h => hne (Fin.ext ((index_10 t).1.symm.trans ((congrFun h 0).trans (index_10 t').1)))

/-- The row of the keys and of the values that a point's block has at `a`. -/
abbrev pairRow (t : Fin cfg0.N) (a : Fin 1024) : Fin 16384 := ⟨t.val * 1024 + a.val, by have := lt_of_lt_of_eq t.isLt N_0; omega⟩

theorem place_10 (t : Fin cfg0.N) (a : Fin 1024) (l : Fin 128) : (((cfg0.win 10).blk t).view.emb (ix2 a l) : S16384x128.Idx) = ix2 (pairRow t a) l := by
  have hi := index_10 t
  refine funext fun b => Fin.ext ?_
  match b with
  | ⟨0, _⟩ => show win0_10.index t 0 * 1024 + 1 * a.val = t.val * 1024 + a.val; rw [hi.1]; omega
  | ⟨1, _⟩ => show win0_10.index t 1 * 128 + 1 * l.val = l.val; rw [hi.2]; omega

theorem array_10 (c : Dev nD) : ((dats m 0 c).arrAt 10 cfg0.N : S16384x128.Idx → EReal) = keyRows (input m c) (m ((c : Thread nD τ).loc main_arg1)) (m ((c : Thread nD τ).loc main_arg2)) (m ((c : Thread nD τ).loc main_arg4)) (P := 16384) rfl := by
  funext i
  obtain ⟨ρ, l, rfl⟩ : ∃ ρ l, i = ix2 ρ l := ⟨i 0, i 1, eq_ix2 i⟩
  have hN : cfg0.N = 16 := N_0
  let t : Fin cfg0.N := ⟨ρ.val / 1024, by omega⟩
  let a : Fin 1024 := ⟨ρ.val % 1024, by omega⟩
  have hρ : ρ = pairRow t a := Fin.ext (by show ρ.val = ρ.val / 1024 * 1024 + ρ.val % 1024; omega)
  clear_value t a
  subst hρ
  have hb := congrFun ((dats m 0 c).read_blk_arrAt_eq_flushed 10 apart_10 cfg0.N t t.isLt (flush0_10 t)) (ix2 a l)
  rw [View.read_apply] at hb
  have hp : ((dats m 0 c).arrAt 10 cfg0.N : S16384x128.Idx → EReal) (((cfg0.win 10).blk t).view.emb (ix2 a l)) = after10 m c t (ix2 a l) :=
    hb.trans (congrFun (dats_after10 m c t) (ix2 a l))
  rw [place_10, after_10] at hp
  refine hp.trans ?_
  have e1 : half (M := 8192) rfl (pairRow t a) = rowOf t (half (M := 512) rfl a) := Fin.ext (by show (t.val * 1024 + a.val) / 2 = t.val * 512 + a.val / 2; omega)
  have e2 : (pairRow t a).val % 2 = a.val % 2 := by show (t.val * 1024 + a.val) % 2 = a.val % 2; omega
  show head (input m c (rowOf t (half (M := 512) rfl a))) (m ((c : Thread nD τ).loc main_arg1)) (m ((c : Thread nD τ).loc main_arg2)) (m ((c : Thread nD τ).loc main_arg4)) (2560 + a.val % 2 * 128) l
    = head (input m c (half (M := 8192) rfl (pairRow t a))) (m ((c : Thread nD τ).loc main_arg1)) (m ((c : Thread nD τ).loc main_arg2)) (m ((c : Thread nD τ).loc main_arg4)) (2560 + (pairRow t a).val % 2 * 128) l
  rw [e1, e2]

/-! ## Result 4: the values, a head a row -/

theorem after_11 (c : Dev nD) (t : Fin cfg0.N) : after11 m c t = valueRows (fun a => input m c (rowOf t a)) (m ((c : Thread nD τ).loc main_arg1)) (m ((c : Thread nD τ).loc main_arg2)) (P := 1024) rfl := by
  unfold after11 atPoint
  rw [block11, rows_eq, whole_1, whole_2]

theorem index_11 : ∀ t : Fin cfg0.N, win0_11.index t 0 = t.val ∧ win0_11.index t 1 = 0 :=
  (by decide +kernel : ∀ t : Fin grid0.N, win0_11.index t 0 = t.val ∧ win0_11.index t 1 = 0)

theorem apart_11 (t t' : Fin cfg0.N) (_ : (cfg0.win 11).flush t = true) (_ : (cfg0.win 11).flush t' = true) (hne : t ≠ t') :
    Disjoint ((cfg0.win 11).blk t).view.set ((cfg0.win 11).blk t').view.set :=
  (cfg0.win 11).disjoint_blk fun h => hne (Fin.ext ((index_11 t).1.symm.trans ((congrFun h 0).trans (index_11 t').1)))

theorem place_11 (t : Fin cfg0.N) (a : Fin 1024) (l : Fin 128) : (((cfg0.win 11).blk t).view.emb (ix2 a l) : S16384x128.Idx) = ix2 (pairRow t a) l := by
  have hi := index_11 t
  refine funext fun b => Fin.ext ?_
  match b with
  | ⟨0, _⟩ => show win0_11.index t 0 * 1024 + 1 * a.val = t.val * 1024 + a.val; rw [hi.1]; omega
  | ⟨1, _⟩ => show win0_11.index t 1 * 128 + 1 * l.val = l.val; rw [hi.2]; omega

theorem array_11 (c : Dev nD) : ((dats m 0 c).arrAt 11 cfg0.N : S16384x128.Idx → EReal) = valueRows (input m c) (m ((c : Thread nD τ).loc main_arg1)) (m ((c : Thread nD τ).loc main_arg2)) (P := 16384) rfl := by
  funext i
  obtain ⟨ρ, l, rfl⟩ : ∃ ρ l, i = ix2 ρ l := ⟨i 0, i 1, eq_ix2 i⟩
  have hN : cfg0.N = 16 := N_0
  let t : Fin cfg0.N := ⟨ρ.val / 1024, by omega⟩
  let a : Fin 1024 := ⟨ρ.val % 1024, by omega⟩
  have hρ : ρ = pairRow t a := Fin.ext (by show ρ.val = ρ.val / 1024 * 1024 + ρ.val % 1024; omega)
  clear_value t a
  subst hρ
  have hb := congrFun ((dats m 0 c).read_blk_arrAt_eq_flushed 11 apart_11 cfg0.N t t.isLt (flush0_11 t)) (ix2 a l)
  rw [View.read_apply] at hb
  have hp : ((dats m 0 c).arrAt 11 cfg0.N : S16384x128.Idx → EReal) (((cfg0.win 11).blk t).view.emb (ix2 a l)) = after11 m c t (ix2 a l) :=
    hb.trans (congrFun (dats_after11 m c t) (ix2 a l))
  rw [place_11, after_11] at hp
  refine hp.trans ?_
  have e1 : half (M := 8192) rfl (pairRow t a) = rowOf t (half (M := 512) rfl a) := Fin.ext (by show (t.val * 1024 + a.val) / 2 = t.val * 512 + a.val / 2; omega)
  have e2 : (pairRow t a).val % 2 = a.val % 2 := by show (t.val * 1024 + a.val) % 2 = a.val % 2; omega
  show proj (input m c (rowOf t (half (M := 512) rfl a))) (m ((c : Thread nD τ).loc main_arg1)) (m ((c : Thread nD τ).loc main_arg2)) (2816 + (a.val % 2 * 128 + l.val))
    = proj (input m c (half (M := 8192) rfl (pairRow t a))) (m ((c : Thread nD τ).loc main_arg1)) (m ((c : Thread nD τ).loc main_arg2)) (2816 + ((pairRow t a).val % 2 * 128 + l.val))
  rw [e1, e2]

/-! ## Result 5: the keys, a row of two heads -/

theorem after_12 (c : Dev nD) (t : Fin cfg0.N) : after12 m c t = heads (fun a => input m c (rowOf t a)) (m ((c : Thread nD τ).loc main_arg1)) (m ((c : Thread nD τ).loc main_arg2)) (m ((c : Thread nD τ).loc main_arg4)) 256 2560 := by
  unfold after12 atPoint
  rw [block12, rows_eq, whole_1, whole_2, whole_4]

theorem index_12 : ∀ t : Fin cfg0.N, win0_12.index t 0 = t.val ∧ win0_12.index t 1 = 0 :=
  (by decide +kernel : ∀ t : Fin grid0.N, win0_12.index t 0 = t.val ∧ win0_12.index t 1 = 0)

theorem apart_12 (t t' : Fin cfg0.N) (_ : (cfg0.win 12).flush t = true) (_ : (cfg0.win 12).flush t' = true) (hne : t ≠ t') :
    Disjoint ((cfg0.win 12).blk t).view.set ((cfg0.win 12).blk t').view.set :=
  (cfg0.win 12).disjoint_blk fun h => hne (Fin.ext ((index_12 t).1.symm.trans ((congrFun h 0).trans (index_12 t').1)))

theorem place_12 (t : Fin cfg0.N) (a : Fin 512) (l : Fin 256) : (((cfg0.win 12).blk t).view.emb (ix2 a l) : S8192x256.Idx) = ix2 (rowOf t a) l := by
  have hi := index_12 t
  refine funext fun b => Fin.ext ?_
  match b with
  | ⟨0, _⟩ => show win0_12.index t 0 * 512 + 1 * a.val = t.val * 512 + a.val; rw [hi.1]; omega
  | ⟨1, _⟩ => show win0_12.index t 1 * 256 + 1 * l.val = l.val; rw [hi.2]; omega

theorem array_12 (c : Dev nD) : ((dats m 0 c).arrAt 12 cfg0.N : S8192x256.Idx → EReal) = heads (input m c) (m ((c : Thread nD τ).loc main_arg1)) (m ((c : Thread nD τ).loc main_arg2)) (m ((c : Thread nD τ).loc main_arg4)) 256 2560 := by
  funext i
  obtain ⟨ρ, l, rfl⟩ : ∃ ρ l, i = ix2 ρ l := ⟨i 0, i 1, eq_ix2 i⟩
  have hN : cfg0.N = 16 := N_0
  let t : Fin cfg0.N := ⟨ρ.val / 512, by omega⟩
  let a : Fin 512 := ⟨ρ.val % 512, by omega⟩
  have hρ : ρ = rowOf t a := Fin.ext (by show ρ.val = ρ.val / 512 * 512 + ρ.val % 512; omega)
  clear_value t a
  subst hρ
  have hb := congrFun ((dats m 0 c).read_blk_arrAt_eq_flushed 12 apart_12 cfg0.N t t.isLt (flush0_12 t)) (ix2 a l)
  rw [View.read_apply] at hb
  have hp : ((dats m 0 c).arrAt 12 cfg0.N : S8192x256.Idx → EReal) (((cfg0.win 12).blk t).view.emb (ix2 a l)) = after12 m c t (ix2 a l) :=
    hb.trans (congrFun (dats_after12 m c t) (ix2 a l))
  rw [place_12, after_12] at hp
  refine hp.trans ?_
  rfl

/-! ## Result 6: the values, a row of two heads -/

theorem after_13 (c : Dev nD) (t : Fin cfg0.N) : after13 m c t = flat (fun a => input m c (rowOf t a)) (m ((c : Thread nD τ).loc main_arg1)) (m ((c : Thread nD τ).loc main_arg2)) 256 2816 := by
  unfold after13 atPoint
  rw [block13, rows_eq, whole_1, whole_2]

theorem index_13 : ∀ t : Fin cfg0.N, win0_13.index t 0 = t.val ∧ win0_13.index t 1 = 0 :=
  (by decide +kernel : ∀ t : Fin grid0.N, win0_13.index t 0 = t.val ∧ win0_13.index t 1 = 0)

theorem apart_13 (t t' : Fin cfg0.N) (_ : (cfg0.win 13).flush t = true) (_ : (cfg0.win 13).flush t' = true) (hne : t ≠ t') :
    Disjoint ((cfg0.win 13).blk t).view.set ((cfg0.win 13).blk t').view.set :=
  (cfg0.win 13).disjoint_blk fun h => hne (Fin.ext ((index_13 t).1.symm.trans ((congrFun h 0).trans (index_13 t').1)))

theorem place_13 (t : Fin cfg0.N) (a : Fin 512) (l : Fin 256) : (((cfg0.win 13).blk t).view.emb (ix2 a l) : S8192x256.Idx) = ix2 (rowOf t a) l := by
  have hi := index_13 t
  refine funext fun b => Fin.ext ?_
  match b with
  | ⟨0, _⟩ => show win0_13.index t 0 * 512 + 1 * a.val = t.val * 512 + a.val; rw [hi.1]; omega
  | ⟨1, _⟩ => show win0_13.index t 1 * 256 + 1 * l.val = l.val; rw [hi.2]; omega

theorem array_13 (c : Dev nD) : ((dats m 0 c).arrAt 13 cfg0.N : S8192x256.Idx → EReal) = flat (input m c) (m ((c : Thread nD τ).loc main_arg1)) (m ((c : Thread nD τ).loc main_arg2)) 256 2816 := by
  funext i
  obtain ⟨ρ, l, rfl⟩ : ∃ ρ l, i = ix2 ρ l := ⟨i 0, i 1, eq_ix2 i⟩
  have hN : cfg0.N = 16 := N_0
  let t : Fin cfg0.N := ⟨ρ.val / 512, by omega⟩
  let a : Fin 512 := ⟨ρ.val % 512, by omega⟩
  have hρ : ρ = rowOf t a := Fin.ext (by show ρ.val = ρ.val / 512 * 512 + ρ.val % 512; omega)
  clear_value t a
  subst hρ
  have hb := congrFun ((dats m 0 c).read_blk_arrAt_eq_flushed 13 apart_13 cfg0.N t t.isLt (flush0_13 t)) (ix2 a l)
  rw [View.read_apply] at hb
  have hp : ((dats m 0 c).arrAt 13 cfg0.N : S8192x256.Idx → EReal) (((cfg0.win 13).blk t).view.emb (ix2 a l)) = after13 m c t (ix2 a l) :=
    hb.trans (congrFun (dats_after13 m c t) (ix2 a l))
  rw [place_13, after_13] at hp
  refine hp.trans ?_
  rfl

/-! ## Result 7: the memory queries -/

theorem after_14 (c : Dev nD) (t : Fin cfg0.N) : after14 m c t = heads (fun a => input m c (rowOf t a)) (m ((c : Thread nD τ).loc main_arg1)) (m ((c : Thread nD τ).loc main_arg2)) (m ((c : Thread nD τ).loc main_arg5)) 512 3072 := by
  unfold after14 atPoint
  rw [block14, rows_eq, whole_1, whole_2, whole_5]

theorem index_14 : ∀ t : Fin cfg0.N, win0_14.index t 0 = t.val ∧ win0_14.index t 1 = 0 :=
  (by decide +kernel : ∀ t : Fin grid0.N, win0_14.index t 0 = t.val ∧ win0_14.index t 1 = 0)

theorem apart_14 (t t' : Fin cfg0.N) (_ : (cfg0.win 14).flush t = true) (_ : (cfg0.win 14).flush t' = true) (hne : t ≠ t') :
    Disjoint ((cfg0.win 14).blk t).view.set ((cfg0.win 14).blk t').view.set :=
  (cfg0.win 14).disjoint_blk fun h => hne (Fin.ext ((index_14 t).1.symm.trans ((congrFun h 0).trans (index_14 t').1)))

theorem place_14 (t : Fin cfg0.N) (a : Fin 512) (l : Fin 512) : (((cfg0.win 14).blk t).view.emb (ix2 a l) : S8192x512.Idx) = ix2 (rowOf t a) l := by
  have hi := index_14 t
  refine funext fun b => Fin.ext ?_
  match b with
  | ⟨0, _⟩ => show win0_14.index t 0 * 512 + 1 * a.val = t.val * 512 + a.val; rw [hi.1]; omega
  | ⟨1, _⟩ => show win0_14.index t 1 * 512 + 1 * l.val = l.val; rw [hi.2]; omega

theorem array_14 (c : Dev nD) : ((dats m 0 c).arrAt 14 cfg0.N : S8192x512.Idx → EReal) = heads (input m c) (m ((c : Thread nD τ).loc main_arg1)) (m ((c : Thread nD τ).loc main_arg2)) (m ((c : Thread nD τ).loc main_arg5)) 512 3072 := by
  funext i
  obtain ⟨ρ, l, rfl⟩ : ∃ ρ l, i = ix2 ρ l := ⟨i 0, i 1, eq_ix2 i⟩
  have hN : cfg0.N = 16 := N_0
  let t : Fin cfg0.N := ⟨ρ.val / 512, by omega⟩
  let a : Fin 512 := ⟨ρ.val % 512, by omega⟩
  have hρ : ρ = rowOf t a := Fin.ext (by show ρ.val = ρ.val / 512 * 512 + ρ.val % 512; omega)
  clear_value t a
  subst hρ
  have hb := congrFun ((dats m 0 c).read_blk_arrAt_eq_flushed 14 apart_14 cfg0.N t t.isLt (flush0_14 t)) (ix2 a l)
  rw [View.read_apply] at hb
  have hp : ((dats m 0 c).arrAt 14 cfg0.N : S8192x512.Idx → EReal) (((cfg0.win 14).blk t).view.emb (ix2 a l)) = after14 m c t (ix2 a l) :=
    hb.trans (congrFun (dats_after14 m c t) (ix2 a l))
  rw [place_14, after_14] at hp
  refine hp.trans ?_
  rfl

/-! ## Result 8: the output projection's weights, as they were -/

theorem after_15 (c : Dev nD) (t : Fin cfg0.N) : after15 m c t = (iblk m c 6 t : Vec Ideal S128x2048 .f32) := by
  unfold after15 atPoint
  rw [block15]

theorem index_15 : ∀ t : Fin cfg0.N, win0_15.index t 0 = t.val ∧ win0_15.index t 1 = 0 :=
  (by decide +kernel : ∀ t : Fin grid0.N, win0_15.index t 0 = t.val ∧ win0_15.index t 1 = 0)

theorem apart_15 (t t' : Fin cfg0.N) (_ : (cfg0.win 15).flush t = true) (_ : (cfg0.win 15).flush t' = true) (hne : t ≠ t') :
    Disjoint ((cfg0.win 15).blk t).view.set ((cfg0.win 15).blk t').view.set :=
  (cfg0.win 15).disjoint_blk fun h => hne (Fin.ext ((index_15 t).1.symm.trans ((congrFun h 0).trans (index_15 t').1)))

theorem place_15 (t : Fin cfg0.N) (a : Fin 128) (l : Fin 2048) : (((cfg0.win 15).blk t).view.emb (ix2 a l) : S2048x2048.Idx) = ix2 (outRow t a) l := by
  have hi := index_15 t
  refine funext fun b => Fin.ext ?_
  match b with
  | ⟨0, _⟩ => show win0_15.index t 0 * 128 + 1 * a.val = t.val * 128 + a.val; rw [hi.1]; omega
  | ⟨1, _⟩ => show win0_15.index t 1 * 2048 + 1 * l.val = l.val; rw [hi.2]; omega

theorem array_15 (c : Dev nD) : ((dats m 0 c).arrAt 15 cfg0.N : S2048x2048.Idx → EReal) = (m ((c : Thread nD τ).loc main_arg6)) := by
  funext i
  obtain ⟨ρ, l, rfl⟩ : ∃ ρ l, i = ix2 ρ l := ⟨i 0, i 1, eq_ix2 i⟩
  have hN : cfg0.N = 16 := N_0
  let t : Fin cfg0.N := ⟨ρ.val / 128, by omega⟩
  let a : Fin 128 := ⟨ρ.val % 128, by omega⟩
  have hρ : ρ = outRow t a := Fin.ext (by show ρ.val = ρ.val / 128 * 128 + ρ.val % 128; omega)
  clear_value t a
  subst hρ
  have hb := congrFun ((dats m 0 c).read_blk_arrAt_eq_flushed 15 apart_15 cfg0.N t t.isLt (flush0_15 t)) (ix2 a l)
  rw [View.read_apply] at hb
  have hp : ((dats m 0 c).arrAt 15 cfg0.N : S2048x2048.Idx → EReal) (((cfg0.win 15).blk t).view.emb (ix2 a l)) = after15 m c t (ix2 a l) :=
    hb.trans (congrFun (dats_after15 m c t) (ix2 a l))
  rw [place_15, after_15] at hp
  refine hp.trans ?_
  exact weights_apply m c t a l

/-- The call runs, leaves the nine arrays at their formulas and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = flat (input m c) (m ((c : Thread nD τ).loc main_arg1)) (m ((c : Thread nD τ).loc main_arg2)) 512 0
      ∧ r.2.mem ((c : Thread nD τ).loc main_v0_1) = gated (input m c) (m ((c : Thread nD τ).loc main_arg1)) (m ((c : Thread nD τ).loc main_arg2))
      ∧ r.2.mem ((c : Thread nD τ).loc main_v0_2) = heads (input m c) (m ((c : Thread nD τ).loc main_arg1)) (m ((c : Thread nD τ).loc main_arg2)) (m ((c : Thread nD τ).loc main_arg3)) 1024 1536
      ∧ r.2.mem ((c : Thread nD τ).loc main_v0_3) = keyRows (input m c) (m ((c : Thread nD τ).loc main_arg1)) (m ((c : Thread nD τ).loc main_arg2)) (m ((c : Thread nD τ).loc main_arg4)) (P := 16384) rfl
      ∧ r.2.mem ((c : Thread nD τ).loc main_v0_4) = valueRows (input m c) (m ((c : Thread nD τ).loc main_arg1)) (m ((c : Thread nD τ).loc main_arg2)) (P := 16384) rfl
      ∧ r.2.mem ((c : Thread nD τ).loc main_v0_5) = heads (input m c) (m ((c : Thread nD τ).loc main_arg1)) (m ((c : Thread nD τ).loc main_arg2)) (m ((c : Thread nD τ).loc main_arg4)) 256 2560
      ∧ r.2.mem ((c : Thread nD τ).loc main_v0_6) = flat (input m c) (m ((c : Thread nD τ).loc main_arg1)) (m ((c : Thread nD τ).loc main_arg2)) 256 2816
      ∧ r.2.mem ((c : Thread nD τ).loc main_v0_7) = heads (input m c) (m ((c : Thread nD τ).loc main_arg1)) (m ((c : Thread nD τ).loc main_arg2)) (m ((c : Thread nD τ).loc main_arg5)) 512 3072
      ∧ r.2.mem ((c : Thread nD τ).loc main_v0_8) = (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨((h c).1 7).trans (array_7 m c),
      ((h c).1 8).trans (array_8 m c),
      ((h c).1 9).trans (array_9 m c),
      ((h c).1 10).trans (array_10 m c),
      ((h c).1 11).trans (array_11 m c),
      ((h c).1 12).trans (array_12 m c),
      ((h c).1 13).trans (array_13 m c),
      ((h c).1 14).trans (array_14 m c),
      ((h c).1 15).trans (array_15 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.ProjIdeal.Tile

end
-- ==== Proof.ProjRef.lean ====
/- The reference's nine results, read off its operations at an index: the same formulas of the argument's rows. -/
module

public import proofs.«01_k».proof.Proof.Gen.ProjRefIdeal.Read
public import proofs.«01_k».proof.Proof.ProjSpec

@[expose] public section

noncomputable section

namespace Cert.ProjRefIdeal.Val

open Cert.ProjRefIdeal Cert.ProjRefIdeal.Gen Cert.ProjRefIdeal.Read Cert.Inputs Idealize.ShloMosaic Idealize.ShloMosaic.ValueIdx

variable (x0 : (⟨S8192x2048, .f32⟩ : BufTy).Contents (Elt Ideal)) (x1 : (⟨S1x2048, .f32⟩ : BufTy).Contents (Elt Ideal)) (x2 : (⟨S2048x3584, .bf16⟩ : BufTy).Contents (Elt Ideal))

/-- A row of the argument. -/
abbrev row (ρ : Fin 8192) : Fin 2048 → EReal := fun k => x0 (ix2 ρ k)

/-- The normalised rows. -/
theorem normed_apply (ρ : Fin 8192) (k : Fin 2048) : val_main_v11 (F := Ideal) x0 x1 (ix2 ρ k) = rms 0x45000000#32 (row x0 ρ) x1 k := by
  have sum : val_main_v1 (F := Ideal) x0 (idx_main_v2 (idx_main_v8 (ix2 ρ k))) = ∑ q : Fin 2048, row x0 ρ q * row x0 ρ q := by
    rw [val_main_v1_apply, show (val_main_cst (F := Ideal)) (Shape.Idx.first h_S_) = 0 from Ideal.ofBits_zero_f32, zero_add]
    refine Finset.sum_congr rfl fun q _ => ?_
    rw [val_main_v0_apply, show idx_main_v1 (idx_main_v2 (idx_main_v8 (ix2 ρ k))) q = ix2 ρ q from (eq_ix2 _).trans rfl]
    rfl
  rw [val_main_v11_apply, val_main_v9_apply, val_main_v8_apply, val_main_v7_apply, val_main_v6_apply, val_main_v4_apply, val_main_v2_apply, sum,
    val_main_v3_apply, val_main_v5_apply, val_main_cst_0_apply, val_main_cst_1_apply, val_main_v10_apply,
    show idx_main_v10 (ix2 ρ k) = ix2 0 k from (eq_ix2 _).trans rfl]
  rfl

/-- The projected rows. -/
theorem projected_apply (ρ : Fin 8192) (j : Fin 3584) : val_main_v13 (F := Ideal) x0 x1 x2 (ix2 ρ j) = proj (row x0 ρ) x1 x2 j.val := by
  rw [val_main_v13_apply]
  refine Finset.sum_congr rfl fun k _ => ?_
  rw [show lidx_main_v13 (ix2 ρ j) k = ix2 ρ k from (eq_ix2 _).trans rfl, normed_apply, val_main_v12_apply,
    show ridx_main_v13 (ix2 ρ j) k = ix2 k (colAt j.val) from (eq_ix2 _).trans (congrArg (ix2 k) (Fin.ext (Nat.mod_eq_of_lt j.isLt).symm))]
  rfl

theorem slice_14 (ρ : Fin 8192) (t : Fin 512) : val_main_v14 (F := Ideal) x0 x1 x2 (ix2 ρ t) = proj (row x0 ρ) x1 x2 (0 + t.val) := by
  have h : idx_main_v14 (ix2 ρ t) = ix2 ρ (⟨0 + t.val, by omega⟩ : Fin 3584) := (eq_ix2 _).trans (congrArg (ix2 ρ) (Fin.ext (by show t.val = 0 + t.val; omega)))
  rw [val_main_v14_apply, h, projected_apply]

theorem slice_15 (ρ : Fin 8192) (t : Fin 512) : val_main_v15 (F := Ideal) x0 x1 x2 (ix2 ρ t) = proj (row x0 ρ) x1 x2 (512 + t.val) := by
  have h : idx_main_v15 (ix2 ρ t) = ix2 ρ (⟨512 + t.val, by omega⟩ : Fin 3584) := (eq_ix2 _).trans (congrArg (ix2 ρ) (Fin.ext (by show 512 + t.val = 512 + t.val; omega)))
  rw [val_main_v15_apply, h, projected_apply]

theorem slice_16 (ρ : Fin 8192) (t : Fin 512) : val_main_v16 (F := Ideal) x0 x1 x2 (ix2 ρ t) = proj (row x0 ρ) x1 x2 (1024 + t.val) := by
  have h : idx_main_v16 (ix2 ρ t) = ix2 ρ (⟨1024 + t.val, by omega⟩ : Fin 3584) := (eq_ix2 _).trans (congrArg (ix2 ρ) (Fin.ext (by show 1024 + t.val = 1024 + t.val; omega)))
  rw [val_main_v16_apply, h, projected_apply]

theorem slice_17 (ρ : Fin 8192) (t : Fin 1024) : val_main_v17 (F := Ideal) x0 x1 x2 (ix2 ρ t) = proj (row x0 ρ) x1 x2 (1536 + t.val) := by
  have h : idx_main_v17 (ix2 ρ t) = ix2 ρ (⟨1536 + t.val, by omega⟩ : Fin 3584) := (eq_ix2 _).trans (congrArg (ix2 ρ) (Fin.ext (by show 1536 + t.val = 1536 + t.val; omega)))
  rw [val_main_v17_apply, h, projected_apply]

theorem slice_18 (ρ : Fin 8192) (t : Fin 256) : val_main_v18 (F := Ideal) x0 x1 x2 (ix2 ρ t) = proj (row x0 ρ) x1 x2 (2560 + t.val) := by
  have h : idx_main_v18 (ix2 ρ t) = ix2 ρ (⟨2560 + t.val, by omega⟩ : Fin 3584) := (eq_ix2 _).trans (congrArg (ix2 ρ) (Fin.ext (by show 2560 + t.val = 2560 + t.val; omega)))
  rw [val_main_v18_apply, h, projected_apply]

theorem slice_19 (ρ : Fin 8192) (t : Fin 256) : val_main_v19 (F := Ideal) x0 x1 x2 (ix2 ρ t) = proj (row x0 ρ) x1 x2 (2816 + t.val) := by
  have h : idx_main_v19 (ix2 ρ t) = ix2 ρ (⟨2816 + t.val, by omega⟩ : Fin 3584) := (eq_ix2 _).trans (congrArg (ix2 ρ) (Fin.ext (by show 2816 + t.val = 2816 + t.val; omega)))
  rw [val_main_v19_apply, h, projected_apply]

theorem slice_20 (ρ : Fin 8192) (t : Fin 512) : val_main_v20 (F := Ideal) x0 x1 x2 (ix2 ρ t) = proj (row x0 ρ) x1 x2 (3072 + t.val) := by
  have h : idx_main_v20 (ix2 ρ t) = ix2 ρ (⟨3072 + t.val, by omega⟩ : Fin 3584) := (eq_ix2 _).trans (congrArg (ix2 ρ) (Fin.ext (by show 3072 + t.val = 3072 + t.val; omega)))
  rw [val_main_v20_apply, h, projected_apply]

/-- The values, a head at a time. -/
theorem piece_51 (ρ : Fin 8192) (h : Fin 2) (t : Fin 128) : val_main_v51 (F := Ideal) x0 x1 x2 (ix3 ρ h t) = proj (row x0 ρ) x1 x2 (2816 + (h.val * 128 + t.val)) := by
  have e : idx_main_v51 (ix3 ρ h t) = ix2 ρ (⟨h.val * 128 + t.val, by omega⟩ : Fin 256) := (eq_ix2 _).trans (congrArg₂ ix2
    (Fin.ext (by show ((ρ.val * 2 + h.val) * 128 + t.val) / 256 = ρ.val; omega)) (Fin.ext (by show ((ρ.val * 2 + h.val) * 128 + t.val) % 256 = h.val * 128 + t.val; omega)))
  rw [val_main_v51_apply, e, slice_19]

/-- The queries, a head at a time. -/
theorem piece_21 (ρ : Fin 8192) (h : Fin 8) (t : Fin 128) : val_main_v21 (F := Ideal) x0 x1 x2 (ix3 ρ h t) = proj (row x0 ρ) x1 x2 (1536 + (h.val * 128 + t.val)) := by
  have e : idx_main_v21 (ix3 ρ h t) = ix2 ρ (⟨h.val * 128 + t.val, by omega⟩ : Fin 1024) := (eq_ix2 _).trans (congrArg₂ ix2
    (Fin.ext (by show ((ρ.val * 8 + h.val) * 128 + t.val) / 1024 = ρ.val; omega)) (Fin.ext (by show ((ρ.val * 8 + h.val) * 128 + t.val) % 1024 = h.val * 128 + t.val; omega)))
  rw [val_main_v21_apply, e, slice_17]

/-- The queries, each head normalised over itself. -/
theorem head_21 (x3 : (⟨S1x128, .f32⟩ : BufTy).Contents (Elt Ideal)) (ρ : Fin 8192) (h : Fin 8) (d : Fin 128) :
    val_main_v35 (F := Ideal) x0 x1 x2 x3 (ix3 ρ h d) = head (row x0 ρ) x1 x2 x3 (1536 + h.val * 128) d := by
  have piece : ∀ q : Fin 128, val_main_v21 (F := Ideal) x0 x1 x2 (ix3 ρ h q) = proj (row x0 ρ) x1 x2 (1536 + h.val * 128 + q.val) :=
    fun q => (piece_21 x0 x1 x2 ρ h q).trans (congrArg _ (Nat.add_assoc _ _ _).symm)
  have sum : val_main_v24 (F := Ideal) x0 x1 x2 (idx_main_v25 (idx_main_v31 (ix3 ρ h d)))
      = ∑ q : Fin 128, proj (row x0 ρ) x1 x2 (1536 + h.val * 128 + q.val) * proj (row x0 ρ) x1 x2 (1536 + h.val * 128 + q.val) := by
    rw [val_main_v24_apply, show (val_main_cst_2 (F := Ideal)) (Shape.Idx.first h_S_) = 0 from Ideal.ofBits_zero_f32, zero_add]
    refine Finset.sum_congr rfl fun q _ => ?_
    rw [val_main_v23_apply, show idx_main_v24 (idx_main_v25 (idx_main_v31 (ix3 ρ h d))) q = ix3 ρ h q from (eq_ix3 _).trans rfl, piece]
    rfl
  rw [val_main_v35_apply, val_main_v32_apply, val_main_v31_apply, val_main_v30_apply, val_main_v29_apply, val_main_v27_apply, val_main_v25_apply, sum,
    val_main_v26_apply, val_main_v28_apply, val_main_cst_3_apply, val_main_cst_4_apply, val_main_v34_apply, val_main_v33_apply, val_main_v22_apply, piece,
    show idx_main_v22 (idx_main_v33 (idx_main_v34 (ix3 ρ h d))) = ix2 0 d from (eq_ix2 _).trans (congrArg (ix2 0) (Fin.ext (Nat.mod_eq_of_lt d.isLt)))]
  rfl

/-- The keys, a head at a time. -/
theorem piece_36 (ρ : Fin 8192) (h : Fin 2) (t : Fin 128) : val_main_v36 (F := Ideal) x0 x1 x2 (ix3 ρ h t) = proj (row x0 ρ) x1 x2 (2560 + (h.val * 128 + t.val)) := by
  have e : idx_main_v36 (ix3 ρ h t) = ix2 ρ (⟨h.val * 128 + t.val, by omega⟩ : Fin 256) := (eq_ix2 _).trans (congrArg₂ ix2
    (Fin.ext (by show ((ρ.val * 2 + h.val) * 128 + t.val) / 256 = ρ.val; omega)) (Fin.ext (by show ((ρ.val * 2 + h.val) * 128 + t.val) % 256 = h.val * 128 + t.val; omega)))
  rw [val_main_v36_apply, e, slice_18]

/-- The keys, each head normalised over itself. -/
theorem head_36 (x4 : (⟨S1x128, .f32⟩ : BufTy).Contents (Elt Ideal)) (ρ : Fin 8192) (h : Fin 2) (d : Fin 128) :
    val_main_v50 (F := Ideal) x0 x1 x2 x4 (ix3 ρ h d) = head (row x0 ρ) x1 x2 x4 (2560 + h.val * 128) d := by
  have piece : ∀ q : Fin 128, val_main_v36 (F := Ideal) x0 x1 x2 (ix3 ρ h q) = proj (row x0 ρ) x1 x2 (2560 + h.val * 128 + q.val) :=
    fun q => (piece_36 x0 x1 x2 ρ h q).trans (congrArg _ (Nat.add_assoc _ _ _).symm)
  have sum : val_main_v39 (F := Ideal) x0 x1 x2 (idx_main_v40 (idx_main_v46 (ix3 ρ h d)))
      = ∑ q : Fin 128, proj (row x0 ρ) x1 x2 (2560 + h.val * 128 + q.val) * proj (row x0 ρ) x1 x2 (2560 + h.val * 128 + q.val) := by
    rw [val_main_v39_apply, show (val_main_cst_5 (F := Ideal)) (Shape.Idx.first h_S_) = 0 from Ideal.ofBits_zero_f32, zero_add]
    refine Finset.sum_congr rfl fun q _ => ?_
    rw [val_main_v38_apply, show idx_main_v39 (idx_main_v40 (idx_main_v46 (ix3 ρ h d))) q = ix3 ρ h q from (eq_ix3 _).trans rfl, piece]
    rfl
  rw [val_main_v50_apply, val_main_v47_apply, val_main_v46_apply, val_main_v45_apply, val_main_v44_apply, val_main_v42_apply, val_main_v40_apply, sum,
    val_main_v41_apply, val_main_v43_apply, val_main_cst_6_apply, val_main_cst_7_apply, val_main_v49_apply, val_main_v48_apply, val_main_v37_apply, piece,
    show idx_main_v37 (idx_main_v48 (idx_main_v49 (ix3 ρ h d))) = ix2 0 d from (eq_ix2 _).trans (congrArg (ix2 0) (Fin.ext (Nat.mod_eq_of_lt d.isLt)))]
  rfl

/-- The memory queries, a head at a time. -/
theorem piece_52 (ρ : Fin 8192) (h : Fin 4) (t : Fin 128) : val_main_v52 (F := Ideal) x0 x1 x2 (ix3 ρ h t) = proj (row x0 ρ) x1 x2 (3072 + (h.val * 128 + t.val)) := by
  have e : idx_main_v52 (ix3 ρ h t) = ix2 ρ (⟨h.val * 128 + t.val, by omega⟩ : Fin 512) := (eq_ix2 _).trans (congrArg₂ ix2
    (Fin.ext (by show ((ρ.val * 4 + h.val) * 128 + t.val) / 512 = ρ.val; omega)) (Fin.ext (by show ((ρ.val * 4 + h.val) * 128 + t.val) % 512 = h.val * 128 + t.val; omega)))
  rw [val_main_v52_apply, e, slice_20]

/-- The memory queries, each head normalised over itself. -/
theorem head_52 (x5 : (⟨S1x128, .f32⟩ : BufTy).Contents (Elt Ideal)) (ρ : Fin 8192) (h : Fin 4) (d : Fin 128) :
    val_main_v66 (F := Ideal) x0 x1 x2 x5 (ix3 ρ h d) = head (row x0 ρ) x1 x2 x5 (3072 + h.val * 128) d := by
  have piece : ∀ q : Fin 128, val_main_v52 (F := Ideal) x0 x1 x2 (ix3 ρ h q) = proj (row x0 ρ) x1 x2 (3072 + h.val * 128 + q.val) :=
    fun q => (piece_52 x0 x1 x2 ρ h q).trans (congrArg _ (Nat.add_assoc _ _ _).symm)
  have sum : val_main_v55 (F := Ideal) x0 x1 x2 (idx_main_v56 (idx_main_v62 (ix3 ρ h d)))
      = ∑ q : Fin 128, proj (row x0 ρ) x1 x2 (3072 + h.val * 128 + q.val) * proj (row x0 ρ) x1 x2 (3072 + h.val * 128 + q.val) := by
    rw [val_main_v55_apply, show (val_main_cst_8 (F := Ideal)) (Shape.Idx.first h_S_) = 0 from Ideal.ofBits_zero_f32, zero_add]
    refine Finset.sum_congr rfl fun q _ => ?_
    rw [val_main_v54_apply, show idx_main_v55 (idx_main_v56 (idx_main_v62 (ix3 ρ h d))) q = ix3 ρ h q from (eq_ix3 _).trans rfl, piece]
    rfl
  rw [val_main_v66_apply, val_main_v63_apply, val_main_v62_apply, val_main_v61_apply, val_main_v60_apply, val_main_v58_apply, val_main_v56_apply, sum,
    val_main_v57_apply, val_main_v59_apply, val_main_cst_9_apply, val_main_cst_10_apply, val_main_v65_apply, val_main_v64_apply, val_main_v53_apply, piece,
    show idx_main_v53 (idx_main_v64 (idx_main_v65 (ix3 ρ h d))) = ix2 0 d from (eq_ix2 _).trans (congrArg (ix2 0) (Fin.ext (Nat.mod_eq_of_lt d.isLt)))]
  rfl

/-! ## The nine results -/

/-- The gate. -/
theorem result_b : val_main_v14 (F := Ideal) x0 x1 x2 = flat (row x0) x1 x2 512 0 := by
  funext i
  obtain ⟨ρ, t, rfl⟩ : ∃ ρ t, i = ix2 ρ t := ⟨i 0, i 1, eq_ix2 i⟩
  exact slice_14 x0 x1 x2 ρ t

/-- The convolution's input. -/
theorem result_u : val_main_v67 (F := Ideal) x0 x1 x2 = gated (row x0) x1 x2 := by
  funext i
  obtain ⟨ρ, t, rfl⟩ : ∃ ρ t, i = ix2 ρ t := ⟨i 0, i 1, eq_ix2 i⟩
  rw [val_main_v67_apply, slice_15, slice_16]
  rfl

/-- The queries. -/
theorem result_q (x3 : (⟨S1x128, .f32⟩ : BufTy).Contents (Elt Ideal)) : val_main_v69 (F := Ideal) x0 x1 x2 x3 = heads (row x0) x1 x2 x3 1024 1536 := by
  funext i
  obtain ⟨ρ, t, rfl⟩ : ∃ ρ t, i = ix2 ρ t := ⟨i 0, i 1, eq_ix2 i⟩
  have e : idx_main_v68 (ix2 ρ t) = ix3 ρ (⟨t.val / 128, by omega⟩ : Fin 8) (⟨t.val % 128, by omega⟩ : Fin 128) := by
    refine (eq_ix3 _).trans ?_
    have e0 : idx_main_v68 (ix2 ρ t) 0 = ρ := Fin.ext (by show (ρ.val * 1024 + t.val) / 1024 = ρ.val; omega)
    have e1 : idx_main_v68 (ix2 ρ t) 1 = (⟨t.val / 128, by omega⟩ : Fin 8) := Fin.ext (by show (ρ.val * 1024 + t.val) / 128 % 8 = t.val / 128; omega)
    have e2 : idx_main_v68 (ix2 ρ t) 2 = (⟨t.val % 128, by omega⟩ : Fin 128) := Fin.ext (by show (ρ.val * 1024 + t.val) % 128 = t.val % 128; omega)
    rw [e0, e1, e2]; rfl
  rw [val_main_v69_apply, val_main_v68_apply, e, head_21]
  rfl

/-- The keys, a row of two heads. -/
theorem result_kb (x4 : (⟨S1x128, .f32⟩ : BufTy).Contents (Elt Ideal)) : val_main_v73 (F := Ideal) x0 x1 x2 x4 = heads (row x0) x1 x2 x4 256 2560 := by
  funext i
  obtain ⟨ρ, t, rfl⟩ : ∃ ρ t, i = ix2 ρ t := ⟨i 0, i 1, eq_ix2 i⟩
  have e : idx_main_v72 (ix2 ρ t) = ix3 ρ (⟨t.val / 128, by omega⟩ : Fin 2) (⟨t.val % 128, by omega⟩ : Fin 128) := by
    refine (eq_ix3 _).trans ?_
    have e0 : idx_main_v72 (ix2 ρ t) 0 = ρ := Fin.ext (by show (ρ.val * 256 + t.val) / 256 = ρ.val; omega)
    have e1 : idx_main_v72 (ix2 ρ t) 1 = (⟨t.val / 128, by omega⟩ : Fin 2) := Fin.ext (by show (ρ.val * 256 + t.val) / 128 % 2 = t.val / 128; omega)
    have e2 : idx_main_v72 (ix2 ρ t) 2 = (⟨t.val % 128, by omega⟩ : Fin 128) := Fin.ext (by show (ρ.val * 256 + t.val) % 128 = t.val % 128; omega)
    rw [e0, e1, e2]; rfl
  rw [val_main_v73_apply, val_main_v72_apply, e, head_36]
  rfl

/-- The memory queries. -/
theorem result_qx (x5 : (⟨S1x128, .f32⟩ : BufTy).Contents (Elt Ideal)) : val_main_v77 (F := Ideal) x0 x1 x2 x5 = heads (row x0) x1 x2 x5 512 3072 := by
  funext i
  obtain ⟨ρ, t, rfl⟩ : ∃ ρ t, i = ix2 ρ t := ⟨i 0, i 1, eq_ix2 i⟩
  have e : idx_main_v76 (ix2 ρ t) = ix3 ρ (⟨t.val / 128, by omega⟩ : Fin 4) (⟨t.val % 128, by omega⟩ : Fin 128) := by
    refine (eq_ix3 _).trans ?_
    have e0 : idx_main_v76 (ix2 ρ t) 0 = ρ := Fin.ext (by show (ρ.val * 512 + t.val) / 512 = ρ.val; omega)
    have e1 : idx_main_v76 (ix2 ρ t) 1 = (⟨t.val / 128, by omega⟩ : Fin 4) := Fin.ext (by show (ρ.val * 512 + t.val) / 128 % 4 = t.val / 128; omega)
    have e2 : idx_main_v76 (ix2 ρ t) 2 = (⟨t.val % 128, by omega⟩ : Fin 128) := Fin.ext (by show (ρ.val * 512 + t.val) % 128 = t.val % 128; omega)
    rw [e0, e1, e2]; rfl
  rw [val_main_v77_apply, val_main_v76_apply, e, head_52]
  rfl

/-- The keys, a head a row. -/
theorem result_k (x4 : (⟨S1x128, .f32⟩ : BufTy).Contents (Elt Ideal)) : val_main_v70 (F := Ideal) x0 x1 x2 x4 = keyRows (row x0) x1 x2 x4 (P := 16384) rfl := by
  funext i
  obtain ⟨r, d, rfl⟩ : ∃ r d, i = ix2 r d := ⟨i 0, i 1, eq_ix2 i⟩
  have e : idx_main_v70 (ix2 r d) = ix3 (half (M := 8192) rfl r) (⟨r.val % 2, by omega⟩ : Fin 2) d := by
    refine (eq_ix3 _).trans ?_
    have e0 : idx_main_v70 (ix2 r d) 0 = half (M := 8192) rfl r := Fin.ext (by show (r.val * 128 + d.val) / 256 = r.val / 2; omega)
    have e1 : idx_main_v70 (ix2 r d) 1 = (⟨r.val % 2, by omega⟩ : Fin 2) := Fin.ext (by show (r.val * 128 + d.val) / 128 % 2 = r.val % 2; omega)
    have e2 : idx_main_v70 (ix2 r d) 2 = d := Fin.ext (by show (r.val * 128 + d.val) % 128 = d.val; omega)
    rw [e0, e1, e2]; rfl
  rw [val_main_v70_apply, e, head_36]
  rfl

/-- The values, a head a row. -/
theorem result_v : val_main_v71 (F := Ideal) x0 x1 x2 = valueRows (row x0) x1 x2 (P := 16384) rfl := by
  funext i
  obtain ⟨r, d, rfl⟩ : ∃ r d, i = ix2 r d := ⟨i 0, i 1, eq_ix2 i⟩
  have e : idx_main_v71 (ix2 r d) = ix3 (half (M := 8192) rfl r) (⟨r.val % 2, by omega⟩ : Fin 2) d := by
    refine (eq_ix3 _).trans ?_
    have e0 : idx_main_v71 (ix2 r d) 0 = half (M := 8192) rfl r := Fin.ext (by show (r.val * 128 + d.val) / 256 = r.val / 2; omega)
    have e1 : idx_main_v71 (ix2 r d) 1 = (⟨r.val % 2, by omega⟩ : Fin 2) := Fin.ext (by show (r.val * 128 + d.val) / 128 % 2 = r.val % 2; omega)
    have e2 : idx_main_v71 (ix2 r d) 2 = d := Fin.ext (by show (r.val * 128 + d.val) % 128 = d.val; omega)
    rw [e0, e1, e2]; rfl
  rw [val_main_v71_apply, e, piece_51]
  rfl

/-- The values, a row of two heads. -/
theorem result_vb : val_main_v75 (F := Ideal) x0 x1 x2 = flat (row x0) x1 x2 256 2816 := by
  funext i
  obtain ⟨ρ, t, rfl⟩ : ∃ ρ t, i = ix2 ρ t := ⟨i 0, i 1, eq_ix2 i⟩
  have e : idx_main_v74 (ix2 ρ t) = ix3 ρ (⟨t.val / 128, by omega⟩ : Fin 2) (⟨t.val % 128, by omega⟩ : Fin 128) := by
    refine (eq_ix3 _).trans ?_
    have e0 : idx_main_v74 (ix2 ρ t) 0 = ρ := Fin.ext (by show (ρ.val * 256 + t.val) / 256 = ρ.val; omega)
    have e1 : idx_main_v74 (ix2 ρ t) 1 = (⟨t.val / 128, by omega⟩ : Fin 2) := Fin.ext (by show (ρ.val * 256 + t.val) / 128 % 2 = t.val / 128; omega)
    have e2 : idx_main_v74 (ix2 ρ t) 2 = (⟨t.val % 128, by omega⟩ : Fin 128) := Fin.ext (by show (ρ.val * 256 + t.val) % 128 = t.val % 128; omega)
    rw [e0, e1, e2]; rfl
  rw [val_main_v75_apply, val_main_v74_apply, e, piece_51]
  exact congrArg (fun j => proj (row x0 ρ) x1 x2 (2816 + j)) (Nat.div_add_mod' t.val 128)

end Cert.ProjRefIdeal.Val

end
-- ==== Proof.ClaimsProj.lean ====
module

public import proofs.«01_k».proof.Defs
public import proofs.«01_k».proof.Proof.ProjBody
public import proofs.«01_k».proof.Proof.ProjArrays
public import proofs.«01_k».proof.Proof.ProjRef
public import proofs.«01_k».proof.Proof.Gen.Proj
public import proofs.«01_k».proof.Proof.Gen.Proj.Frame
public import proofs.«01_k».proof.Proof.Gen.Proj.Skeleton
public import proofs.«01_k».proof.Proof.Gen.ProjIdeal
public import proofs.«01_k».proof.Proof.Gen.ProjIdeal.Frame
public import proofs.«01_k».proof.Proof.Gen.ProjIdeal.Skeleton
public import proofs.«01_k».proof.Proof.Gen.ProjRefIdeal.Run
public import proofs.«01_k».proof.Proof.Gen.ProjRefIdeal.Read
public import Idealize.ShloMosaic.Adequacy
public import Idealize.ShloMosaic.Init

@[expose] public section

set_option maxRecDepth 16384

noncomputable section

namespace Cert.Proof.Inputs

open Idealize.ShloMosaic Idealize.SL.Sem

/-! # The claims of the input projections' call -/

theorem frame_kernel : Cert.quiescent_Proj (hProj := Cert.Proj.Gen.facts) := fun m ρ _ => Cert.Proj.Body.frame m ρ

theorem frame_ideal : Cert.quiescent_ProjIdeal (hProjIdeal := Cert.ProjIdeal.Gen.facts) := fun m ρ _ => Cert.ProjIdeal.Body.frame m ρ

theorem frame_reference : Cert.quiescent_ProjRefIdeal (hProjRefIdeal := Cert.ProjRefIdeal.Gen.facts) := fun m ρ _ =>
  (θ_run Cert.ProjRefIdeal.defs _ _).mono (fun r h => ⟨fun c => (h c).2.2.2.2.2.2.2.2.2, Idealize.ShloMosaic.sem_eq_zero_of_no_sems (by decide) r.2⟩)
    (Cert.ProjRefIdeal.Value.run (F := Ideal) m ρ)

theorem preserves : Cert.preserves_Proj_ProjIdeal := trivial

open Cert.ProjRefIdeal.Read Cert.ProjRefIdeal.Val in
/-- The kernel's nine result arrays are the reference's: both are the same formulas of the arguments. -/
theorem algebraic : Cert.algebraic_ProjIdeal_ProjRefIdeal (hProjIdeal := Cert.ProjIdeal.Gen.facts) (hProjRefIdeal := Cert.ProjRefIdeal.Gen.facts) := by
  intro m ρ m' ρ' _ hagree
  refine ⟨_, _, _, _, _, _, _, _, _, Cert.ProjIdeal.Tile.run m ρ, ?_⟩
  refine (θ_run Cert.ProjRefIdeal.defs _ _).mono (fun _ h c => ?_) (Cert.ProjRefIdeal.Value.run (F := Ideal) m' ρ')
  obtain ⟨a0, a1, a2, a3, a4, a5, a6⟩ := hagree c
  obtain ⟨h0, h1, h2, h3, h4, h5, h6, h7, h8, hk⟩ := h c
  refine ⟨h0.trans ?_, h1.trans ?_, h2.trans ?_, h3.trans ?_, h4.trans ?_, h5.trans ?_, h6.trans ?_, h7.trans ?_, h8.trans ?_, hk⟩
  · rw [val_main_v14_eq, a0, a1, a2]; exact result_b _ _ _
  · rw [val_main_v67_eq, a0, a1, a2]; exact result_u _ _ _
  · rw [val_main_v69_eq, a0, a1, a2, a3]; exact result_q _ _ _ _
  · rw [val_main_v70_eq, a0, a1, a2, a4]; exact result_k _ _ _ _
  · rw [val_main_v71_eq, a0, a1, a2]; exact result_v _ _ _
  · rw [val_main_v73_eq, a0, a1, a2, a4]; exact result_kb _ _ _ _
  · rw [val_main_v75_eq, a0, a1, a2]; exact result_vb _ _ _
  · rw [val_main_v77_eq, a0, a1, a2, a5]; exact result_qx _ _ _ _
  · rw [a6]; rfl

end Cert.Proof.Inputs

end
-- ==== Proof.KvSpec.lean ====
module

public import proofs.«01_k».proof.Proof.ProjSpec

@[expose] public section

noncomputable section

namespace Cert.Memory

open Idealize.ShloMosaic Idealize.ShloMosaic.ValueIdx Cert.Inputs

/-! # The memory's keys and values as formulas of the rows they read, over the extended reals

  A memory row has four heads of 128 keys and four of 128 values. -/

/-- A column of the weight, by number. -/
abbrev colAt (j : ℕ) : Fin 512 := ⟨j % 512, Nat.mod_lt _ (by decide)⟩

/-- The normalised row through the weight: column `j`. -/
def thru (y : Fin 2048 → EReal) (g : Arr 1 2048) (w : Arr 2048 512) (j : ℕ) : EReal :=
  ∑ k : Fin 2048, rms 0x45000000#32 y g k * w (ix2 k (colAt j))

/-- The 128 columns from `o` on, normalised over themselves. -/
def head (y : Fin 2048 → EReal) (g : Arr 1 2048) (w : Arr 2048 512) (gh : Arr 1 128) (o : ℕ) (d : Fin 128) : EReal :=
  rms 0x43000000#32 (fun t : Fin 128 => thru y g w (o + t.val)) gh d

section Results
variable {M : ℕ} (y : Fin M → Fin 2048 → EReal) (g : Arr 1 2048) (w : Arr 2048 512) (gh : Arr 1 128)

/-- The values, a row of four heads. -/
def values : Arr M 512 := fun i => thru (y (i 0)) g w (i 1).val

/-- The keys, a row of four heads. -/
def keys : Arr M 512 := fun i => head (y (i 0)) g w gh ((i 1).val / 128 * 128) ⟨(i 1).val % 128, Nat.mod_lt _ (by decide)⟩

/-- The row that has its four heads in rows `4ρ` to `4ρ + 3`. -/
abbrev quarter {P : ℕ} (h : P = 4 * M) (ρ : Fin P) : Fin M := ⟨ρ.val / 4, by omega⟩

/-- The keys, a head a row. -/
def keyRows {P : ℕ} (h : P = 4 * M) : Arr P 128 := fun i => head (y (quarter h (i 0))) g w gh ((i 0).val % 4 * 128) (i 1)

/-- The values, a head a row. -/
def valueRows {P : ℕ} (h : P = 4 * M) : Arr P 128 := fun i => thru (y (quarter h (i 0))) g w ((i 0).val % 4 * 128 + (i 1).val)

end Results

end Cert.Memory

end
-- ==== Proof.KvIdealBody.lean ====
/- The frame of the memory's kernel over the reals: the body runs at every grid point, each output block ends at what its
   stores leave (the key and value blocks are stored by rows at stride four), and the launch follows. -/
module

public import proofs.«01_k».proof.Proof.Gen.KvIdeal.Frame
public import proofs.«01_k».proof.Proof.Gen.KvIdeal.Skeleton
public import Idealize.ShloMosaic.Lib.Claim

@[expose] public section

set_option maxRecDepth 16384

noncomputable section

namespace Cert.KvIdeal.Body

open Cert.KvIdeal Cert.KvIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Points

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x128 .f32) (harg5 : arg5.IsWhole) (arg6 : Memref sig .tc .vmem S512x3584 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S256x512 .bf16) (harg9 : arg9.IsWhole) (arg10 : Memref sig .tc .vmem S256x512 .bf16) (harg10 : arg10.IsWhole) (arg11 : Memref sig .tc .vmem S512x3584 .bf16) (harg11 : arg11.IsWhole)
    (x0 : Vec F S256x2048 .f32) (x1 : Vec F S1x2048 .f32) (x2 : Vec F S2048x512 .f32) (x3 : Vec F S2048x512 .f32) (x4 : Vec F S1x128 .f32) (x5 : Vec F S512x3584 .f32)

set_option maxHeartbeats 2000000 in
/-- The body, from whole blocks at their contents and outputs at anything, ends with the inputs as they were and each output
    under the pieces that its stores wrote (last first); the pieces are found by the run. -/
def run :
    Σ' (L6 : List (View.Piece (Elt F) S1024x128 .f32)), Σ' (L7 : List (View.Piece (Elt F) S1024x128 .f32)), Σ' (L8 : List (View.Piece (Elt F) S256x512 .bf16)), Σ' (L9 : List (View.Piece (Elt F) S256x512 .bf16)), { L10 : List (View.Piece (Elt F) S512x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0_memkv i arg1 harg1 arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0_memkv_eq_skeleton]; unfold cc0_memkv_skel
    simp only [k0_part1_eq_skeleton, k0_part2_eq_skeleton]
    unfold k0_part1_skel; unfold k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    iexists _; iexact H10

/-- Four stores of 256 rows each, at stride four from rows 0, 1, 2 and 3, cover 1024 rows. -/
theorem striped_cover (w3 w2 w1 w0) (y : S1024x128.Idx) :
    ∃ pc ∈ ([⟨⟨(⟨![3, 0], S256x128.size, ![4, 1], inb_S1024x128_S256x128_3_0_s_4_1⟩ : LoadRect S1024x128), spos_4_1⟩, w3⟩,
        ⟨⟨(⟨![2, 0], S256x128.size, ![4, 1], inb_S1024x128_S256x128_2_0_s_4_1⟩ : LoadRect S1024x128), spos_4_1⟩, w2⟩,
        ⟨⟨(⟨![1, 0], S256x128.size, ![4, 1], inb_S1024x128_S256x128_1_0_s_4_1⟩ : LoadRect S1024x128), spos_4_1⟩, w1⟩,
        ⟨⟨(⟨![0, 0], S256x128.size, ![4, 1], inb_S1024x128_S256x128_0_0_s_4_1⟩ : LoadRect S1024x128), spos_4_1⟩, w0⟩] :
          List (View.Piece (Elt F) S1024x128 .f32)), y ∈ pc.1.set := by
  have hy0 : (y 0).val < 1024 := (y 0).isLt
  have hy1 : (y 1).val < 128 := (y 1).isLt
  have hq : (y 0).val / 4 < 256 := by omega
  rcases (by omega : (y 0).val = 3 + 4 * ((y 0).val / 4) ∨ (y 0).val = 2 + 4 * ((y 0).val / 4)
      ∨ (y 0).val = 1 + 4 * ((y 0).val / 4) ∨ (y 0).val = 0 + 4 * ((y 0).val / 4)) with h | h | h | h
  · refine ⟨_, .head _, (LoadRect.mem_set _).mpr fun a => ?_⟩
    match a with
    | ⟨0, _⟩ => exact ⟨_, hq, h⟩
    | ⟨1, _⟩ => exact ⟨(y 1).val, hy1, by show (y 1).val = 0 + 1 * (y 1).val; omega⟩
  · refine ⟨_, .tail _ (.head _), (LoadRect.mem_set _).mpr fun a => ?_⟩
    match a with
    | ⟨0, _⟩ => exact ⟨_, hq, h⟩
    | ⟨1, _⟩ => exact ⟨(y 1).val, hy1, by show (y 1).val = 0 + 1 * (y 1).val; omega⟩
  · refine ⟨_, .tail _ (.tail _ (.head _)), (LoadRect.mem_set _).mpr fun a => ?_⟩
    match a with
    | ⟨0, _⟩ => exact ⟨_, hq, h⟩
    | ⟨1, _⟩ => exact ⟨(y 1).val, hy1, by show (y 1).val = 0 + 1 * (y 1).val; omega⟩
  · refine ⟨_, .tail _ (.tail _ (.tail _ (.head _))), (LoadRect.mem_set _).mpr fun a => ?_⟩
    match a with
    | ⟨0, _⟩ => exact ⟨_, hq, h⟩
    | ⟨1, _⟩ => exact ⟨(y 1).val, hy1, by show (y 1).val = 0 + 1 * (y 1).val; omega⟩

/-- The pieces of output 0 cover its block. -/
theorem cover6 (y : S1024x128.Idx) :
    ∃ pc ∈ (run c i arg1 harg1 arg2 harg2 arg3 harg3 arg4 harg4 arg5 harg5 arg6 harg6 arg7 harg7 arg8 harg8 arg9 harg9 arg10 harg10 arg11 harg11 x0 x1 x2 x3 x4 x5).1, y ∈ pc.1.set :=
by
  unfold run
  dsimp only
  exact striped_cover _ _ _ _ y

/-- What the body leaves in output 0's block. -/
def out6 : Vec F S1024x128 .f32 :=
  View.canon (run c i arg1 harg1 arg2 harg2 arg3 harg3 arg4 harg4 arg5 harg5 arg6 harg6 arg7 harg7 arg8 harg8 arg9 harg9 arg10 harg10 arg11 harg11 x0 x1 x2 x3 x4 x5).1

/-- The pieces of output 1 cover its block. -/
theorem cover7 (y : S1024x128.Idx) :
    ∃ pc ∈ (run c i arg1 harg1 arg2 harg2 arg3 harg3 arg4 harg4 arg5 harg5 arg6 harg6 arg7 harg7 arg8 harg8 arg9 harg9 arg10 harg10 arg11 harg11 x0 x1 x2 x3 x4 x5).2.1, y ∈ pc.1.set :=
by
  unfold run
  dsimp only
  exact striped_cover _ _ _ _ y

/-- What the body leaves in output 1's block. -/
def out7 : Vec F S1024x128 .f32 :=
  View.canon (run c i arg1 harg1 arg2 harg2 arg3 harg3 arg4 harg4 arg5 harg5 arg6 harg6 arg7 harg7 arg8 harg8 arg9 harg9 arg10 harg10 arg11 harg11 x0 x1 x2 x3 x4 x5).2.1

/-- The pieces of output 2 cover its block. -/
theorem cover8 (y : S256x512.Idx) :
    ∃ pc ∈ (run c i arg1 harg1 arg2 harg2 arg3 harg3 arg4 harg4 arg5 harg5 arg6 harg6 arg7 harg7 arg8 harg8 arg9 harg9 arg10 harg10 arg11 harg11 x0 x1 x2 x3 x4 x5).2.2.1, y ∈ pc.1.set :=
  View.cover_of_tiledL (s := S256x512) _ S256x128.size (by sl_kernel_rfl) y

/-- What the body leaves in output 2's block. -/
def out8 : Vec F S256x512 .bf16 :=
  View.canon (run c i arg1 harg1 arg2 harg2 arg3 harg3 arg4 harg4 arg5 harg5 arg6 harg6 arg7 harg7 arg8 harg8 arg9 harg9 arg10 harg10 arg11 harg11 x0 x1 x2 x3 x4 x5).2.2.1

/-- The pieces of output 3 cover its block. -/
theorem cover9 (y : S256x512.Idx) :
    ∃ pc ∈ (run c i arg1 harg1 arg2 harg2 arg3 harg3 arg4 harg4 arg5 harg5 arg6 harg6 arg7 harg7 arg8 harg8 arg9 harg9 arg10 harg10 arg11 harg11 x0 x1 x2 x3 x4 x5).2.2.2.1, y ∈ pc.1.set :=
  View.cover_of_tiledL (s := S256x512) _ S256x512.size (by sl_kernel_rfl) y

/-- What the body leaves in output 3's block. -/
def out9 : Vec F S256x512 .bf16 :=
  View.canon (run c i arg1 harg1 arg2 harg2 arg3 harg3 arg4 harg4 arg5 harg5 arg6 harg6 arg7 harg7 arg8 harg8 arg9 harg9 arg10 harg10 arg11 harg11 x0 x1 x2 x3 x4 x5).2.2.2.1

/-- The pieces of output 4 cover its block. -/
theorem cover10 (y : S512x3584.Idx) :
    ∃ pc ∈ (run c i arg1 harg1 arg2 harg2 arg3 harg3 arg4 harg4 arg5 harg5 arg6 harg6 arg7 harg7 arg8 harg8 arg9 harg9 arg10 harg10 arg11 harg11 x0 x1 x2 x3 x4 x5).2.2.2.2.1, y ∈ pc.1.set :=
  View.cover_of_tiledL (s := S512x3584) _ S512x3584.size (by sl_kernel_rfl) y

/-- What the body leaves in output 4's block. -/
def out10 : Vec F S512x3584 .bf16 :=
  View.canon (run c i arg1 harg1 arg2 harg2 arg3 harg3 arg4 harg4 arg5 harg5 arg6 harg6 arg7 harg7 arg8 harg8 arg9 harg9 arg10 harg10 arg11 harg11 x0 x1 x2 x3 x4 x5).2.2.2.2.1

end Points

/-- A function of the body's blocks and their contents, at point `t`. -/
abbrev atPoint {α : Type} (f : Dev nD → grid0.Coords → (arg1 : Memref sig .tc .vmem S256x2048 .f32) → arg1.IsWhole → (arg2 : Memref sig .tc .vmem S1x2048 .f32) → arg2.IsWhole → (arg3 : Memref sig .tc .vmem S2048x512 .f32) → arg3.IsWhole → (arg4 : Memref sig .tc .vmem S2048x512 .f32) → arg4.IsWhole → (arg5 : Memref sig .tc .vmem S1x128 .f32) → arg5.IsWhole → (arg6 : Memref sig .tc .vmem S512x3584 .f32) → arg6.IsWhole → (arg7 : Memref sig .tc .vmem S1024x128 .f32) → arg7.IsWhole → (arg8 : Memref sig .tc .vmem S1024x128 .f32) → arg8.IsWhole → (arg9 : Memref sig .tc .vmem S256x512 .bf16) → arg9.IsWhole → (arg10 : Memref sig .tc .vmem S256x512 .bf16) → arg10.IsWhole → (arg11 : Memref sig .tc .vmem S512x3584 .bf16) → arg11.IsWhole →
    Vec F S256x2048 .f32 → Vec F S1x2048 .f32 → Vec F S2048x512 .f32 → Vec F S2048x512 .f32 → Vec F S1x128 .f32 → Vec F S512x3584 .f32 → α) (c : Dev nD) (t : Fin cfg0.N) : α :=
  f c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (iblk m c 0 t) (iblk m c 1 t) (iblk m c 2 t) (iblk m c 3 t) (iblk m c 4 t) (iblk m c 5 t)

/-- What output 0's block holds after the body at point `t`. -/
def after6 (c : Dev nD) (t : Fin cfg0.N) : Vec F S1024x128 .f32 :=
  atPoint m out6 c t

/-- What output 1's block holds after the body at point `t`. -/
def after7 (c : Dev nD) (t : Fin cfg0.N) : Vec F S1024x128 .f32 :=
  atPoint m out7 c t

/-- What output 2's block holds after the body at point `t`. -/
def after8 (c : Dev nD) (t : Fin cfg0.N) : Vec F S256x512 .bf16 :=
  atPoint m out8 c t

/-- What output 3's block holds after the body at point `t`. -/
def after9 (c : Dev nD) (t : Fin cfg0.N) : Vec F S256x512 .bf16 :=
  atPoint m out9 c t

/-- What output 4's block holds after the body at point `t`. -/
def after10 (c : Dev nD) (t : Fin cfg0.N) : Vec F S512x3584 .bf16 :=
  atPoint m out10 c t

/-- The pipeline's proof data: the arrays as launched, the inputs at their blocks, the outputs at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => after6 m c t
    | ⟨7, _⟩ => after7 m c t
    | ⟨8, _⟩ => after8 m c t
    | ⟨9, _⟩ => after9 m c t
    | ⟨10, _⟩ => after10 m c t
    | ⟨_ + 11, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem dats_after0 (c : Dev nD) (t : Fin cfg0.N) : (dats m 0 c).after 0 t = iblk m c 0 t := by dsimp only [dats]
theorem dats_after1 (c : Dev nD) (t : Fin cfg0.N) : (dats m 0 c).after 1 t = iblk m c 1 t := by dsimp only [dats]
theorem dats_after2 (c : Dev nD) (t : Fin cfg0.N) : (dats m 0 c).after 2 t = iblk m c 2 t := by dsimp only [dats]
theorem dats_after3 (c : Dev nD) (t : Fin cfg0.N) : (dats m 0 c).after 3 t = iblk m c 3 t := by dsimp only [dats]
theorem dats_after4 (c : Dev nD) (t : Fin cfg0.N) : (dats m 0 c).after 4 t = iblk m c 4 t := by dsimp only [dats]
theorem dats_after5 (c : Dev nD) (t : Fin cfg0.N) : (dats m 0 c).after 5 t = iblk m c 5 t := by dsimp only [dats]
theorem dats_after6 (c : Dev nD) (t : Fin cfg0.N) : (dats m 0 c).after 6 t = after6 m c t := by dsimp only [dats]
theorem dats_after7 (c : Dev nD) (t : Fin cfg0.N) : (dats m 0 c).after 7 t = after7 m c t := by dsimp only [dats]
theorem dats_after8 (c : Dev nD) (t : Fin cfg0.N) : (dats m 0 c).after 8 t = after8 m c t := by dsimp only [dats]
theorem dats_after9 (c : Dev nD) (t : Fin cfg0.N) : (dats m 0 c).after 9 t = after9 m c t := by dsimp only [dats]
theorem dats_after10 (c : Dev nD) (t : Fin cfg0.N) : (dats m 0 c).after 10 t = after10 m c t := by dsimp only [dats]

theorem before0 (c : Dev nD) (t : Fin cfg0.N) (d) : (dats m 0 c).before 0 t d = iblk m c 0 t :=
  before0_0_of m (dats m 0 c) (A_eq m c 0) (dats_after0 m c) t d
theorem before1 (c : Dev nD) (t : Fin cfg0.N) (d) : (dats m 0 c).before 1 t d = iblk m c 1 t :=
  before0_1_of m (dats m 0 c) (A_eq m c 1) (dats_after1 m c) t d
theorem before2 (c : Dev nD) (t : Fin cfg0.N) (d) : (dats m 0 c).before 2 t d = iblk m c 2 t :=
  before0_2_of m (dats m 0 c) (A_eq m c 2) (dats_after2 m c) t d
theorem before3 (c : Dev nD) (t : Fin cfg0.N) (d) : (dats m 0 c).before 3 t d = iblk m c 3 t :=
  before0_3_of m (dats m 0 c) (A_eq m c 3) (dats_after3 m c) t d
theorem before4 (c : Dev nD) (t : Fin cfg0.N) (d) : (dats m 0 c).before 4 t d = iblk m c 4 t :=
  before0_4_of m (dats m 0 c) (A_eq m c 4) (dats_after4 m c) t d
theorem before5 (c : Dev nD) (t : Fin cfg0.N) (d) : (dats m 0 c).before 5 t d = iblk m c 5 t :=
  before0_5_of m (dats m 0 c) (A_eq m c 5) (dats_after5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t))

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    dats_after0, dats_after1, dats_after2, dats_after3, dats_after4, dats_after5, dats_after6, dats_after7, dats_after8, dats_after9, dats_after10]
  unfold after6 after7 after8 after9 after10 atPoint out6 out7 out8 out9 out10
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((run c (grid0.coords t) _ _ _ _ _ _ _ _ _ _ _ _ _ _ _ _ _ _ _ _ _ _ (iblk m c 0 t) (iblk m c 1 t) (iblk m c 2 t) (iblk m c 3 t) (iblk m c 4 t) (iblk m c 5 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  iintro ⟨H0, H1, H2, H3, H4, H5, ⟨%e6, H6⟩, ⟨%e7, H7⟩, ⟨%e8, H8⟩, ⟨%e9, H9⟩, ⟨%e10, H10⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover6 c _ _ _ _ _ _ _ _ _ _ _ _ _ _ _ _ _ _ _ _ _ _ _ _ _ _ _ _ _ )
  isplitl [H7]
  · unfold owns; iexists _; isplitr
    swap; · iexact H7
    ipureintro; exact View.read_writes_eq_canon _ _ _ (cover7 c _ _ _ _ _ _ _ _ _ _ _ _ _ _ _ _ _ _ _ _ _ _ _ _ _ _ _ _ _ )
  isplitl [H8]
  · unfold owns; iexists _; isplitr
    swap; · iexact H8
    ipureintro; exact View.read_writes_eq_canon _ _ _ (cover8 c _ _ _ _ _ _ _ _ _ _ _ _ _ _ _ _ _ _ _ _ _ _ _ _ _ _ _ _ _ )
  isplitl [H9]
  · unfold owns; iexists _; isplitr
    swap; · iexact H9
    ipureintro; exact View.read_writes_eq_canon _ _ _ (cover9 c _ _ _ _ _ _ _ _ _ _ _ _ _ _ _ _ _ _ _ _ _ _ _ _ _ _ _ _ _ )
  unfold owns; iexists _; isplitr
  swap; · iexact H10
  ipureintro; exact View.read_writes_eq_canon _ _ _ (cover10 c _ _ _ _ _ _ _ _ _ _ _ _ _ _ _ _ _ _ _ _ _ _ _ _ _ _ _ _ _ )

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every execution ends, the arrays at what the proof data say, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KvIdeal.Body

end
-- ==== Proof.KvTile.lean ====
module

public import proofs.«01_k».proof.Proof.KvSpec
public import proofs.«01_k».proof.Proof.KvIdealBody
public import Idealize.ShloMosaic.Lib.Pipeline.ValueKit.Basic
public import Idealize.ShloMosaic.Lib.ValueIdx
public import Idealize.ShloMosaic.Lib.MatmulPlain
public import Idealize.ShloMosaic.Lib.IdealHost

@[expose] public section

set_option maxRecDepth 16384

noncomputable section

namespace Cert.KvIdeal.Tile

open Cert.KvIdeal Cert.KvIdeal.Gen Cert.Memory Idealize.ShloMosaic Idealize.ShloMosaic.TcCoe Idealize.SL.Sem
open Idealize.ShloMosaic.ValueIdx
open Cert.Inputs (rms Arr)

/-! # One piece of an output block: what the block's rows give, entry by entry -/

/-- The normalised rows. -/
theorem normed_apply (x : Vec Ideal S256x2048 .f32) (g : Vec Ideal S1x2048 .f32) (a : Fin 256) (j : Fin 2048) :
    k0_pay9 (F := Ideal) x g (ix2 a j) = rms 0x45000000#32 (fun k => x (ix2 a k)) g j := by
  unfold k0_pay9
  dsimp only
  rw [truncf_apply, mulf_apply, mulf_apply]
  rw [broadcastTo_apply _ broadcasts_S1x2048_S256x2048 (ix2 a j) (ix2 0 j) (by intro b; match b with | ⟨0, _⟩ => rfl | ⟨1, _⟩ => rfl)]
  rw [broadcastTo_apply _ broadcasts_S256x1_S256x2048 (ix2 a j) (ix2 a 0) (by intro b; match b with | ⟨0, _⟩ => rfl | ⟨1, _⟩ => rfl)]
  have hs : (shapeCast S256x1 (multiReduction (F := Ideal) (φ := .f32) .add [1] S256 (mulf x x) 0x00000000#32 reduces_S256x2048_S256 (.inl rfl) rfl) shapeCasts_S256_S256x1 : FVec Ideal S256x1 .f32) (ix2 a 0)
      = ∑ k : Fin 2048, (x (ix2 a k) * x (ix2 a k) : EReal) := by
    rw [shapeCast_apply _ shapeCasts_S256_S256x1 (ix2 a 0) (ix1 a) (by rw [Shape.rowMajor_val_two, Shape.rowMajor_val_one]; show a.val = a.val * 1 + 0; omega)]
    refine (Ideal.multiReduction_add_single _ _ reduces_S256x2048_S256 _ _ (ix1 a)).trans ?_
    refine Finset.sum_congr rfl fun k _ => ?_
    have e : reduces_S256x2048_S256.lift (ix1 a) k = ix2 a k := by
      funext b
      match b with | ⟨0, _⟩ => rfl | ⟨1, _⟩ => rfl
    rw [e]
    rfl
  unfold rms
  rw [← hs]
  rfl

/-- A head's 128 columns normalised over themselves and scaled. -/
def headOf (z : FVec Ideal S256x128 .f32) (g : Vec Ideal S1x128 .f32) : FVec Ideal S256x128 .f32 :=
  mulf (mulf z (broadcastTo S256x128 (rsqrt (addf (divf (shapeCast S256x1 (multiReduction .add [1] S256 (mulf z z) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128))
    (broadcastTo S256x128 g broadcasts_S1x128_S256x128)

theorem headOf_apply (z : FVec Ideal S256x128 .f32) (g : Vec Ideal S1x128 .f32) (a : Fin 256) (d : Fin 128) :
    headOf z g (ix2 a d) = rms 0x43000000#32 (fun k => z (ix2 a k)) g d := by
  unfold headOf
  rw [mulf_apply, mulf_apply]
  rw [broadcastTo_apply _ broadcasts_S1x128_S256x128 (ix2 a d) (ix2 0 d) (by intro b; match b with | ⟨0, _⟩ => rfl | ⟨1, _⟩ => rfl)]
  rw [broadcastTo_apply _ broadcasts_S256x1_S256x128 (ix2 a d) (ix2 a 0) (by intro b; match b with | ⟨0, _⟩ => rfl | ⟨1, _⟩ => rfl)]
  have hs : (shapeCast S256x1 (multiReduction (F := Ideal) (φ := .f32) .add [1] S256 (mulf z z) 0x00000000#32 reduces_S256x128_S256 (.inl rfl) rfl) shapeCasts_S256_S256x1 : FVec Ideal S256x1 .f32) (ix2 a 0)
      = ∑ k : Fin 128, (z (ix2 a k) * z (ix2 a k) : EReal) := by
    rw [shapeCast_apply _ shapeCasts_S256_S256x1 (ix2 a 0) (ix1 a) (by rw [Shape.rowMajor_val_two, Shape.rowMajor_val_one]; show a.val = a.val * 1 + 0; omega)]
    refine (Ideal.multiReduction_add_single _ _ reduces_S256x128_S256 _ _ (ix1 a)).trans ?_
    refine Finset.sum_congr rfl fun k _ => ?_
    have e : reduces_S256x128_S256.lift (ix1 a) k = ix2 a k := by
      funext b
      match b with | ⟨0, _⟩ => rfl | ⟨1, _⟩ => rfl
    rw [e]
    rfl
  unfold rms
  rw [← hs]
  rfl

variable (x0 : Vec Ideal S256x2048 .f32) (x1 : Vec Ideal S1x2048 .f32) (w : Vec Ideal S2048x512 .f32) (gh : Vec Ideal S1x128 .f32)

/-- The rows of a block. -/
abbrev rows : Fin 256 → Fin 2048 → EReal := fun a k => x0 (ix2 a k)

/-- The block's rows, normalised and multiplied by the weight. -/
def seg : FVec Ideal S256x512 .f32 :=
  matmul (F := Ideal) (φ₁ := .bf16) (φ₂ := .bf16) (DotDims.plain 256 2048 512) none
    (k0_pay9 (View.ld x0 (Rect.unit ![0, 0] ![256, 2048] inb_S256x2048_S256x2048_0_0)) (View.ld x1 (Rect.unit ![0, 0] ![1, 2048] inb_S1x2048_S1x2048_0_0)))
    (truncf .bf16 (View.ld w (Rect.unit ![0, 0] ![2048, 512] inb_S2048x512_S2048x512_0_0) : FVec Ideal S2048x512 .f32) bitsLt_bf16_f32)
    (constant S256x512 .f32 0x00000000#32)

theorem seg_apply (a : Fin 256) (j : Fin 512) : seg x0 x1 w (ix2 a j) = thru (rows x0 a) x1 w j.val := by
  unfold seg
  refine (Ideal.matmul_plain_apply (M := 256) (K := 2048) (N := 512) none _ _ _ a j).trans ?_
  rw [constant_apply, Ideal.ofBits_zero_f32, zero_add]
  unfold thru
  refine Finset.sum_congr rfl fun k _ => congrArg₂ (· * ·) ?_ ?_
  · rw [normed_apply]
    have e1 : (View.ld x1 (Rect.unit ![0, 0] ![1, 2048] inb_S1x2048_S1x2048_0_0) : Vec Ideal S1x2048 .f32) = x1 := View.ld_unit_lit (S := S1x2048) inb_S1x2048_S1x2048_0_0 x1 (by decide)
    have e0 : (View.ld x0 (Rect.unit ![0, 0] ![256, 2048] inb_S256x2048_S256x2048_0_0) : Vec Ideal S256x2048 .f32) = x0 := View.ld_unit_lit (S := S256x2048) inb_S256x2048_S256x2048_0_0 x0 (by decide)
    exact congrArg₂ (fun (y : Vec Ideal S256x2048 .f32) (g : Vec Ideal S1x2048 .f32) => rms 0x45000000#32 (rows y a) g k) e0 e1
  · rw [truncf_apply]
    have e : (View.ld w (Rect.unit ![0, 0] ![2048, 512] inb_S2048x512_S2048x512_0_0) : Vec Ideal S2048x512 .f32) = w := View.ld_unit_lit (S := S2048x512) inb_S2048x512_S2048x512_0_0 w (by decide)
    refine (congrFun e (ix2 k j)).trans (congrArg w (congrArg (ix2 k) (Fin.ext (Nat.mod_eq_of_lt j.isLt).symm)))

/-- A head cut out of the keys and normalised. -/
theorem head_apply (s : ℕ) (hs : S256x512.Slices ![0, s] S256x128) (hsn : s + 128 ≤ 512) (a : Fin 256) (d : Fin 128) :
    headOf (extractStridedSlice S256x128 ![0, s] (seg x0 x1 w) hs) (View.ld gh (Rect.unit ![0, 0] ![1, 128] inb_S1x128_S1x128_0_0)) (ix2 a d)
      = head (rows x0 a) x1 w gh s d := by
  rw [headOf_apply]
  unfold head
  have e1 : (View.ld gh (Rect.unit ![0, 0] ![1, 128] inb_S1x128_S1x128_0_0) : Vec Ideal S1x128 .f32) = gh := View.ld_unit_lit (S := S1x128) inb_S1x128_S1x128_0_0 gh (by decide)
  refine congrArg₂ (fun (y : Fin 128 → EReal) (g : Vec Ideal S1x128 .f32) => rms 0x43000000#32 y g d) (funext fun t => ?_) e1
  rw [extractStridedSlice_apply _ _ hs (ix2 a t) (ix2 a ⟨s + t.val, by omega⟩) (by intro b; match b with | ⟨0, _⟩ => exact (Nat.zero_add _).symm | ⟨1, _⟩ => rfl)]
  rw [seg_apply]

/-- A piece of the keys stored side by side: a head, from column `s` on. -/
theorem keys_piece (s : ℕ) (hs : S256x512.Slices ![0, s] S256x128) (hr : ∀ a, ![0, s] a + ![256, 128] a ≤ S256x512.size a)
    (hsn : s + 128 ≤ 512) (h128 : s % 128 = 0) (x : S256x128.Idx) :
    headOf (extractStridedSlice S256x128 ![0, s] (seg x0 x1 w) hs) (View.ld gh (Rect.unit ![0, 0] ![1, 128] inb_S1x128_S1x128_0_0)) x
      = keys (rows x0) x1 w gh ((Rect.unit (s := S256x512) ![0, s] ![256, 128] hr).emb x) := by
  obtain ⟨a, d, rfl⟩ : ∃ (a : Fin 256) (d : Fin 128), x = ix2 a d := ⟨_, _, eq_ix2 x⟩
  rw [head_apply x0 x1 w gh s hs hsn]
  unfold keys
  have e0 : ((Rect.unit (s := S256x512) ![0, s] ![256, 128] hr).emb (ix2 a d)) 0 = a := Fin.ext (by show 0 + 1 * a.val = a.val; omega)
  have e1 : (((Rect.unit (s := S256x512) ![0, s] ![256, 128] hr).emb (ix2 a d)) 1).val = s + d.val := by show s + 1 * d.val = _; omega
  rw [e0]
  have h1 : (((Rect.unit (s := S256x512) ![0, s] ![256, 128] hr).emb (ix2 a d)) 1).val / 128 * 128 = s := by rw [e1]; have := d.isLt; omega
  have h2 : (⟨(((Rect.unit (s := S256x512) ![0, s] ![256, 128] hr).emb (ix2 a d)) 1).val % 128, Nat.mod_lt _ (by decide)⟩ : Fin 128) = d := Fin.ext (by show _ % 128 = d.val; rw [e1]; have := d.isLt; omega)
  rw [h1, h2]

/-- The values stored side by side. -/
theorem values_eq : seg x0 x1 w = values (rows x0) x1 w := by
  funext x
  obtain ⟨a, d, rfl⟩ : ∃ (a : Fin 256) (d : Fin 512), x = ix2 a d := ⟨_, _, eq_ix2 x⟩
  exact seg_apply x0 x1 w a d

/-- A stripe of the key rows: head `n`, at every fourth row from `n` on. -/
theorem key_piece (n s : ℕ) (hs : S256x512.Slices ![0, s] S256x128) (hsn : s = n * 128) (hr) (hn : n < 4) (x : S256x128.Idx) :
    headOf (extractStridedSlice S256x128 ![0, s] (seg x0 x1 w) hs) (View.ld gh (Rect.unit ![0, 0] ![1, 128] inb_S1x128_S1x128_0_0)) x
      = keyRows (rows x0) x1 w gh (P := 1024) rfl ((⟨⟨![n, 0], S256x128.size, ![4, 1], hr⟩, spos_4_1⟩ : Rect S1024x128).emb x) := by
  obtain ⟨a, d, rfl⟩ : ∃ (a : Fin 256) (d : Fin 128), x = ix2 a d := ⟨_, _, eq_ix2 x⟩
  subst hsn
  rw [head_apply x0 x1 w gh _ hs (by omega)]
  unfold keyRows
  have e0 : (((⟨⟨![n, 0], S256x128.size, ![4, 1], hr⟩, spos_4_1⟩ : Rect S1024x128).emb (ix2 a d)) 0).val = n + 4 * a.val := rfl
  have e1 : ((⟨⟨![n, 0], S256x128.size, ![4, 1], hr⟩, spos_4_1⟩ : Rect S1024x128).emb (ix2 a d)) 1 = d := Fin.ext (by show 0 + 1 * d.val = _; omega)
  have h0 : quarter (M := 256) (P := 1024) rfl (((⟨⟨![n, 0], S256x128.size, ![4, 1], hr⟩, spos_4_1⟩ : Rect S1024x128).emb (ix2 a d)) 0) = a := Fin.ext (by show _ / 4 = a.val; rw [e0]; omega)
  have h1 : (((⟨⟨![n, 0], S256x128.size, ![4, 1], hr⟩, spos_4_1⟩ : Rect S1024x128).emb (ix2 a d)) 0).val % 4 * 128 = n * 128 := by rw [e0]; omega
  rw [h0, h1, e1]

/-- A stripe of the value rows. -/
theorem value_piece (n s : ℕ) (hs : S256x512.Slices ![0, s] S256x128) (hsn : s = n * 128) (hr) (hn : n < 4) (x : S256x128.Idx) :
    extractStridedSlice S256x128 ![0, s] (seg x0 x1 w) hs x
      = valueRows (rows x0) x1 w (P := 1024) rfl ((⟨⟨![n, 0], S256x128.size, ![4, 1], hr⟩, spos_4_1⟩ : Rect S1024x128).emb x) := by
  obtain ⟨a, d, rfl⟩ : ∃ (a : Fin 256) (d : Fin 128), x = ix2 a d := ⟨_, _, eq_ix2 x⟩
  subst hsn
  rw [extractStridedSlice_apply _ _ hs (ix2 a d) (ix2 a ⟨n * 128 + d.val, by omega⟩) (by intro b; match b with | ⟨0, _⟩ => exact (Nat.zero_add _).symm | ⟨1, _⟩ => rfl)]
  rw [seg_apply]
  unfold valueRows
  have e0 : (((⟨⟨![n, 0], S256x128.size, ![4, 1], hr⟩, spos_4_1⟩ : Rect S1024x128).emb (ix2 a d)) 0).val = n + 4 * a.val := rfl
  have e1 : ((⟨⟨![n, 0], S256x128.size, ![4, 1], hr⟩, spos_4_1⟩ : Rect S1024x128).emb (ix2 a d)) 1 = d := Fin.ext (by show 0 + 1 * d.val = _; omega)
  have h0 : quarter (M := 256) (P := 1024) rfl (((⟨⟨![n, 0], S256x128.size, ![4, 1], hr⟩, spos_4_1⟩ : Rect S1024x128).emb (ix2 a d)) 0) = a := Fin.ext (by show _ / 4 = a.val; rw [e0]; omega)
  have h1 : (((⟨⟨![n, 0], S256x128.size, ![4, 1], hr⟩, spos_4_1⟩ : Rect S1024x128).emb (ix2 a d)) 0).val % 4 * 128 = n * 128 := by rw [e0]; omega
  rw [h0, h1, e1]

end Cert.KvIdeal.Tile

end
-- ==== Proof.KvBlocks.lean ====
/- What the body leaves in each output block: its pieces, put side by side, are one formula of the block's rows. -/
module

public import proofs.«01_k».proof.Proof.KvTile

@[expose] public section

set_option maxRecDepth 16384

noncomputable section

namespace Cert.KvIdeal.Tile

open Cert.KvIdeal Cert.KvIdeal.Gen Cert.KvIdeal.Body Cert.Memory Idealize.ShloMosaic Idealize.ShloMosaic.TcCoe Idealize.SL.Sem Idealize.ShloMosaic.Tactic
open Idealize.ShloMosaic.ValueIdx

section Points

variable (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x512 .f32) (harg3 : arg3.IsWhole) (arg4 : Memref sig .tc .vmem S2048x512 .f32) (harg4 : arg4.IsWhole) (arg5 : Memref sig .tc .vmem S1x128 .f32) (harg5 : arg5.IsWhole) (arg6 : Memref sig .tc .vmem S512x3584 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S256x512 .bf16) (harg9 : arg9.IsWhole) (arg10 : Memref sig .tc .vmem S256x512 .bf16) (harg10 : arg10.IsWhole) (arg11 : Memref sig .tc .vmem S512x3584 .bf16) (harg11 : arg11.IsWhole)
    (x0 : Vec Ideal S256x2048 .f32) (x1 : Vec Ideal S1x2048 .f32) (x2 : Vec Ideal S2048x512 .f32) (x3 : Vec Ideal S2048x512 .f32) (x4 : Vec Ideal S1x128 .f32) (x5 : Vec Ideal S512x3584 .f32)

set_option maxHeartbeats 2000000 in
/-- Output 0's block: the normalised keys, a head a row. -/
theorem block6 :
    out6 (F := Ideal) c i arg1 harg1 arg2 harg2 arg3 harg3 arg4 harg4 arg5 harg5 arg6 harg6 arg7 harg7 arg8 harg8 arg9 harg9 arg10 harg10 arg11 harg11 x0 x1 x2 x3 x4 x5 = keyRows (rows x0) x1 x2 x4 (P := 1024) rfl := by
  funext y
  have hc := cover6 (F := Ideal) c i arg1 harg1 arg2 harg2 arg3 harg3 arg4 harg4 arg5 harg5 arg6 harg6 arg7 harg7 arg8 harg8 arg9 harg9 arg10 harg10 arg11 harg11 x0 x1 x2 x3 x4 x5 y
  unfold out6
  refine View.canon_apply_of_pieces (keyRows (rows x0) x1 x2 x4 (P := 1024) rfl) _ ?_ y hc
  clear hc
  unfold run
  dsimp only
  sl_unfold_words
  simp only [View.readAt_eq_ld]
  rw [harg1.read_unread, harg2.read_unread, harg3.read_unread, harg5.read_unread]
  refine List.forall_mem_cons.mpr ⟨fun x => key_piece x0 x1 x2 x4 3 384 slices_S256x512_o0_384_S256x128 rfl inb_S1024x128_S256x128_3_0_s_4_1 (by decide) x, ?_⟩
  refine List.forall_mem_cons.mpr ⟨fun x => key_piece x0 x1 x2 x4 2 256 slices_S256x512_o0_256_S256x128 rfl inb_S1024x128_S256x128_2_0_s_4_1 (by decide) x, ?_⟩
  refine List.forall_mem_cons.mpr ⟨fun x => key_piece x0 x1 x2 x4 1 128 slices_S256x512_o0_128_S256x128 rfl inb_S1024x128_S256x128_1_0_s_4_1 (by decide) x, ?_⟩
  refine List.forall_mem_cons.mpr ⟨fun x => key_piece x0 x1 x2 x4 0 0 slices_S256x512_o0_0_S256x128 rfl inb_S1024x128_S256x128_0_0_s_4_1 (by decide) x, ?_⟩
  exact fun _ h => absurd h List.not_mem_nil

set_option maxHeartbeats 2000000 in
/-- Output 1's block: the values, a head a row. -/
theorem block7 :
    out7 (F := Ideal) c i arg1 harg1 arg2 harg2 arg3 harg3 arg4 harg4 arg5 harg5 arg6 harg6 arg7 harg7 arg8 harg8 arg9 harg9 arg10 harg10 arg11 harg11 x0 x1 x2 x3 x4 x5 = valueRows (rows x0) x1 x3 (P := 1024) rfl := by
  funext y
  have hc := cover7 (F := Ideal) c i arg1 harg1 arg2 harg2 arg3 harg3 arg4 harg4 arg5 harg5 arg6 harg6 arg7 harg7 arg8 harg8 arg9 harg9 arg10 harg10 arg11 harg11 x0 x1 x2 x3 x4 x5 y
  unfold out7
  refine View.canon_apply_of_pieces (valueRows (rows x0) x1 x3 (P := 1024) rfl) _ ?_ y hc
  clear hc
  unfold run
  dsimp only
  sl_unfold_words
  simp only [View.readAt_eq_ld]
  rw [harg1.read_unread, harg2.read_unread, harg4.read_unread]
  refine List.forall_mem_cons.mpr ⟨fun x => value_piece x0 x1 x3 3 384 slices_S256x512_o0_384_S256x128 rfl inb_S1024x128_S256x128_3_0_s_4_1 (by decide) x, ?_⟩
  refine List.forall_mem_cons.mpr ⟨fun x => value_piece x0 x1 x3 2 256 slices_S256x512_o0_256_S256x128 rfl inb_S1024x128_S256x128_2_0_s_4_1 (by decide) x, ?_⟩
  refine List.forall_mem_cons.mpr ⟨fun x => value_piece x0 x1 x3 1 128 slices_S256x512_o0_128_S256x128 rfl inb_S1024x128_S256x128_1_0_s_4_1 (by decide) x, ?_⟩
  refine List.forall_mem_cons.mpr ⟨fun x => value_piece x0 x1 x3 0 0 slices_S256x512_o0_0_S256x128 rfl inb_S1024x128_S256x128_0_0_s_4_1 (by decide) x, ?_⟩
  exact fun _ h => absurd h List.not_mem_nil

set_option maxHeartbeats 2000000 in
/-- Output 2's block: the normalised keys, a row of four heads. -/
theorem block8 :
    out8 (F := Ideal) c i arg1 harg1 arg2 harg2 arg3 harg3 arg4 harg4 arg5 harg5 arg6 harg6 arg7 harg7 arg8 harg8 arg9 harg9 arg10 harg10 arg11 harg11 x0 x1 x2 x3 x4 x5 = keys (rows x0) x1 x2 x4 := by
  funext y
  have hc := cover8 (F := Ideal) c i arg1 harg1 arg2 harg2 arg3 harg3 arg4 harg4 arg5 harg5 arg6 harg6 arg7 harg7 arg8 harg8 arg9 harg9 arg10 harg10 arg11 harg11 x0 x1 x2 x3 x4 x5 y
  unfold out8
  refine View.canon_apply_of_pieces (keys (rows x0) x1 x2 x4) _ ?_ y hc
  clear hc
  unfold run
  dsimp only
  sl_unfold_words
  simp only [View.readAt_eq_ld]
  rw [harg1.read_unread, harg2.read_unread, harg3.read_unread, harg5.read_unread]
  refine List.forall_mem_cons.mpr ⟨fun x => keys_piece x0 x1 x2 x4 384 slices_S256x512_o0_384_S256x128 inb_S256x512_S256x128_0_384 (by decide) (by decide) x, ?_⟩
  refine List.forall_mem_cons.mpr ⟨fun x => keys_piece x0 x1 x2 x4 256 slices_S256x512_o0_256_S256x128 inb_S256x512_S256x128_0_256 (by decide) (by decide) x, ?_⟩
  refine List.forall_mem_cons.mpr ⟨fun x => keys_piece x0 x1 x2 x4 128 slices_S256x512_o0_128_S256x128 inb_S256x512_S256x128_0_128 (by decide) (by decide) x, ?_⟩
  refine List.forall_mem_cons.mpr ⟨fun x => keys_piece x0 x1 x2 x4 0 slices_S256x512_o0_0_S256x128 inb_S256x512_S256x128_0_0 (by decide) (by decide) x, ?_⟩
  exact fun _ h => absurd h List.not_mem_nil

set_option maxHeartbeats 2000000 in
/-- Output 3's block: the values, a row of four heads. -/
theorem block9 :
    out9 (F := Ideal) c i arg1 harg1 arg2 harg2 arg3 harg3 arg4 harg4 arg5 harg5 arg6 harg6 arg7 harg7 arg8 harg8 arg9 harg9 arg10 harg10 arg11 harg11 x0 x1 x2 x3 x4 x5 = values (rows x0) x1 x3 := by
  unfold out9
  unfold run
  dsimp only
  sl_unfold_words
  simp only [View.readAt_eq_ld]
  rw [harg1.read_unread, harg2.read_unread, harg4.read_unread]
  refine (View.canon_unit_zero (by funext a; match a with | ⟨0, _⟩ => rfl | ⟨1, _⟩ => rfl) _ _).trans ?_
  exact values_eq x0 x1 x3

set_option maxHeartbeats 2000000 in
/-- Output 4's block: the input projection's rows as they are. -/
theorem block10 :
    out10 (F := Ideal) c i arg1 harg1 arg2 harg2 arg3 harg3 arg4 harg4 arg5 harg5 arg6 harg6 arg7 harg7 arg8 harg8 arg9 harg9 arg10 harg10 arg11 harg11 x0 x1 x2 x3 x4 x5 = (x5 : S512x3584.Idx → EReal) := by
  unfold out10
  unfold run
  dsimp only
  sl_unfold_words
  simp only [View.readAt_eq_ld]
  rw [harg6.read_unread]
  refine (View.canon_unit_zero (by funext a; match a with | ⟨0, _⟩ => rfl | ⟨1, _⟩ => rfl) _ _).trans ?_
  exact View.ld_unit_lit (S := S512x3584) inb_S512x3584_S512x3584_0_0 x5 (by decide)

end Points

end Cert.KvIdeal.Tile

end
-- ==== Proof.KvArrays.lean ====
/- From the blocks the grid points leave to the five arrays the call leaves. -/
module

public import proofs.«01_k».proof.Proof.KvBlocks
public import proofs.«01_k».proof.Proof.Gen.KvIdeal.Points

@[expose] public section

set_option maxRecDepth 16384

noncomputable section

namespace Cert.KvIdeal.Tile

open Cert.KvIdeal Cert.KvIdeal.Gen Cert.KvIdeal.Body Cert.Memory Idealize.ShloMosaic Idealize.ShloMosaic.TcCoe Idealize.SL.Sem
open Idealize.ShloMosaic.ValueIdx

variable (m : (ℓ : Loc nD τ sig) → Buf (Elt Ideal) ℓ)

/-- The rows of the memory. -/
abbrev input (c : Dev nD) : Fin 1024 → Fin 2048 → EReal := fun ρ k => m ((c : Thread nD τ).loc main_arg0) (ix2 ρ k)

/-- The memory's row that a point's block has at `a`. -/
abbrev rowOf (t : Fin cfg0.N) (a : Fin 256) : Fin 1024 := ⟨t.val * 256 + a.val, by have := lt_of_lt_of_eq t.isLt N_0; omega⟩

/-- The input projection's row that a point's block has at `a`. -/
abbrev outRow (t : Fin cfg0.N) (a : Fin 512) : Fin 2048 := ⟨t.val * 512 + a.val, by have := lt_of_lt_of_eq t.isLt N_0; omega⟩

/-- The row, a head to each, that a point's block has at `a`. -/
abbrev headRow (t : Fin cfg0.N) (a : Fin 1024) : Fin 4096 := ⟨t.val * 1024 + a.val, by have := lt_of_lt_of_eq t.isLt N_0; omega⟩

/-! ## What a point reads -/

theorem index_0 : ∀ t : Fin cfg0.N, win0_0.index t 0 = t.val ∧ win0_0.index t 1 = 0 :=
  (by decide +kernel : ∀ t : Fin grid0.N, win0_0.index t 0 = t.val ∧ win0_0.index t 1 = 0)

theorem index_5 : ∀ t : Fin cfg0.N, win0_5.index t 0 = t.val ∧ win0_5.index t 1 = 0 :=
  (by decide +kernel : ∀ t : Fin grid0.N, win0_5.index t 0 = t.val ∧ win0_5.index t 1 = 0)

theorem rows_eq (c : Dev nD) (t : Fin cfg0.N) : rows (iblk m c 0 t) = fun a => input m c (rowOf t a) := by
  have hi := index_0 t
  funext a l
  show (iblk m c 0 t : Vec Ideal S256x2048 .f32) (ix2 a l) = m ((c : Thread nD τ).loc main_arg0) (ix2 (rowOf t a) l)
  unfold iblk
  rw [View.read_apply]
  show V m c main_arg0 _ = m (c.tc.loc main_arg0) _
  rw [V_main_arg0]
  refine congrArg (m (c.tc.loc main_arg0)) (funext fun b => Fin.ext ?_)
  match b with
  | ⟨0, _⟩ => show win0_0.index t 0 * 256 + 1 * a.val = t.val * 256 + a.val; rw [hi.1]; omega
  | ⟨1, _⟩ => show win0_0.index t 1 * 2048 + 1 * l.val = l.val; rw [hi.2]; omega

theorem weights_apply (c : Dev nD) (t : Fin cfg0.N) (a : Fin 512) (l : Fin 3584) :
    (iblk m c 5 t : Vec Ideal S512x3584 .f32) (ix2 a l) = m ((c : Thread nD τ).loc main_arg5) (ix2 (outRow t a) l) := by
  have hi := index_5 t
  unfold iblk
  rw [View.read_apply]
  show V m c main_arg5 _ = m (c.tc.loc main_arg5) _
  rw [V_main_arg5]
  refine congrArg (m (c.tc.loc main_arg5)) (funext fun b => Fin.ext ?_)
  match b with
  | ⟨0, _⟩ => show win0_5.index t 0 * 512 + 1 * a.val = t.val * 512 + a.val; rw [hi.1]; omega
  | ⟨1, _⟩ => show win0_5.index t 1 * 3584 + 1 * l.val = l.val; rw [hi.2]; omega

theorem index_1 : ∀ t : Fin cfg0.N, win0_1.index t 0 = 0 ∧ win0_1.index t 1 = 0 :=
  (by decide +kernel : ∀ t : Fin grid0.N, win0_1.index t 0 = 0 ∧ win0_1.index t 1 = 0)

theorem whole_1 (c : Dev nD) (t : Fin cfg0.N) : (iblk m c 1 t : Vec Ideal S1x2048 .f32) = m ((c : Thread nD τ).loc main_arg1) := by
  have hi := index_1 t
  funext i
  unfold iblk
  rw [View.read_apply]
  show V m c main_arg1 _ = m (c.tc.loc main_arg1) i
  rw [V_main_arg1]
  refine congrArg (m (c.tc.loc main_arg1)) (funext fun b => Fin.ext ?_)
  match b with
  | ⟨0, _⟩ => show win0_1.index t 0 * 1 + 1 * (i 0).val = (i 0).val; rw [hi.1]; omega
  | ⟨1, _⟩ => show win0_1.index t 1 * 2048 + 1 * (i 1).val = (i 1).val; rw [hi.2]; omega

theorem index_2 : ∀ t : Fin cfg0.N, win0_2.index t 0 = 0 ∧ win0_2.index t 1 = 0 :=
  (by decide +kernel : ∀ t : Fin grid0.N, win0_2.index t 0 = 0 ∧ win0_2.index t 1 = 0)

theorem whole_2 (c : Dev nD) (t : Fin cfg0.N) : (iblk m c 2 t : Vec Ideal S2048x512 .f32) = m ((c : Thread nD τ).loc main_arg2) := by
  have hi := index_2 t
  funext i
  unfold iblk
  rw [View.read_apply]
  show V m c main_arg2 _ = m (c.tc.loc main_arg2) i
  rw [V_main_arg2]
  refine congrArg (m (c.tc.loc main_arg2)) (funext fun b => Fin.ext ?_)
  match b with
  | ⟨0, _⟩ => show win0_2.index t 0 * 2048 + 1 * (i 0).val = (i 0).val; rw [hi.1]; omega
  | ⟨1, _⟩ => show win0_2.index t 1 * 512 + 1 * (i 1).val = (i 1).val; rw [hi.2]; omega

theorem index_3 : ∀ t : Fin cfg0.N, win0_3.index t 0 = 0 ∧ win0_3.index t 1 = 0 :=
  (by decide +kernel : ∀ t : Fin grid0.N, win0_3.index t 0 = 0 ∧ win0_3.index t 1 = 0)

theorem whole_3 (c : Dev nD) (t : Fin cfg0.N) : (iblk m c 3 t : Vec Ideal S2048x512 .f32) = m ((c : Thread nD τ).loc main_arg3) := by
  have hi := index_3 t
  funext i
  unfold iblk
  rw [View.read_apply]
  show V m c main_arg3 _ = m (c.tc.loc main_arg3) i
  rw [V_main_arg3]
  refine congrArg (m (c.tc.loc main_arg3)) (funext fun b => Fin.ext ?_)
  match b with
  | ⟨0, _⟩ => show win0_3.index t 0 * 2048 + 1 * (i 0).val = (i 0).val; rw [hi.1]; omega
  | ⟨1, _⟩ => show win0_3.index t 1 * 512 + 1 * (i 1).val = (i 1).val; rw [hi.2]; omega

theorem index_4 : ∀ t : Fin cfg0.N, win0_4.index t 0 = 0 ∧ win0_4.index t 1 = 0 :=
  (by decide +kernel : ∀ t : Fin grid0.N, win0_4.index t 0 = 0 ∧ win0_4.index t 1 = 0)

theorem whole_4 (c : Dev nD) (t : Fin cfg0.N) : (iblk m c 4 t : Vec Ideal S1x128 .f32) = m ((c : Thread nD τ).loc main_arg4) := by
  have hi := index_4 t
  funext i
  unfold iblk
  rw [View.read_apply]
  show V m c main_arg4 _ = m (c.tc.loc main_arg4) i
  rw [V_main_arg4]
  refine congrArg (m (c.tc.loc main_arg4)) (funext fun b => Fin.ext ?_)
  match b with
  | ⟨0, _⟩ => show win0_4.index t 0 * 1 + 1 * (i 0).val = (i 0).val; rw [hi.1]; omega
  | ⟨1, _⟩ => show win0_4.index t 1 * 128 + 1 * (i 1).val = (i 1).val; rw [hi.2]; omega

/-! ## Result 0: the keys, a head a row -/

theorem after_6 (c : Dev nD) (t : Fin cfg0.N) : after6 m c t = keyRows (fun a => input m c (rowOf t a)) (m ((c : Thread nD τ).loc main_arg1)) (m ((c : Thread nD τ).loc main_arg2)) (m ((c : Thread nD τ).loc main_arg4)) (P := 1024) rfl := by
  unfold after6 atPoint
  rw [block6, rows_eq, whole_1, whole_2, whole_4]

theorem index_6 : ∀ t : Fin cfg0.N, win0_6.index t 0 = t.val ∧ win0_6.index t 1 = 0 :=
  (by decide +kernel : ∀ t : Fin grid0.N, win0_6.index t 0 = t.val ∧ win0_6.index t 1 = 0)

theorem apart_6 (t t' : Fin cfg0.N) (_ : (cfg0.win 6).flush t = true) (_ : (cfg0.win 6).flush t' = true) (hne : t ≠ t') :
    Disjoint ((cfg0.win 6).blk t).view.set ((cfg0.win 6).blk t').view.set :=
  (cfg0.win 6).disjoint_blk fun h => hne (Fin.ext ((index_6 t).1.symm.trans ((congrFun h 0).trans (index_6 t').1)))

theorem place_6 (t : Fin cfg0.N) (a : Fin 1024) (l : Fin 128) : (((cfg0.win 6).blk t).view.emb (ix2 a l) : S4096x128.Idx) = ix2 (headRow t a) l := by
  have hi := index_6 t
  refine funext fun b => Fin.ext ?_
  match b with
  | ⟨0, _⟩ => show win0_6.index t 0 * 1024 + 1 * a.val = t.val * 1024 + a.val; rw [hi.1]; omega
  | ⟨1, _⟩ => show win0_6.index t 1 * 128 + 1 * l.val = l.val; rw [hi.2]; omega

theorem array_6 (c : Dev nD) : ((dats m 0 c).arrAt 6 cfg0.N : S4096x128.Idx → EReal) = keyRows (input m c) (m ((c : Thread nD τ).loc main_arg1)) (m ((c : Thread nD τ).loc main_arg2)) (m ((c : Thread nD τ).loc main_arg4)) (P := 4096) rfl := by
  funext i
  obtain ⟨ρ, l, rfl⟩ : ∃ ρ l, i = ix2 ρ l := ⟨i 0, i 1, eq_ix2 i⟩
  have hN : cfg0.N = 4 := N_0
  let t : Fin cfg0.N := ⟨ρ.val / 1024, by omega⟩
  let a : Fin 1024 := ⟨ρ.val % 1024, by omega⟩
  have hρ : ρ = headRow t a := Fin.ext (by show ρ.val = ρ.val / 1024 * 1024 + ρ.val % 1024; omega)
  clear_value t a
  subst hρ
  have hb := congrFun ((dats m 0 c).read_blk_arrAt_eq_flushed 6 apart_6 cfg0.N t t.isLt (flush0_6 t)) (ix2 a l)
  rw [View.read_apply] at hb
  have hp : ((dats m 0 c).arrAt 6 cfg0.N : S4096x128.Idx → EReal) (((cfg0.win 6).blk t).view.emb (ix2 a l)) = after6 m c t (ix2 a l) :=
    hb.trans (congrFun (dats_after6 m c t) (ix2 a l))
  rw [place_6, after_6] at hp
  refine hp.trans ?_
  have e1 : quarter (M := 1024) rfl (headRow t a) = rowOf t (quarter (M := 256) rfl a) := Fin.ext (by show (t.val * 1024 + a.val) / 4 = t.val * 256 + a.val / 4; omega)
  have e2 : (headRow t a).val % 4 = a.val % 4 := by show (t.val * 1024 + a.val) % 4 = a.val % 4; omega
  show head (input m c (rowOf t (quarter (M := 256) rfl a))) (m ((c : Thread nD τ).loc main_arg1)) (m ((c : Thread nD τ).loc main_arg2)) (m ((c : Thread nD τ).loc main_arg4)) (a.val % 4 * 128) l
    = head (input m c (quarter (M := 1024) rfl (headRow t a))) (m ((c : Thread nD τ).loc main_arg1)) (m ((c : Thread nD τ).loc main_arg2)) (m ((c : Thread nD τ).loc main_arg4)) ((headRow t a).val % 4 * 128) l
  rw [e1, e2]

/-! ## Result 1: the values, a head a row -/

theorem after_7 (c : Dev nD) (t : Fin cfg0.N) : after7 m c t = valueRows (fun a => input m c (rowOf t a)) (m ((c : Thread nD τ).loc main_arg1)) (m ((c : Thread nD τ).loc main_arg3)) (P := 1024) rfl := by
  unfold after7 atPoint
  rw [block7, rows_eq, whole_1, whole_3]

theorem index_7 : ∀ t : Fin cfg0.N, win0_7.index t 0 = t.val ∧ win0_7.index t 1 = 0 :=
  (by decide +kernel : ∀ t : Fin grid0.N, win0_7.index t 0 = t.val ∧ win0_7.index t 1 = 0)

theorem apart_7 (t t' : Fin cfg0.N) (_ : (cfg0.win 7).flush t = true) (_ : (cfg0.win 7).flush t' = true) (hne : t ≠ t') :
    Disjoint ((cfg0.win 7).blk t).view.set ((cfg0.win 7).blk t').view.set :=
  (cfg0.win 7).disjoint_blk fun h => hne (Fin.ext ((index_7 t).1.symm.trans ((congrFun h 0).trans (index_7 t').1)))

theorem place_7 (t : Fin cfg0.N) (a : Fin 1024) (l : Fin 128) : (((cfg0.win 7).blk t).view.emb (ix2 a l) : S4096x128.Idx) = ix2 (headRow t a) l := by
  have hi := index_7 t
  refine funext fun b => Fin.ext ?_
  match b with
  | ⟨0, _⟩ => show win0_7.index t 0 * 1024 + 1 * a.val = t.val * 1024 + a.val; rw [hi.1]; omega
  | ⟨1, _⟩ => show win0_7.index t 1 * 128 + 1 * l.val = l.val; rw [hi.2]; omega

theorem array_7 (c : Dev nD) : ((dats m 0 c).arrAt 7 cfg0.N : S4096x128.Idx → EReal) = valueRows (input m c) (m ((c : Thread nD τ).loc main_arg1)) (m ((c : Thread nD τ).loc main_arg3)) (P := 4096) rfl := by
  funext i
  obtain ⟨ρ, l, rfl⟩ : ∃ ρ l, i = ix2 ρ l := ⟨i 0, i 1, eq_ix2 i⟩
  have hN : cfg0.N = 4 := N_0
  let t : Fin cfg0.N := ⟨ρ.val / 1024, by omega⟩
  let a : Fin 1024 := ⟨ρ.val % 1024, by omega⟩
  have hρ : ρ = headRow t a := Fin.ext (by show ρ.val = ρ.val / 1024 * 1024 + ρ.val % 1024; omega)
  clear_value t a
  subst hρ
  have hb := congrFun ((dats m 0 c).read_blk_arrAt_eq_flushed 7 apart_7 cfg0.N t t.isLt (flush0_7 t)) (ix2 a l)
  rw [View.read_apply] at hb
  have hp : ((dats m 0 c).arrAt 7 cfg0.N : S4096x128.Idx → EReal) (((cfg0.win 7).blk t).view.emb (ix2 a l)) = after7 m c t (ix2 a l) :=
    hb.trans (congrFun (dats_after7 m c t) (ix2 a l))
  rw [place_7, after_7] at hp
  refine hp.trans ?_
  have e1 : quarter (M := 1024) rfl (headRow t a) = rowOf t (quarter (M := 256) rfl a) := Fin.ext (by show (t.val * 1024 + a.val) / 4 = t.val * 256 + a.val / 4; omega)
  have e2 : (headRow t a).val % 4 = a.val % 4 := by show (t.val * 1024 + a.val) % 4 = a.val % 4; omega
  show thru (input m c (rowOf t (quarter (M := 256) rfl a))) (m ((c : Thread nD τ).loc main_arg1)) (m ((c : Thread nD τ).loc main_arg3)) (a.val % 4 * 128 + l.val)
    = thru (input m c (quarter (M := 1024) rfl (headRow t a))) (m ((c : Thread nD τ).loc main_arg1)) (m ((c : Thread nD τ).loc main_arg3)) ((headRow t a).val % 4 * 128 + l.val)
  rw [e1, e2]

/-! ## Result 2: the keys, a row of four heads -/

theorem after_8 (c : Dev nD) (t : Fin cfg0.N) : after8 m c t = keys (fun a => input m c (rowOf t a)) (m ((c : Thread nD τ).loc main_arg1)) (m ((c : Thread nD τ).loc main_arg2)) (m ((c : Thread nD τ).loc main_arg4)) := by
  unfold after8 atPoint
  rw [block8, rows_eq, whole_1, whole_2, whole_4]

theorem index_8 : ∀ t : Fin cfg0.N, win0_8.index t 0 = t.val ∧ win0_8.index t 1 = 0 :=
  (by decide +kernel : ∀ t : Fin grid0.N, win0_8.index t 0 = t.val ∧ win0_8.index t 1 = 0)

theorem apart_8 (t t' : Fin cfg0.N) (_ : (cfg0.win 8).flush t = true) (_ : (cfg0.win 8).flush t' = true) (hne : t ≠ t') :
    Disjoint ((cfg0.win 8).blk t).view.set ((cfg0.win 8).blk t').view.set :=
  (cfg0.win 8).disjoint_blk fun h => hne (Fin.ext ((index_8 t).1.symm.trans ((congrFun h 0).trans (index_8 t').1)))

theorem place_8 (t : Fin cfg0.N) (a : Fin 256) (l : Fin 512) : (((cfg0.win 8).blk t).view.emb (ix2 a l) : S1024x512.Idx) = ix2 (rowOf t a) l := by
  have hi := index_8 t
  refine funext fun b => Fin.ext ?_
  match b with
  | ⟨0, _⟩ => show win0_8.index t 0 * 256 + 1 * a.val = t.val * 256 + a.val; rw [hi.1]; omega
  | ⟨1, _⟩ => show win0_8.index t 1 * 512 + 1 * l.val = l.val; rw [hi.2]; omega

theorem array_8 (c : Dev nD) : ((dats m 0 c).arrAt 8 cfg0.N : S1024x512.Idx → EReal) = keys (input m c) (m ((c : Thread nD τ).loc main_arg1)) (m ((c : Thread nD τ).loc main_arg2)) (m ((c : Thread nD τ).loc main_arg4)) := by
  funext i
  obtain ⟨ρ, l, rfl⟩ : ∃ ρ l, i = ix2 ρ l := ⟨i 0, i 1, eq_ix2 i⟩
  have hN : cfg0.N = 4 := N_0
  let t : Fin cfg0.N := ⟨ρ.val / 256, by omega⟩
  let a : Fin 256 := ⟨ρ.val % 256, by omega⟩
  have hρ : ρ = rowOf t a := Fin.ext (by show ρ.val = ρ.val / 256 * 256 + ρ.val % 256; omega)
  clear_value t a
  subst hρ
  have hb := congrFun ((dats m 0 c).read_blk_arrAt_eq_flushed 8 apart_8 cfg0.N t t.isLt (flush0_8 t)) (ix2 a l)
  rw [View.read_apply] at hb
  have hp : ((dats m 0 c).arrAt 8 cfg0.N : S1024x512.Idx → EReal) (((cfg0.win 8).blk t).view.emb (ix2 a l)) = after8 m c t (ix2 a l) :=
    hb.trans (congrFun (dats_after8 m c t) (ix2 a l))
  rw [place_8, after_8] at hp
  refine hp.trans ?_
  rfl

/-! ## Result 3: the values, a row of four heads -/

theorem after_9 (c : Dev nD) (t : Fin cfg0.N) : after9 m c t = values (fun a => input m c (rowOf t a)) (m ((c : Thread nD τ).loc main_arg1)) (m ((c : Thread nD τ).loc main_arg3)) := by
  unfold after9 atPoint
  rw [block9, rows_eq, whole_1, whole_3]

theorem index_9 : ∀ t : Fin cfg0.N, win0_9.index t 0 = t.val ∧ win0_9.index t 1 = 0 :=
  (by decide +kernel : ∀ t : Fin grid0.N, win0_9.index t 0 = t.val ∧ win0_9.index t 1 = 0)

theorem apart_9 (t t' : Fin cfg0.N) (_ : (cfg0.win 9).flush t = true) (_ : (cfg0.win 9).flush t' = true) (hne : t ≠ t') :
    Disjoint ((cfg0.win 9).blk t).view.set ((cfg0.win 9).blk t').view.set :=
  (cfg0.win 9).disjoint_blk fun h => hne (Fin.ext ((index_9 t).1.symm.trans ((congrFun h 0).trans (index_9 t').1)))

theorem place_9 (t : Fin cfg0.N) (a : Fin 256) (l : Fin 512) : (((cfg0.win 9).blk t).view.emb (ix2 a l) : S1024x512.Idx) = ix2 (rowOf t a) l := by
  have hi := index_9 t
  refine funext fun b => Fin.ext ?_
  match b with
  | ⟨0, _⟩ => show win0_9.index t 0 * 256 + 1 * a.val = t.val * 256 + a.val; rw [hi.1]; omega
  | ⟨1, _⟩ => show win0_9.index t 1 * 512 + 1 * l.val = l.val; rw [hi.2]; omega

theorem array_9 (c : Dev nD) : ((dats m 0 c).arrAt 9 cfg0.N : S1024x512.Idx → EReal) = values (input m c) (m ((c : Thread nD τ).loc main_arg1)) (m ((c : Thread nD τ).loc main_arg3)) := by
  funext i
  obtain ⟨ρ, l, rfl⟩ : ∃ ρ l, i = ix2 ρ l := ⟨i 0, i 1, eq_ix2 i⟩
  have hN : cfg0.N = 4 := N_0
  let t : Fin cfg0.N := ⟨ρ.val / 256, by omega⟩
  let a : Fin 256 := ⟨ρ.val % 256, by omega⟩
  have hρ : ρ = rowOf t a := Fin.ext (by show ρ.val = ρ.val / 256 * 256 + ρ.val % 256; omega)
  clear_value t a
  subst hρ
  have hb := congrFun ((dats m 0 c).read_blk_arrAt_eq_flushed 9 apart_9 cfg0.N t t.isLt (flush0_9 t)) (ix2 a l)
  rw [View.read_apply] at hb
  have hp : ((dats m 0 c).arrAt 9 cfg0.N : S1024x512.Idx → EReal) (((cfg0.win 9).blk t).view.emb (ix2 a l)) = after9 m c t (ix2 a l) :=
    hb.trans (congrFun (dats_after9 m c t) (ix2 a l))
  rw [place_9, after_9] at hp
  refine hp.trans ?_
  rfl

/-! ## Result 4: the input projection's weights, as they were -/

theorem after_10 (c : Dev nD) (t : Fin cfg0.N) : after10 m c t = (iblk m c 5 t : Vec Ideal S512x3584 .f32) := by
  unfold after10 atPoint
  rw [block10]

theorem index_10 : ∀ t : Fin cfg0.N, win0_10.index t 0 = t.val ∧ win0_10.index t 1 = 0 :=
  (by decide +kernel : ∀ t : Fin grid0.N, win0_10.index t 0 = t.val ∧ win0_10.index t 1 = 0)

theorem apart_10 (t t' : Fin cfg0.N) (_ : (cfg0.win 10).flush t = true) (_ : (cfg0.win 10).flush t' = true) (hne : t ≠ t') :
    Disjoint ((cfg0.win 10).blk t).view.set ((cfg0.win 10).blk t').view.set :=
  (cfg0.win 10).disjoint_blk fun h => hne (Fin.ext ((index_10 t).1.symm.trans ((congrFun h 0).trans (index_10 t').1)))

theorem place_10 (t : Fin cfg0.N) (a : Fin 512) (l : Fin 3584) : (((cfg0.win 10).blk t).view.emb (ix2 a l) : S2048x3584.Idx) = ix2 (outRow t a) l := by
  have hi := index_10 t
  refine funext fun b => Fin.ext ?_
  match b with
  | ⟨0, _⟩ => show win0_10.index t 0 * 512 + 1 * a.val = t.val * 512 + a.val; rw [hi.1]; omega
  | ⟨1, _⟩ => show win0_10.index t 1 * 3584 + 1 * l.val = l.val; rw [hi.2]; omega

theorem array_10 (c : Dev nD) : ((dats m 0 c).arrAt 10 cfg0.N : S2048x3584.Idx → EReal) = (m ((c : Thread nD τ).loc main_arg5)) := by
  funext i
  obtain ⟨ρ, l, rfl⟩ : ∃ ρ l, i = ix2 ρ l := ⟨i 0, i 1, eq_ix2 i⟩
  have hN : cfg0.N = 4 := N_0
  let t : Fin cfg0.N := ⟨ρ.val / 512, by omega⟩
  let a : Fin 512 := ⟨ρ.val % 512, by omega⟩
  have hρ : ρ = outRow t a := Fin.ext (by show ρ.val = ρ.val / 512 * 512 + ρ.val % 512; omega)
  clear_value t a
  subst hρ
  have hb := congrFun ((dats m 0 c).read_blk_arrAt_eq_flushed 10 apart_10 cfg0.N t t.isLt (flush0_10 t)) (ix2 a l)
  rw [View.read_apply] at hb
  have hp : ((dats m 0 c).arrAt 10 cfg0.N : S2048x3584.Idx → EReal) (((cfg0.win 10).blk t).view.emb (ix2 a l)) = after10 m c t (ix2 a l) :=
    hb.trans (congrFun (dats_after10 m c t) (ix2 a l))
  rw [place_10, after_10] at hp
  refine hp.trans ?_
  exact weights_apply m c t a l

/-- The call runs, leaves the five arrays at their formulas and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = keyRows (input m c) (m ((c : Thread nD τ).loc main_arg1)) (m ((c : Thread nD τ).loc main_arg2)) (m ((c : Thread nD τ).loc main_arg4)) (P := 4096) rfl
      ∧ r.2.mem ((c : Thread nD τ).loc main_v0_1) = valueRows (input m c) (m ((c : Thread nD τ).loc main_arg1)) (m ((c : Thread nD τ).loc main_arg3)) (P := 4096) rfl
      ∧ r.2.mem ((c : Thread nD τ).loc main_v0_2) = keys (input m c) (m ((c : Thread nD τ).loc main_arg1)) (m ((c : Thread nD τ).loc main_arg2)) (m ((c : Thread nD τ).loc main_arg4))
      ∧ r.2.mem ((c : Thread nD τ).loc main_v0_3) = values (input m c) (m ((c : Thread nD τ).loc main_arg1)) (m ((c : Thread nD τ).loc main_arg3))
      ∧ r.2.mem ((c : Thread nD τ).loc main_v0_4) = (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (array_6 m c),
      ((h c).1 7).trans (array_7 m c),
      ((h c).1 8).trans (array_8 m c),
      ((h c).1 9).trans (array_9 m c),
      ((h c).1 10).trans (array_10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KvIdeal.Tile

end
-- ==== Proof.KvRef.lean ====
/- The reference's five results, read off its operations at an index: the same formulas of the argument's rows. -/
module

public import proofs.«01_k».proof.Proof.Gen.KvRefIdeal.Read
public import proofs.«01_k».proof.Proof.KvSpec

@[expose] public section

noncomputable section

namespace Cert.KvRefIdeal.Val

open Cert.KvRefIdeal Cert.KvRefIdeal.Gen Cert.KvRefIdeal.Read Cert.Memory Idealize.ShloMosaic Idealize.ShloMosaic.ValueIdx
open Cert.Inputs (rms)

variable (x0 : (⟨S1024x2048, .f32⟩ : BufTy).Contents (Elt Ideal)) (x1 : (⟨S1x2048, .f32⟩ : BufTy).Contents (Elt Ideal)) (w : (⟨S2048x512, .f32⟩ : BufTy).Contents (Elt Ideal))

/-- A row of the argument. -/
abbrev row (ρ : Fin 1024) : Fin 2048 → EReal := fun k => x0 (ix2 ρ k)

/-- The normalised rows. -/
theorem normed_apply (ρ : Fin 1024) (k : Fin 2048) : val_main_v11 (F := Ideal) x0 x1 (ix2 ρ k) = rms 0x45000000#32 (row x0 ρ) x1 k := by
  have sum : val_main_v1 (F := Ideal) x0 (idx_main_v2 (idx_main_v8 (ix2 ρ k))) = ∑ q : Fin 2048, row x0 ρ q * row x0 ρ q := by
    rw [val_main_v1_apply, show (val_main_cst (F := Ideal)) (Shape.Idx.first h_S_) = 0 from Ideal.ofBits_zero_f32, zero_add]
    refine Finset.sum_congr rfl fun q _ => ?_
    rw [val_main_v0_apply, show idx_main_v1 (idx_main_v2 (idx_main_v8 (ix2 ρ k))) q = ix2 ρ q from (eq_ix2 _).trans rfl]
    rfl
  rw [val_main_v11_apply, val_main_v9_apply, val_main_v8_apply, val_main_v7_apply, val_main_v6_apply, val_main_v4_apply, val_main_v2_apply, sum,
    val_main_v3_apply, val_main_v5_apply, val_main_cst_0_apply, val_main_cst_1_apply, val_main_v10_apply,
    show idx_main_v10 (ix2 ρ k) = ix2 0 k from (eq_ix2 _).trans rfl]
  rfl

/-- The keys before their norm. -/
theorem thru_12 (ρ : Fin 1024) (j : Fin 512) : val_main_v12 (F := Ideal) x0 x1 w (ix2 ρ j) = thru (row x0 ρ) x1 w j.val := by
  rw [val_main_v12_apply]
  refine Finset.sum_congr rfl fun k _ => ?_
  rw [show lidx_main_v12 (ix2 ρ j) k = ix2 ρ k from (eq_ix2 _).trans rfl, normed_apply,
    show ridx_main_v12 (ix2 ρ j) k = ix2 k (colAt j.val) from (eq_ix2 _).trans (congrArg (ix2 k) (Fin.ext (Nat.mod_eq_of_lt j.isLt).symm))]

/-- The keys before their norm, a head at a time. -/
theorem piece_13 (ρ : Fin 1024) (h : Fin 4) (t : Fin 128) : val_main_v13 (F := Ideal) x0 x1 w (ix3 ρ h t) = thru (row x0 ρ) x1 w (h.val * 128 + t.val) := by
  have e : idx_main_v13 (ix3 ρ h t) = ix2 ρ (⟨h.val * 128 + t.val, by omega⟩ : Fin 512) := (eq_ix2 _).trans (congrArg₂ ix2
    (Fin.ext (by show ((ρ.val * 4 + h.val) * 128 + t.val) / 512 = ρ.val; omega)) (Fin.ext (by show ((ρ.val * 4 + h.val) * 128 + t.val) % 512 = h.val * 128 + t.val; omega)))
  rw [val_main_v13_apply, e, thru_12]

/-- The values. -/
theorem thru_28 (ρ : Fin 1024) (j : Fin 512) : val_main_v28 (F := Ideal) x0 x1 w (ix2 ρ j) = thru (row x0 ρ) x1 w j.val := by
  rw [val_main_v28_apply]
  refine Finset.sum_congr rfl fun k _ => ?_
  rw [show lidx_main_v28 (ix2 ρ j) k = ix2 ρ k from (eq_ix2 _).trans rfl, normed_apply,
    show ridx_main_v28 (ix2 ρ j) k = ix2 k (colAt j.val) from (eq_ix2 _).trans (congrArg (ix2 k) (Fin.ext (Nat.mod_eq_of_lt j.isLt).symm))]

/-- The values, a head at a time. -/
theorem piece_29 (ρ : Fin 1024) (h : Fin 4) (t : Fin 128) : val_main_v29 (F := Ideal) x0 x1 w (ix3 ρ h t) = thru (row x0 ρ) x1 w (h.val * 128 + t.val) := by
  have e : idx_main_v29 (ix3 ρ h t) = ix2 ρ (⟨h.val * 128 + t.val, by omega⟩ : Fin 512) := (eq_ix2 _).trans (congrArg₂ ix2
    (Fin.ext (by show ((ρ.val * 4 + h.val) * 128 + t.val) / 512 = ρ.val; omega)) (Fin.ext (by show ((ρ.val * 4 + h.val) * 128 + t.val) % 512 = h.val * 128 + t.val; omega)))
  rw [val_main_v29_apply, e, thru_28]

/-- The keys, each head normalised over itself. -/
theorem head_27 (x4 : (⟨S1x128, .f32⟩ : BufTy).Contents (Elt Ideal)) (ρ : Fin 1024) (h : Fin 4) (d : Fin 128) :
    val_main_v27 (F := Ideal) x0 x1 w x4 (ix3 ρ h d) = head (row x0 ρ) x1 w x4 (h.val * 128) d := by
  have sum : val_main_v16 (F := Ideal) x0 x1 w (idx_main_v17 (idx_main_v23 (ix3 ρ h d)))
      = ∑ q : Fin 128, thru (row x0 ρ) x1 w (h.val * 128 + q.val) * thru (row x0 ρ) x1 w (h.val * 128 + q.val) := by
    rw [val_main_v16_apply, show (val_main_cst_2 (F := Ideal)) (Shape.Idx.first h_S_) = 0 from Ideal.ofBits_zero_f32, zero_add]
    refine Finset.sum_congr rfl fun q _ => ?_
    rw [val_main_v15_apply, show idx_main_v16 (idx_main_v17 (idx_main_v23 (ix3 ρ h d))) q = ix3 ρ h q from (eq_ix3 _).trans rfl, piece_13]
    rfl
  rw [val_main_v27_apply, val_main_v24_apply, val_main_v23_apply, val_main_v22_apply, val_main_v21_apply, val_main_v19_apply, val_main_v17_apply, sum,
    val_main_v18_apply, val_main_v20_apply, val_main_cst_3_apply, val_main_cst_4_apply, val_main_v26_apply, val_main_v25_apply, val_main_v14_apply, piece_13,
    show idx_main_v14 (idx_main_v25 (idx_main_v26 (ix3 ρ h d))) = ix2 0 d from (eq_ix2 _).trans (congrArg (ix2 0) (Fin.ext (Nat.mod_eq_of_lt d.isLt)))]
  rfl

/-! ## The results -/

/-- The keys, a head a row. -/
theorem result_mk (x4 : (⟨S1x128, .f32⟩ : BufTy).Contents (Elt Ideal)) : val_main_v30 (F := Ideal) x0 x1 w x4 = keyRows (row x0) x1 w x4 (P := 4096) rfl := by
  funext i
  obtain ⟨r, d, rfl⟩ : ∃ r d, i = ix2 r d := ⟨i 0, i 1, eq_ix2 i⟩
  have e : idx_main_v30 (ix2 r d) = ix3 (quarter (M := 1024) rfl r) (⟨r.val % 4, by omega⟩ : Fin 4) d := by
    refine (eq_ix3 _).trans ?_
    have e0 : idx_main_v30 (ix2 r d) 0 = quarter (M := 1024) rfl r := Fin.ext (by show (r.val * 128 + d.val) / 512 = r.val / 4; omega)
    have e1 : idx_main_v30 (ix2 r d) 1 = (⟨r.val % 4, by omega⟩ : Fin 4) := Fin.ext (by show (r.val * 128 + d.val) / 128 % 4 = r.val % 4; omega)
    have e2 : idx_main_v30 (ix2 r d) 2 = d := Fin.ext (by show (r.val * 128 + d.val) % 128 = d.val; omega)
    rw [e0, e1, e2]; rfl
  rw [val_main_v30_apply, e, head_27]
  rfl

/-- The values, a head a row. -/
theorem result_mv : val_main_v31 (F := Ideal) x0 x1 w = valueRows (row x0) x1 w (P := 4096) rfl := by
  funext i
  obtain ⟨r, d, rfl⟩ : ∃ r d, i = ix2 r d := ⟨i 0, i 1, eq_ix2 i⟩
  have e : idx_main_v31 (ix2 r d) = ix3 (quarter (M := 1024) rfl r) (⟨r.val % 4, by omega⟩ : Fin 4) d := by
    refine (eq_ix3 _).trans ?_
    have e0 : idx_main_v31 (ix2 r d) 0 = quarter (M := 1024) rfl r := Fin.ext (by show (r.val * 128 + d.val) / 512 = r.val / 4; omega)
    have e1 : idx_main_v31 (ix2 r d) 1 = (⟨r.val % 4, by omega⟩ : Fin 4) := Fin.ext (by show (r.val * 128 + d.val) / 128 % 4 = r.val % 4; omega)
    have e2 : idx_main_v31 (ix2 r d) 2 = d := Fin.ext (by show (r.val * 128 + d.val) % 128 = d.val; omega)
    rw [e0, e1, e2]; rfl
  rw [val_main_v31_apply, e, piece_29]
  rfl

/-- The keys, a row of four heads. -/
theorem result_mkb (x4 : (⟨S1x128, .f32⟩ : BufTy).Contents (Elt Ideal)) : val_main_v33 (F := Ideal) x0 x1 w x4 = keys (row x0) x1 w x4 := by
  funext i
  obtain ⟨ρ, t, rfl⟩ : ∃ ρ t, i = ix2 ρ t := ⟨i 0, i 1, eq_ix2 i⟩
  have e : idx_main_v32 (ix2 ρ t) = ix3 ρ (⟨t.val / 128, by omega⟩ : Fin 4) (⟨t.val % 128, by omega⟩ : Fin 128) := by
    refine (eq_ix3 _).trans ?_
    have e0 : idx_main_v32 (ix2 ρ t) 0 = ρ := Fin.ext (by show (ρ.val * 512 + t.val) / 512 = ρ.val; omega)
    have e1 : idx_main_v32 (ix2 ρ t) 1 = (⟨t.val / 128, by omega⟩ : Fin 4) := Fin.ext (by show (ρ.val * 512 + t.val) / 128 % 4 = t.val / 128; omega)
    have e2 : idx_main_v32 (ix2 ρ t) 2 = (⟨t.val % 128, by omega⟩ : Fin 128) := Fin.ext (by show (ρ.val * 512 + t.val) % 128 = t.val % 128; omega)
    rw [e0, e1, e2]; rfl
  rw [val_main_v33_apply, val_main_v32_apply, e, head_27]
  rfl

/-- The values, a row of four heads. -/
theorem result_mvb : val_main_v35 (F := Ideal) x0 x1 w = values (row x0) x1 w := by
  funext i
  obtain ⟨ρ, t, rfl⟩ : ∃ ρ t, i = ix2 ρ t := ⟨i 0, i 1, eq_ix2 i⟩
  have e : idx_main_v34 (ix2 ρ t) = ix3 ρ (⟨t.val / 128, by omega⟩ : Fin 4) (⟨t.val % 128, by omega⟩ : Fin 128) := by
    refine (eq_ix3 _).trans ?_
    have e0 : idx_main_v34 (ix2 ρ t) 0 = ρ := Fin.ext (by show (ρ.val * 512 + t.val) / 512 = ρ.val; omega)
    have e1 : idx_main_v34 (ix2 ρ t) 1 = (⟨t.val / 128, by omega⟩ : Fin 4) := Fin.ext (by show (ρ.val * 512 + t.val) / 128 % 4 = t.val / 128; omega)
    have e2 : idx_main_v34 (ix2 ρ t) 2 = (⟨t.val % 128, by omega⟩ : Fin 128) := Fin.ext (by show (ρ.val * 512 + t.val) % 128 = t.val % 128; omega)
    rw [e0, e1, e2]; rfl
  rw [val_main_v35_apply, val_main_v34_apply, e, piece_29]
  exact congrArg (thru (row x0 ρ) x1 w) (Nat.div_add_mod' t.val 128)

end Cert.KvRefIdeal.Val

end
-- ==== Proof.ClaimsKv.lean ====
module

public import proofs.«01_k».proof.Defs
public import proofs.«01_k».proof.Proof.KvBody
public import proofs.«01_k».proof.Proof.KvArrays
public import proofs.«01_k».proof.Proof.KvRef
public import proofs.«01_k».proof.Proof.Gen.Kv
public import proofs.«01_k».proof.Proof.Gen.Kv.Frame
public import proofs.«01_k».proof.Proof.Gen.Kv.Skeleton
public import proofs.«01_k».proof.Proof.Gen.KvIdeal
public import proofs.«01_k».proof.Proof.Gen.KvIdeal.Frame
public import proofs.«01_k».proof.Proof.Gen.KvIdeal.Skeleton
public import proofs.«01_k».proof.Proof.Gen.KvRefIdeal.Run
public import proofs.«01_k».proof.Proof.Gen.KvRefIdeal.Read
public import Idealize.ShloMosaic.Adequacy
public import Idealize.ShloMosaic.Init

@[expose] public section

set_option maxRecDepth 16384

noncomputable section

namespace Cert.Proof.Memory

open Idealize.ShloMosaic Idealize.SL.Sem

/-! # The claims of the memory's call -/

theorem frame_kernel : Cert.quiescent_Kv (hKv := Cert.Kv.Gen.facts) := fun m ρ _ => Cert.Kv.Body.frame m ρ

theorem frame_ideal : Cert.quiescent_KvIdeal (hKvIdeal := Cert.KvIdeal.Gen.facts) := fun m ρ _ => Cert.KvIdeal.Body.frame m ρ

theorem frame_reference : Cert.quiescent_KvRefIdeal (hKvRefIdeal := Cert.KvRefIdeal.Gen.facts) := fun m ρ _ =>
  (θ_run Cert.KvRefIdeal.defs _ _).mono (fun r h => ⟨fun c => (h c).2.2.2.2.2, Idealize.ShloMosaic.sem_eq_zero_of_no_sems (by decide) r.2⟩)
    (Cert.KvRefIdeal.Value.run (F := Ideal) m ρ)

theorem preserves : Cert.preserves_Kv_KvIdeal := trivial

open Cert.KvRefIdeal.Read Cert.KvRefIdeal.Val in
/-- The kernel's five result arrays are the reference's: both are the same formulas of the arguments. -/
theorem algebraic : Cert.algebraic_KvIdeal_KvRefIdeal (hKvIdeal := Cert.KvIdeal.Gen.facts) (hKvRefIdeal := Cert.KvRefIdeal.Gen.facts) := by
  intro m ρ m' ρ' _ hagree
  refine ⟨_, _, _, _, _, Cert.KvIdeal.Tile.run m ρ, ?_⟩
  refine (θ_run Cert.KvRefIdeal.defs _ _).mono (fun _ h c => ?_) (Cert.KvRefIdeal.Value.run (F := Ideal) m' ρ')
  obtain ⟨a0, a1, a2, a3, a4, a5⟩ := hagree c
  obtain ⟨h0, h1, h2, h3, h4, hk⟩ := h c
  refine ⟨h0.trans ?_, h1.trans ?_, h2.trans ?_, h3.trans ?_, h4.trans ?_, hk⟩
  · rw [val_main_v30_eq, a0, a1, a2, a4]; exact result_mk _ _ _ _
  · rw [val_main_v31_eq, a0, a1, a3]; exact result_mv _ _ _
  · rw [val_main_v33_eq, a0, a1, a2, a4]; exact result_mkb _ _ _ _
  · rw [val_main_v35_eq, a0, a1, a3]; exact result_mvb _ _ _
  · rw [a5]; rfl

end Cert.Proof.Memory

end
-- ==== Proof.CastIdealBody.lean ====
/- The frame of the feed-forward call that converts its weights, over the reals: the body runs at every grid point (the first
   starts from a copy of the residual, a later one from what the point before left), and the launch follows. -/
module

public import proofs.«01_k».proof.Proof.Gen.MlpCastIdeal.Frame
public import proofs.«01_k».proof.Proof.Gen.MlpCastIdeal.Skeleton
public import proofs.«01_k».proof.Proof.Gen.MlpCastIdeal.Points
public import Idealize.ShloMosaic.Lib.Pipeline.FrameBody
public import Idealize.ShloMosaic.Lib.Pipeline.ReadBack
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.MlpCastIdeal.Body

open Cert.MlpCastIdeal Cert.MlpCastIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The body's two tests, from the grid coordinates: is this the first tile of hidden units? -/
abbrev first (i : grid0.Coords) : Prop := (Scalar.cmpi .ne (Scalar.extui (Scalar.cmpi .eq (BitVec.ofNat 32 (i 1).val) 0#32)) 0#32) = 1#1

/-- It is at the first point only. -/
theorem first_iff : ∀ t : Fin cfg0.N, first (grid0.coords t) ↔ t.val % 16 = 0 :=
  (fun t => by
    have ht : t.val < 16 := Nat.lt_of_lt_of_eq t.isLt N_0
    have e1 : (grid0.coords t 1).val = t.val / 1 % 16 := Pipeline.Grid.coords_val t 1 (by decide) rfl
    simp only [first, e1]
    word_cmp
   : ∀ t : Fin grid0.N, first (grid0.coords t) ↔ t.val % 16 = 0)

/-- The array that the body copies from: the residual, left where it is. -/
abbrev resid : Memref sig .tc .hbm S1024x2048 .f32 := Memref.whole main_arg0

/-- A buffer's contents on a core, and the buffer held whole at them. -/
abbrev Held (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Held (F := F) c M) : sProp 𝕄 :=
  M.view.loc (c : Thread nD τ) ↦{fullShare} f

/-! ## What a point leaves in each block -/

section Blocks

variable (x0 : Vec F S1024x2048 .bf16) (x1 : Vec F S2048x512 .f32) (x2 : Vec F S512x2048 .f32) (acc : Vec F S1024x2048 .f32)

/-- The squared hidden units of the point's tile, in the narrow format. -/
abbrev units : FVec F S1024x512 .bf16 :=
  k0_pay7 (View.ld x1 (Rect.unit ![0, 0] ![2048, 512] inb_S2048x512_S2048x512_0_0)) (View.ld x0 (Rect.unit ![0, 0] ![1024, 2048] inb_S1024x2048_S1024x2048_0_0))

/-- The four groups of 512 columns that the point adds its tile's share to, the last stored first. -/
def sums : List (View.Piece (Elt F) S1024x2048 .f32) :=
  [⟨Rect.unit ![0, 1536] ![1024, 512] inb_S1024x2048_S1024x512_0_1536, k0_pay5 (units x0 x1) (View.ld x2 (Rect.unit ![0, 1536] ![512, 512] inb_S512x2048_S512x512_0_1536)) (View.ld acc (Rect.unit ![0, 1536] ![1024, 512] inb_S1024x2048_S1024x512_0_1536))⟩,
   ⟨Rect.unit ![0, 1024] ![1024, 512] inb_S1024x2048_S1024x512_0_1024, k0_pay3 (units x0 x1) (View.ld x2 (Rect.unit ![0, 1024] ![512, 512] inb_S512x2048_S512x512_0_1024)) (View.ld acc (Rect.unit ![0, 1024] ![1024, 512] inb_S1024x2048_S1024x512_0_1024))⟩,
   ⟨Rect.unit ![0, 512] ![1024, 512] inb_S1024x2048_S1024x512_0_512, k0_pay1 (units x0 x1) (k0_pay10 (View.ld x2 (Rect.unit ![0, 512] ![512, 512] inb_S512x2048_S512x512_0_512))) (View.ld acc (Rect.unit ![0, 512] ![1024, 512] inb_S1024x2048_S1024x512_0_512))⟩,
   ⟨Rect.unit ![0, 0] ![1024, 512] inb_S1024x2048_S1024x512_0_0, k0_pay9 (View.ld x1 (Rect.unit ![0, 0] ![2048, 512] inb_S2048x512_S2048x512_0_0)) (View.ld x0 (Rect.unit ![0, 0] ![1024, 2048] inb_S1024x2048_S1024x2048_0_0)) (View.ld x2 (Rect.unit ![0, 0] ![512, 512] inb_S512x2048_S512x512_0_0)) (View.ld acc (Rect.unit ![0, 0] ![1024, 512] inb_S1024x2048_S1024x512_0_0))⟩]

/-- The converted tile of the first weight. -/
def ups : List (View.Piece (Elt F) S2048x512 .bf16) :=
  [⟨Rect.unit ![0, 0] ![2048, 512] inb_S2048x512_S2048x512_0_0, k0_pay6 (View.ld x1 (Rect.unit ![0, 0] ![2048, 512] inb_S2048x512_S2048x512_0_0))⟩]

/-- The converted tile of the second weight, by groups of 512 columns. -/
def downs : List (View.Piece (Elt F) S512x2048 .bf16) :=
  [⟨Rect.unit ![0, 1536] ![512, 512] inb_S512x2048_S512x512_0_1536, k0_pay4 (View.ld x2 (Rect.unit ![0, 1536] ![512, 512] inb_S512x2048_S512x512_0_1536))⟩,
   ⟨Rect.unit ![0, 1024] ![512, 512] inb_S512x2048_S512x512_0_1024, k0_pay2 (View.ld x2 (Rect.unit ![0, 1024] ![512, 512] inb_S512x2048_S512x512_0_1024))⟩,
   ⟨Rect.unit ![0, 512] ![512, 512] inb_S512x2048_S512x512_0_512, k0_pay10 (View.ld x2 (Rect.unit ![0, 512] ![512, 512] inb_S512x2048_S512x512_0_512))⟩,
   ⟨Rect.unit ![0, 0] ![512, 512] inb_S512x2048_S512x512_0_0, k0_pay8 (View.ld x2 (Rect.unit ![0, 0] ![512, 512] inb_S512x2048_S512x512_0_0))⟩]

theorem sums_cover (y : S1024x2048.Idx) : ∃ pc ∈ sums x0 x1 x2 acc, y ∈ pc.1.set :=
  View.cover_of_tiledL (sums x0 x1 x2 acc) ![1024, 512] (by sl_kernel_rfl) y

theorem ups_cover (y : S2048x512.Idx) : ∃ pc ∈ ups x1, y ∈ pc.1.set := View.cover_of_tiledL (ups x1) ![2048, 512] (by sl_kernel_rfl) y

theorem downs_cover (y : S512x2048.Idx) : ∃ pc ∈ downs x2, y ∈ pc.1.set := View.cover_of_tiledL (downs x2) ![512, 512] (by sl_kernel_rfl) y

end Blocks

/-- A load after the whole buffer was filled reads the filling. -/
theorem readCov_filled {sp : Space} (v : View sig .tc sp S1024x2048 .f32) (Z : S1024x2048.Idx → Elt F .f32) (r : Rect S1024x2048) :
    v.readCov [(⟨Rect.whole S1024x2048, Z⟩ : View.Piece (Elt F) S1024x2048 .f32)] r.toLoadRect = View.ld Z r := by
  rw [View.readCov_eq_canon']
  funext j
  have h := View.canon_cons_emb (Val := Elt F) (Rect.whole S1024x2048) Z [] (r.emb j)
  rwa [Rect.emb_whole_apply] at h

/-! ## The body, at the first point and at a later one -/

section Runs

variable (c : Dev nD) (i : grid0.Coords)
  (arg3 : Memref sig .tc .vmem S1024x2048 .bf16) (harg3 : arg3.IsWhole) (arg4 : Memref sig .tc .vmem S2048x512 .f32) (harg4 : arg4.IsWhole)
  (arg5 : Memref sig .tc .vmem S512x2048 .f32) (harg5 : arg5.IsWhole) (arg6 : Memref sig .tc .vmem S1024x2048 .f32) (harg6 : arg6.IsWhole)
  (arg7 : Memref sig .tc .vmem S2048x512 .bf16) (harg7 : arg7.IsWhole) (arg8 : Memref sig .tc .vmem S512x2048 .bf16) (harg8 : arg8.IsWhole)
  (x0 : Vec F S1024x2048 .bf16) (x1 : Vec F S2048x512 .f32) (x2 : Vec F S512x2048 .f32)

set_option maxHeartbeats 4000000 in
/-- The body at the first point: the residual is copied into the block, and the first tile's share added to it. -/
theorem opening (hc : first i) (fh : Held (F := F) c resid) (W : Waits sig Unit) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ semVal ((c : Thread nD τ), SemLoc.dma 10) 0 ∗ held c resid fh ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare (View.canon (sums x0 x1 x2 (resid.view.read (Elt F) fh))) ∗ owns (c : Thread nD τ) arg7 fullShare (View.canon (ups x1)) ∗ owns (c : Thread nD τ) arg8 fullShare (View.canon (downs x2)) ∗ semVal ((c : Thread nD τ), SemLoc.dma 10) 0 ∗ held c resid fh ∗ (∃ W', owes (c : Thread nD τ) 0 W')) -∗ K ⟨⟩))
      ⊢ wp frame (wpE (defs₀ (F := F)) Variants.none c none) Set.univ (cc0_mlp_cast i resid (Memref.isWhole_whole _) arg3 harg3 arg4 harg4 arg5 harg5 arg6 harg6 arg7 harg7 arg8 harg8 cc0_scratch0) K := by
  simp only [cc0_mlp_cast_eq_skeleton]; unfold cc0_mlp_cast_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hq0, Hh0, HW, Hk⟩
  obtain rfl := harg3.eq_unread hf0; obtain rfl := harg4.eq_unread hf1; obtain rfl := harg5.eq_unread hf2
  sl_exec (disch := sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    simp (disch := first | rfl | decide) only [↓View.readCov_skip, View.readAt_eq_ld, harg3.read_unread, harg4.read_unread, harg5.read_unread, readCov_filled]
    show View.read (Elt F) arg6.view (arg6.view.writes (Elt F) f3 (sums x0 x1 x2 (resid.view.read (Elt F) fh) ++ [⟨Rect.whole S1024x2048, resid.view.read (Elt F) fh⟩])) = _
    rw [View.writes_append]
    exact View.read_writes_eq_canon _ _ _ (sums_cover x0 x1 x2 _)
  isplitl [H4]
  · iexists _; isplitr
    swap; · iexact H4
    ipureintro
    sl_unfold_words
    simp only [View.readAt_eq_ld, harg4.read_unread]
    exact View.read_writes_eq_canon _ _ (ups x1) (ups_cover x1)
  isplitl [H5]
  · iexists _; isplitr
    swap; · iexact H5
    ipureintro
    sl_unfold_words
    simp only [View.readAt_eq_ld, harg5.read_unread]
    exact View.read_writes_eq_canon _ _ (downs x2) (downs_cover x2)
  isplitl [Hq0]; · iexact Hq0
  isplitl [Hh0]; · iexact Hh0
  iexists _; iexact HW

set_option maxHeartbeats 4000000 in
/-- The body at a later point: its tile's share is added to what the point before left. -/
theorem later (hc : ¬first i) (xo : Vec F S1024x2048 .f32) (fh : Held (F := F) c resid) (W : Waits sig Unit) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d) ∗ (∃ d, owns (c : Thread nD τ) arg8 fullShare d) ∗ semVal ((c : Thread nD τ), SemLoc.dma 10) 0 ∗ held c resid fh ∗ owes (c : Thread nD τ) 0 W
        ∗ (iprop(owns (c : Thread nD τ) arg3 fullShare x0 ∗ owns (c : Thread nD τ) arg4 fullShare x1 ∗ owns (c : Thread nD τ) arg5 fullShare x2 ∗ owns (c : Thread nD τ) arg6 fullShare (View.canon (sums x0 x1 x2 xo)) ∗ owns (c : Thread nD τ) arg7 fullShare (View.canon (ups x1)) ∗ owns (c : Thread nD τ) arg8 fullShare (View.canon (downs x2)) ∗ semVal ((c : Thread nD τ), SemLoc.dma 10) 0 ∗ held c resid fh ∗ (∃ W', owes (c : Thread nD τ) 0 W')) -∗ K ⟨⟩))
      ⊢ wp frame (wpE (defs₀ (F := F)) Variants.none c none) Set.univ (cc0_mlp_cast i resid (Memref.isWhole_whole _) arg3 harg3 arg4 harg4 arg5 harg5 arg6 harg6 arg7 harg7 arg8 harg8 cc0_scratch0) K := by
  simp only [cc0_mlp_cast_eq_skeleton]; unfold cc0_mlp_cast_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hq0, Hh0, HW, Hk⟩
  obtain rfl := harg3.eq_unread hf0; obtain rfl := harg4.eq_unread hf1; obtain rfl := harg5.eq_unread hf2; obtain rfl := harg6.eq_unread hf3
  sl_exec (disch := sl_exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    simp only [View.readAt_eq_ld, harg3.read_unread, harg4.read_unread, harg5.read_unread, harg6.read_unread]
    exact View.read_writes_eq_canon _ _ (sums x0 x1 x2 xo) (sums_cover x0 x1 x2 xo)
  isplitl [H4]
  · iexists _; isplitr
    swap; · iexact H4
    ipureintro
    sl_unfold_words
    simp only [View.readAt_eq_ld, harg4.read_unread]
    exact View.read_writes_eq_canon _ _ (ups x1) (ups_cover x1)
  isplitl [H5]
  · iexists _; isplitr
    swap; · iexact H5
    ipureintro
    sl_unfold_words
    simp only [View.readAt_eq_ld, harg5.read_unread]
    exact View.read_writes_eq_canon _ _ (downs x2) (downs_cover x2)
  isplitl [Hq0]; · iexact Hq0
  isplitl [Hh0]; · iexact Hh0
  iexists _; iexact HW

end Runs

/-! ## The launch -/

variable (m : (ℓ : Loc nD τ sig) → Buf (Elt F) ℓ) (ρ : Dev nD → PrngReg)

/-- The output block that accumulates, after each point. -/
def acc (c : Dev nD) : (n : ℕ) → n < cfg0.N → Vec F S1024x2048 .f32
  | 0, h => View.canon (sums (iblk m c 0 ⟨0, h⟩) (iblk m c 1 ⟨0, h⟩) (iblk m c 2 ⟨0, h⟩) (resid.view.read (Elt F) (V m c main_arg0)))
  | n + 1, h => View.canon (sums (iblk m c 0 ⟨n + 1, h⟩) (iblk m c 1 ⟨n + 1, h⟩) (iblk m c 2 ⟨n + 1, h⟩) (acc c n (Nat.lt_of_succ_lt h)))

theorem acc_first (c : Dev nD) (t : Fin cfg0.N) (h : t.val % 16 = 0) :
    acc m c t.val t.isLt = View.canon (sums (iblk m c 0 t) (iblk m c 1 t) (iblk m c 2 t) (resid.view.read (Elt F) (V m c main_arg0))) := by
  obtain ⟨n, hn⟩ := t
  have h16 : n < 16 := lt_of_lt_of_eq hn N_0
  cases n with
  | zero => rfl
  | succ n => dsimp only at h; omega

theorem acc_later (c : Dev nD) (t : Fin cfg0.N) (h : ¬t.val % 16 = 0) :
    acc m c t.val t.isLt = View.canon (sums (iblk m c 0 t) (iblk m c 1 t) (iblk m c 2 t) (acc m c (t.val - 1) (Nat.lt_of_le_of_lt (Nat.sub_le _ _) t.isLt))) := by
  obtain ⟨n, hn⟩ := t
  cases n with
  | zero => exact absurd (Nat.zero_mod _) h
  | succ n => rfl

/-- The kernel's own semaphore, and the array it copies from. -/
abbrev own : Fin 1 → SemLoc sig := fun j => (![SemLoc.dma 10] : Fin 1 → SemLoc sig) j
theorem own_facts : Pipeline.OwnSemFacts spec0 own := by decide
theorem own_eq (c : Dev nD) :
    (Pipeline.ownSems0 (Ix := Unit) (Name := ℕ) (U := Pipeline.UD sig nD τ) (Lvl := ℕ) (Val := Elt F) (τ := τ) own c : sProp 𝕄)
      = iprop(semVal ((c : Thread nD τ), SemLoc.dma 10) 0) := by
  rw [Pipeline.ownSems0_eq_of_list c own [0] (by decide) (by decide)]; rfl
def src : Finset (Ref sig .tc) := {main_arg0}
theorem src_sub : src ⊆ Pipeline.restRefs sig spec0 := by decide
theorem src_eq (c : Dev nD) :
    (bigSep src (fun b => ((c : Thread nD τ).loc b) ↦{fullShare} V m c b) : sProp 𝕄) = iprop(held c resid (V m c main_arg0)) := by
  rw [BI.bigSep_eq_bigSepL_of_eq [main_arg0] (by decide) (by decide)]; rfl

/-- What the launch keeps between points: the generator, the semaphore at zero, the residual. -/
theorem kept_eq (c : Dev nD) :
    (Pipeline.ΦD own spec0 src (V m) c : sProp 𝕄)
      = iprop(BI.emp ∗ (∃ r, prngReg c r) ∗ iprop(semVal ((c : Thread nD τ), SemLoc.dma 10) 0) ∗ iprop(held c resid (V m c main_arg0))) := by
  rw [Pipeline.ΦD_eq, scopedRest0_eq, own_eq, src_eq]

/-- The launch's proof data. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => acc m c t.val t.isLt
    | ⟨4, _⟩ => View.canon (ups (iblk m c 1 t))
    | ⟨5, _⟩ => View.canon (downs (iblk m c 2 t))
  Φ _ := Pipeline.ΦD own spec0 src (V m) c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = acc m c t.val t.isLt := by dsimp only [dats]
theorem after4 (c : Dev nD) (t : Fin cfg0.N) : (dats m 0 c).after 4 t = View.canon (ups (iblk m c 1 t)) := by dsimp only [dats]
theorem after5 (c : Dev nD) (t : Fin cfg0.N) : (dats m 0 c).after 5 t = View.canon (downs (iblk m c 2 t)) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (h : ¬t.val % 16 = 0) (d) :
    (dats m 0 c).before 3 t d = acc m c (t.val - 1) (Nat.lt_of_le_of_lt (Nat.sub_le _ _) t.isLt) := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl, after0, after1, after2, after3, after4, after5]
  rw [show (dats m 0 c).Φ t.castSucc = Pipeline.ΦD own spec0 src (V m) c from rfl, kept_eq]
  unfold Dat.owesAt Pipeline.owesWithin
  rw [show (dats m 0 c).owed t.castSucc = 0 from rfl, show (dats m 0 c).owed t.succ = 0 from rfl]
  by_cases h : t.val % 16 = 0
  · rw [acc_first m c t h]
    iintro ⟨⟨He, Hg, Hq0, Hh0⟩, ⟨%W, -, HW⟩, ⟨%d0, H0⟩, ⟨%d1, H1⟩, ⟨%d2, H2⟩, ⟨%d3, H3⟩, ⟨%d4, H4⟩, ⟨%d5, H5⟩⟩
    iapply (opening c (grid0.coords t) _ _ _ _ _ _ _ _ _ _ _ _ (iblk m c 0 t) (iblk m c 1 t) (iblk m c 2 t) ((first_iff t).mpr h) (V m c main_arg0) W _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [Hq0]; · iexact Hq0
    isplitl [Hh0]; · iexact Hh0
    isplitl [HW]; · iexact HW
    iintro ⟨H0, H1, H2, H3, H4, H5, Hq0, Hh0, ⟨%W', HW'⟩⟩
    isplitl [He Hg Hq0 Hh0]
    · isplitl [He]; · iexact He
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · rw [acc_later m c t h]
    simp only [before3 m c t h]
    iintro ⟨⟨He, Hg, Hq0, Hh0⟩, ⟨%W, -, HW⟩, ⟨%d0, H0⟩, ⟨%d1, H1⟩, ⟨%d2, H2⟩, ⟨%d3, H3⟩, ⟨%d4, H4⟩, ⟨%d5, H5⟩⟩
    iapply (later c (grid0.coords t) _ _ _ _ _ _ _ _ _ _ _ _ (iblk m c 0 t) (iblk m c 1 t) (iblk m c 2 t) (fun h' => h ((first_iff t).mp h')) _ (V m c main_arg0) W _)
    isplitl [H0]; · iexact H0
    isplitl [H1]; · iexact H1
    isplitl [H2]; · iexact H2
    isplitl [H3]; · iexact H3
    isplitl [H4]; · iexists _; iexact H4
    isplitl [H5]; · iexists _; iexact H5
    isplitl [Hq0]; · iexact Hq0
    isplitl [Hh0]; · iexact Hh0
    isplitl [HW]; · iexact HW
    iintro ⟨H0, H1, H2, H3, H4, H5, Hq0, Hh0, ⟨%W', HW'⟩⟩
    isplitl [He Hg Hq0 Hh0]
    · isplitl [He]; · iexact He
      isplitl [Hg]; · iexact Hg
      isplitl [Hq0]; · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem main_region : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- The launch: every array of the pipeline ends at what the proof data gives, every other buffer as it was, and every
    semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 own defs₀ Variants.none own_facts src src_sub m ρ main
    (hbody := fun c => (body_obligation m c).loose) (hshare := fun c => (dats m 0 c).share_full fun _ => rfl)
    (howed := fun _ _ => rfl) (V := V m) (hmain := main_region m) (hA := A_eq m)
    (hin := fun _ => .rfl) (hout := fun _ => .rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).2 main_arg0 (Pipeline.mem_restRefs_of main_arg0 (by decide) (by decide)),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2))⟩) (run_main m ρ)

/-- The frame: the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.MlpCastIdeal.Body

end
-- ==== Proof.CastBlocks.lean ====
/- What the feed-forward call that converts its weights computes over the reals: what a grid point adds to the block it
   accumulates in, and the three arrays that the call leaves. -/
module

public import proofs.«01_k».proof.Proof.FeedSpec
public import proofs.«01_k».proof.Proof.CastIdealBody
public import Idealize.ShloMosaic.Lib.ValueIdx
public import Idealize.ShloMosaic.Lib.MatmulPlain
public import Idealize.ShloMosaic.Lib.IdealHost
public import Idealize.ShloMosaic.Lib.Pipeline.Value
public import Idealize.ShloMosaic.Lib.Pipeline.ValueKit.Basic

@[expose] public section

set_option maxRecDepth 16384

noncomputable section

namespace Cert.MlpCastIdeal.Tile

open Cert.MlpCastIdeal Cert.MlpCastIdeal.Gen Cert.MlpCastIdeal.Body Cert.Feed Idealize.ShloMosaic Idealize.ShloMosaic.TcCoe Idealize.SL.Sem
open Idealize.ShloMosaic.ValueIdx

/-! ## A point's blocks -/

section Blocks

variable (x0 : Vec Ideal S1024x2048 .bf16) (x1 : Vec Ideal S2048x512 .f32) (x2 : Vec Ideal S512x2048 .f32) (acc : Vec Ideal S1024x2048 .f32)

/-- The squared hidden units of the point's tile at an index. -/
theorem units_apply (a : Fin 1024) (f : Fin 512) : (units x0 x1 : Mat 1024 512) (ix2 a f)
    = max (dotAt (M := 1024) (K := 2048) (N := 512) x0 x1 a f) 0 * max (dotAt (M := 1024) (K := 2048) (N := 512) x0 x1 a f) 0 := by
  have e1 : (View.ld x1 (Rect.unit ![0, 0] ![2048, 512] inb_S2048x512_S2048x512_0_0) : Vec Ideal S2048x512 .f32) = x1 := View.ld_unit_lit (S := S2048x512) inb_S2048x512_S2048x512_0_0 x1 (by decide)
  have e0 : (View.ld x0 (Rect.unit ![0, 0] ![1024, 2048] inb_S1024x2048_S1024x2048_0_0) : Vec Ideal S1024x2048 .bf16) = x0 := View.ld_unit_lit (S := S1024x2048) inb_S1024x2048_S1024x2048_0_0 x0 (by decide)
  show k0_pay7 (F := Ideal) _ _ (ix2 a f) = _
  rw [e1, e0]
  unfold k0_pay7
  have e : (matmul (F := Ideal) (φ₁ := .bf16) (φ₂ := .bf16) dot_S1024x2048_S2048x512_S1024x512_1_0_0_1_n_n none x0 (k0_pay6 x1) (constant S1024x512 .f32 0x00000000#32) : Mat 1024 512) (ix2 a f)
      = dotAt (M := 1024) (K := 2048) (N := 512) x0 x1 a f := by
    refine (Ideal.matmul_plain_apply (M := 1024) (K := 2048) (N := 512) none _ _ _ a f).trans ?_
    rw [constant_apply, Ideal.ofBits_zero_f32, zero_add]
    rfl
  rw [truncf_apply, mulf_apply, maximumf_apply, e]
  have z : broadcast S1024x512 (Scalar.ofBits (F := Ideal) .f32 0x00000000#32) (ix2 a f) = (0 : EReal) := Ideal.ofBits_zero_f32
  rw [z]

/-- A product added to a group of columns, at an index. -/
theorem added_apply (u : FVec Ideal S1024x512 .bf16) (w : FVec Ideal S512x512 .bf16) (b : Vec Ideal S1024x512 .f32) (a : Fin 1024) (l : Fin 512) :
    k0_pay1 (F := Ideal) u w b (ix2 a l) = (b : Mat 1024 512) (ix2 a l) + ∑ f : Fin 512, (u : Mat 1024 512) (ix2 a f) * (w : Mat 512 512) (ix2 f l) := by
  unfold k0_pay1
  rw [addf_apply, shapeCast_self]
  refine congrArg ((b : Mat 1024 512) (ix2 a l) + ·) ?_
  refine (Ideal.matmul_plain_apply (M := 1024) (K := 512) (N := 512) none _ _ _ a l).trans ?_
  rw [constant_apply, Ideal.ofBits_zero_f32, zero_add]

/-- The block with the tile's share added. -/
abbrev total : Mat 1024 2048 := fun y => (acc y : EReal) + unitSum (M := 1024) (K := 2048) (N := 512) (D := 2048) x0 x1 x2 (y 0) (y 1)

/-- The group of 512 columns from the column `o` on. -/
theorem group_apply (o : ℕ) (hw : ∀ a, (![0, o] : Fin 2 → ℕ) a + S512x512.size a ≤ S512x2048.size a) (hb : ∀ a, (![0, o] : Fin 2 → ℕ) a + S1024x512.size a ≤ S1024x2048.size a)
    (x : S1024x512.Idx) :
    k0_pay1 (F := Ideal) (units x0 x1) (View.ld x2 (Rect.unit ![0, o] ![512, 512] hw) : Vec Ideal S512x512 .f32) (View.ld acc (Rect.unit ![0, o] ![1024, 512] hb)) x
      = total x0 x1 x2 acc ((Rect.unit ![0, o] ![1024, 512] hb : Rect S1024x2048).emb x) := by
  obtain ⟨a, l, rfl⟩ : ∃ (a : Fin 1024) (l : Fin 512), x = ix2 a l := ⟨_, _, eq_ix2 x⟩
  refine (added_apply _ _ _ a l).trans ?_
  refine congrArg₂ (· + ·) rfl (Finset.sum_congr rfl fun f _ => ?_)
  have e0 : ((Rect.unit (s := S1024x2048) ![0, o] ![1024, 512] hb).emb (ix2 a l)) 0 = a := Fin.ext (by show 0 + 1 * a.val = a.val; omega)
  refine congrArg₂ (· * ·) ((units_apply x0 x1 a f).trans ?_) (congrArg x2 (funext fun b => Fin.ext ?_))
  · rw [e0]
  · match b with
    | ⟨0, _⟩ => show 0 + 1 * f.val = f.val; omega
    | ⟨1, _⟩ => rfl

/-- What a point leaves in the block that accumulates. -/
theorem sums_eq : View.canon (sums x0 x1 x2 acc) = total x0 x1 x2 acc := by
  funext y
  refine View.canon_apply_of_pieces (total x0 x1 x2 acc) _ ?_ y (sums_cover x0 x1 x2 acc y)
  refine List.forall_mem_cons.mpr ⟨fun x => group_apply x0 x1 x2 acc 1536 _ _ x, ?_⟩
  refine List.forall_mem_cons.mpr ⟨fun x => group_apply x0 x1 x2 acc 1024 _ _ x, ?_⟩
  refine List.forall_mem_cons.mpr ⟨fun x => group_apply x0 x1 x2 acc 512 _ _ x, ?_⟩
  refine List.forall_mem_cons.mpr ⟨fun x => group_apply x0 x1 x2 acc 0 _ _ x, ?_⟩
  exact fun _ h => absurd h List.not_mem_nil

/-- The converted tiles hold the tiles' values. -/
theorem ups_eq : View.canon (ups x1) = (x1 : Mat 2048 512) := by
  funext y
  refine View.canon_apply_of_pieces (x1 : Mat 2048 512) _ ?_ y (ups_cover x1 y)
  exact List.forall_mem_cons.mpr ⟨fun _ => rfl, fun _ h => absurd h List.not_mem_nil⟩

theorem downs_eq : View.canon (downs x2) = (x2 : Mat 512 2048) := by
  funext y
  refine View.canon_apply_of_pieces (x2 : Mat 512 2048) _ ?_ y (downs_cover x2 y)
  refine List.forall_mem_cons.mpr ⟨fun _ => rfl, List.forall_mem_cons.mpr ⟨fun _ => rfl, ?_⟩⟩
  refine List.forall_mem_cons.mpr ⟨fun _ => rfl, List.forall_mem_cons.mpr ⟨fun _ => rfl, ?_⟩⟩
  exact fun _ h => absurd h List.not_mem_nil

end Blocks

/-! ## What a point reads -/

variable (m : (ℓ : Loc nD τ sig) → Buf (Elt Ideal) ℓ)

/-- The arguments: the residual, the normalised rows and the two weights. -/
abbrev residual (c : Dev nD) : Mat 1024 2048 := m ((c : Thread nD τ).loc main_arg0)
abbrev input (c : Dev nD) : Mat 1024 2048 := m ((c : Thread nD τ).loc main_arg1)
abbrev upper (c : Dev nD) : Mat 2048 8192 := m ((c : Thread nD τ).loc main_arg2)
abbrev lower (c : Dev nD) : Mat 8192 2048 := m ((c : Thread nD τ).loc main_arg3)

/-- A point's tile of hidden units. -/
abbrev tileOf (t : Fin cfg0.N) : Fin 16 := ⟨t.val, lt_of_lt_of_eq t.isLt N_0⟩

theorem index_0 : ∀ t : Fin cfg0.N, win0_0.index t 0 = 0 ∧ win0_0.index t 1 = 0 :=
  (by decide +kernel : ∀ t : Fin grid0.N, win0_0.index t 0 = 0 ∧ win0_0.index t 1 = 0)

theorem index_1 : ∀ t : Fin cfg0.N, win0_1.index t 0 = 0 ∧ win0_1.index t 1 = t.val :=
  (by decide +kernel : ∀ t : Fin grid0.N, win0_1.index t 0 = 0 ∧ win0_1.index t 1 = t.val)

theorem index_2 : ∀ t : Fin cfg0.N, win0_2.index t 0 = t.val ∧ win0_2.index t 1 = 0 :=
  (by decide +kernel : ∀ t : Fin grid0.N, win0_2.index t 0 = t.val ∧ win0_2.index t 1 = 0)

theorem block_0 (c : Dev nD) (t : Fin cfg0.N) (a : Fin 1024) (k : Fin 2048) :
    (iblk m c 0 t : Vec Ideal S1024x2048 .bf16) (ix2 a k) = input m c (ix2 a k) := by
  have hi := index_0 t
  unfold iblk
  rw [View.read_apply]
  show V m c main_arg1 _ = m (c.tc.loc main_arg1) _
  rw [V_main_arg1]
  refine congrArg (m (c.tc.loc main_arg1)) (funext fun b => Fin.ext ?_)
  match b with
  | ⟨0, _⟩ => show win0_0.index t 0 * 1024 + 1 * a.val = a.val; rw [hi.1]; omega
  | ⟨1, _⟩ => show win0_0.index t 1 * 2048 + 1 * k.val = k.val; rw [hi.2]; omega

theorem block_1 (c : Dev nD) (t : Fin cfg0.N) (k : Fin 2048) (f : Fin 512) :
    (iblk m c 1 t : Vec Ideal S2048x512 .f32) (ix2 k f) = upper m c (ix2 k (unitOf (tileOf t) f : Fin 8192)) := by
  have hi := index_1 t
  unfold iblk
  rw [View.read_apply]
  show V m c main_arg2 _ = m (c.tc.loc main_arg2) _
  rw [V_main_arg2]
  refine congrArg (m (c.tc.loc main_arg2)) (funext fun b => Fin.ext ?_)
  match b with
  | ⟨0, _⟩ => show win0_1.index t 0 * 2048 + 1 * k.val = k.val; rw [hi.1]; omega
  | ⟨1, _⟩ => show win0_1.index t 1 * 512 + 1 * f.val = t.val * 512 + f.val; rw [hi.2]; omega

theorem block_2 (c : Dev nD) (t : Fin cfg0.N) (f : Fin 512) (l : Fin 2048) :
    (iblk m c 2 t : Vec Ideal S512x2048 .f32) (ix2 f l) = lower m c (ix2 (unitOf (tileOf t) f : Fin 8192) l) := by
  have hi := index_2 t
  unfold iblk
  rw [View.read_apply]
  show V m c main_arg3 _ = m (c.tc.loc main_arg3) _
  rw [V_main_arg3]
  refine congrArg (m (c.tc.loc main_arg3)) (funext fun b => Fin.ext ?_)
  match b with
  | ⟨0, _⟩ => show win0_2.index t 0 * 512 + 1 * f.val = t.val * 512 + f.val; rw [hi.1]; omega
  | ⟨1, _⟩ => show win0_2.index t 1 * 2048 + 1 * l.val = l.val; rw [hi.2]; omega

/-! ## What the points add up to -/

/-- A hidden unit's share of an entry, from the arguments. -/
abbrev term (c : Dev nD) (a : Fin 1024) (l : Fin 2048) (f : Fin 8192) : EReal :=
  unitTerm (M := 1024) (K := 2048) (N := 8192) (D := 2048) (input m c) (upper m c) (lower m c) a l f

/-- A point's share: the sum over its tile of hidden units. -/
theorem share_eq (c : Dev nD) (t : Fin cfg0.N) (a : Fin 1024) (l : Fin 2048) :
    unitSum (M := 1024) (K := 2048) (N := 512) (D := 2048) (iblk m c 0 t) (iblk m c 1 t) (iblk m c 2 t) a l
      = ∑ f : Fin 512, term m c a l (unitOf (tileOf t) f : Fin 8192) := by
  refine Finset.sum_congr rfl fun f _ => ?_
  have e : dotAt (M := 1024) (K := 2048) (N := 512) (iblk m c 0 t) (iblk m c 1 t) a f
      = dotAt (M := 1024) (K := 2048) (N := 8192) (input m c) (upper m c) a (unitOf (tileOf t) f : Fin 8192) :=
    Finset.sum_congr rfl fun k _ => congrArg₂ (· * ·) (block_0 m c t a k) (block_1 m c t k f)
  exact congrArg₂ (· * ·) (congrArg₂ (· * ·) (congrArg (max · 0) e) (congrArg (max · 0) e)) (block_2 m c t f l)

/-- The share of the tile of a given number. -/
def shareAt (c : Dev nD) (n : ℕ) (a : Fin 1024) (l : Fin 2048) : EReal :=
  if h : n < 16 then ∑ f : Fin 512, term m c a l (unitOf (⟨n, h⟩ : Fin 16) f : Fin 8192) else 0

theorem shareAt_eq (c : Dev nD) (t : Fin cfg0.N) (a : Fin 1024) (l : Fin 2048) :
    unitSum (M := 1024) (K := 2048) (N := 512) (D := 2048) (iblk m c 0 t) (iblk m c 1 t) (iblk m c 2 t) a l = shareAt m c t.val a l := by
  unfold shareAt
  rw [dif_pos (lt_of_lt_of_eq t.isLt N_0)]
  exact share_eq m c t a l

/-- After a point the block is the residual plus the shares of the tiles so far. -/
theorem acc_apply (c : Dev nD) (a : Fin 1024) (l : Fin 2048) : ∀ (n : ℕ) (h : n < cfg0.N),
    (acc m c n h : Mat 1024 2048) (ix2 a l) = residual m c (ix2 a l) + ∑ s ∈ Finset.range (n + 1), shareAt m c s a l
  | 0, h => by
    unfold acc
    rw [sums_eq, Finset.sum_range_one]
    exact congrArg₂ (· + ·) rfl (shareAt_eq m c ⟨0, h⟩ a l)
  | n + 1, h => by
    unfold acc
    rw [sums_eq, Finset.sum_range_succ, ← add_assoc, ← acc_apply c a l n (Nat.lt_of_succ_lt h)]
    exact congrArg₂ (· + ·) rfl (shareAt_eq m c ⟨n + 1, h⟩ a l)

/-- The first result: the residual plus all hidden units' share. -/
abbrev result (c : Dev nD) : Mat 1024 2048 := fun y =>
  residual m c y + unitSum (M := 1024) (K := 2048) (N := 8192) (D := 2048) (input m c) (upper m c) (lower m c) (y 0) (y 1)

theorem acc_last (c : Dev nD) (a : Fin 1024) (l : Fin 2048) (n : ℕ) (h : n < cfg0.N) (hn : n = 15) :
    (acc m c n h : Mat 1024 2048) (ix2 a l) = result m c (ix2 a l) := by
  subst hn
  rw [acc_apply]
  refine congrArg (residual m c (ix2 a l) + ·) ?_
  refine Eq.trans ?_ (sum_tiles (S := 16) (T := 512) (term m c a l)).symm
  rw [Finset.sum_range]
  refine Finset.sum_congr rfl fun s _ => ?_
  unfold shareAt
  rw [dif_pos s.isLt]

/-! ## The arrays -/

theorem index_3 : ∀ t : Fin cfg0.N, win0_3.index t 0 = 0 ∧ win0_3.index t 1 = 0 :=
  (by decide +kernel : ∀ t : Fin grid0.N, win0_3.index t 0 = 0 ∧ win0_3.index t 1 = 0)

theorem index_4 : ∀ t : Fin cfg0.N, win0_4.index t 0 = 0 ∧ win0_4.index t 1 = t.val :=
  (by decide +kernel : ∀ t : Fin grid0.N, win0_4.index t 0 = 0 ∧ win0_4.index t 1 = t.val)

theorem index_5 : ∀ t : Fin cfg0.N, win0_5.index t 0 = t.val ∧ win0_5.index t 1 = 0 :=
  (by decide +kernel : ∀ t : Fin grid0.N, win0_5.index t 0 = t.val ∧ win0_5.index t 1 = 0)

theorem apart_3 (t t' : Fin cfg0.N) (ht : (cfg0.win 3).flush t = true) (ht' : (cfg0.win 3).flush t' = true) (hne : t ≠ t') :
    Disjoint ((cfg0.win 3).blk t).view.set ((cfg0.win 3).blk t').view.set := by
  refine absurd (Fin.ext ?_) hne
  have h1 := (flush0_3 t).mp ht
  have h2 := (flush0_3 t').mp ht'
  have h3 : t.val < 16 := lt_of_lt_of_eq t.isLt N_0
  have h4 : t'.val < 16 := lt_of_lt_of_eq t'.isLt N_0
  omega

theorem apart_4 (t t' : Fin cfg0.N) (_ : (cfg0.win 4).flush t = true) (_ : (cfg0.win 4).flush t' = true) (hne : t ≠ t') :
    Disjoint ((cfg0.win 4).blk t).view.set ((cfg0.win 4).blk t').view.set :=
  (cfg0.win 4).disjoint_blk fun h => hne (Fin.ext ((index_4 t).2.symm.trans ((congrFun h 1).trans (index_4 t').2)))

theorem apart_5 (t t' : Fin cfg0.N) (_ : (cfg0.win 5).flush t = true) (_ : (cfg0.win 5).flush t' = true) (hne : t ≠ t') :
    Disjoint ((cfg0.win 5).blk t).view.set ((cfg0.win 5).blk t').view.set :=
  (cfg0.win 5).disjoint_blk fun h => hne (Fin.ext ((index_5 t).1.symm.trans ((congrFun h 0).trans (index_5 t').1)))

theorem place_3 (t : Fin cfg0.N) (a : Fin 1024) (l : Fin 2048) : (((cfg0.win 3).blk t).view.emb (ix2 a l) : S1024x2048.Idx) = ix2 a l := by
  have hi := index_3 t
  refine funext fun b => Fin.ext ?_
  match b with
  | ⟨0, _⟩ => show win0_3.index t 0 * 1024 + 1 * a.val = a.val; rw [hi.1]; omega
  | ⟨1, _⟩ => show win0_3.index t 1 * 2048 + 1 * l.val = l.val; rw [hi.2]; omega

theorem place_4 (t : Fin cfg0.N) (k : Fin 2048) (f : Fin 512) : (((cfg0.win 4).blk t).view.emb (ix2 k f) : S2048x8192.Idx) = ix2 k (unitOf (tileOf t) f : Fin 8192) := by
  have hi := index_4 t
  refine funext fun b => Fin.ext ?_
  match b with
  | ⟨0, _⟩ => show win0_4.index t 0 * 2048 + 1 * k.val = k.val; rw [hi.1]; omega
  | ⟨1, _⟩ => show win0_4.index t 1 * 512 + 1 * f.val = t.val * 512 + f.val; rw [hi.2]; omega

theorem place_5 (t : Fin cfg0.N) (f : Fin 512) (l : Fin 2048) : (((cfg0.win 5).blk t).view.emb (ix2 f l) : S8192x2048.Idx) = ix2 (unitOf (tileOf t) f : Fin 8192) l := by
  have hi := index_5 t
  refine funext fun b => Fin.ext ?_
  match b with
  | ⟨0, _⟩ => show win0_5.index t 0 * 512 + 1 * f.val = t.val * 512 + f.val; rw [hi.1]; omega
  | ⟨1, _⟩ => show win0_5.index t 1 * 2048 + 1 * l.val = l.val; rw [hi.2]; omega

/-- Every hidden unit is of one tile, at one place. -/
theorem unit_split (f : Fin 8192) : ∃ (t : Fin cfg0.N) (b : Fin 512), f = (unitOf (tileOf t) b : Fin 8192) :=
  ⟨⟨f.val / 512, by rw [show cfg0.N = 16 from N_0]; omega⟩, ⟨f.val % 512, by omega⟩, Fin.ext (by show f.val = f.val / 512 * 512 + f.val % 512; omega)⟩

theorem array_3 (c : Dev nD) : ((dats m 0 c).arrAt 3 cfg0.N : Mat 1024 2048) = result m c := by
  funext i
  obtain ⟨a, l, rfl⟩ : ∃ a l, i = ix2 a l := ⟨i 0, i 1, eq_ix2 i⟩
  let t : Fin cfg0.N := ⟨15, by rw [show cfg0.N = 16 from N_0]; omega⟩
  have ht : t.val = 15 := rfl
  clear_value t
  have hb := congrFun ((dats m 0 c).read_blk_arrAt_eq_flushed 3 apart_3 cfg0.N t t.isLt ((flush0_3 t).mpr (by rw [ht]))) (ix2 a l)
  rw [View.read_apply] at hb
  have hp : ((dats m 0 c).arrAt 3 cfg0.N : Mat 1024 2048) (((cfg0.win 3).blk t).view.emb (ix2 a l)) = (acc m c t.val t.isLt : Mat 1024 2048) (ix2 a l) :=
    hb.trans (congrFun (after3 m c t) (ix2 a l))
  rw [place_3] at hp
  exact hp.trans (acc_last m c a l t.val t.isLt ht)

theorem array_4 (c : Dev nD) : ((dats m 0 c).arrAt 4 cfg0.N : Mat 2048 8192) = upper m c := by
  funext i
  obtain ⟨k, g, rfl⟩ : ∃ k g, i = ix2 k g := ⟨i 0, i 1, eq_ix2 i⟩
  obtain ⟨t, f, rfl⟩ := unit_split g
  have hb := congrFun ((dats m 0 c).read_blk_arrAt_eq_flushed 4 apart_4 cfg0.N t t.isLt (flush0_4 t)) (ix2 k f)
  rw [View.read_apply] at hb
  have hp : ((dats m 0 c).arrAt 4 cfg0.N : Mat 2048 8192) (((cfg0.win 4).blk t).view.emb (ix2 k f)) = (View.canon (ups (iblk m c 1 t)) : Mat 2048 512) (ix2 k f) :=
    hb.trans (congrFun (after4 m c t) (ix2 k f))
  rw [place_4, ups_eq] at hp
  exact hp.trans (block_1 m c t k f)

theorem array_5 (c : Dev nD) : ((dats m 0 c).arrAt 5 cfg0.N : Mat 8192 2048) = lower m c := by
  funext i
  obtain ⟨g, l, rfl⟩ : ∃ g l, i = ix2 g l := ⟨i 0, i 1, eq_ix2 i⟩
  obtain ⟨t, f, rfl⟩ := unit_split g
  have hb := congrFun ((dats m 0 c).read_blk_arrAt_eq_flushed 5 apart_5 cfg0.N t t.isLt (flush0_5 t)) (ix2 f l)
  rw [View.read_apply] at hb
  have hp : ((dats m 0 c).arrAt 5 cfg0.N : Mat 8192 2048) (((cfg0.win 5).blk t).view.emb (ix2 f l)) = (View.canon (downs (iblk m c 2 t)) : Mat 512 2048) (ix2 f l) :=
    hb.trans (congrFun (after5 m c t) (ix2 f l))
  rw [place_5, downs_eq] at hp
  exact hp.trans (block_2 m c t f l)

/-- The call runs, leaves the three arrays at their formulas and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = result m c
      ∧ r.2.mem ((c : Thread nD τ).loc main_v0_1) = upper m c
      ∧ r.2.mem ((c : Thread nD τ).loc main_v0_2) = lower m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 3).trans (array_3 m c),
      ((h c).1 4).trans (array_4 m c),
      ((h c).1 5).trans (array_5 m c),
      (h c).2 main_arg0 (Pipeline.mem_restRefs_of main_arg0 (by decide) (by decide)),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2))⟩)
    (run_main m ρ)

end Cert.MlpCastIdeal.Tile

end
-- ==== Proof.ClaimsCast.lean ====
module

public import proofs.«01_k».proof.Defs
public import proofs.«01_k».proof.Proof.CastBody
public import proofs.«01_k».proof.Proof.CastBlocks
public import proofs.«01_k».proof.Proof.Gen.MlpCastRefIdeal.Run
public import proofs.«01_k».proof.Proof.Gen.MlpCastRefIdeal.Read
public import Idealize.ShloMosaic.Adequacy
public import Idealize.ShloMosaic.Init

@[expose] public section

set_option maxRecDepth 16384

noncomputable section

namespace Cert.Proof.Cast

open Cert.Feed Idealize.ShloMosaic Idealize.ShloMosaic.ValueIdx Idealize.SL.Sem

/-! # The claims of the feed-forward call that converts its weights -/

theorem frame_kernel : Cert.quiescent_MlpCast (hMlpCast := Cert.MlpCast.Gen.facts) := fun m ρ _ => Cert.MlpCast.Body.frame m ρ

theorem frame_ideal : Cert.quiescent_MlpCastIdeal (hMlpCastIdeal := Cert.MlpCastIdeal.Gen.facts) := fun m ρ _ => Cert.MlpCastIdeal.Body.frame m ρ

theorem frame_reference : Cert.quiescent_MlpCastRefIdeal (hMlpCastRefIdeal := Cert.MlpCastRefIdeal.Gen.facts) := fun m ρ _ =>
  (θ_run Cert.MlpCastRefIdeal.defs _ _).mono (fun r h => ⟨fun c => (h c).2.2.2, Idealize.ShloMosaic.sem_eq_zero_of_no_sems (by decide) r.2⟩)
    (Cert.MlpCastRefIdeal.Value.run (F := Ideal) m ρ)

theorem preserves : Cert.preserves_MlpCast_MlpCastIdeal := trivial

open Cert.MlpCastRefIdeal Cert.MlpCastRefIdeal.Gen Cert.MlpCastRefIdeal.Read in
/-- The reference's first result at an index: the residual plus all hidden units' share. -/
theorem reference_apply (x0 : (⟨S1024x2048, .f32⟩ : BufTy).Contents (Elt Ideal)) (x1 : (⟨S1024x2048, .bf16⟩ : BufTy).Contents (Elt Ideal))
    (x2 : (⟨S2048x8192, .f32⟩ : BufTy).Contents (Elt Ideal)) (x3 : (⟨S8192x2048, .f32⟩ : BufTy).Contents (Elt Ideal)) (ρ : Fin 1024) (l : Fin 2048) :
    val_main_v5 (F := Ideal) x0 x1 x2 x3 (ix2 ρ l) = (x0 (ix2 ρ l) : EReal) + unitSum (M := 1024) (K := 2048) (N := 8192) (D := 2048) x1 x2 x3 ρ l := by
  rw [val_main_v5_apply]
  refine congrArg (fun y : EReal => (x0 (ix2 ρ l) : EReal) + y) ?_
  rw [val_main_v4_apply]
  refine Finset.sum_congr rfl fun f _ => ?_
  have ed : val_main_v1 (F := Ideal) x1 x2 (ix2 ρ f) = dotAt (M := 1024) (K := 2048) (N := 8192) x1 x2 ρ f := by
    rw [val_main_v1_apply]
    refine Finset.sum_congr rfl fun k _ => ?_
    rw [show lidx_main_v1 (ix2 ρ f) k = ix2 ρ k from (eq_ix2 _).trans rfl, show ridx_main_v1 (ix2 ρ f) k = ix2 k f from (eq_ix2 _).trans rfl]
    rfl
  have ez : val_main_call0_v0 (F := Ideal) (ix2 ρ f) = (0 : EReal) := by
    rw [val_main_call0_v0_apply, val_main_call0_cst_apply]
    exact Ideal.ofBits_zero_f32
  rw [show lidx_main_v4 (ix2 ρ l) f = ix2 ρ f from (eq_ix2 _).trans rfl, show ridx_main_v4 (ix2 ρ l) f = ix2 f l from (eq_ix2 _).trans rfl,
    val_main_v3_apply, val_main_v2_apply, ed, ez]
  rfl

open Cert.MlpCastRefIdeal.Read in
/-- The kernel's three result arrays are the reference's. -/
theorem algebraic : Cert.algebraic_MlpCastIdeal_MlpCastRefIdeal (hMlpCastIdeal := Cert.MlpCastIdeal.Gen.facts) (hMlpCastRefIdeal := Cert.MlpCastRefIdeal.Gen.facts) := by
  intro m ρ m' ρ' _ hagree
  refine ⟨_, _, _, Cert.MlpCastIdeal.Tile.run m ρ, ?_⟩
  refine (θ_run Cert.MlpCastRefIdeal.defs _ _).mono (fun _ h c => ?_) (Cert.MlpCastRefIdeal.Value.run (F := Ideal) m' ρ')
  obtain ⟨a0, a1, a2, a3⟩ := hagree c
  obtain ⟨h0, h1, h2, hk⟩ := h c
  refine ⟨h0.trans ?_, h1.trans ?_, h2.trans ?_, hk⟩
  · rw [val_main_v5_eq, a0, a1, a2, a3]
    funext i
    rw [eq_ix2 i]
    exact reference_apply _ _ _ _ _ _
  · rw [a2]; rfl
  · rw [a3]; rfl

end Cert.Proof.Cast

end
-- ==== Proof.SampleCaches.lean ====
/- The two cache results of the sample mixer's call: what a grid point stores in its block of a cache, and the two arrays that the
   call leaves. -/
module

public import proofs.«01_k».proof.Proof.FeedSpec
public import proofs.«01_k».proof.Proof.Gen.MixSampleIdeal.Value
public import Idealize.ShloMosaic.Lib.ValueIdx
public import Idealize.ShloMosaic.Lib.Pipeline.Value
public import Idealize.ShloMosaic.Lib.Pipeline.ValueKit.Basic

@[expose] public section

set_option maxRecDepth 16384

noncomputable section

namespace Cert.MixSampleIdeal.Caches

open Cert.MixSampleIdeal Cert.MixSampleIdeal.Gen Cert.Feed Idealize.ShloMosaic Idealize.ShloMosaic.TcCoe Idealize.SL.Sem
open Idealize.ShloMosaic.ValueIdx

/-! ## Moving a cache on -/

/-- A cache moved on: of each batch's 256 rows the first 16 go, the rest move up, and 16 new rows follow. -/
def moved {S T : ℕ} (X : Mat S 128) (N : Mat T 128) (hT : S = T * 16) (hS : ∃ B, S = B * 256) : Mat S 128 := fun y =>
  have hy : (y 0).val < S := (y 0).isLt
  if h : (y 0).val % 256 < 240 then X (ix2 ⟨(y 0).val + 16, by obtain ⟨B, hB⟩ := hS; omega⟩ (y 1))
  else N (ix2 ⟨(y 0).val / 256 * 16 + ((y 0).val % 256 - 240), by obtain ⟨B, hB⟩ := hS; omega⟩ (y 1))

section Point

variable (X : Vec Ideal S2048x128 .f32) (N : Vec Ideal S128x128 .f32)

/-- A point's block of a cache moved on. -/
abbrev blockMoved : Mat 2048 128 := moved (S := 2048) (T := 128) X N rfl ⟨8, rfl⟩

/-- The rows that stay, from the block's row `o` on. -/
theorem stays_apply (o p : ℕ) (e : p = o + 16) (ho : o % 256 = 0) (ip : ∀ k, (![p, 0] : Fin 2 → ℕ) k + S240x128.size k ≤ S2048x128.size k)
    (io : ∀ k, (![o, 0] : Fin 2 → ℕ) k + S240x128.size k ≤ S2048x128.size k) (x : S240x128.Idx) :
    View.ld X (Rect.unit ![p, 0] S240x128.size ip) x = blockMoved X N ((Rect.unit (s := S2048x128) ![o, 0] S240x128.size io).emb x) := by
  have hx : (x 0).val < 240 := (x 0).isLt
  have e0 : (((Rect.unit (s := S2048x128) ![o, 0] S240x128.size io).emb x) 0).val = o + 1 * (x 0).val := rfl
  unfold blockMoved moved
  rw [dif_pos (by rw [e0]; omega)]
  refine congrArg X (funext fun b => Fin.ext ?_)
  match b with
  | ⟨0, _⟩ => show p + 1 * (x 0).val = (o + 1 * (x 0).val) + 16; omega
  | ⟨1, _⟩ => rfl

/-- The new rows of the batch whose rows begin at the block's row `o`. -/
theorem comes_apply (o n w : ℕ) (e : w = o + 240) (ho : o % 256 = 0) (hn : n = o / 256 * 16) (inn : ∀ k, (![n, 0] : Fin 2 → ℕ) k + S16x128.size k ≤ S128x128.size k)
    (iw : ∀ k, (![w, 0] : Fin 2 → ℕ) k + S16x128.size k ≤ S2048x128.size k) (x : S16x128.Idx) :
    View.ld N (Rect.unit ![n, 0] S16x128.size inn) x = blockMoved X N ((Rect.unit (s := S2048x128) ![w, 0] S16x128.size iw).emb x) := by
  have hx : (x 0).val < 16 := (x 0).isLt
  have e0 : (((Rect.unit (s := S2048x128) ![w, 0] S16x128.size iw).emb x) 0).val = w + 1 * (x 0).val := rfl
  unfold blockMoved moved
  rw [dif_neg (by rw [e0]; omega)]
  refine congrArg N (funext fun b => Fin.ext ?_)
  match b with
  | ⟨0, _⟩ => show n + 1 * (x 0).val = (w + 1 * (x 0).val) / 256 * 16 + ((w + 1 * (x 0).val) % 256 - 240); omega
  | ⟨1, _⟩ => rfl

/-- The two stores of a batch put before stores that agree with the block moved on. -/
theorem batch {a : Memref sig .tc .vmem S2048x128 .f32} (ha : a.IsWhole) {b : Memref sig .tc .vmem S128x128 .f32} (hb : b.IsWhole)
    (X : Vec Ideal S2048x128 .f32) (N : Vec Ideal S128x128 .f32) (o p n w : ℕ) (e : p = o + 16 ∧ w = o + 240 ∧ o % 256 = 0 ∧ n = o / 256 * 16)
    (ip : ∀ k, (![p, 0] : Fin 2 → ℕ) k + S240x128.size k ≤ S2048x128.size k) (io : ∀ k, (![o, 0] : Fin 2 → ℕ) k + S240x128.size k ≤ S2048x128.size k)
    (inn : ∀ k, (![n, 0] : Fin 2 → ℕ) k + S16x128.size k ≤ S128x128.size k) (iw : ∀ k, (![w, 0] : Fin 2 → ℕ) k + S16x128.size k ≤ S2048x128.size k)
    {L : List (View.Piece (Elt Ideal) S2048x128 .f32)} (hL : ∀ q ∈ L, ∀ x, q.2 x = blockMoved X N (q.1.emb x)) :
    ∀ q ∈ (⟨Rect.unit ![w, 0] S16x128.size iw, View.readAt (Elt Ideal) b.view (Rect.unit (s := S128x128) ![n, 0] S16x128.size inn).toLoadRect (hb.unread N)⟩ : View.Piece (Elt Ideal) S2048x128 .f32)
        :: ⟨Rect.unit ![o, 0] S240x128.size io, View.readAt (Elt Ideal) a.view (Rect.unit (s := S2048x128) ![p, 0] S240x128.size ip).toLoadRect (ha.unread X)⟩ :: L,
      ∀ x, q.2 x = blockMoved X N (q.1.emb x) := by
  refine List.forall_mem_cons.mpr ⟨fun x => ?_, List.forall_mem_cons.mpr ⟨fun x => ?_, hL⟩⟩
  · dsimp only
    rw [View.readAt_eq_ld, hb.read_unread]
    exact comes_apply X N o n w e.2.1 e.2.2.1 e.2.2.2 inn iw x
  · dsimp only
    rw [View.readAt_eq_ld, ha.read_unread]
    exact stays_apply X N o p e.1 e.2.2.1 ip io x

end Point

section Body

variable (c : Dev nD) (i : grid0.Coords) (a1 : Memref sig .tc .smem S8 .f32) (h1 : a1.IsWhole) (a2 : Memref sig .tc .vmem S64x1024 .f32)
    (h2 : a2.IsWhole) (a3 : Memref sig .tc .vmem S128x128 .f32) (h3 : a3.IsWhole) (a4 : Memref sig .tc .vmem S128x128 .f32) (h4 : a4.IsWhole)
    (a5 : Memref sig .tc .vmem S2048x128 .f32) (h5 : a5.IsWhole) (a6 : Memref sig .tc .vmem S2048x128 .f32) (h6 : a6.IsWhole)
    (a7 : Memref sig .tc .vmem S64x512 .f32) (h7 : a7.IsWhole) (a8 : Memref sig .tc .vmem S8192x128 .f32) (h8 : a8.IsWhole)
    (a9 : Memref sig .tc .vmem S8192x128 .f32) (h9 : a9.IsWhole) (a10 : Memref sig .tc .vmem S64x512 .f32) (h10 : a10.IsWhole)
    (a11 : Memref sig .tc .vmem S64x512 .f32) (h11 : a11.IsWhole) (a12 : Memref sig .tc .vmem S8x2x512 .f32) (h12 : a12.IsWhole)
    (a13 : Memref sig .tc .vmem S3x512 .f32) (h13 : a13.IsWhole) (a14 : Memref sig .tc .vmem S64x384 .f32) (h14 : a14.IsWhole)
    (a15 : Memref sig .tc .vmem S64x2048 .f32) (h15 : a15.IsWhole) (a16 : Memref sig .tc .vmem S2048x2048 .bf16) (h16 : a16.IsWhole)
    (a17 : Memref sig .tc .vmem S1x2048 .f32) (h17 : a17.IsWhole) (a18 : Memref sig .tc .vmem S64x2048 .f32) (h18 : a18.IsWhole)
    (a19 : Memref sig .tc .vmem S64x2048 .bf16) (h19 : a19.IsWhole) (a20 : Memref sig .tc .vmem S2048x128 .f32) (h20 : a20.IsWhole)
    (a21 : Memref sig .tc .vmem S2048x128 .f32) (h21 : a21.IsWhole) (a22 : Memref sig .tc .vmem S64x2048 .f32) (h22 : a22.IsWhole)
    (x0 : Vec Ideal S8 .f32) (x1 : Vec Ideal S64x1024 .f32) (x2 : Vec Ideal S128x128 .f32) (x3 : Vec Ideal S128x128 .f32)
    (x4 : Vec Ideal S2048x128 .f32) (x5 : Vec Ideal S2048x128 .f32) (x6 : Vec Ideal S64x512 .f32) (x7 : Vec Ideal S8192x128 .f32)
    (x8 : Vec Ideal S8192x128 .f32) (x9 : Vec Ideal S64x512 .f32) (x10 : Vec Ideal S64x512 .f32) (x11 : Vec Ideal S8x2x512 .f32)
    (x12 : Vec Ideal S3x512 .f32) (x13 : Vec Ideal S64x384 .f32) (x14 : Vec Ideal S64x2048 .f32) (x15 : Vec Ideal S2048x2048 .bf16)
    (x16 : Vec Ideal S1x2048 .f32)

/-- All stores in a block of the first cache agree with the block moved on. -/
theorem key_pieces : ∀ p ∈ (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16).2.2.1, ∀ x, p.2 x = blockMoved x4 x2 (p.1.emb x) := by
  refine batch h5 h3 x4 x2 1792 1808 112 2032 (by decide) _ _ _ _ ?_
  refine batch h5 h3 x4 x2 1536 1552 96 1776 (by decide) _ _ _ _ ?_
  refine batch h5 h3 x4 x2 1280 1296 80 1520 (by decide) _ _ _ _ ?_
  refine batch h5 h3 x4 x2 1024 1040 64 1264 (by decide) _ _ _ _ ?_
  refine batch h5 h3 x4 x2 768 784 48 1008 (by decide) _ _ _ _ ?_
  refine batch h5 h3 x4 x2 512 528 32 752 (by decide) _ _ _ _ ?_
  refine batch h5 h3 x4 x2 256 272 16 496 (by decide) _ _ _ _ ?_
  refine batch h5 h3 x4 x2 0 16 0 240 (by decide) _ _ _ _ ?_
  exact fun _ h => absurd h List.not_mem_nil

/-- All stores in a block of the second cache agree with the block moved on. -/
theorem value_pieces : ∀ p ∈ (kernelRun0_A c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16).2.2.2.1, ∀ x, p.2 x = blockMoved x5 x3 (p.1.emb x) := by
  refine batch h6 h4 x5 x3 1792 1808 112 2032 (by decide) _ _ _ _ ?_
  refine batch h6 h4 x5 x3 1536 1552 96 1776 (by decide) _ _ _ _ ?_
  refine batch h6 h4 x5 x3 1280 1296 80 1520 (by decide) _ _ _ _ ?_
  refine batch h6 h4 x5 x3 1024 1040 64 1264 (by decide) _ _ _ _ ?_
  refine batch h6 h4 x5 x3 768 784 48 1008 (by decide) _ _ _ _ ?_
  refine batch h6 h4 x5 x3 512 528 32 752 (by decide) _ _ _ _ ?_
  refine batch h6 h4 x5 x3 256 272 16 496 (by decide) _ _ _ _ ?_
  refine batch h6 h4 x5 x3 0 16 0 240 (by decide) _ _ _ _ ?_
  exact fun _ h => absurd h List.not_mem_nil

/-- What a point leaves in its block of the first cache. -/
theorem key_left : out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 = blockMoved x4 x2 := by
  unfold out0_A_19
  funext y
  have hc := cover0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 y
  exact (View.read_writes_apply_eq_canon VO0_19 _ y _ hc).trans
    (View.canon_apply_of_pieces (Val := Elt Ideal) (blockMoved x4 x2) _ (key_pieces c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16) y hc)

/-- What a point leaves in its block of the second cache. -/
theorem value_left : out0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 = blockMoved x5 x3 := by
  unfold out0_A_20
  funext y
  have hc := cover0_A_20 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16 y
  exact (View.read_writes_apply_eq_canon VO0_20 _ y _ hc).trans
    (View.canon_apply_of_pieces (Val := Elt Ideal) (blockMoved x5 x3) _ (value_pieces c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 x11 x12 x13 x14 x15 x16) y hc)

end Body

/-! ## The arrays -/

variable (m : (ℓ : Loc nD τ sig) → Buf (Elt Ideal) ℓ)

/-- The arguments that the two caches come from. -/
abbrev newKeys (c : Dev nD) : Mat 2048 128 := m ((c : Thread nD τ).loc main_arg2)
abbrev newValues (c : Dev nD) : Mat 2048 128 := m ((c : Thread nD τ).loc main_arg3)
abbrev oldKeys (c : Dev nD) : Mat 32768 128 := m ((c : Thread nD τ).loc main_arg4)
abbrev oldValues (c : Dev nD) : Mat 32768 128 := m ((c : Thread nD τ).loc main_arg5)

/-- The two results. -/
abbrev keys (c : Dev nD) : Mat 32768 128 := moved (S := 32768) (T := 2048) (oldKeys m c) (newKeys m c) rfl ⟨128, rfl⟩
abbrev values (c : Dev nD) : Mat 32768 128 := moved (S := 32768) (T := 2048) (oldValues m c) (newValues m c) rfl ⟨128, rfl⟩

theorem index_2 : ∀ t : Fin cfg0.N, win0_2.index t 0 = t.val ∧ win0_2.index t 1 = 0 :=
  (by decide +kernel : ∀ t : Fin grid0.N, win0_2.index t 0 = t.val ∧ win0_2.index t 1 = 0)

theorem index_3 : ∀ t : Fin cfg0.N, win0_3.index t 0 = t.val ∧ win0_3.index t 1 = 0 :=
  (by decide +kernel : ∀ t : Fin grid0.N, win0_3.index t 0 = t.val ∧ win0_3.index t 1 = 0)

theorem index_4 : ∀ t : Fin cfg0.N, win0_4.index t 0 = t.val ∧ win0_4.index t 1 = 0 :=
  (by decide +kernel : ∀ t : Fin grid0.N, win0_4.index t 0 = t.val ∧ win0_4.index t 1 = 0)

theorem index_5 : ∀ t : Fin cfg0.N, win0_5.index t 0 = t.val ∧ win0_5.index t 1 = 0 :=
  (by decide +kernel : ∀ t : Fin grid0.N, win0_5.index t 0 = t.val ∧ win0_5.index t 1 = 0)

theorem index_19 : ∀ t : Fin cfg0.N, win0_19.index t 0 = t.val ∧ win0_19.index t 1 = 0 :=
  (by decide +kernel : ∀ t : Fin grid0.N, win0_19.index t 0 = t.val ∧ win0_19.index t 1 = 0)

theorem index_20 : ∀ t : Fin cfg0.N, win0_20.index t 0 = t.val ∧ win0_20.index t 1 = 0 :=
  (by decide +kernel : ∀ t : Fin grid0.N, win0_20.index t 0 = t.val ∧ win0_20.index t 1 = 0)

/-- A row of a point's block, in an array whose blocks have `T` rows. -/
abbrev rowOf {T U : ℕ} (h : U = 16 * T) (t : Fin cfg0.N) (r : Fin T) : Fin U :=
  ⟨t.val * T + r.val, by
    have h1 : t.val + 1 ≤ 16 := lt_of_lt_of_eq t.isLt N_0
    have h2 := Nat.mul_le_mul_right T h1
    rw [Nat.add_mul] at h2
    omega⟩

theorem block_2 (c : Dev nD) (t : Fin cfg0.N) (r : Fin 128) (l : Fin 128) :
    (iblk m c 2 t : Vec Ideal S128x128 .f32) (ix2 r l) = newKeys m c (ix2 (rowOf rfl t r) l) := by
  have hi := index_2 t
  unfold iblk
  rw [View.read_apply]
  show V m c main_arg2 _ = m (c.tc.loc main_arg2) _
  rw [V_main_arg2]
  refine congrArg (m (c.tc.loc main_arg2)) (funext fun b => Fin.ext ?_)
  match b with
  | ⟨0, _⟩ => show win0_2.index t 0 * 128 + 1 * r.val = t.val * 128 + r.val; rw [hi.1]; omega
  | ⟨1, _⟩ => show win0_2.index t 1 * 128 + 1 * l.val = l.val; rw [hi.2]; omega

theorem block_3 (c : Dev nD) (t : Fin cfg0.N) (r : Fin 128) (l : Fin 128) :
    (iblk m c 3 t : Vec Ideal S128x128 .f32) (ix2 r l) = newValues m c (ix2 (rowOf rfl t r) l) := by
  have hi := index_3 t
  unfold iblk
  rw [View.read_apply]
  show V m c main_arg3 _ = m (c.tc.loc main_arg3) _
  rw [V_main_arg3]
  refine congrArg (m (c.tc.loc main_arg3)) (funext fun b => Fin.ext ?_)
  match b with
  | ⟨0, _⟩ => show win0_3.index t 0 * 128 + 1 * r.val = t.val * 128 + r.val; rw [hi.1]; omega
  | ⟨1, _⟩ => show win0_3.index t 1 * 128 + 1 * l.val = l.val; rw [hi.2]; omega

theorem block_4 (c : Dev nD) (t : Fin cfg0.N) (r : Fin 2048) (l : Fin 128) :
    (iblk m c 4 t : Vec Ideal S2048x128 .f32) (ix2 r l) = oldKeys m c (ix2 (rowOf rfl t r) l) := by
  have hi := index_4 t
  unfold iblk
  rw [View.read_apply]
  show V m c main_arg4 _ = m (c.tc.loc main_arg4) _
  rw [V_main_arg4]
  refine congrArg (m (c.tc.loc main_arg4)) (funext fun b => Fin.ext ?_)
  match b with
  | ⟨0, _⟩ => show win0_4.index t 0 * 2048 + 1 * r.val = t.val * 2048 + r.val; rw [hi.1]; omega
  | ⟨1, _⟩ => show win0_4.index t 1 * 128 + 1 * l.val = l.val; rw [hi.2]; omega

theorem block_5 (c : Dev nD) (t : Fin cfg0.N) (r : Fin 2048) (l : Fin 128) :
    (iblk m c 5 t : Vec Ideal S2048x128 .f32) (ix2 r l) = oldValues m c (ix2 (rowOf rfl t r) l) := by
  have hi := index_5 t
  unfold iblk
  rw [View.read_apply]
  show V m c main_arg5 _ = m (c.tc.loc main_arg5) _
  rw [V_main_arg5]
  refine congrArg (m (c.tc.loc main_arg5)) (funext fun b => Fin.ext ?_)
  match b with
  | ⟨0, _⟩ => show win0_5.index t 0 * 2048 + 1 * r.val = t.val * 2048 + r.val; rw [hi.1]; omega
  | ⟨1, _⟩ => show win0_5.index t 1 * 128 + 1 * l.val = l.val; rw [hi.2]; omega

/-- A block of a cache moved on is the block of the moved cache. -/
theorem moved_block (X : Mat 2048 128) (N : Mat 128 128) (A : Mat 32768 128) (B : Mat 2048 128) (t : Fin cfg0.N)
    (hX : ∀ r l, X (ix2 r l) = A (ix2 (rowOf rfl t r) l)) (hN : ∀ r l, N (ix2 r l) = B (ix2 (rowOf rfl t r) l)) (r : Fin 2048) (l : Fin 128) :
    moved (S := 2048) (T := 128) X N rfl ⟨8, rfl⟩ (ix2 r l) = moved (S := 32768) (T := 2048) A B rfl ⟨128, rfl⟩ (ix2 (rowOf rfl t r) l) := by
  unfold moved
  by_cases h : r.val % 256 < 240
  · have h' : (t.val * 2048 + r.val) % 256 < 240 := by omega
    refine (dif_pos h).trans (((hX _ l).trans ?_).trans (dif_pos h').symm)
    exact congrArg A (congrArg (ix2 · l) (Fin.ext (by show t.val * 2048 + (r.val + 16) = t.val * 2048 + r.val + 16; omega)))
  · have h' : ¬(t.val * 2048 + r.val) % 256 < 240 := by omega
    refine (dif_neg h).trans (((hN _ l).trans ?_).trans (dif_neg h').symm)
    refine congrArg B (congrArg (ix2 · l) (Fin.ext ?_))
    show t.val * 128 + (r.val / 256 * 16 + (r.val % 256 - 240)) = (t.val * 2048 + r.val) / 256 * 16 + ((t.val * 2048 + r.val) % 256 - 240)
    omega

/-- Every row of a cache is of one point, at one place. -/
theorem row_split (R : Fin 32768) : ∃ (t : Fin cfg0.N) (r : Fin 2048), R = rowOf rfl t r :=
  ⟨⟨R.val / 2048, by rw [show cfg0.N = 16 from N_0]; omega⟩, ⟨R.val % 2048, by omega⟩, Fin.ext (by show R.val = R.val / 2048 * 2048 + R.val % 2048; omega)⟩

theorem place_19 (t : Fin cfg0.N) (r : Fin 2048) (l : Fin 128) : (((cfg0.win 19).blk t).view.emb (ix2 r l) : S32768x128.Idx) = ix2 (rowOf rfl t r) l := by
  have hi := index_19 t
  refine funext fun b => Fin.ext ?_
  match b with
  | ⟨0, _⟩ => show win0_19.index t 0 * 2048 + 1 * r.val = t.val * 2048 + r.val; rw [hi.1]; omega
  | ⟨1, _⟩ => show win0_19.index t 1 * 128 + 1 * l.val = l.val; rw [hi.2]; omega

theorem array_19 (c : Dev nD) : ((dats m 0 c).arrAt 19 cfg0.N : Mat 32768 128) = keys m c := by
  funext i
  obtain ⟨R, l, rfl⟩ : ∃ R l, i = ix2 R l := ⟨i 0, i 1, eq_ix2 i⟩
  obtain ⟨t, r, rfl⟩ := row_split R
  have hb := congrFun (Value.blocks19 m c t (flush0_19 t)) (ix2 r l)
  rw [View.read_apply, place_19, Value.flushed19_A, key_left] at hb
  exact hb.trans (moved_block _ _ _ _ t (block_4 m c t) (block_2 m c t) r l)

theorem place_20 (t : Fin cfg0.N) (r : Fin 2048) (l : Fin 128) : (((cfg0.win 20).blk t).view.emb (ix2 r l) : S32768x128.Idx) = ix2 (rowOf rfl t r) l := by
  have hi := index_20 t
  refine funext fun b => Fin.ext ?_
  match b with
  | ⟨0, _⟩ => show win0_20.index t 0 * 2048 + 1 * r.val = t.val * 2048 + r.val; rw [hi.1]; omega
  | ⟨1, _⟩ => show win0_20.index t 1 * 128 + 1 * l.val = l.val; rw [hi.2]; omega

theorem array_20 (c : Dev nD) : ((dats m 0 c).arrAt 20 cfg0.N : Mat 32768 128) = values m c := by
  funext i
  obtain ⟨R, l, rfl⟩ : ∃ R l, i = ix2 R l := ⟨i 0, i 1, eq_ix2 i⟩
  obtain ⟨t, r, rfl⟩ := row_split R
  have hb := congrFun (Value.blocks20 m c t (flush0_20 t)) (ix2 r l)
  rw [View.read_apply, place_20, Value.flushed20_A, value_left] at hb
  exact hb.trans (moved_block _ _ _ _ t (block_5 m c t) (block_3 m c t) r l)

/-- The call runs, leaves the two caches moved on and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_2) = keys m c
      ∧ r.2.mem ((c : Thread nD τ).loc main_v0_3) = values m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun _ h c => ⟨(h c).2.2.1.trans (array_19 m c), (h c).2.2.2.1.trans (array_20 m c), (h c).2.2.2.2⟩)
    (Value.run_blocks m ρ)

end Cert.MixSampleIdeal.Caches

end
-- ==== Proof.ClaimsSample.lean ====
module

public import proofs.«01_k».proof.Defs
public import proofs.«01_k».proof.Proof.Gen.MixSample.Frame
public import proofs.«01_k».proof.Proof.SampleCaches
public import proofs.«01_k».proof.Proof.Gen.MixSampleRefIdeal.Run
public import proofs.«01_k».proof.Proof.Gen.MixSampleRefIdeal.Read
public import Idealize.ShloMosaic.Adequacy
public import Idealize.ShloMosaic.Init

@[expose] public section

set_option maxRecDepth 16384

noncomputable section

namespace Cert.Proof.Sample

open Cert.Feed Idealize.ShloMosaic Idealize.ShloMosaic.ValueIdx Idealize.ShloMosaic.Pipeline Idealize.SL.Sem

/-! # The claims of the sample mixer's call -/

theorem frame_kernel : Cert.quiescent_MixSample (hMixSample := Cert.MixSample.Gen.facts) := fun m ρ _ => Cert.MixSample.Gen.frame m ρ

theorem frame_ideal : Cert.quiescent_MixSampleIdeal (hMixSampleIdeal := Cert.MixSampleIdeal.Gen.facts) := fun m ρ _ => Cert.MixSampleIdeal.Gen.frame m ρ

theorem frame_reference : Cert.quiescent_MixSampleRefIdeal (hMixSampleRefIdeal := Cert.MixSampleRefIdeal.Gen.facts) := fun m ρ _ =>
  (θ_run Cert.MixSampleRefIdeal.defs _ _).mono (fun r h => ⟨fun c => (h c).2.2, Idealize.ShloMosaic.sem_eq_zero_of_no_sems (by decide) r.2⟩)
    (Cert.MixSampleRefIdeal.Value.run (F := Ideal) m ρ)

theorem preserves : Cert.preserves_MixSample_MixSampleIdeal := trivial

open Cert.MixSampleRefIdeal Cert.MixSampleRefIdeal.Gen Cert.MixSampleRefIdeal.Read Cert.MixSampleIdeal.Caches in
/-- The reference's cache, joined with the new rows and cut, is the cache moved on. -/
theorem reference_apply (x2 : (⟨S2048x128, .f32⟩ : BufTy).Contents (Elt Ideal)) (x4 : (⟨S32768x128, .f32⟩ : BufTy).Contents (Elt Ideal)) (R : Fin 32768) (l : Fin 128) :
    val_main_v4 (F := Ideal) x2 x4 (ix2 R l) = moved (S := 32768) (T := 2048) x4 x2 rfl ⟨128, rfl⟩ (ix2 R l) := by
  rw [val_main_v4_apply, val_main_v3_apply]
  unfold val_main_v2 moved
  by_cases h : R.val % 256 < 240
  · refine Eq.trans ?_ (dif_pos h).symm
    refine (concatenate_pair_apply_left (t := S128x136x2x128) (s₁ := S128x128x2x128) (s₂ := S128x8x2x128) 1 _ _ _ _ rfl
      (fun b => match b with
        | ⟨0, _⟩ => (⟨R.val / 256, by omega⟩ : Fin 128)
        | ⟨1, _⟩ => (⟨8 + R.val % 256 / 2, by omega⟩ : Fin 128)
        | ⟨2, _⟩ => (⟨R.val % 2, by omega⟩ : Fin 2)
        | ⟨3, _⟩ => l) ?_).trans ?_
    · intro b
      match b with
      | ⟨0, _⟩ => show R.val / 256 = (R.val * 128 + l.val) / 32768; omega
      | ⟨1, _⟩ => show 8 + R.val % 256 / 2 = 8 + (R.val * 128 + l.val) / 256 % 128; omega
      | ⟨2, _⟩ => show R.val % 2 = (R.val * 128 + l.val) / 128 % 2; omega
      | ⟨3, _⟩ => show l.val = (R.val * 128 + l.val) % 128; omega
    · refine (val_main_v0_apply x4 _).trans (congrArg x4 (funext fun b => Fin.ext ?_))
      match b with
      | ⟨0, _⟩ => show (((R.val / 256 * 128 + (8 + R.val % 256 / 2)) * 2 + R.val % 2) * 128 + l.val) / 128 = R.val + 16; omega
      | ⟨1, _⟩ => show (((R.val / 256 * 128 + (8 + R.val % 256 / 2)) * 2 + R.val % 2) * 128 + l.val) % 128 = l.val; omega
  · refine Eq.trans ?_ (dif_neg h).symm
    refine (concatenate_pair_apply_right (t := S128x136x2x128) (s₁ := S128x128x2x128) (s₂ := S128x8x2x128) 1 _ _ _ _ rfl rfl
      (fun b => match b with
        | ⟨0, _⟩ => (⟨R.val / 256, by omega⟩ : Fin 128)
        | ⟨1, _⟩ => (⟨R.val % 256 / 2 - 120, by omega⟩ : Fin 8)
        | ⟨2, _⟩ => (⟨R.val % 2, by omega⟩ : Fin 2)
        | ⟨3, _⟩ => l) ?_ ?_).trans ?_
    · intro b hb
      match b with
      | ⟨0, _⟩ => show R.val / 256 = (R.val * 128 + l.val) / 32768; omega
      | ⟨1, _⟩ => exact absurd rfl hb
      | ⟨2, _⟩ => show R.val % 2 = (R.val * 128 + l.val) / 128 % 2; omega
      | ⟨3, _⟩ => show l.val = (R.val * 128 + l.val) % 128; omega
    · show R.val % 256 / 2 - 120 + 128 = 8 + (R.val * 128 + l.val) / 256 % 128
      omega
    · refine (val_main_v1_apply x2 _).trans (congrArg x2 (funext fun b => Fin.ext ?_))
      match b with
      | ⟨0, _⟩ =>
        show (((R.val / 256 * 8 + (R.val % 256 / 2 - 120)) * 2 + R.val % 2) * 128 + l.val) / 128 = R.val / 256 * 16 + (R.val % 256 - 240)
        omega
      | ⟨1, _⟩ => show (((R.val / 256 * 8 + (R.val % 256 / 2 - 120)) * 2 + R.val % 2) * 128 + l.val) % 128 = l.val; omega

open Cert.MixSampleRefIdeal.Read in
/-- The kernel's two caches are the reference's. -/
theorem algebraic : Cert.algebraic_MixSampleIdeal_MixSampleRefIdeal (hMixSampleIdeal := Cert.MixSampleIdeal.Gen.facts) (hMixSampleRefIdeal := Cert.MixSampleRefIdeal.Gen.facts) := by
  intro m ρ m' ρ' _ hagree
  refine ⟨_, _, Cert.MixSampleIdeal.Caches.run m ρ, ?_⟩
  refine (θ_run Cert.MixSampleRefIdeal.defs _ _).mono (fun _ h c => ?_) (Cert.MixSampleRefIdeal.Value.run (F := Ideal) m' ρ')
  obtain ⟨-, -, a2, a3, a4, a5, -⟩ := hagree c
  obtain ⟨h0, h1, hk⟩ := h c
  refine ⟨h0.trans ?_, h1.trans ?_, hk⟩
  · rw [val_main_v4_eq, a2, a4]
    funext i
    rw [eq_ix2 i]
    exact reference_apply _ _ _ _
  · rw [val_main_v9_eq, a3, a5]
    funext i
    rw [eq_ix2 i]
    exact reference_apply _ _ _ _

end Cert.Proof.Sample

end
-- ==== Proof.BiasBody.lean ====
module

public import proofs.«01_k».proof.Proof.Gen.BiasIdeal.Value
public import Idealize.ShloMosaic.Lib.ValueIdxCore

@[expose] public section

set_option maxRecDepth 16384

noncomputable section

namespace Cert.BiasIdeal.Table

open Cert.BiasIdeal Cert.BiasIdeal.Gen Idealize.ShloMosaic Idealize.ShloMosaic.TcCoe Idealize.ShloMosaic.ValueIdx

/-! # What the kernel of the bias tables writes -/

/-- A number of the table, in the unit of a base two exponent. -/
abbrev scaled (x : EReal) : EReal := FloatOps.mulf (F := Ideal) (φ := .f32) x (Named.named (F := Ideal) κ "log2e" 0x3FB8AA3B#32)

/-- The kernel's `n` selections: the last table entry whose number is the word's. -/
def chain (w : BitVec 32) (t : Fin 32 → EReal) : (n : ℕ) → n ≤ 32 → EReal
  | 0, _ => Scalar.ofBits (F := Ideal) .f32 0x00000000#32
  | n + 1, h => Scalar.select (IntOp.cmpi .eq w (BitVec.ofNat 32 n)) (scaled (t ⟨n, h⟩)) (chain w t n (Nat.le_of_succ_le h))

theorem chain_eq (w : BitVec 32) (t : Fin 32 → EReal) (k : Fin 32) (hw : w = BitVec.ofNat 32 k.val) :
    ∀ (n : ℕ) (h : n ≤ 32), k.val < n → chain w t n h = scaled (t k)
  | 0, _, hk => absurd hk (Nat.not_lt_zero _)
  | n + 1, h, hk => by
    unfold chain
    by_cases e : k.val = n
    · obtain rfl : k = ⟨n, h⟩ := Fin.ext e
      subst hw
      simp [IntOp.cmpi, Scalar.select]
    · have hne : w ≠ BitVec.ofNat 32 n := by
        intro h'
        have := congrArg BitVec.toNat (hw.symm.trans h')
        simp only [BitVec.toNat_ofNat] at this
        omega
      rw [show IntOp.cmpi .eq w (BitVec.ofNat 32 n) = 0#1 from congrArg BitVec.ofBool (beq_eq_false_iff_ne.mpr hne)]
      exact chain_eq w t k hw n _ (by omega)

section
variable (c : Dev nD) (a0 : Memref sig .tc .smem S256 .f32) (h0 : a0.IsWhole) (a1 : Memref sig .tc .vmem S128x256 .i32) (h1 : a1.IsWhole) (a2 : Memref sig .tc .vmem S8x384 .i32) (h2 : a2.IsWhole) (a3 : Memref sig .tc .vmem S2x512x256 .f32) (h3 : a3.IsWhole) (a4 : Memref sig .tc .vmem S64x384 .f32) (h4 : a4.IsWhole)
    (x0 : Vec Ideal S256 .f32) (x1 : Vec Ideal S128x256 .i32) (x2 : Vec Ideal S8x384 .i32)

theorem one_inb (j : ℕ) (hj : j < 256) : ∀ a, (![j] : Fin 1 → ℕ) a + S1.size a ≤ S256.size a := fun a => by
  match a with
  | ⟨0, _⟩ => exact hj

/-- Head `hh`'s entries, as the kernel loads them. -/
def entry (hh : Fin 8) (k : Fin 32) : EReal :=
  View.readAt (Elt Ideal) a0.view (Rect.unit (s := S256) ![k.val * 8 + hh.val] S1.size (one_inb _ (by omega))).toLoadRect (h0.unread x0)
    (Shape.Idx.first (s := S1) (by decide))

theorem entry_eq (hh : Fin 8) (k : Fin 32) : entry a0 h0 x0 hh k = x0 (ix1 (⟨k.val * 8 + hh.val, by omega⟩ : Fin 256)) := by
  unfold entry
  rw [View.readAt_eq_ld, h0.read_unread]
  refine congrArg x0 (funext fun a => Fin.ext ?_)
  match a with
  | ⟨0, _⟩ =>
    have : ((Shape.Idx.first (s := S1) (by decide)) 0).val < 1 := Fin.isLt _
    show k.val * 8 + hh.val + 1 * ((Shape.Idx.first (s := S1) (by decide)) 0).val = k.val * 8 + hh.val
    omega

/-- The sample's table, one row per head and query. -/
def sampleTable (b : Fin 8 → Fin 384 → Fin 32) : Vec Ideal S64x384 .f32 := fun y =>
  scaled (x0 (ix1 (⟨(b ⟨(y 0).val % 8, by omega⟩ (y 1)).val * 8 + (y 0).val / 8, by have := (y 0).isLt; have : (y 0).val < 64 := this; omega⟩ : Fin 256)))

theorem sample_piece (b : Fin 8 → Fin 384 → Fin 32) (hb : ∀ r k, x2 (ix2 r k) = BitVec.ofNat 32 (b r k).val) (hh : Fin 8) (o : ℕ) (ho : o = hh.val * 8)
    (inb : ∀ a, (![o, 0] : Fin 2 → ℕ) a + S8x384.size a ≤ S64x384.size a) (pay : Vec Ideal S8x384 .f32)
    (hp : pay = fun x => chain (View.readAt (Elt Ideal) a2.view (Rect.unit (s := S8x384) ![0, 0] S8x384.size inb_S8x384_S8x384_0_0).toLoadRect (h2.unread x2) x) (entry a0 h0 x0 hh) 32 le_rfl)
    (x : S8x384.Idx) : pay x = sampleTable x0 b ((Rect.unit (s := S64x384) ![o, 0] S8x384.size inb).emb x) := by
  subst hp ho
  rw [View.readAt_eq_ld, h2.read_unread]
  have e : (Rect.unit (s := S8x384) ![0, 0] S8x384.size inb_S8x384_S8x384_0_0).emb x = ix2 (⟨(x 0).val, (x 0).isLt⟩ : Fin 8) (⟨(x 1).val, (x 1).isLt⟩ : Fin 384) := by
    funext a
    apply Fin.ext
    match a with
    | ⟨0, _⟩ => show 0 + 1 * (x 0).val = (x 0).val; omega
    | ⟨1, _⟩ => show 0 + 1 * (x 1).val = (x 1).val; omega
  have hx : (x 0).val < 8 := (x 0).isLt
  refine (chain_eq _ _ (b ⟨(x 0).val, (x 0).isLt⟩ ⟨(x 1).val, (x 1).isLt⟩) ((congrArg x2 e).trans (hb _ _)) 32 _ (Fin.isLt _)).trans ?_
  rw [entry_eq]
  unfold sampleTable
  refine congrArg (fun j => scaled (x0 (ix1 j))) (Fin.ext ?_)
  have e1 : ((Rect.unit (s := S64x384) ![hh.val * 8, 0] S8x384.size inb).emb x 1) = (⟨(x 1).val, (x 1).isLt⟩ : Fin 384) :=
    Fin.ext (by show 0 + 1 * (x 1).val = (x 1).val; omega)
  have e2 : (⟨(hh.val * 8 + 1 * (x 0).val) % 8, Nat.mod_lt _ (by decide)⟩ : Fin 8) = ⟨(x 0).val, hx⟩ :=
    Fin.ext (by show (hh.val * 8 + 1 * (x 0).val) % 8 = (x 0).val; omega)
  show (b _ _).val * 8 + hh.val = (b ⟨(hh.val * 8 + 1 * (x 0).val) % 8, _⟩ _).val * 8 + (hh.val * 8 + 1 * (x 0).val) / 8
  rw [e2, e1]
  show (b ⟨(x 0).val, _⟩ ⟨(x 1).val, _⟩).val * 8 + _ = (b ⟨(x 0).val, _⟩ ⟨(x 1).val, _⟩).val * 8 + _
  omega

theorem sample_pieces (b : Fin 8 → Fin 384 → Fin 32) (hb : ∀ r k, x2 (ix2 r k) = BitVec.ofNat 32 (b r k).val) :
    ∀ p ∈ (kernelRun0_A c a0 h0 a1 h1 a2 h2 a3 h3 a4 h4 x0 x1 x2).2.1, ∀ x, p.2 x = sampleTable x0 b (p.1.emb x) := by
  refine List.forall_mem_cons.mpr ⟨sample_piece a0 h0 a2 h2 x0 x2 b hb 7 56 rfl inb_S64x384_S8x384_56_0 _ (by sl_kernel_rfl), ?_⟩
  refine List.forall_mem_cons.mpr ⟨sample_piece a0 h0 a2 h2 x0 x2 b hb 6 48 rfl inb_S64x384_S8x384_48_0 _ (by sl_kernel_rfl), ?_⟩
  refine List.forall_mem_cons.mpr ⟨sample_piece a0 h0 a2 h2 x0 x2 b hb 5 40 rfl inb_S64x384_S8x384_40_0 _ (by sl_kernel_rfl), ?_⟩
  refine List.forall_mem_cons.mpr ⟨sample_piece a0 h0 a2 h2 x0 x2 b hb 4 32 rfl inb_S64x384_S8x384_32_0 _ (by sl_kernel_rfl), ?_⟩
  refine List.forall_mem_cons.mpr ⟨sample_piece a0 h0 a2 h2 x0 x2 b hb 3 24 rfl inb_S64x384_S8x384_24_0 _ (by sl_kernel_rfl), ?_⟩
  refine List.forall_mem_cons.mpr ⟨sample_piece a0 h0 a2 h2 x0 x2 b hb 2 16 rfl inb_S64x384_S8x384_16_0 _ (by sl_kernel_rfl), ?_⟩
  refine List.forall_mem_cons.mpr ⟨sample_piece a0 h0 a2 h2 x0 x2 b hb 1 8 rfl inb_S64x384_S8x384_8_0 _ (by sl_kernel_rfl), ?_⟩
  refine List.forall_mem_cons.mpr ⟨sample_piece a0 h0 a2 h2 x0 x2 b hb 0 0 rfl inb_S64x384_S8x384_0_0 _ (by sl_kernel_rfl), ?_⟩
  exact fun _ h => absurd h List.not_mem_nil

/-- The batch's table, by key head, query head of the group and query. -/
def ownTable (b : Fin 128 → Fin 256 → Fin 32) : Vec Ideal S2x512x256 .f32 := fun y =>
  scaled (x0 (ix1 (⟨(b ⟨(y 1).val % 128, by omega⟩ (y 2)).val * 8 + ((y 0).val * 4 + (y 1).val / 128),
    by have h : (y 0).val < 2 := (y 0).isLt; have h' : (y 1).val < 512 := (y 1).isLt; omega⟩ : Fin 256)))

theorem own_piece (b : Fin 128 → Fin 256 → Fin 32) (hb : ∀ r k, x1 (ix2 r k) = BitVec.ofNat 32 (b r k).val) (hh : Fin 8) (g o : ℕ) (hg : g = hh.val / 4)
    (ho : o = hh.val % 4 * 128) (inb : ∀ a, (![g, o, 0] : Fin 3 → ℕ) a + S1x128x256.size a ≤ S2x512x256.size a) (hs : S128x256.ShapeCasts S1x128x256)
    (pay : Vec Ideal S1x128x256 .f32)
    (hp : pay = shapeCast S1x128x256 (fun x => chain (View.readAt (Elt Ideal) a1.view (Rect.unit (s := S128x256) ![0, 0] S128x256.size inb_S128x256_S128x256_0_0).toLoadRect (h1.unread x1) x) (entry a0 h0 x0 hh) 32 le_rfl) hs)
    (x : S1x128x256.Idx) : pay x = ownTable x0 b ((Rect.unit (s := S2x512x256) ![g, o, 0] S1x128x256.size inb).emb x) := by
  subst hp hg ho
  rw [View.readAt_eq_ld, h1.read_unread]
  have hx0 : (x 0).val < 1 := (x 0).isLt
  have hx : (x 1).val < 128 := (x 1).isLt
  have hx2 : (x 2).val < 256 := (x 2).isLt
  refine (shapeCast_apply _ hs x (ix2 (⟨(x 1).val, hx⟩ : Fin 128) (⟨(x 2).val, hx2⟩ : Fin 256)) ?_).trans ?_
  · rw [Shape.rowMajor_val_three, Shape.rowMajor_val_two]
    show (x 1).val * 256 + (x 2).val = ((x 0).val * 128 + (x 1).val) * 256 + (x 2).val
    omega
  have e : (Rect.unit (s := S128x256) ![0, 0] S128x256.size inb_S128x256_S128x256_0_0).emb (ix2 (⟨(x 1).val, hx⟩ : Fin 128) (⟨(x 2).val, hx2⟩ : Fin 256))
      = ix2 (⟨(x 1).val, hx⟩ : Fin 128) (⟨(x 2).val, hx2⟩ : Fin 256) := by
    funext a
    apply Fin.ext
    match a with
    | ⟨0, _⟩ => show 0 + 1 * (x 1).val = (x 1).val; omega
    | ⟨1, _⟩ => show 0 + 1 * (x 2).val = (x 2).val; omega
  refine (chain_eq _ _ (b ⟨(x 1).val, hx⟩ ⟨(x 2).val, hx2⟩) ((congrArg x1 e).trans (hb _ _)) 32 _ (Fin.isLt _)).trans ?_
  rw [entry_eq]
  unfold ownTable
  refine congrArg (fun j => scaled (x0 (ix1 j))) (Fin.ext ?_)
  have e1 : ((Rect.unit (s := S2x512x256) ![hh.val / 4, hh.val % 4 * 128, 0] S1x128x256.size inb).emb x 2) = (⟨(x 2).val, hx2⟩ : Fin 256) :=
    Fin.ext (by show 0 + 1 * (x 2).val = (x 2).val; omega)
  have e2 : (⟨(hh.val % 4 * 128 + 1 * (x 1).val) % 128, Nat.mod_lt _ (by decide)⟩ : Fin 128) = ⟨(x 1).val, hx⟩ :=
    Fin.ext (by show (hh.val % 4 * 128 + 1 * (x 1).val) % 128 = (x 1).val; omega)
  show (b _ _).val * 8 + hh.val = (b ⟨(hh.val % 4 * 128 + 1 * (x 1).val) % 128, _⟩ _).val * 8 + ((hh.val / 4 + 1 * (x 0).val) * 4 + (hh.val % 4 * 128 + 1 * (x 1).val) / 128)
  rw [e2, e1]
  omega

theorem own_pieces (b : Fin 128 → Fin 256 → Fin 32) (hb : ∀ r k, x1 (ix2 r k) = BitVec.ofNat 32 (b r k).val) :
    ∀ p ∈ (kernelRun0_A c a0 h0 a1 h1 a2 h2 a3 h3 a4 h4 x0 x1 x2).1, ∀ x, p.2 x = ownTable x0 b (p.1.emb x) := by
  refine List.forall_mem_cons.mpr ⟨own_piece a0 h0 a1 h1 x0 x1 b hb 7 1 384 rfl rfl inb_S2x512x256_S1x128x256_1_384_0 shapeCasts_S128x256_S1x128x256 _ (by sl_kernel_rfl), ?_⟩
  refine List.forall_mem_cons.mpr ⟨own_piece a0 h0 a1 h1 x0 x1 b hb 6 1 256 rfl rfl inb_S2x512x256_S1x128x256_1_256_0 shapeCasts_S128x256_S1x128x256 _ (by sl_kernel_rfl), ?_⟩
  refine List.forall_mem_cons.mpr ⟨own_piece a0 h0 a1 h1 x0 x1 b hb 5 1 128 rfl rfl inb_S2x512x256_S1x128x256_1_128_0 shapeCasts_S128x256_S1x128x256 _ (by sl_kernel_rfl), ?_⟩
  refine List.forall_mem_cons.mpr ⟨own_piece a0 h0 a1 h1 x0 x1 b hb 4 1 0 rfl rfl inb_S2x512x256_S1x128x256_1_0_0 shapeCasts_S128x256_S1x128x256 _ (by sl_kernel_rfl), ?_⟩
  refine List.forall_mem_cons.mpr ⟨own_piece a0 h0 a1 h1 x0 x1 b hb 3 0 384 rfl rfl inb_S2x512x256_S1x128x256_0_384_0 shapeCasts_S128x256_S1x128x256 _ (by sl_kernel_rfl), ?_⟩
  refine List.forall_mem_cons.mpr ⟨own_piece a0 h0 a1 h1 x0 x1 b hb 2 0 256 rfl rfl inb_S2x512x256_S1x128x256_0_256_0 shapeCasts_S128x256_S1x128x256 _ (by sl_kernel_rfl), ?_⟩
  refine List.forall_mem_cons.mpr ⟨own_piece a0 h0 a1 h1 x0 x1 b hb 1 0 128 rfl rfl inb_S2x512x256_S1x128x256_0_128_0 shapeCasts_S128x256_S1x128x256 _ (by sl_kernel_rfl), ?_⟩
  refine List.forall_mem_cons.mpr ⟨own_piece a0 h0 a1 h1 x0 x1 b hb 0 0 0 rfl rfl inb_S2x512x256_S1x128x256_0_0_0 shapeCasts_S128x256_S1x128x256 _ (by sl_kernel_rfl), ?_⟩
  exact fun _ h => absurd h List.not_mem_nil

theorem sample_left (b : Fin 8 → Fin 384 → Fin 32) (hb : ∀ r k, x2 (ix2 r k) = BitVec.ofNat 32 (b r k).val) :
    out0_A_4 c a0 h0 a1 h1 a2 h2 a3 h3 a4 h4 x0 x1 x2 = sampleTable x0 b := by
  unfold out0_A_4
  funext y
  have hc := cover0_A_4 c a0 h0 a1 h1 a2 h2 a3 h3 a4 h4 x0 x1 x2 y
  exact (View.read_writes_apply_eq_canon VO0_4 _ y _ hc).trans
    (View.canon_apply_of_pieces (Val := Elt Ideal) (sampleTable x0 b) _ (sample_pieces c a0 h0 a1 h1 a2 h2 a3 h3 a4 h4 x0 x1 x2 b hb) y hc)

theorem own_left (b : Fin 128 → Fin 256 → Fin 32) (hb : ∀ r k, x1 (ix2 r k) = BitVec.ofNat 32 (b r k).val) :
    out0_A_3 c a0 h0 a1 h1 a2 h2 a3 h3 a4 h4 x0 x1 x2 = ownTable x0 b := by
  unfold out0_A_3
  funext y
  have hc := cover0_A_3 c a0 h0 a1 h1 a2 h2 a3 h3 a4 h4 x0 x1 x2 y
  exact (View.read_writes_apply_eq_canon VO0_3 _ y _ hc).trans
    (View.canon_apply_of_pieces (Val := Elt Ideal) (ownTable x0 b) _ (own_pieces c a0 h0 a1 h1 a2 h2 a3 h3 a4 h4 x0 x1 x2 b hb) y hc)

end

end Cert.BiasIdeal.Table

end
-- ==== Proof.BiasWord.lean ====
module

public import proofs.«01_k».proof.BiasIdeal

@[expose] public section

set_option maxRecDepth 65536

namespace Cert.BiasIdeal.Table

open Cert.BiasIdeal Idealize.ShloMosaic

/-! # The two tables of buckets

  The kernel holds the bucket of every query and key distance as two tables of words. -/

/-- The bucket of a distance: the distance itself below 16; from there on one bucket for every factor `8^(1/16)`, up
    to 31. -/
def bucket (n : ℕ) : ℕ :=
  if n < 16 then n else 16 + ((List.range 15).filter fun j => decide (8 ^ (j + 1) * 16 ^ 16 ≤ n ^ 16)).length

/-- A row of the batch's table: query `r` against the 256 keys of its row group and the one before. -/
def OwnRow (r : ℕ) : Prop := ∀ k : Fin 256, lit0t (r * 256 + k.val) = BitVec.ofNat 32 (bucket (128 + r - k.val))

/-- A row of the sample's table: query `r` against the 192 keys, two columns each. -/
def SampleRow (r : ℕ) : Prop := ∀ k : Fin 384, lit1t (r * 384 + k.val) = BitVec.ofNat 32 (bucket (r + 128 - k.val / 2))

noncomputable instance (r : ℕ) : Decidable (OwnRow r) := inferInstanceAs (Decidable (∀ k : Fin 256, _))
noncomputable instance (r : ℕ) : Decidable (SampleRow r) := inferInstanceAs (Decidable (∀ k : Fin 384, _))

/-- 32 rows of the batch's table. -/
def OwnRows (a : ℕ) : Prop := ∀ r : Fin 32, OwnRow (a * 32 + r.val)

noncomputable instance (a : ℕ) : Decidable (OwnRows a) := inferInstanceAs (Decidable (∀ r : Fin 32, _))

end Cert.BiasIdeal.Table
-- ==== Proof.BiasBucket.lean ====
module

public import proofs.«01_k».proof.Proof.BiasWord
public import Idealize.ShloMosaic.PureOps.Ideal.Laws
public import Idealize.ShloMosaic.Lib.IdealHost

@[expose] public section

set_option maxRecDepth 16384

noncomputable section

namespace Cert.BiasIdeal.Table

open Idealize.ShloMosaic

/-! # The bucket of a distance, by logarithms and by powers -/

theorem bucket_lt (n : ℕ) : bucket n < 32 := by
  unfold bucket
  split
  · omega
  · have := List.length_filter_le (fun j => decide (8 ^ (j + 1) * 16 ^ 16 ≤ n ^ 16)) (List.range 15)
    rw [List.length_range] at this
    omega

/-- The row of the table of numbers that a distance reads. -/
abbrev rowAt (n : ℕ) : Fin 32 := ⟨bucket n, bucket_lt n⟩

/-- The bucket of a distance below 256 counts the factors `8^(1/16)` in its ratio to 16. -/
theorem bucket_powers : ∀ n : Fin 256, 16 ≤ n.val → ∃ j : Fin 22,
    (8 ^ j.val * 16 ^ 16 ≤ n.val ^ 16 ∧ n.val ^ 16 < 8 ^ (j.val + 1) * 16 ^ 16) ∧ bucket n.val = min (16 + j.val) 31 := by decide +kernel

theorem bucket_small : ∀ n : Fin 256, n.val < 16 → bucket n.val = n.val := by decide +kernel

/-- Powers decide the logarithm's whole part. -/
theorem floor_log (n j : ℕ) (hn : 16 ≤ n) (h1 : 8 ^ j * 16 ^ 16 ≤ n ^ 16) (h2 : n ^ 16 < 8 ^ (j + 1) * 16 ^ 16) :
    0 ≤ Real.log ((n : ℝ) / 16) / Real.log 8 * 16 ∧ ⌊Real.log ((n : ℝ) / 16) / Real.log 8 * 16⌋ = (j : ℤ) := by
  have h8 : 0 < Real.log 8 := Real.log_pos (by norm_num)
  have hn0 : (0 : ℝ) < n := by exact_mod_cast (by omega : 0 < n)
  have hl : Real.log ((n : ℝ) / 16) = Real.log n - Real.log 16 := Real.log_div hn0.ne' (by norm_num)
  have l1 : (j : ℝ) * Real.log 8 + 16 * Real.log 16 ≤ 16 * Real.log n := by
    have h := Real.log_le_log (by positivity) (show (8 : ℝ) ^ j * 16 ^ 16 ≤ (n : ℝ) ^ 16 by exact_mod_cast h1)
    rw [Real.log_mul (by positivity) (by positivity), Real.log_pow, Real.log_pow, Real.log_pow] at h
    exact_mod_cast h
  have l2 : 16 * Real.log n < ((j : ℝ) + 1) * Real.log 8 + 16 * Real.log 16 := by
    have h := Real.log_lt_log (by positivity) (show (n : ℝ) ^ 16 < (8 : ℝ) ^ (j + 1) * 16 ^ 16 by exact_mod_cast h2)
    rw [Real.log_mul (by positivity) (by positivity), Real.log_pow, Real.log_pow, Real.log_pow] at h
    exact_mod_cast h
  have e : Real.log ((n : ℝ) / 16) / Real.log 8 * 16 = 16 * (Real.log n - Real.log 16) / Real.log 8 := by rw [hl]; ring
  have g1 : (j : ℝ) ≤ Real.log ((n : ℝ) / 16) / Real.log 8 * 16 := by rw [e, le_div_iff₀ h8]; linarith
  have g2 : Real.log ((n : ℝ) / 16) / Real.log 8 * 16 < (j : ℝ) + 1 := by rw [e, div_lt_iff₀ h8]; linarith
  exact ⟨(Nat.cast_nonneg j).trans g1, Int.floor_eq_iff.mpr ⟨by exact_mod_cast g1, by exact_mod_cast g2⟩⟩

theorem ofBits_16 : Ideal.ofBits .f32 0x41800000#32 = ((16 : ℝ) : EReal) := by
  simp [Ideal.ofBits, Ideal.ieee, -EReal.coe_mul]; norm_num

theorem ofBits_8 : Ideal.ofBits .f32 0x41000000#32 = ((8 : ℝ) : EReal) := by
  simp [Ideal.ofBits, Ideal.ieee, -EReal.coe_mul]; norm_num

theorem ofBits_2 : Ideal.ofBits .f32 0x40000000#32 = ((2 : ℝ) : EReal) := by
  simp [Ideal.ofBits, Ideal.ieee, -EReal.coe_mul]; norm_num

theorem log_pos_coe (r : ℝ) (hr : 0 < r) : Ideal.log (r : EReal) = ((Real.log r : ℝ) : EReal) := by
  rw [Ideal.log_coe, if_neg (not_le.mpr hr)]

theorem div_coe_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The whole part of sixteen times the logarithm, as the reference spells it. -/
def steps (w : BitVec 32) : BitVec 32 :=
  Ideal.fptosi 32 (Ideal.div (Ideal.log (Ideal.div ((w.toInt : ℝ) : EReal) (Ideal.ofBits .f32 0x41800000#32))) (Ideal.log (Ideal.ofBits .f32 0x41000000#32)) * Ideal.ofBits .f32 0x41800000#32)

theorem steps_eq (n : Fin 256) (j : Fin 22) (hn : 16 ≤ n.val) (h1 : 8 ^ j.val * 16 ^ 16 ≤ n.val ^ 16) (h2 : n.val ^ 16 < 8 ^ (j.val + 1) * 16 ^ 16) :
    steps (BitVec.ofNat 32 n.val) = BitVec.ofNat 32 j.val := by
  have ht : (BitVec.ofNat 32 n.val).toInt = (n.val : ℤ) := (by decide +kernel : ∀ n : Fin 256, (BitVec.ofNat 32 n.val).toInt = (n.val : ℤ)) n
  have hn0 : (0 : ℝ) < n.val := by exact_mod_cast (by omega : 0 < n.val)
  obtain ⟨f0, f1⟩ := floor_log n.val j.val hn h1 h2
  unfold steps
  rw [ht, ofBits_16, ofBits_8, Int.cast_natCast, div_coe_coe _ _ (by norm_num), log_pos_coe _ (by positivity), log_pos_coe _ (by norm_num),
    div_coe_coe _ _ (Real.log_pos (by norm_num)).ne', ← EReal.coe_mul]
  unfold Ideal.fptosi
  show BitVec.ofInt 32 (max _ (min _ (if 0 ≤ _ then ⌊Real.log ((n.val : ℝ) / 16) / Real.log 8 * 16⌋ else _))) = _
  rw [if_pos f0, f1]
  exact (by decide +kernel : ∀ j : Fin 22, BitVec.ofInt 32 (max (-(2 ^ (32 - 1) : ℕ) : ℤ) (min ((2 ^ (32 - 1) : ℕ) - 1 : ℤ) (j.val : ℤ))) = BitVec.ofNat 32 j.val) j

/-- The bucket as the reference computes it from the distance's word, with the index taken from the end when negative. -/
def bucketWord (w : BitVec 32) : BitVec 32 :=
  let b := Scalar.select (IntOp.cmpi .slt w 16#32) w (IntOp.minsi (IntOp.addi 16#32 (steps (IntOp.maxsi w 1#32))) 31#32)
  Scalar.select (IntOp.cmpi .slt b 0#32) (IntOp.addi b 32#32) b

theorem bucketWord_eq (n : Fin 256) : bucketWord (BitVec.ofNat 32 n.val) = BitVec.ofNat 32 (rowAt n.val).val := by
  by_cases hn : n.val < 16
  · unfold bucketWord
    show _ = BitVec.ofNat 32 (bucket n.val)
    rw [bucket_small n hn]
    have e : IntOp.cmpi .slt (BitVec.ofNat 32 n.val) 16#32 = 1#1 :=
      (by decide +kernel : ∀ n : Fin 256, n.val < 16 → IntOp.cmpi .slt (BitVec.ofNat 32 n.val) 16#32 = 1#1) n hn
    have e' : IntOp.cmpi .slt (BitVec.ofNat 32 n.val) 0#32 = 0#1 :=
      (by decide +kernel : ∀ n : Fin 256, IntOp.cmpi .slt (BitVec.ofNat 32 n.val) 0#32 = 0#1) n
    have s1 : ∀ a b : BitVec 32, Scalar.select 1#1 a b = a := fun _ _ => rfl
    have s0 : ∀ a b : BitVec 32, Scalar.select 0#1 a b = b := fun _ _ => rfl
    simp only [e, s1, e', s0]
  · obtain ⟨j, ⟨h1, h2⟩, hb⟩ := bucket_powers n (by omega)
    unfold bucketWord
    show _ = BitVec.ofNat 32 (bucket n.val)
    have e : IntOp.cmpi .slt (BitVec.ofNat 32 n.val) 16#32 = 0#1 :=
      (by decide +kernel : ∀ n : Fin 256, ¬n.val < 16 → IntOp.cmpi .slt (BitVec.ofNat 32 n.val) 16#32 = 0#1) n hn
    have e' : IntOp.maxsi (BitVec.ofNat 32 n.val) 1#32 = BitVec.ofNat 32 n.val :=
      (by decide +kernel : ∀ n : Fin 256, ¬n.val < 16 → IntOp.maxsi (BitVec.ofNat 32 n.val) 1#32 = BitVec.ofNat 32 n.val) n hn
    rw [hb, e', steps_eq n j (by omega) h1 h2, e]
    exact (by decide +kernel : ∀ (w : Fin 256) (j : Fin 22), (let b := Scalar.select 0#1 (BitVec.ofNat 32 w.val) (IntOp.minsi (IntOp.addi 16#32 (BitVec.ofNat 32 j.val)) 31#32)
      Scalar.select (IntOp.cmpi .slt b 0#32) (IntOp.addi b 32#32) b) = BitVec.ofNat 32 (min (16 + j.val) 31)) n j

end Cert.BiasIdeal.Table

end
-- ==== Proof.BiasRows0.lean ====
module

public import proofs.«01_k».proof.Proof.BiasWord

@[expose] public section

set_option maxRecDepth 65536

namespace Cert.BiasIdeal.Table

/-! # Rows 0 to 63 of the batch's table of buckets, and the sample's table -/

theorem own_rows_0 : OwnRows 0 := by decide +kernel
theorem own_rows_1 : OwnRows 1 := by decide +kernel

theorem sample_rows : ∀ r : Fin 8, SampleRow r.val := by decide +kernel

end Cert.BiasIdeal.Table
-- ==== Proof.BiasRows1.lean ====
module

public import proofs.«01_k».proof.Proof.BiasWord

@[expose] public section

set_option maxRecDepth 65536

namespace Cert.BiasIdeal.Table

/-! # Rows 64 to 127 of the batch's table of buckets -/

theorem own_rows_2 : OwnRows 2 := by decide +kernel
theorem own_rows_3 : OwnRows 3 := by decide +kernel

end Cert.BiasIdeal.Table
-- ==== Proof.BiasArrays.lean ====
module

public import proofs.«01_k».proof.Proof.BiasBody
public import proofs.«01_k».proof.Proof.BiasBucket
public import proofs.«01_k».proof.Proof.BiasRows0
public import proofs.«01_k».proof.Proof.BiasRows1
public import Idealize.ShloMosaic.PureOps.IdealRules

@[expose] public section

set_option maxRecDepth 16384

noncomputable section

namespace Cert.BiasIdeal.Table

open Cert.BiasIdeal Cert.BiasIdeal.Gen Idealize.ShloMosaic Idealize.ShloMosaic.TcCoe Idealize.ShloMosaic.ValueIdx Idealize.SL.Sem

/-! # The two bias tables, from the table of numbers -/

/-- The batch's result from the table of numbers. -/
def ownOf (T : Vec Ideal S32x8 .f32) : Vec Ideal S2x512x256 .f32 := fun y =>
  scaled (T (ix2 (rowAt (128 + (y 1).val % 128 - (y 2).val)) (⟨(y 0).val * 4 + (y 1).val / 128,
    by have h : (y 0).val < 2 := (y 0).isLt; have h' : (y 1).val < 512 := (y 1).isLt; omega⟩ : Fin 8)))

/-- The sample's result from the table of numbers. -/
def sampleOf (T : Vec Ideal S32x8 .f32) : Vec Ideal S64x384 .f32 := fun y =>
  scaled (T (ix2 (rowAt ((y 0).val % 8 + 128 - (y 1).val / 2)) (⟨(y 0).val / 8, by have h : (y 0).val < 64 := (y 0).isLt; omega⟩ : Fin 8)))

theorem own_word (r : Fin 128) (k : Fin 256) : lit0t (r.val * 256 + k.val) = BitVec.ofNat 32 (bucket (128 + r.val - k.val)) := by
  have h : ∀ a, OwnRows a → r.val / 32 = a → lit0t (r.val * 256 + k.val) = BitVec.ofNat 32 (bucket (128 + r.val - k.val)) := by
    rintro a H rfl
    have := H ⟨r.val % 32, by omega⟩ k
    rwa [show r.val / 32 * 32 + (⟨r.val % 32, by omega⟩ : Fin 32).val = r.val by show r.val / 32 * 32 + r.val % 32 = r.val; omega] at this
  have hr := r.isLt
  rcases (by omega : r.val / 32 = 0 ∨ r.val / 32 = 1 ∨ r.val / 32 = 2 ∨ r.val / 32 = 3) with e | e | e | e
  · exact h 0 own_rows_0 e
  · exact h 1 own_rows_1 e
  · exact h 2 own_rows_2 e
  · exact h 3 own_rows_3 e

variable (m : (ℓ : Loc nD τ sig) → Buf (Elt Ideal) ℓ)

/-- The table of numbers. -/
abbrev numbers (c : Dev nD) : Vec Ideal S32x8 .f32 := m ((c : Thread nD τ).loc main_arg0)

theorem index_0 : ∀ t : Fin cfg0.N, win0_0.index t 0 = 0 := (by decide +kernel : ∀ t : Fin grid0.N, win0_0.index t 0 = 0)
theorem index_1 : ∀ t : Fin cfg0.N, win0_1.index t 0 = 0 ∧ win0_1.index t 1 = 0 :=
  (by decide +kernel : ∀ t : Fin grid0.N, win0_1.index t 0 = 0 ∧ win0_1.index t 1 = 0)
theorem index_2 : ∀ t : Fin cfg0.N, win0_2.index t 0 = 0 ∧ win0_2.index t 1 = 0 :=
  (by decide +kernel : ∀ t : Fin grid0.N, win0_2.index t 0 = 0 ∧ win0_2.index t 1 = 0)
theorem index_3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem index_4 : ∀ t : Fin cfg0.N, win0_4.index t 0 = 0 ∧ win0_4.index t 1 = 0 :=
  (by decide +kernel : ∀ t : Fin grid0.N, win0_4.index t 0 = 0 ∧ win0_4.index t 1 = 0)

theorem value_c (c : Dev nD) : V m c main_c = fun i => lit0 (S128x256.rowMajor i) := by
  show StableHlo.after hostOps0 (fun b => m (c, b)) (Proc.devRef .tc main_c) = _
  simp only [hostOps0, StableHlo.after_cons, StableHlo.after_nil]
  rfl

theorem value_c_0 (c : Dev nD) : V m c main_c_0 = fun i => lit1 (S8x384.rowMajor i) := by
  show StableHlo.after hostOps0 (fun b => m (c, b)) (Proc.devRef .tc main_c_0) = _
  simp only [hostOps0, StableHlo.after_cons, StableHlo.after_nil]
  rfl

theorem value_v0 (c : Dev nD) : V m c main_v0 = shapeCast S256 (numbers m c) shapeCasts_S32x8_S256 := by
  show StableHlo.after hostOps0 (fun b => m (c, b)) (Proc.devRef .tc main_v0) = _
  simp only [hostOps0, StableHlo.after_cons, StableHlo.after_nil]
  rfl

theorem block_0 (c : Dev nD) (t : Fin cfg0.N) (k : Fin 32) (h : Fin 8) :
    (iblk m c 0 t : Vec Ideal S256 .f32) (ix1 (⟨k.val * 8 + h.val, by omega⟩ : Fin 256)) = numbers m c (ix2 k h) := by
  have hi := index_0 t
  unfold iblk
  rw [View.read_apply]
  show V m c main_v0 _ = _
  rw [value_v0]
  refine shapeCast_apply _ _ _ (ix2 k h) ?_
  rw [Shape.rowMajor_val_two, Shape.rowMajor_val_one]
  show k.val * 8 + h.val = win0_0.index t 0 * 256 + 1 * (k.val * 8 + h.val)
  rw [hi]
  omega

theorem block_1 (c : Dev nD) (t : Fin cfg0.N) (r : Fin 128) (k : Fin 256) :
    (iblk m c 1 t : Vec Ideal S128x256 .i32) (ix2 r k) = BitVec.ofNat 32 (rowAt (128 + r.val - k.val)).val := by
  have hi := index_1 t
  unfold iblk
  rw [View.read_apply]
  show V m c main_c _ = _
  rw [value_c]
  have e : (((cfg0.win 1).blk t).view.emb (ix2 r k) : S128x256.Idx) = ix2 r k := by
    funext b
    apply Fin.ext
    match b with
    | ⟨0, _⟩ => show win0_1.index t 0 * 128 + 1 * r.val = r.val; rw [hi.1]; omega
    | ⟨1, _⟩ => show win0_1.index t 1 * 256 + 1 * k.val = k.val; rw [hi.2]; omega
  show lit0 (S128x256.rowMajor (((cfg0.win 1).blk t).view.emb (ix2 r k))) = _
  rw [e]
  exact (congrArg lit0t (Shape.rowMajor_val_two _)).trans (own_word r k)

theorem block_2 (c : Dev nD) (t : Fin cfg0.N) (r : Fin 8) (k : Fin 384) :
    (iblk m c 2 t : Vec Ideal S8x384 .i32) (ix2 r k) = BitVec.ofNat 32 (rowAt (r.val + 128 - k.val / 2)).val := by
  have hi := index_2 t
  unfold iblk
  rw [View.read_apply]
  show V m c main_c_0 _ = _
  rw [value_c_0]
  have e : (((cfg0.win 2).blk t).view.emb (ix2 r k) : S8x384.Idx) = ix2 r k := by
    funext b
    apply Fin.ext
    match b with
    | ⟨0, _⟩ => show win0_2.index t 0 * 8 + 1 * r.val = r.val; rw [hi.1]; omega
    | ⟨1, _⟩ => show win0_2.index t 1 * 384 + 1 * k.val = k.val; rw [hi.2]; omega
  show lit1 (S8x384.rowMajor (((cfg0.win 2).blk t).view.emb (ix2 r k))) = _
  rw [e]
  exact (congrArg lit1t (Shape.rowMajor_val_two _)).trans (sample_rows r k)

theorem left_3 (c : Dev nD) (t : Fin cfg0.N) : (dats m 0 c).flushed 3 t = (cfg0.win 3).cut (grid0.coords t) (ownTable (iblk m c 0 t) (fun r k => rowAt (128 + r.val - k.val))) :=
  (Value.flushed3_A m c t).trans (congrArg ((cfg0.win 3).cut (grid0.coords t)) (own_left _ _ _ _ _ _ _ _ _ _ _ _ _ _ _ (block_1 m c t)))

theorem place_3 (t : Fin cfg0.N) (g : Fin 2) (r : Fin 512) (k : Fin 256) : (((cfg0.win 3).blk t).view.emb (ix3 g r k) : S2x512x256.Idx) = ix3 g r k := by
  have hi := index_3 t
  refine funext fun b => Fin.ext ?_
  match b with
  | ⟨0, _⟩ => show win0_3.index t 0 * 2 + 1 * g.val = g.val; rw [hi.1]; omega
  | ⟨1, _⟩ => show win0_3.index t 1 * 512 + 1 * r.val = r.val; rw [hi.2.1]; omega
  | ⟨2, _⟩ => show win0_3.index t 2 * 256 + 1 * k.val = k.val; rw [hi.2.2]; omega

theorem array_3 (c : Dev nD) (t : Fin cfg0.N) : ((dats m 0 c).arrAt 3 cfg0.N : S2x512x256.Idx → EReal) = ownOf (numbers m c) := by
  funext i
  obtain ⟨g, r, k, rfl⟩ : ∃ g r k, i = ix3 g r k := ⟨i 0, i 1, i 2, eq_ix3 i⟩
  have hb := congrFun ((Value.blocks3 m c t (flush0_3 t)).trans (left_3 m c t)) (ix3 g r k)
  rw [View.read_apply] at hb
  have hp : ((dats m 0 c).arrAt 3 cfg0.N : S2x512x256.Idx → EReal) (((cfg0.win 3).blk t).view.emb (ix3 g r k)) =
    ownTable (iblk m c 0 t) (fun r k => rowAt (128 + r.val - k.val)) (ix3 g r k) := hb
  rw [place_3] at hp
  have hn := block_0 m c t (rowAt (128 + r.val % 128 - k.val)) ⟨g.val * 4 + r.val / 128, by omega⟩
  exact hp.trans (congrArg scaled hn)

theorem left_4 (c : Dev nD) (t : Fin cfg0.N) : (dats m 0 c).flushed 4 t = (cfg0.win 4).cut (grid0.coords t) (sampleTable (iblk m c 0 t) (fun r k => rowAt (r.val + 128 - k.val / 2))) :=
  (Value.flushed4_A m c t).trans (congrArg ((cfg0.win 4).cut (grid0.coords t)) (sample_left _ _ _ _ _ _ _ _ _ _ _ _ _ _ _ (block_2 m c t)))

theorem place_4 (t : Fin cfg0.N) (r : Fin 64) (k : Fin 384) : (((cfg0.win 4).blk t).view.emb (ix2 r k) : S64x384.Idx) = ix2 r k := by
  have hi := index_4 t
  refine funext fun b => Fin.ext ?_
  match b with
  | ⟨0, _⟩ => show win0_4.index t 0 * 64 + 1 * r.val = r.val; rw [hi.1]; omega
  | ⟨1, _⟩ => show win0_4.index t 1 * 384 + 1 * k.val = k.val; rw [hi.2]; omega

theorem array_4 (c : Dev nD) (t : Fin cfg0.N) : ((dats m 0 c).arrAt 4 cfg0.N : S64x384.Idx → EReal) = sampleOf (numbers m c) := by
  funext i
  obtain ⟨r, k, rfl⟩ : ∃ r k, i = ix2 r k := ⟨i 0, i 1, eq_ix2 i⟩
  have hb := congrFun ((Value.blocks4 m c t (flush0_4 t)).trans (left_4 m c t)) (ix2 r k)
  rw [View.read_apply] at hb
  have hp : ((dats m 0 c).arrAt 4 cfg0.N : S64x384.Idx → EReal) (((cfg0.win 4).blk t).view.emb (ix2 r k)) =
    sampleTable (iblk m c 0 t) (fun r k => rowAt (r.val + 128 - k.val / 2)) (ix2 r k) := hb
  rw [place_4] at hp
  have hn := block_0 m c t (rowAt (r.val % 8 + 128 - k.val / 2)) ⟨r.val / 8, by omega⟩
  exact hp.trans (congrArg scaled hn)

/-- The call runs, leaves the two bias tables and the table of numbers as it was. -/
theorem run (ρ : Dev nD → PrngReg) : θ_run defs (onTc (τ := τ) (main (F := Ideal))) ⟨m, fun _ => 0, ρ⟩ fun r => ∀ c : Dev nD,
      r.2.mem ((c : Thread nD τ).loc main_v1_0) = ownOf (numbers m c)
      ∧ r.2.mem ((c : Thread nD τ).loc main_v1_1) = sampleOf (numbers m c)
      ∧ r.2.mem ((c : Thread nD τ).loc main_arg0) = m ((c : Thread nD τ).loc main_arg0) :=
  (θ_run defs _ _).mono (fun _ h c => ⟨(h c).1.trans (array_3 m c ⟨0, by decide⟩), (h c).2.1.trans (array_4 m c ⟨0, by decide⟩), (h c).2.2⟩) (Value.run_blocks m ρ)

end Cert.BiasIdeal.Table

end
-- ==== Proof.BiasRef.lean ====
module

public import proofs.«01_k».proof.Proof.BiasBucket
public import proofs.«01_k».proof.Proof.Gen.BiasRefIdeal.Read
public import Idealize.ShloMosaic.Lib.ValueIdxCore

@[expose] public section

set_option maxRecDepth 16384

noncomputable section

namespace Cert.BiasRefIdeal.Table

open Cert.BiasRefIdeal Cert.BiasRefIdeal.Gen Cert.BiasRefIdeal.Read Cert.BiasIdeal.Table Idealize.ShloMosaic Idealize.ShloMosaic.ValueIdx

/-! # The reference's bias tables -/

/-! ## Rows of a matrix gathered -/

/-- The gather of rows of a 32×8 matrix at a matrix of row numbers. -/
abbrev rowsDims (A B : ℕ) (wf : GatherDims.WF S32x8 ⟨3, ![A, B, 1]⟩ ⟨3, ![A, B, 8]⟩ [2] [0] [] [0] [] 2 ![1, 8]) :
    GatherDims S32x8 ⟨3, ![A, B, 1]⟩ ⟨3, ![A, B, 8]⟩ where
  offsetDims := [2]
  collapsedSliceDims := [0]
  operandBatchingDims := []
  startIndicesBatchingDims := []
  startIndexMap := [0]
  indexVectorDim := 2
  sliceSizes := ![1, 8]
  wf := wf

theorem gather_rows {A B : ℕ} (wf : GatherDims.WF S32x8 ⟨3, ![A, B, 1]⟩ ⟨3, ![A, B, 8]⟩ [2] [0] [] [0] [] 2 ![1, 8]) (x : S32x8.Idx → EReal)
    (idx : IVec ⟨3, ![A, B, 1]⟩ 32) (a : Fin A) (b : Fin B) (h : Fin 8) (k : Fin 32) (hk : idx (ix3 a b (0 : Fin 1)) = BitVec.ofNat 32 k.val) :
    Host.gather (rowsDims A B wf) x idx (ix3 a b h) = x (ix2 k h) := by
  unfold Host.gather
  congr 1
  funext i
  refine Fin.ext ?_
  show (rowsDims A B wf).start (ix3 a b h) idx i + (rowsDims A B wf).batchCoord (ix3 a b h) i + (rowsDims A B wf).offCoord (ix3 a b h) i = _
  rw [GatherDims.batchCoord_eq_zero _ _ _ List.not_mem_nil]
  rcases (match i with | ⟨0, _⟩ => Or.inl rfl | ⟨1, _⟩ => Or.inr rfl : i = 0 ∨ i = 1) with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims A B wf).startIndexMap from List.mem_singleton.mpr rfl)]
    have hsi : (rowsDims A B wf).siIdx (ix3 a b h) ⟨List.idxOf (0 : Fin 2) (rowsDims A B wf).startIndexMap,
        List.idxOf_lt_length_iff.2 (List.mem_singleton.mpr rfl)⟩ = ix3 a b (0 : Fin 1) := by
      funext c
      refine Fin.ext ?_
      match c with
      | ⟨0, _⟩ => rfl
      | ⟨1, _⟩ => rfl
      | ⟨2, _⟩ => rfl
    rw [hsi, hk]
    exact (by decide +kernel : ∀ k : Fin 32, min (BitVec.ofNat 32 k.val).toInt.toNat (32 - 1) = k.val) k
  · unfold GatherDims.start
    rw [dif_neg (show ¬(1 : Fin 2) ∈ (rowsDims A B wf).startIndexMap from (by decide : ¬(1 : Fin 2) ∈ [(0 : Fin 2)]))]
    unfold GatherDims.offCoord
    rw [dif_pos ((GatherDims.mem_sKept _ _).mpr ⟨(by decide : ¬(1 : Fin 2) ∈ [(0 : Fin 2)]), List.not_mem_nil⟩)]
    show 0 + 0 + h.val = h.val
    omega

/-! ## The distances -/

theorem max_zero : ∀ n : Fin 256, IntOp.maxsi (BitVec.ofNat 32 n.val) 0#32 = BitVec.ofNat 32 n.val := by decide +kernel
theorem max_zero_neg : ∀ n : Fin 256, IntOp.maxsi (0#32 - BitVec.ofNat 32 n.val) 0#32 = 0#32 := by decide +kernel

/-- A difference of small numbers, at least zero. -/
theorem distance_word (p q : ℕ) (hp : p < 256) (hq : q < 256) :
    IntOp.maxsi (IntOp.subi (BitVec.ofNat 32 p) (BitVec.ofNat 32 q)) 0#32 = BitVec.ofNat 32 (p - q) := by
  by_cases h : q ≤ p
  · have e : IntOp.subi (BitVec.ofNat 32 p) (BitVec.ofNat 32 q) = BitVec.ofNat 32 (p - q) := by
      apply BitVec.eq_of_toNat_eq
      show (BitVec.ofNat 32 p - BitVec.ofNat 32 q).toNat = _
      simp only [BitVec.toNat_sub, BitVec.toNat_ofNat]
      omega
    have hm := max_zero ⟨p - q, by omega⟩
    rw [e]
    exact hm
  · have e : IntOp.subi (BitVec.ofNat 32 p) (BitVec.ofNat 32 q) = 0#32 - BitVec.ofNat 32 (q - p) := by
      apply BitVec.eq_of_toNat_eq
      show (BitVec.ofNat 32 p - BitVec.ofNat 32 q).toNat = _
      simp only [BitVec.toNat_sub, BitVec.toNat_ofNat]
      omega
    have hm := max_zero_neg ⟨q - p, by omega⟩
    rw [e, show p - q = 0 by omega]
    exact hm

theorem own_distance (r : Fin 128) (k : Fin 256) : val_main_v20 (F := Ideal) (ix2 r k) = BitVec.ofNat 32 (128 + r.val - k.val) := by
  simp only [val_main_v20_apply, val_main_v19_apply, val_main_c_2_apply, val_main_v8_apply, val_main_v7_apply, val_main_v6_apply, val_main_v5_apply,
    val_main_v4_apply, val_main_v3_apply, val_main_v2_apply, val_main_c_apply, val_main_v1_apply, val_main_v0_apply]
  refine Eq.trans ?_ (distance_word (128 + r.val) k.val (by omega) k.isLt)
  rw [show IntOp.addi 128#32 (BitVec.ofNat 32 r.val) = BitVec.ofNat 32 (128 + r.val) from (BitVec.ofNat_add 128 r.val).symm]

/-- The sign of a word. -/
abbrev sign (x : BitVec 32) : BitVec 32 := if x = 0 then 0 else if x.msb then -1 else 1

theorem half_word : ∀ k : Fin 384, (let x := BitVec.ofNat 32 k.val
    Scalar.select (IntOp.andi (IntOp.cmpi .ne (sign x) (sign 2#32)) (IntOp.cmpi .ne (IntOp.remsi .host x 2#32) 0#32))
      (IntOp.subi (IntOp.divsi .host x 2#32) 1#32) (IntOp.divsi .host x 2#32)) = BitVec.ofNat 32 (k.val / 2) := by decide +kernel

theorem sample_distance (r : Fin 8) (k : Fin 384) : val_main_v53 (F := Ideal) (ix2 r k) = BitVec.ofNat 32 (r.val + 128 - k.val / 2) := by
  have hh := half_word k
  simp only [val_main_v53_apply, val_main_v52_apply, val_main_c_12_apply, val_main_v18_apply, val_main_v17_apply, val_main_v16_apply, val_main_v15_apply,
    val_main_v12_apply, val_main_v11_apply, val_main_c_0_apply, val_main_v10_apply, val_main_v9_apply]
  refine Eq.trans ?_ (distance_word (r.val + 128) (k.val / 2) (by omega) (by omega))
  rw [← hh]
  simp only [val_main_v14_apply, val_main_call0_v13_apply, val_main_call0_v12_apply, val_main_call0_c_0_apply, val_main_call0_v11_apply, val_main_call0_v10_apply,
    val_main_call0_v9_apply, val_main_call0_c_apply, val_main_call0_v8_apply, val_main_call0_v7_apply, val_main_call0_v6_apply, val_main_call0_v5_apply,
    val_main_call0_v2_apply, val_main_call0_v1_apply, val_main_call0_v0_apply, val_main_c_1_apply, val_main_v13_apply]
  rw [show BitVec.ofNat 32 (r.val + 128) = IntOp.addi (BitVec.ofNat 32 r.val) 128#32 from BitVec.ofNat_add r.val 128]
  rfl

/-! ## The buckets and the results -/

theorem own_bucket (r : Fin 128) (k : Fin 256) : val_main_v44 (F := Ideal) (ix2 r k) = BitVec.ofNat 32 (rowAt (128 + r.val - k.val)).val := by
  refine Eq.trans ?_ (bucketWord_eq ⟨128 + r.val - k.val, by omega⟩)
  rw [← own_distance]
  simp only [val_main_v44_apply, val_main_v43_apply, val_main_v42_apply, val_main_c_10_apply, val_main_v41_apply, val_main_v40_apply, val_main_c_9_apply,
    val_main_v39_apply, val_main_v38_apply, val_main_v37_apply, val_main_c_8_apply, val_main_v36_apply, val_main_v35_apply, val_main_c_7_apply,
    val_main_v34_apply, val_main_v33_apply, val_main_c_6_apply, val_main_v32_apply, val_main_v31_apply, val_main_v30_apply, val_main_cst_5_apply,
    val_main_v29_apply, val_main_v28_apply, val_main_v27_apply, val_main_cst_4_apply, val_main_v26_apply, val_main_v25_apply, val_main_v24_apply,
    val_main_cst_apply, val_main_v23_apply, val_main_v22_apply, val_main_v21_apply, val_main_c_3_apply]
  rfl

theorem sample_bucket (r : Fin 8) (k : Fin 384) : val_main_v77 (F := Ideal) (ix2 r k) = BitVec.ofNat 32 (rowAt (r.val + 128 - k.val / 2)).val := by
  refine Eq.trans ?_ (bucketWord_eq ⟨r.val + 128 - k.val / 2, by omega⟩)
  rw [← sample_distance]
  simp only [val_main_v77_apply, val_main_v76_apply, val_main_v75_apply, val_main_c_21_apply, val_main_v74_apply, val_main_v73_apply, val_main_c_20_apply,
    val_main_v72_apply, val_main_v71_apply, val_main_v70_apply, val_main_c_19_apply, val_main_v69_apply, val_main_v68_apply, val_main_c_18_apply,
    val_main_v67_apply, val_main_v66_apply, val_main_c_17_apply, val_main_v65_apply, val_main_v64_apply, val_main_v63_apply, val_main_cst_16_apply,
    val_main_v62_apply, val_main_v61_apply, val_main_v60_apply, val_main_cst_15_apply, val_main_v59_apply, val_main_v58_apply, val_main_v57_apply,
    val_main_cst_14_apply, val_main_v56_apply, val_main_v55_apply, val_main_v54_apply, val_main_c_13_apply]
  rfl

/-- A number divided by the logarithm of two. -/
theorem div_log_two (x : EReal) : Ideal.div x (Ideal.log (Ideal.ofBits .f32 0x40000000#32)) = x * (((Real.log 2)⁻¹ : ℝ) : EReal) := by
  have h : Real.log 2 ≠ 0 := (Real.log_pos one_lt_two).ne'
  rw [ofBits_2, log_pos_coe _ (by norm_num)]
  unfold Ideal.div
  rw [if_neg (by exact_mod_cast h), EReal.coe_inv]

theorem own_place (h : Fin 8) (r : Fin 128) (k : Fin 256) : idx_main_v47 (ix3 h r k) = ix3 r k h := by
  funext a
  match a with
  | ⟨0, _⟩ => rfl
  | ⟨1, _⟩ => rfl
  | ⟨2, _⟩ => rfl

theorem own_number (r : Fin 128) (k : Fin 256) : val_main_v45 (F := Ideal) (ix3 r k (0 : Fin 1)) = BitVec.ofNat 32 (rowAt (128 + r.val - k.val)).val := by
  rw [val_main_v45_apply]
  refine Eq.trans (congrArg _ ?_) (own_bucket r k)
  funext a
  match a with
  | ⟨0, _⟩ => rfl
  | ⟨1, _⟩ => rfl

theorem own_row (T : (⟨S32x8, .f32⟩ : BufTy).Contents (Elt Ideal)) (h : Fin 8) (r : Fin 128) (k : Fin 256) :
    val_main_v46 (F := Ideal) T (ix3 r k h) = T (ix2 (rowAt (128 + r.val - k.val)) h) := by
  have hn := own_number r k
  have hg := gather_rows Facts₀.gather_S32x8_S128x256x1_S128x256x8_2_0_n_n_0_2_18_wf T (val_main_v45 (F := Ideal)) r k h _ hn
  exact hg

theorem own_apply (T : (⟨S32x8, .f32⟩ : BufTy).Contents (Elt Ideal)) (h : Fin 8) (r : Fin 128) (k : Fin 256) :
    val_main_v50 (F := Ideal) T (ix3 h r k) = T (ix2 (rowAt (128 + r.val - k.val)) h) * (((Real.log 2)⁻¹ : ℝ) : EReal) := by
  simp only [val_main_v50_apply, val_main_v49_apply, val_main_v48_apply, val_main_cst_11_apply, val_main_v47_apply]
  refine (div_log_two _).trans (congrArg (· * _) ?_)
  rw [own_place]
  exact own_row T h r k

theorem sample_place (h : Fin 8) (r : Fin 8) (k : Fin 384) : idx_main_v80 (ix3 h r k) = ix3 r k h := by
  funext a
  match a with
  | ⟨0, _⟩ => rfl
  | ⟨1, _⟩ => rfl
  | ⟨2, _⟩ => rfl

theorem sample_number (r : Fin 8) (k : Fin 384) : val_main_v78 (F := Ideal) (ix3 r k (0 : Fin 1)) = BitVec.ofNat 32 (rowAt (r.val + 128 - k.val / 2)).val := by
  rw [val_main_v78_apply]
  refine Eq.trans (congrArg _ ?_) (sample_bucket r k)
  funext a
  match a with
  | ⟨0, _⟩ => rfl
  | ⟨1, _⟩ => rfl

theorem sample_row (T : (⟨S32x8, .f32⟩ : BufTy).Contents (Elt Ideal)) (h : Fin 8) (r : Fin 8) (k : Fin 384) :
    val_main_v79 (F := Ideal) T (ix3 r k h) = T (ix2 (rowAt (r.val + 128 - k.val / 2)) h) := by
  have hn := sample_number r k
  have hg := gather_rows Facts₀.gather_S32x8_S8x384x1_S8x384x8_2_0_n_n_0_2_18_wf T (val_main_v78 (F := Ideal)) r k h _ hn
  exact hg

theorem sample_apply (T : (⟨S32x8, .f32⟩ : BufTy).Contents (Elt Ideal)) (h : Fin 8) (r : Fin 8) (k : Fin 384) :
    val_main_v83 (F := Ideal) T (ix3 h r k) = T (ix2 (rowAt (r.val + 128 - k.val / 2)) h) * (((Real.log 2)⁻¹ : ℝ) : EReal) := by
  simp only [val_main_v83_apply, val_main_v82_apply, val_main_v81_apply, val_main_cst_22_apply, val_main_v80_apply]
  refine (div_log_two _).trans (congrArg (· * _) ?_)
  rw [sample_place]
  exact sample_row T h r k

/-- The batch's result: bucket by bucket, the table's number divided by the logarithm of two. -/
theorem own_result (T : (⟨S32x8, .f32⟩ : BufTy).Contents (Elt Ideal)) (g : Fin 2) (r : Fin 512) (k : Fin 256) : val_main_v51 (F := Ideal) T (ix3 g r k)
    = T (ix2 (rowAt (128 + r.val % 128 - k.val)) (⟨g.val * 4 + r.val / 128, by omega⟩ : Fin 8)) * (((Real.log 2)⁻¹ : ℝ) : EReal) := by
  rw [val_main_v51_apply]
  refine Eq.trans (congrArg _ (?_ : _ = ix3 (⟨g.val * 4 + r.val / 128, by omega⟩ : Fin 8) (⟨r.val % 128, by omega⟩ : Fin 128) k)) (own_apply T _ _ _)
  funext a
  refine Fin.ext ?_
  match a with
  | ⟨0, _⟩ => show ((g.val * 512 + r.val) * 256 + k.val) / 32768 = g.val * 4 + r.val / 128; omega
  | ⟨1, _⟩ => show ((g.val * 512 + r.val) * 256 + k.val) / 256 % 128 = r.val % 128; omega
  | ⟨2, _⟩ => show ((g.val * 512 + r.val) * 256 + k.val) % 256 = k.val; omega

/-- The sample's result, the same way. -/
theorem sample_result (T : (⟨S32x8, .f32⟩ : BufTy).Contents (Elt Ideal)) (r : Fin 64) (k : Fin 384) : val_main_v84 (F := Ideal) T (ix2 r k)
    = T (ix2 (rowAt (r.val % 8 + 128 - k.val / 2)) (⟨r.val / 8, by omega⟩ : Fin 8)) * (((Real.log 2)⁻¹ : ℝ) : EReal) := by
  rw [val_main_v84_apply]
  refine Eq.trans (congrArg _ (?_ : _ = ix3 (⟨r.val / 8, by omega⟩ : Fin 8) (⟨r.val % 8, by omega⟩ : Fin 8) k)) (sample_apply T _ _ _)
  funext a
  refine Fin.ext ?_
  match a with
  | ⟨0, _⟩ => show (r.val * 384 + k.val) / 3072 = r.val / 8; omega
  | ⟨1, _⟩ => show (r.val * 384 + k.val) / 384 % 8 = r.val % 8; omega
  | ⟨2, _⟩ => show (r.val * 384 + k.val) % 384 = k.val; omega

end Cert.BiasRefIdeal.Table

end
-- ==== Proof.ClaimsBias.lean ====
module

public import proofs.«01_k».proof.Defs
public import proofs.«01_k».proof.Proof.Gen.Bias.Frame
public import proofs.«01_k».proof.Proof.Gen.BiasIdeal.Frame
public import proofs.«01_k».proof.Proof.Gen.BiasRefIdeal.Run
public import proofs.«01_k».proof.Proof.BiasArrays
public import proofs.«01_k».proof.Proof.BiasRef
public import Idealize.ShloMosaic.Adequacy
public import Idealize.ShloMosaic.Init

@[expose] public section

set_option maxRecDepth 16384

noncomputable section

namespace Cert.Proof.Tables

open Idealize.ShloMosaic Idealize.ShloMosaic.ValueIdx Idealize.ShloMosaic.Pipeline Idealize.SL.Sem

/-! # The claims of the bias tables' call -/

theorem frame_kernel : Cert.quiescent_Bias (hBias := Cert.Bias.Gen.facts) := fun m ρ _ => Cert.Bias.Gen.frame m ρ

theorem frame_ideal : Cert.quiescent_BiasIdeal (hBiasIdeal := Cert.BiasIdeal.Gen.facts) := fun m ρ _ => Cert.BiasIdeal.Gen.frame m ρ

theorem frame_reference : Cert.quiescent_BiasRefIdeal (hBiasRefIdeal := Cert.BiasRefIdeal.Gen.facts) := fun m ρ _ =>
  (θ_run Cert.BiasRefIdeal.defs _ _).mono (fun r h => ⟨fun c => (h c).2.2, Idealize.ShloMosaic.sem_eq_zero_of_no_sems (by decide) r.2⟩)
    (Cert.BiasRefIdeal.Value.run (F := Ideal) m ρ)

theorem preserves : Cert.preserves_Bias_BiasIdeal := IdealRules.named_const.statement Cert.BiasIdeal.κ "log2e" .f32 0x3FB8AA3B#32 (((Real.log 2)⁻¹ : ℝ) : EReal) rfl

open Cert.BiasIdeal.Table in
/-- The kernel's scaling, as a product. -/
theorem scaled_eq (x : EReal) : scaled x = x * (((Real.log 2)⁻¹ : ℝ) : EReal) := by
  unfold scaled
  rw [IdealRules.named_const.ideal_named_scalar (κ := Cert.BiasIdeal.κ) (name := "log2e") _ (((Real.log 2)⁻¹ : ℝ) : EReal) rfl]
  rfl

open Cert.BiasRefIdeal.Read Cert.BiasRefIdeal.Table in
/-- The kernel's two tables are the reference's. -/
theorem algebraic : Cert.algebraic_BiasIdeal_BiasRefIdeal (hBiasIdeal := Cert.BiasIdeal.Gen.facts) (hBiasRefIdeal := Cert.BiasRefIdeal.Gen.facts) := by
  intro m ρ m' ρ' _ hagree
  refine ⟨_, _, Cert.BiasIdeal.Table.run m ρ, ?_⟩
  refine (θ_run Cert.BiasRefIdeal.defs _ _).mono (fun _ h c => ?_) (Cert.BiasRefIdeal.Value.run (F := Ideal) m' ρ')
  obtain ⟨h0, h1, hk⟩ := h c
  refine ⟨h0.trans ?_, h1.trans ?_, hk⟩
  · rw [val_main_v51_eq, hagree c]
    funext i
    rw [eq_ix3 i]
    exact (own_result _ _ _ _).trans (scaled_eq _).symm
  · rw [val_main_v84_eq, hagree c]
    funext i
    rw [eq_ix2 i]
    exact (sample_result _ _ _).trans (scaled_eq _).symm

end Cert.Proof.Tables

end
-- ==== Proof.lean ====
/- The certificate: the claims of the mixer call (Proof/Claims.lean), of the feed-forward call (Proof/ClaimsMlp.lean), of the input
   projections' call (Proof/ClaimsProj.lean), of the memory's call (Proof/ClaimsKv.lean), of the feed-forward call that converts
   its weights (Proof/ClaimsCast.lean), of the sample mixer's call (Proof/ClaimsSample.lean) and of the bias tables' call
   (Proof/ClaimsBias.lean), put together. -/
module

public import proofs.«01_k».proof.Defs
public import proofs.«01_k».proof.Proof.Claims
public import proofs.«01_k».proof.Proof.ClaimsMlp
public import proofs.«01_k».proof.Proof.ClaimsProj
public import proofs.«01_k».proof.Proof.ClaimsKv
public import proofs.«01_k».proof.Proof.ClaimsCast
public import proofs.«01_k».proof.Proof.ClaimsSample
public import proofs.«01_k».proof.Proof.ClaimsBias

@[expose] public section

theorem Cert.Proof.claim : Cert.Claim :=
  ⟨Cert.Mix.Gen.facts, Cert.MixIdeal.Gen.facts, Cert.MixRefIdeal.Gen.facts, Cert.Mlp.Gen.facts, Cert.MlpIdeal.Gen.facts, Cert.MlpRefIdeal.Gen.facts,
    Cert.Proj.Gen.facts, Cert.ProjIdeal.Gen.facts, Cert.ProjRefIdeal.Gen.facts,
    Cert.Kv.Gen.facts, Cert.KvIdeal.Gen.facts, Cert.KvRefIdeal.Gen.facts,
    Cert.MlpCast.Gen.facts, Cert.MlpCastIdeal.Gen.facts, Cert.MlpCastRefIdeal.Gen.facts,
    Cert.MixSample.Gen.facts, Cert.MixSampleIdeal.Gen.facts, Cert.MixSampleRefIdeal.Gen.facts,
    Cert.Bias.Gen.facts, Cert.BiasIdeal.Gen.facts, Cert.BiasRefIdeal.Gen.facts,
    Cert.Proof.preFacts,
    Cert.Proof.frame_kernel, Cert.Proof.frame_ideal, Cert.Proof.frame_ideal_pre, Cert.Proof.frame_reference, Cert.Proof.frame_reference_pre,
    Cert.Proof.Feed.frame_kernel, Cert.Proof.Feed.frame_ideal, Cert.Proof.Feed.frame_reference,
    Cert.Proof.Inputs.frame_kernel, Cert.Proof.Inputs.frame_ideal, Cert.Proof.Inputs.frame_reference,
    Cert.Proof.Memory.frame_kernel, Cert.Proof.Memory.frame_ideal, Cert.Proof.Memory.frame_reference,
    Cert.Proof.Cast.frame_kernel, Cert.Proof.Cast.frame_ideal, Cert.Proof.Cast.frame_reference,
    Cert.Proof.Sample.frame_kernel, Cert.Proof.Sample.frame_ideal, Cert.Proof.Sample.frame_reference,
    Cert.Proof.Tables.frame_kernel, Cert.Proof.Tables.frame_ideal, Cert.Proof.Tables.frame_reference,
    Cert.Proof.preserves, Cert.Proof.algebraic, Cert.Proof.Feed.preserves, Cert.Proof.Feed.algebraic,
    Cert.Proof.Inputs.preserves, Cert.Proof.Inputs.algebraic,
    Cert.Proof.Memory.preserves, Cert.Proof.Memory.algebraic,
    Cert.Proof.Cast.preserves, Cert.Proof.Cast.algebraic,
    Cert.Proof.Sample.preserves, Cert.Proof.Sample.algebraic,
    Cert.Proof.Tables.preserves, Cert.Proof.Tables.algebraic⟩
